-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_tame [hPre_scales_tame : Cert.Pre_scales_tame.Facts] (m : (ℓ : Loc Cert.KernelIdeal.nD Cert.KernelIdeal.τ Cert.KernelIdeal.sig) → Buf (Elt Ideal) ℓ) : Prop :=
  ∀ c : Dev Cert.KernelIdeal.nD,
    (Cert.Pre_scales_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 = (fun _ => 1#1)
    ∧ (Cert.Pre_scales_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 = (fun _ => 1#1)
    ∧ (Cert.Pre_scales_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_tame [hPre_scales_tame : Cert.Pre_scales_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).1 = (fun _ => 1#1)
    ∧ (Cert.Pre_scales_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.1 = (fun _ => 1#1)
    ∧ (Cert.Pre_scales_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2 = (fun _ => 1#1)

def Pre_Front (m : (ℓ : Loc Cert.Front.nD Cert.Front.τ Cert.Front.sig) → Buf (Elt Bits) ℓ) : Prop :=
  True

def Pre_FrontIdeal (m : (ℓ : Loc Cert.FrontIdeal.nD Cert.FrontIdeal.τ Cert.FrontIdeal.sig) → Buf (Elt Ideal) ℓ) : Prop :=
  True

def Pre_FrontIdeal_front_tame [hPre_front_tame : Cert.Pre_front_tame.Facts] (m : (ℓ : Loc Cert.FrontIdeal.nD Cert.FrontIdeal.τ Cert.FrontIdeal.sig) → Buf (Elt Ideal) ℓ) : Prop :=
  ∀ c : Dev Cert.FrontIdeal.nD,
    (Cert.Pre_front_tame.fn (F := Ideal) (m ((c.tc : Thread Cert.FrontIdeal.nD Cert.FrontIdeal.τ).loc Cert.FrontIdeal.main_arg0)) (m ((c.tc : Thread Cert.FrontIdeal.nD Cert.FrontIdeal.τ).loc Cert.FrontIdeal.main_arg1)) (m ((c.tc : Thread Cert.FrontIdeal.nD Cert.FrontIdeal.τ).loc Cert.FrontIdeal.main_arg2)) (m ((c.tc : Thread Cert.FrontIdeal.nD Cert.FrontIdeal.τ).loc Cert.FrontIdeal.main_arg3)) (m ((c.tc : Thread Cert.FrontIdeal.nD Cert.FrontIdeal.τ).loc Cert.FrontIdeal.main_arg4)) (m ((c.tc : Thread Cert.FrontIdeal.nD Cert.FrontIdeal.τ).loc Cert.FrontIdeal.main_arg5)) (m ((c.tc : Thread Cert.FrontIdeal.nD Cert.FrontIdeal.τ).loc Cert.FrontIdeal.main_arg6)) (m ((c.tc : Thread Cert.FrontIdeal.nD Cert.FrontIdeal.τ).loc Cert.FrontIdeal.main_arg7)) (m ((c.tc : Thread Cert.FrontIdeal.nD Cert.FrontIdeal.τ).loc Cert.FrontIdeal.main_arg8)) (m ((c.tc : Thread Cert.FrontIdeal.nD Cert.FrontIdeal.τ).loc Cert.FrontIdeal.main_arg9)) (m ((c.tc : Thread Cert.FrontIdeal.nD Cert.FrontIdeal.τ).loc Cert.FrontIdeal.main_arg10)) (m ((c.tc : Thread Cert.FrontIdeal.nD Cert.FrontIdeal.τ).loc Cert.FrontIdeal.main_arg11)) (m ((c.tc : Thread Cert.FrontIdeal.nD Cert.FrontIdeal.τ).loc Cert.FrontIdeal.main_arg12)) (m ((c.tc : Thread Cert.FrontIdeal.nD Cert.FrontIdeal.τ).loc Cert.FrontIdeal.main_arg13)) (m ((c.tc : Thread Cert.FrontIdeal.nD Cert.FrontIdeal.τ).loc Cert.FrontIdeal.main_arg14)) (m ((c.tc : Thread Cert.FrontIdeal.nD Cert.FrontIdeal.τ).loc Cert.FrontIdeal.main_arg15)) (m ((c.tc : Thread Cert.FrontIdeal.nD Cert.FrontIdeal.τ).loc Cert.FrontIdeal.main_arg16)) (m ((c.tc : Thread Cert.FrontIdeal.nD Cert.FrontIdeal.τ).loc Cert.FrontIdeal.main_arg17)) (m ((c.tc : Thread Cert.FrontIdeal.nD Cert.FrontIdeal.τ).loc Cert.FrontIdeal.main_arg18)) (m ((c.tc : Thread Cert.FrontIdeal.nD Cert.FrontIdeal.τ).loc Cert.FrontIdeal.main_arg19)) (m ((c.tc : Thread Cert.FrontIdeal.nD Cert.FrontIdeal.τ).loc Cert.FrontIdeal.main_arg20))).1 = (fun _ => 1#1)
    ∧ (Cert.Pre_front_tame.fn (F := Ideal) (m ((c.tc : Thread Cert.FrontIdeal.nD Cert.FrontIdeal.τ).loc Cert.FrontIdeal.main_arg0)) (m ((c.tc : Thread Cert.FrontIdeal.nD Cert.FrontIdeal.τ).loc Cert.FrontIdeal.main_arg1)) (m ((c.tc : Thread Cert.FrontIdeal.nD Cert.FrontIdeal.τ).loc Cert.FrontIdeal.main_arg2)) (m ((c.tc : Thread Cert.FrontIdeal.nD Cert.FrontIdeal.τ).loc Cert.FrontIdeal.main_arg3)) (m ((c.tc : Thread Cert.FrontIdeal.nD Cert.FrontIdeal.τ).loc Cert.FrontIdeal.main_arg4)) (m ((c.tc : Thread Cert.FrontIdeal.nD Cert.FrontIdeal.τ).loc Cert.FrontIdeal.main_arg5)) (m ((c.tc : Thread Cert.FrontIdeal.nD Cert.FrontIdeal.τ).loc Cert.FrontIdeal.main_arg6)) (m ((c.tc : Thread Cert.FrontIdeal.nD Cert.FrontIdeal.τ).loc Cert.FrontIdeal.main_arg7)) (m ((c.tc : Thread Cert.FrontIdeal.nD Cert.FrontIdeal.τ).loc Cert.FrontIdeal.main_arg8)) (m ((c.tc : Thread Cert.FrontIdeal.nD Cert.FrontIdeal.τ).loc Cert.FrontIdeal.main_arg9)) (m ((c.tc : Thread Cert.FrontIdeal.nD Cert.FrontIdeal.τ).loc Cert.FrontIdeal.main_arg10)) (m ((c.tc : Thread Cert.FrontIdeal.nD Cert.FrontIdeal.τ).loc Cert.FrontIdeal.main_arg11)) (m ((c.tc : Thread Cert.FrontIdeal.nD Cert.FrontIdeal.τ).loc Cert.FrontIdeal.main_arg12)) (m ((c.tc : Thread Cert.FrontIdeal.nD Cert.FrontIdeal.τ).loc Cert.FrontIdeal.main_arg13)) (m ((c.tc : Thread Cert.FrontIdeal.nD Cert.FrontIdeal.τ).loc Cert.FrontIdeal.main_arg14)) (m ((c.tc : Thread Cert.FrontIdeal.nD Cert.FrontIdeal.τ).loc Cert.FrontIdeal.main_arg15)) (m ((c.tc : Thread Cert.FrontIdeal.nD Cert.FrontIdeal.τ).loc Cert.FrontIdeal.main_arg16)) (m ((c.tc : Thread Cert.FrontIdeal.nD Cert.FrontIdeal.τ).loc Cert.FrontIdeal.main_arg17)) (m ((c.tc : Thread Cert.FrontIdeal.nD Cert.FrontIdeal.τ).loc Cert.FrontIdeal.main_arg18)) (m ((c.tc : Thread Cert.FrontIdeal.nD Cert.FrontIdeal.τ).loc Cert.FrontIdeal.main_arg19)) (m ((c.tc : Thread Cert.FrontIdeal.nD Cert.FrontIdeal.τ).loc Cert.FrontIdeal.main_arg20))).2 = (fun _ => 1#1)

def Pre_FrontReferenceIdeal (m : (ℓ : Loc Cert.FrontReferenceIdeal.nD Cert.FrontReferenceIdeal.τ Cert.FrontReferenceIdeal.sig) → Buf (Elt Ideal) ℓ) : Prop :=
  True

def Pre_FrontReferenceIdeal_front_tame [hPre_front_tame : Cert.Pre_front_tame.Facts] (m : (ℓ : Loc Cert.FrontReferenceIdeal.nD Cert.FrontReferenceIdeal.τ Cert.FrontReferenceIdeal.sig) → Buf (Elt Ideal) ℓ) : Prop :=
  ∀ c : Dev Cert.FrontReferenceIdeal.nD,
    (Cert.Pre_front_tame.fn (F := Ideal) (m ((c.tc : Thread Cert.FrontReferenceIdeal.nD Cert.FrontReferenceIdeal.τ).loc Cert.FrontReferenceIdeal.main_arg0)) (m ((c.tc : Thread Cert.FrontReferenceIdeal.nD Cert.FrontReferenceIdeal.τ).loc Cert.FrontReferenceIdeal.main_arg1)) (m ((c.tc : Thread Cert.FrontReferenceIdeal.nD Cert.FrontReferenceIdeal.τ).loc Cert.FrontReferenceIdeal.main_arg2)) (m ((c.tc : Thread Cert.FrontReferenceIdeal.nD Cert.FrontReferenceIdeal.τ).loc Cert.FrontReferenceIdeal.main_arg3)) (m ((c.tc : Thread Cert.FrontReferenceIdeal.nD Cert.FrontReferenceIdeal.τ).loc Cert.FrontReferenceIdeal.main_arg4)) (m ((c.tc : Thread Cert.FrontReferenceIdeal.nD Cert.FrontReferenceIdeal.τ).loc Cert.FrontReferenceIdeal.main_arg5)) (m ((c.tc : Thread Cert.FrontReferenceIdeal.nD Cert.FrontReferenceIdeal.τ).loc Cert.FrontReferenceIdeal.main_arg6)) (m ((c.tc : Thread Cert.FrontReferenceIdeal.nD Cert.FrontReferenceIdeal.τ).loc Cert.FrontReferenceIdeal.main_arg7)) (m ((c.tc : Thread Cert.FrontReferenceIdeal.nD Cert.FrontReferenceIdeal.τ).loc Cert.FrontReferenceIdeal.main_arg8)) (m ((c.tc : Thread Cert.FrontReferenceIdeal.nD Cert.FrontReferenceIdeal.τ).loc Cert.FrontReferenceIdeal.main_arg9)) (m ((c.tc : Thread Cert.FrontReferenceIdeal.nD Cert.FrontReferenceIdeal.τ).loc Cert.FrontReferenceIdeal.main_arg10)) (m ((c.tc : Thread Cert.FrontReferenceIdeal.nD Cert.FrontReferenceIdeal.τ).loc Cert.FrontReferenceIdeal.main_arg11)) (m ((c.tc : Thread Cert.FrontReferenceIdeal.nD Cert.FrontReferenceIdeal.τ).loc Cert.FrontReferenceIdeal.main_arg12)) (m ((c.tc : Thread Cert.FrontReferenceIdeal.nD Cert.FrontReferenceIdeal.τ).loc Cert.FrontReferenceIdeal.main_arg13)) (m ((c.tc : Thread Cert.FrontReferenceIdeal.nD Cert.FrontReferenceIdeal.τ).loc Cert.FrontReferenceIdeal.main_arg14)) (m ((c.tc : Thread Cert.FrontReferenceIdeal.nD Cert.FrontReferenceIdeal.τ).loc Cert.FrontReferenceIdeal.main_arg15)) (m ((c.tc : Thread Cert.FrontReferenceIdeal.nD Cert.FrontReferenceIdeal.τ).loc Cert.FrontReferenceIdeal.main_arg16)) (m ((c.tc : Thread Cert.FrontReferenceIdeal.nD Cert.FrontReferenceIdeal.τ).loc Cert.FrontReferenceIdeal.main_arg17)) (m ((c.tc : Thread Cert.FrontReferenceIdeal.nD Cert.FrontReferenceIdeal.τ).loc Cert.FrontReferenceIdeal.main_arg18)) (m ((c.tc : Thread Cert.FrontReferenceIdeal.nD Cert.FrontReferenceIdeal.τ).loc Cert.FrontReferenceIdeal.main_arg19)) (m ((c.tc : Thread Cert.FrontReferenceIdeal.nD Cert.FrontReferenceIdeal.τ).loc Cert.FrontReferenceIdeal.main_arg20))).1 = (fun _ => 1#1)
    ∧ (Cert.Pre_front_tame.fn (F := Ideal) (m ((c.tc : Thread Cert.FrontReferenceIdeal.nD Cert.FrontReferenceIdeal.τ).loc Cert.FrontReferenceIdeal.main_arg0)) (m ((c.tc : Thread Cert.FrontReferenceIdeal.nD Cert.FrontReferenceIdeal.τ).loc Cert.FrontReferenceIdeal.main_arg1)) (m ((c.tc : Thread Cert.FrontReferenceIdeal.nD Cert.FrontReferenceIdeal.τ).loc Cert.FrontReferenceIdeal.main_arg2)) (m ((c.tc : Thread Cert.FrontReferenceIdeal.nD Cert.FrontReferenceIdeal.τ).loc Cert.FrontReferenceIdeal.main_arg3)) (m ((c.tc : Thread Cert.FrontReferenceIdeal.nD Cert.FrontReferenceIdeal.τ).loc Cert.FrontReferenceIdeal.main_arg4)) (m ((c.tc : Thread Cert.FrontReferenceIdeal.nD Cert.FrontReferenceIdeal.τ).loc Cert.FrontReferenceIdeal.main_arg5)) (m ((c.tc : Thread Cert.FrontReferenceIdeal.nD Cert.FrontReferenceIdeal.τ).loc Cert.FrontReferenceIdeal.main_arg6)) (m ((c.tc : Thread Cert.FrontReferenceIdeal.nD Cert.FrontReferenceIdeal.τ).loc Cert.FrontReferenceIdeal.main_arg7)) (m ((c.tc : Thread Cert.FrontReferenceIdeal.nD Cert.FrontReferenceIdeal.τ).loc Cert.FrontReferenceIdeal.main_arg8)) (m ((c.tc : Thread Cert.FrontReferenceIdeal.nD Cert.FrontReferenceIdeal.τ).loc Cert.FrontReferenceIdeal.main_arg9)) (m ((c.tc : Thread Cert.FrontReferenceIdeal.nD Cert.FrontReferenceIdeal.τ).loc Cert.FrontReferenceIdeal.main_arg10)) (m ((c.tc : Thread Cert.FrontReferenceIdeal.nD Cert.FrontReferenceIdeal.τ).loc Cert.FrontReferenceIdeal.main_arg11)) (m ((c.tc : Thread Cert.FrontReferenceIdeal.nD Cert.FrontReferenceIdeal.τ).loc Cert.FrontReferenceIdeal.main_arg12)) (m ((c.tc : Thread Cert.FrontReferenceIdeal.nD Cert.FrontReferenceIdeal.τ).loc Cert.FrontReferenceIdeal.main_arg13)) (m ((c.tc : Thread Cert.FrontReferenceIdeal.nD Cert.FrontReferenceIdeal.τ).loc Cert.FrontReferenceIdeal.main_arg14)) (m ((c.tc : Thread Cert.FrontReferenceIdeal.nD Cert.FrontReferenceIdeal.τ).loc Cert.FrontReferenceIdeal.main_arg15)) (m ((c.tc : Thread Cert.FrontReferenceIdeal.nD Cert.FrontReferenceIdeal.τ).loc Cert.FrontReferenceIdeal.main_arg16)) (m ((c.tc : Thread Cert.FrontReferenceIdeal.nD Cert.FrontReferenceIdeal.τ).loc Cert.FrontReferenceIdeal.main_arg17)) (m ((c.tc : Thread Cert.FrontReferenceIdeal.nD Cert.FrontReferenceIdeal.τ).loc Cert.FrontReferenceIdeal.main_arg18)) (m ((c.tc : Thread Cert.FrontReferenceIdeal.nD Cert.FrontReferenceIdeal.τ).loc Cert.FrontReferenceIdeal.main_arg19)) (m ((c.tc : Thread Cert.FrontReferenceIdeal.nD Cert.FrontReferenceIdeal.τ).loc Cert.FrontReferenceIdeal.main_arg20))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_scales_tame [hKernelIdeal : Cert.KernelIdeal.Facts] [hPre_scales_tame : Cert.Pre_scales_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_scales_tame [hReferenceIdeal : Cert.ReferenceIdeal.Facts] [hPre_scales_tame : Cert.Pre_scales_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_Front [hFront : Cert.Front.Facts] : Prop :=
  ∀ (m : (ℓ : Loc Cert.Front.nD Cert.Front.τ Cert.Front.sig) → Buf (Elt Bits) ℓ) (g : Dev Cert.Front.nD → PrngReg), Pre_Front m →
    θ_run (Cert.Front.defs (F := Bits)) (onTc (τ := Cert.Front.τ) (Cert.Front.main (F := Bits))) ⟨m, fun _ => 0, g⟩ (fun r => (∀ c : Dev Cert.Front.nD,
      r.2.mem ((c.tc : Thread Cert.Front.nD Cert.Front.τ).loc Cert.Front.main_arg0) = m ((c.tc : Thread Cert.Front.nD Cert.Front.τ).loc Cert.Front.main_arg0)
      ∧ r.2.mem ((c.tc : Thread Cert.Front.nD Cert.Front.τ).loc Cert.Front.main_arg1) = m ((c.tc : Thread Cert.Front.nD Cert.Front.τ).loc Cert.Front.main_arg1)
      ∧ r.2.mem ((c.tc : Thread Cert.Front.nD Cert.Front.τ).loc Cert.Front.main_arg2) = m ((c.tc : Thread Cert.Front.nD Cert.Front.τ).loc Cert.Front.main_arg2)
      ∧ r.2.mem ((c.tc : Thread Cert.Front.nD Cert.Front.τ).loc Cert.Front.main_arg3) = m ((c.tc : Thread Cert.Front.nD Cert.Front.τ).loc Cert.Front.main_arg3)
      ∧ r.2.mem ((c.tc : Thread Cert.Front.nD Cert.Front.τ).loc Cert.Front.main_arg4) = m ((c.tc : Thread Cert.Front.nD Cert.Front.τ).loc Cert.Front.main_arg4)
      ∧ r.2.mem ((c.tc : Thread Cert.Front.nD Cert.Front.τ).loc Cert.Front.main_arg5) = m ((c.tc : Thread Cert.Front.nD Cert.Front.τ).loc Cert.Front.main_arg5)
      ∧ r.2.mem ((c.tc : Thread Cert.Front.nD Cert.Front.τ).loc Cert.Front.main_arg6) = m ((c.tc : Thread Cert.Front.nD Cert.Front.τ).loc Cert.Front.main_arg6)
      ∧ r.2.mem ((c.tc : Thread Cert.Front.nD Cert.Front.τ).loc Cert.Front.main_arg7) = m ((c.tc : Thread Cert.Front.nD Cert.Front.τ).loc Cert.Front.main_arg7)
      ∧ r.2.mem ((c.tc : Thread Cert.Front.nD Cert.Front.τ).loc Cert.Front.main_arg8) = m ((c.tc : Thread Cert.Front.nD Cert.Front.τ).loc Cert.Front.main_arg8)
      ∧ r.2.mem ((c.tc : Thread Cert.Front.nD Cert.Front.τ).loc Cert.Front.main_arg9) = m ((c.tc : Thread Cert.Front.nD Cert.Front.τ).loc Cert.Front.main_arg9)
      ∧ r.2.mem ((c.tc : Thread Cert.Front.nD Cert.Front.τ).loc Cert.Front.main_arg10) = m ((c.tc : Thread Cert.Front.nD Cert.Front.τ).loc Cert.Front.main_arg10)
      ∧ r.2.mem ((c.tc : Thread Cert.Front.nD Cert.Front.τ).loc Cert.Front.main_arg11) = m ((c.tc : Thread Cert.Front.nD Cert.Front.τ).loc Cert.Front.main_arg11)
      ∧ r.2.mem ((c.tc : Thread Cert.Front.nD Cert.Front.τ).loc Cert.Front.main_arg12) = m ((c.tc : Thread Cert.Front.nD Cert.Front.τ).loc Cert.Front.main_arg12)
      ∧ r.2.mem ((c.tc : Thread Cert.Front.nD Cert.Front.τ).loc Cert.Front.main_arg13) = m ((c.tc : Thread Cert.Front.nD Cert.Front.τ).loc Cert.Front.main_arg13)
      ∧ r.2.mem ((c.tc : Thread Cert.Front.nD Cert.Front.τ).loc Cert.Front.main_arg14) = m ((c.tc : Thread Cert.Front.nD Cert.Front.τ).loc Cert.Front.main_arg14)
      ∧ r.2.mem ((c.tc : Thread Cert.Front.nD Cert.Front.τ).loc Cert.Front.main_arg15) = m ((c.tc : Thread Cert.Front.nD Cert.Front.τ).loc Cert.Front.main_arg15)
      ∧ r.2.mem ((c.tc : Thread Cert.Front.nD Cert.Front.τ).loc Cert.Front.main_arg16) = m ((c.tc : Thread Cert.Front.nD Cert.Front.τ).loc Cert.Front.main_arg16)
      ∧ r.2.mem ((c.tc : Thread Cert.Front.nD Cert.Front.τ).loc Cert.Front.main_arg17) = m ((c.tc : Thread Cert.Front.nD Cert.Front.τ).loc Cert.Front.main_arg17)
      ∧ r.2.mem ((c.tc : Thread Cert.Front.nD Cert.Front.τ).loc Cert.Front.main_arg18) = m ((c.tc : Thread Cert.Front.nD Cert.Front.τ).loc Cert.Front.main_arg18)
      ∧ r.2.mem ((c.tc : Thread Cert.Front.nD Cert.Front.τ).loc Cert.Front.main_arg19) = m ((c.tc : Thread Cert.Front.nD Cert.Front.τ).loc Cert.Front.main_arg19)
      ∧ r.2.mem ((c.tc : Thread Cert.Front.nD Cert.Front.τ).loc Cert.Front.main_arg20) = m ((c.tc : Thread Cert.Front.nD Cert.Front.τ).loc Cert.Front.main_arg20))
      ∧ r.2.sem = fun _ => 0)

def quiescent_FrontIdeal [hFrontIdeal : Cert.FrontIdeal.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
      ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
      ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
      ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7)
      ∧ r.2.mem ((c.tc : Thread Cert.FrontIdeal.nD Cert.FrontIdeal.τ).loc Cert.FrontIdeal.main_arg8) = m ((c.tc : Thread Cert.FrontIdeal.nD Cert.FrontIdeal.τ).loc Cert.FrontIdeal.main_arg8)
      ∧ r.2.mem ((c.tc : Thread Cert.FrontIdeal.nD Cert.FrontIdeal.τ).loc Cert.FrontIdeal.main_arg9) = m ((c.tc : Thread Cert.FrontIdeal.nD Cert.FrontIdeal.τ).loc Cert.FrontIdeal.main_arg9)
      ∧ r.2.mem ((c.tc : Thread Cert.FrontIdeal.nD Cert.FrontIdeal.τ).loc Cert.FrontIdeal.main_arg10) = m ((c.tc : Thread Cert.FrontIdeal.nD Cert.FrontIdeal.τ).loc Cert.FrontIdeal.main_arg10)
      ∧ r.2.mem ((c.tc : Thread Cert.FrontIdeal.nD Cert.FrontIdeal.τ).loc Cert.FrontIdeal.main_arg11) = m ((c.tc : Thread Cert.FrontIdeal.nD Cert.FrontIdeal.τ).loc Cert.FrontIdeal.main_arg11)
      ∧ r.2.mem ((c.tc : Thread Cert.FrontIdeal.nD Cert.FrontIdeal.τ).loc Cert.FrontIdeal.main_arg12) = m ((c.tc : Thread Cert.FrontIdeal.nD Cert.FrontIdeal.τ).loc Cert.FrontIdeal.main_arg12)
      ∧ r.2.mem ((c.tc : Thread Cert.FrontIdeal.nD Cert.FrontIdeal.τ).loc Cert.FrontIdeal.main_arg13) = m ((c.tc : Thread Cert.FrontIdeal.nD Cert.FrontIdeal.τ).loc Cert.FrontIdeal.main_arg13)
      ∧ r.2.mem ((c.tc : Thread Cert.FrontIdeal.nD Cert.FrontIdeal.τ).loc Cert.FrontIdeal.main_arg14) = m ((c.tc : Thread Cert.FrontIdeal.nD Cert.FrontIdeal.τ).loc Cert.FrontIdeal.main_arg14)
      ∧ r.2.mem ((c.tc : Thread Cert.FrontIdeal.nD Cert.FrontIdeal.τ).loc Cert.FrontIdeal.main_arg15) = m ((c.tc : Thread Cert.FrontIdeal.nD Cert.FrontIdeal.τ).loc Cert.FrontIdeal.main_arg15)
      ∧ r.2.mem ((c.tc : Thread Cert.FrontIdeal.nD Cert.FrontIdeal.τ).loc Cert.FrontIdeal.main_arg16) = m ((c.tc : Thread Cert.FrontIdeal.nD Cert.FrontIdeal.τ).loc Cert.FrontIdeal.main_arg16)
      ∧ r.2.mem ((c.tc : Thread Cert.FrontIdeal.nD Cert.FrontIdeal.τ).loc Cert.FrontIdeal.main_arg17) = m ((c.tc : Thread Cert.FrontIdeal.nD Cert.FrontIdeal.τ).loc Cert.FrontIdeal.main_arg17)
      ∧ r.2.mem ((c.tc : Thread Cert.FrontIdeal.nD Cert.FrontIdeal.τ).loc Cert.FrontIdeal.main_arg18) = m ((c.tc : Thread Cert.FrontIdeal.nD Cert.FrontIdeal.τ).loc Cert.FrontIdeal.main_arg18)
      ∧ r.2.mem ((c.tc : Thread Cert.FrontIdeal.nD Cert.FrontIdeal.τ).loc Cert.FrontIdeal.main_arg19) = m ((c.tc : Thread Cert.FrontIdeal.nD Cert.FrontIdeal.τ).loc Cert.FrontIdeal.main_arg19)
      ∧ r.2.mem ((c.tc : Thread Cert.FrontIdeal.nD Cert.FrontIdeal.τ).loc Cert.FrontIdeal.main_arg20) = m ((c.tc : Thread Cert.FrontIdeal.nD Cert.FrontIdeal.τ).loc Cert.FrontIdeal.main_arg20))
      ∧ r.2.sem = fun _ => 0)

def quiescent_FrontIdeal_pre_front_tame [hFrontIdeal : Cert.FrontIdeal.Facts] [hPre_front_tame : Cert.Pre_front_tame.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal_front_tame m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
      ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
      ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
      ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7)
      ∧ r.2.mem ((c.tc : Thread Cert.FrontIdeal.nD Cert.FrontIdeal.τ).loc Cert.FrontIdeal.main_arg8) = m ((c.tc : Thread Cert.FrontIdeal.nD Cert.FrontIdeal.τ).loc Cert.FrontIdeal.main_arg8)
      ∧ r.2.mem ((c.tc : Thread Cert.FrontIdeal.nD Cert.FrontIdeal.τ).loc Cert.FrontIdeal.main_arg9) = m ((c.tc : Thread Cert.FrontIdeal.nD Cert.FrontIdeal.τ).loc Cert.FrontIdeal.main_arg9)
      ∧ r.2.mem ((c.tc : Thread Cert.FrontIdeal.nD Cert.FrontIdeal.τ).loc Cert.FrontIdeal.main_arg10) = m ((c.tc : Thread Cert.FrontIdeal.nD Cert.FrontIdeal.τ).loc Cert.FrontIdeal.main_arg10)
      ∧ r.2.mem ((c.tc : Thread Cert.FrontIdeal.nD Cert.FrontIdeal.τ).loc Cert.FrontIdeal.main_arg11) = m ((c.tc : Thread Cert.FrontIdeal.nD Cert.FrontIdeal.τ).loc Cert.FrontIdeal.main_arg11)
      ∧ r.2.mem ((c.tc : Thread Cert.FrontIdeal.nD Cert.FrontIdeal.τ).loc Cert.FrontIdeal.main_arg12) = m ((c.tc : Thread Cert.FrontIdeal.nD Cert.FrontIdeal.τ).loc Cert.FrontIdeal.main_arg12)
      ∧ r.2.mem ((c.tc : Thread Cert.FrontIdeal.nD Cert.FrontIdeal.τ).loc Cert.FrontIdeal.main_arg13) = m ((c.tc : Thread Cert.FrontIdeal.nD Cert.FrontIdeal.τ).loc Cert.FrontIdeal.main_arg13)
      ∧ r.2.mem ((c.tc : Thread Cert.FrontIdeal.nD Cert.FrontIdeal.τ).loc Cert.FrontIdeal.main_arg14) = m ((c.tc : Thread Cert.FrontIdeal.nD Cert.FrontIdeal.τ).loc Cert.FrontIdeal.main_arg14)
      ∧ r.2.mem ((c.tc : Thread Cert.FrontIdeal.nD Cert.FrontIdeal.τ).loc Cert.FrontIdeal.main_arg15) = m ((c.tc : Thread Cert.FrontIdeal.nD Cert.FrontIdeal.τ).loc Cert.FrontIdeal.main_arg15)
      ∧ r.2.mem ((c.tc : Thread Cert.FrontIdeal.nD Cert.FrontIdeal.τ).loc Cert.FrontIdeal.main_arg16) = m ((c.tc : Thread Cert.FrontIdeal.nD Cert.FrontIdeal.τ).loc Cert.FrontIdeal.main_arg16)
      ∧ r.2.mem ((c.tc : Thread Cert.FrontIdeal.nD Cert.FrontIdeal.τ).loc Cert.FrontIdeal.main_arg17) = m ((c.tc : Thread Cert.FrontIdeal.nD Cert.FrontIdeal.τ).loc Cert.FrontIdeal.main_arg17)
      ∧ r.2.mem ((c.tc : Thread Cert.FrontIdeal.nD Cert.FrontIdeal.τ).loc Cert.FrontIdeal.main_arg18) = m ((c.tc : Thread Cert.FrontIdeal.nD Cert.FrontIdeal.τ).loc Cert.FrontIdeal.main_arg18)
      ∧ r.2.mem ((c.tc : Thread Cert.FrontIdeal.nD Cert.FrontIdeal.τ).loc Cert.FrontIdeal.main_arg19) = m ((c.tc : Thread Cert.FrontIdeal.nD Cert.FrontIdeal.τ).loc Cert.FrontIdeal.main_arg19)
      ∧ r.2.mem ((c.tc : Thread Cert.FrontIdeal.nD Cert.FrontIdeal.τ).loc Cert.FrontIdeal.main_arg20) = m ((c.tc : Thread Cert.FrontIdeal.nD Cert.FrontIdeal.τ).loc Cert.FrontIdeal.main_arg20))
      ∧ r.2.sem = fun _ => 0)

def quiescent_FrontReferenceIdeal [hFrontReferenceIdeal : Cert.FrontReferenceIdeal.Facts] : Prop :=
  ∀ (m : (ℓ : Loc Cert.FrontReferenceIdeal.nD Cert.FrontReferenceIdeal.τ Cert.FrontReferenceIdeal.sig) → Buf (Elt Ideal) ℓ) (g : Dev Cert.FrontReferenceIdeal.nD → PrngReg), Pre_FrontReferenceIdeal m →
    θ_run (Cert.FrontReferenceIdeal.defs (F := Ideal)) (onTc (τ := Cert.FrontReferenceIdeal.τ) (Cert.FrontReferenceIdeal.main (F := Ideal))) ⟨m, fun _ => 0, g⟩ (fun r => (∀ c : Dev Cert.FrontReferenceIdeal.nD,
      r.2.mem ((c.tc : Thread Cert.FrontReferenceIdeal.nD Cert.FrontReferenceIdeal.τ).loc Cert.FrontReferenceIdeal.main_arg0) = m ((c.tc : Thread Cert.FrontReferenceIdeal.nD Cert.FrontReferenceIdeal.τ).loc Cert.FrontReferenceIdeal.main_arg0)
      ∧ r.2.mem ((c.tc : Thread Cert.FrontReferenceIdeal.nD Cert.FrontReferenceIdeal.τ).loc Cert.FrontReferenceIdeal.main_arg1) = m ((c.tc : Thread Cert.FrontReferenceIdeal.nD Cert.FrontReferenceIdeal.τ).loc Cert.FrontReferenceIdeal.main_arg1)
      ∧ r.2.mem ((c.tc : Thread Cert.FrontReferenceIdeal.nD Cert.FrontReferenceIdeal.τ).loc Cert.FrontReferenceIdeal.main_arg2) = m ((c.tc : Thread Cert.FrontReferenceIdeal.nD Cert.FrontReferenceIdeal.τ).loc Cert.FrontReferenceIdeal.main_arg2)
      ∧ r.2.mem ((c.tc : Thread Cert.FrontReferenceIdeal.nD Cert.FrontReferenceIdeal.τ).loc Cert.FrontReferenceIdeal.main_arg3) = m ((c.tc : Thread Cert.FrontReferenceIdeal.nD Cert.FrontReferenceIdeal.τ).loc Cert.FrontReferenceIdeal.main_arg3)
      ∧ r.2.mem ((c.tc : Thread Cert.FrontReferenceIdeal.nD Cert.FrontReferenceIdeal.τ).loc Cert.FrontReferenceIdeal.main_arg4) = m ((c.tc : Thread Cert.FrontReferenceIdeal.nD Cert.FrontReferenceIdeal.τ).loc Cert.FrontReferenceIdeal.main_arg4)
      ∧ r.2.mem ((c.tc : Thread Cert.FrontReferenceIdeal.nD Cert.FrontReferenceIdeal.τ).loc Cert.FrontReferenceIdeal.main_arg5) = m ((c.tc : Thread Cert.FrontReferenceIdeal.nD Cert.FrontReferenceIdeal.τ).loc Cert.FrontReferenceIdeal.main_arg5)
      ∧ r.2.mem ((c.tc : Thread Cert.FrontReferenceIdeal.nD Cert.FrontReferenceIdeal.τ).loc Cert.FrontReferenceIdeal.main_arg6) = m ((c.tc : Thread Cert.FrontReferenceIdeal.nD Cert.FrontReferenceIdeal.τ).loc Cert.FrontReferenceIdeal.main_arg6)
      ∧ r.2.mem ((c.tc : Thread Cert.FrontReferenceIdeal.nD Cert.FrontReferenceIdeal.τ).loc Cert.FrontReferenceIdeal.main_arg7) = m ((c.tc : Thread Cert.FrontReferenceIdeal.nD Cert.FrontReferenceIdeal.τ).loc Cert.FrontReferenceIdeal.main_arg7)
      ∧ r.2.mem ((c.tc : Thread Cert.FrontReferenceIdeal.nD Cert.FrontReferenceIdeal.τ).loc Cert.FrontReferenceIdeal.main_arg8) = m ((c.tc : Thread Cert.FrontReferenceIdeal.nD Cert.FrontReferenceIdeal.τ).loc Cert.FrontReferenceIdeal.main_arg8)
      ∧ r.2.mem ((c.tc : Thread Cert.FrontReferenceIdeal.nD Cert.FrontReferenceIdeal.τ).loc Cert.FrontReferenceIdeal.main_arg9) = m ((c.tc : Thread Cert.FrontReferenceIdeal.nD Cert.FrontReferenceIdeal.τ).loc Cert.FrontReferenceIdeal.main_arg9)
      ∧ r.2.mem ((c.tc : Thread Cert.FrontReferenceIdeal.nD Cert.FrontReferenceIdeal.τ).loc Cert.FrontReferenceIdeal.main_arg10) = m ((c.tc : Thread Cert.FrontReferenceIdeal.nD Cert.FrontReferenceIdeal.τ).loc Cert.FrontReferenceIdeal.main_arg10)
      ∧ r.2.mem ((c.tc : Thread Cert.FrontReferenceIdeal.nD Cert.FrontReferenceIdeal.τ).loc Cert.FrontReferenceIdeal.main_arg11) = m ((c.tc : Thread Cert.FrontReferenceIdeal.nD Cert.FrontReferenceIdeal.τ).loc Cert.FrontReferenceIdeal.main_arg11)
      ∧ r.2.mem ((c.tc : Thread Cert.FrontReferenceIdeal.nD Cert.FrontReferenceIdeal.τ).loc Cert.FrontReferenceIdeal.main_arg12) = m ((c.tc : Thread Cert.FrontReferenceIdeal.nD Cert.FrontReferenceIdeal.τ).loc Cert.FrontReferenceIdeal.main_arg12)
      ∧ r.2.mem ((c.tc : Thread Cert.FrontReferenceIdeal.nD Cert.FrontReferenceIdeal.τ).loc Cert.FrontReferenceIdeal.main_arg13) = m ((c.tc : Thread Cert.FrontReferenceIdeal.nD Cert.FrontReferenceIdeal.τ).loc Cert.FrontReferenceIdeal.main_arg13)
      ∧ r.2.mem ((c.tc : Thread Cert.FrontReferenceIdeal.nD Cert.FrontReferenceIdeal.τ).loc Cert.FrontReferenceIdeal.main_arg14) = m ((c.tc : Thread Cert.FrontReferenceIdeal.nD Cert.FrontReferenceIdeal.τ).loc Cert.FrontReferenceIdeal.main_arg14)
      ∧ r.2.mem ((c.tc : Thread Cert.FrontReferenceIdeal.nD Cert.FrontReferenceIdeal.τ).loc Cert.FrontReferenceIdeal.main_arg15) = m ((c.tc : Thread Cert.FrontReferenceIdeal.nD Cert.FrontReferenceIdeal.τ).loc Cert.FrontReferenceIdeal.main_arg15)
      ∧ r.2.mem ((c.tc : Thread Cert.FrontReferenceIdeal.nD Cert.FrontReferenceIdeal.τ).loc Cert.FrontReferenceIdeal.main_arg16) = m ((c.tc : Thread Cert.FrontReferenceIdeal.nD Cert.FrontReferenceIdeal.τ).loc Cert.FrontReferenceIdeal.main_arg16)
      ∧ r.2.mem ((c.tc : Thread Cert.FrontReferenceIdeal.nD Cert.FrontReferenceIdeal.τ).loc Cert.FrontReferenceIdeal.main_arg17) = m ((c.tc : Thread Cert.FrontReferenceIdeal.nD Cert.FrontReferenceIdeal.τ).loc Cert.FrontReferenceIdeal.main_arg17)
      ∧ r.2.mem ((c.tc : Thread Cert.FrontReferenceIdeal.nD Cert.FrontReferenceIdeal.τ).loc Cert.FrontReferenceIdeal.main_arg18) = m ((c.tc : Thread Cert.FrontReferenceIdeal.nD Cert.FrontReferenceIdeal.τ).loc Cert.FrontReferenceIdeal.main_arg18)
      ∧ r.2.mem ((c.tc : Thread Cert.FrontReferenceIdeal.nD Cert.FrontReferenceIdeal.τ).loc Cert.FrontReferenceIdeal.main_arg19) = m ((c.tc : Thread Cert.FrontReferenceIdeal.nD Cert.FrontReferenceIdeal.τ).loc Cert.FrontReferenceIdeal.main_arg19)
      ∧ r.2.mem ((c.tc : Thread Cert.FrontReferenceIdeal.nD Cert.FrontReferenceIdeal.τ).loc Cert.FrontReferenceIdeal.main_arg20) = m ((c.tc : Thread Cert.FrontReferenceIdeal.nD Cert.FrontReferenceIdeal.τ).loc Cert.FrontReferenceIdeal.main_arg20))
      ∧ r.2.sem = fun _ => 0)

def quiescent_FrontReferenceIdeal_pre_front_tame [hFrontReferenceIdeal : Cert.FrontReferenceIdeal.Facts] [hPre_front_tame : Cert.Pre_front_tame.Facts] : Prop :=
  ∀ (m : (ℓ : Loc Cert.FrontReferenceIdeal.nD Cert.FrontReferenceIdeal.τ Cert.FrontReferenceIdeal.sig) → Buf (Elt Ideal) ℓ) (g : Dev Cert.FrontReferenceIdeal.nD → PrngReg), Pre_FrontReferenceIdeal_front_tame m →
    θ_run (Cert.FrontReferenceIdeal.defs (F := Ideal)) (onTc (τ := Cert.FrontReferenceIdeal.τ) (Cert.FrontReferenceIdeal.main (F := Ideal))) ⟨m, fun _ => 0, g⟩ (fun r => (∀ c : Dev Cert.FrontReferenceIdeal.nD,
      r.2.mem ((c.tc : Thread Cert.FrontReferenceIdeal.nD Cert.FrontReferenceIdeal.τ).loc Cert.FrontReferenceIdeal.main_arg0) = m ((c.tc : Thread Cert.FrontReferenceIdeal.nD Cert.FrontReferenceIdeal.τ).loc Cert.FrontReferenceIdeal.main_arg0)
      ∧ r.2.mem ((c.tc : Thread Cert.FrontReferenceIdeal.nD Cert.FrontReferenceIdeal.τ).loc Cert.FrontReferenceIdeal.main_arg1) = m ((c.tc : Thread Cert.FrontReferenceIdeal.nD Cert.FrontReferenceIdeal.τ).loc Cert.FrontReferenceIdeal.main_arg1)
      ∧ r.2.mem ((c.tc : Thread Cert.FrontReferenceIdeal.nD Cert.FrontReferenceIdeal.τ).loc Cert.FrontReferenceIdeal.main_arg2) = m ((c.tc : Thread Cert.FrontReferenceIdeal.nD Cert.FrontReferenceIdeal.τ).loc Cert.FrontReferenceIdeal.main_arg2)
      ∧ r.2.mem ((c.tc : Thread Cert.FrontReferenceIdeal.nD Cert.FrontReferenceIdeal.τ).loc Cert.FrontReferenceIdeal.main_arg3) = m ((c.tc : Thread Cert.FrontReferenceIdeal.nD Cert.FrontReferenceIdeal.τ).loc Cert.FrontReferenceIdeal.main_arg3)
      ∧ r.2.mem ((c.tc : Thread Cert.FrontReferenceIdeal.nD Cert.FrontReferenceIdeal.τ).loc Cert.FrontReferenceIdeal.main_arg4) = m ((c.tc : Thread Cert.FrontReferenceIdeal.nD Cert.FrontReferenceIdeal.τ).loc Cert.FrontReferenceIdeal.main_arg4)
      ∧ r.2.mem ((c.tc : Thread Cert.FrontReferenceIdeal.nD Cert.FrontReferenceIdeal.τ).loc Cert.FrontReferenceIdeal.main_arg5) = m ((c.tc : Thread Cert.FrontReferenceIdeal.nD Cert.FrontReferenceIdeal.τ).loc Cert.FrontReferenceIdeal.main_arg5)
      ∧ r.2.mem ((c.tc : Thread Cert.FrontReferenceIdeal.nD Cert.FrontReferenceIdeal.τ).loc Cert.FrontReferenceIdeal.main_arg6) = m ((c.tc : Thread Cert.FrontReferenceIdeal.nD Cert.FrontReferenceIdeal.τ).loc Cert.FrontReferenceIdeal.main_arg6)
      ∧ r.2.mem ((c.tc : Thread Cert.FrontReferenceIdeal.nD Cert.FrontReferenceIdeal.τ).loc Cert.FrontReferenceIdeal.main_arg7) = m ((c.tc : Thread Cert.FrontReferenceIdeal.nD Cert.FrontReferenceIdeal.τ).loc Cert.FrontReferenceIdeal.main_arg7)
      ∧ r.2.mem ((c.tc : Thread Cert.FrontReferenceIdeal.nD Cert.FrontReferenceIdeal.τ).loc Cert.FrontReferenceIdeal.main_arg8) = m ((c.tc : Thread Cert.FrontReferenceIdeal.nD Cert.FrontReferenceIdeal.τ).loc Cert.FrontReferenceIdeal.main_arg8)
      ∧ r.2.mem ((c.tc : Thread Cert.FrontReferenceIdeal.nD Cert.FrontReferenceIdeal.τ).loc Cert.FrontReferenceIdeal.main_arg9) = m ((c.tc : Thread Cert.FrontReferenceIdeal.nD Cert.FrontReferenceIdeal.τ).loc Cert.FrontReferenceIdeal.main_arg9)
      ∧ r.2.mem ((c.tc : Thread Cert.FrontReferenceIdeal.nD Cert.FrontReferenceIdeal.τ).loc Cert.FrontReferenceIdeal.main_arg10) = m ((c.tc : Thread Cert.FrontReferenceIdeal.nD Cert.FrontReferenceIdeal.τ).loc Cert.FrontReferenceIdeal.main_arg10)
      ∧ r.2.mem ((c.tc : Thread Cert.FrontReferenceIdeal.nD Cert.FrontReferenceIdeal.τ).loc Cert.FrontReferenceIdeal.main_arg11) = m ((c.tc : Thread Cert.FrontReferenceIdeal.nD Cert.FrontReferenceIdeal.τ).loc Cert.FrontReferenceIdeal.main_arg11)
      ∧ r.2.mem ((c.tc : Thread Cert.FrontReferenceIdeal.nD Cert.FrontReferenceIdeal.τ).loc Cert.FrontReferenceIdeal.main_arg12) = m ((c.tc : Thread Cert.FrontReferenceIdeal.nD Cert.FrontReferenceIdeal.τ).loc Cert.FrontReferenceIdeal.main_arg12)
      ∧ r.2.mem ((c.tc : Thread Cert.FrontReferenceIdeal.nD Cert.FrontReferenceIdeal.τ).loc Cert.FrontReferenceIdeal.main_arg13) = m ((c.tc : Thread Cert.FrontReferenceIdeal.nD Cert.FrontReferenceIdeal.τ).loc Cert.FrontReferenceIdeal.main_arg13)
      ∧ r.2.mem ((c.tc : Thread Cert.FrontReferenceIdeal.nD Cert.FrontReferenceIdeal.τ).loc Cert.FrontReferenceIdeal.main_arg14) = m ((c.tc : Thread Cert.FrontReferenceIdeal.nD Cert.FrontReferenceIdeal.τ).loc Cert.FrontReferenceIdeal.main_arg14)
      ∧ r.2.mem ((c.tc : Thread Cert.FrontReferenceIdeal.nD Cert.FrontReferenceIdeal.τ).loc Cert.FrontReferenceIdeal.main_arg15) = m ((c.tc : Thread Cert.FrontReferenceIdeal.nD Cert.FrontReferenceIdeal.τ).loc Cert.FrontReferenceIdeal.main_arg15)
      ∧ r.2.mem ((c.tc : Thread Cert.FrontReferenceIdeal.nD Cert.FrontReferenceIdeal.τ).loc Cert.FrontReferenceIdeal.main_arg16) = m ((c.tc : Thread Cert.FrontReferenceIdeal.nD Cert.FrontReferenceIdeal.τ).loc Cert.FrontReferenceIdeal.main_arg16)
      ∧ r.2.mem ((c.tc : Thread Cert.FrontReferenceIdeal.nD Cert.FrontReferenceIdeal.τ).loc Cert.FrontReferenceIdeal.main_arg17) = m ((c.tc : Thread Cert.FrontReferenceIdeal.nD Cert.FrontReferenceIdeal.τ).loc Cert.FrontReferenceIdeal.main_arg17)
      ∧ r.2.mem ((c.tc : Thread Cert.FrontReferenceIdeal.nD Cert.FrontReferenceIdeal.τ).loc Cert.FrontReferenceIdeal.main_arg18) = m ((c.tc : Thread Cert.FrontReferenceIdeal.nD Cert.FrontReferenceIdeal.τ).loc Cert.FrontReferenceIdeal.main_arg18)
      ∧ r.2.mem ((c.tc : Thread Cert.FrontReferenceIdeal.nD Cert.FrontReferenceIdeal.τ).loc Cert.FrontReferenceIdeal.main_arg19) = m ((c.tc : Thread Cert.FrontReferenceIdeal.nD Cert.FrontReferenceIdeal.τ).loc Cert.FrontReferenceIdeal.main_arg19)
      ∧ r.2.mem ((c.tc : Thread Cert.FrontReferenceIdeal.nD Cert.FrontReferenceIdeal.τ).loc Cert.FrontReferenceIdeal.main_arg20) = m ((c.tc : Thread Cert.FrontReferenceIdeal.nD Cert.FrontReferenceIdeal.τ).loc Cert.FrontReferenceIdeal.main_arg20))
      ∧ r.2.sem = fun _ => 0)

def preserves_Kernel_KernelIdeal : Prop :=
  IdealRules.named_const.Statement Cert.KernelIdeal.κ "inv127" .f32 0x3C010204#32 ((1 / 127 : ℝ) : EReal)
  ∧ IdealRules.named_const.Statement Cert.KernelIdeal.κ "rsqrt2" .f32 0x3F3504F3#32 (((Real.sqrt 2)⁻¹ : ℝ) : EReal)

def algebraic_KernelIdeal_ReferenceIdeal_pre_scales_tame [hKernelIdeal : Cert.KernelIdeal.Facts] [hReferenceIdeal : Cert.ReferenceIdeal.Facts] [hPre_scales_tame : Cert.Pre_scales_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)) (v3 : (c : Dev Cert.KernelIdeal.nD) → Buf (Elt Ideal) ((c.tc : Thread Cert.KernelIdeal.nD Cert.KernelIdeal.τ).loc Cert.KernelIdeal.main_v14_3)) (v4 : (c : Dev Cert.KernelIdeal.nD) → Buf (Elt Ideal) ((c.tc : Thread Cert.KernelIdeal.nD Cert.KernelIdeal.τ).loc Cert.KernelIdeal.main_v14_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_v14_3) = v3 c
          ∧ r.2.mem ((c.tc : Thread Cert.KernelIdeal.nD Cert.KernelIdeal.τ).loc Cert.KernelIdeal.main_v14_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_v5_2) = v2 c
          ∧ r.2.mem ((c.tc : Thread Cert.ReferenceIdeal.nD Cert.ReferenceIdeal.τ).loc Cert.ReferenceIdeal.main_v5_3) = v3 c
          ∧ r.2.mem ((c.tc : Thread Cert.ReferenceIdeal.nD Cert.ReferenceIdeal.τ).loc Cert.ReferenceIdeal.main_v5_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def preserves_Front_FrontIdeal : Prop :=
  True

def algebraic_FrontIdeal_FrontReferenceIdeal_pre_front_tame [hFrontIdeal : Cert.FrontIdeal.Facts] [hFrontReferenceIdeal : Cert.FrontReferenceIdeal.Facts] [hPre_front_tame : Cert.Pre_front_tame.Facts] : Prop :=
  ∀ (m : (ℓ : Loc Cert.FrontIdeal.nD Cert.FrontIdeal.τ Cert.FrontIdeal.sig) → Buf (Elt Ideal) ℓ) (g : Dev Cert.FrontIdeal.nD → PrngReg)
    (m' : (ℓ : Loc Cert.FrontReferenceIdeal.nD Cert.FrontReferenceIdeal.τ Cert.FrontReferenceIdeal.sig) → Buf (Elt Ideal) ℓ) (g' : Dev Cert.FrontReferenceIdeal.nD → PrngReg), Pre_FrontIdeal_front_tame m →
    (∀ c : Dev Cert.FrontIdeal.nD,
      m' ((c.tc : Thread Cert.FrontReferenceIdeal.nD Cert.FrontReferenceIdeal.τ).loc Cert.FrontReferenceIdeal.main_arg0) = m ((c.tc : Thread Cert.FrontIdeal.nD Cert.FrontIdeal.τ).loc Cert.FrontIdeal.main_arg0)
      ∧ m' ((c.tc : Thread Cert.FrontReferenceIdeal.nD Cert.FrontReferenceIdeal.τ).loc Cert.FrontReferenceIdeal.main_arg1) = m ((c.tc : Thread Cert.FrontIdeal.nD Cert.FrontIdeal.τ).loc Cert.FrontIdeal.main_arg1)
      ∧ m' ((c.tc : Thread Cert.FrontReferenceIdeal.nD Cert.FrontReferenceIdeal.τ).loc Cert.FrontReferenceIdeal.main_arg2) = m ((c.tc : Thread Cert.FrontIdeal.nD Cert.FrontIdeal.τ).loc Cert.FrontIdeal.main_arg2)
      ∧ m' ((c.tc : Thread Cert.FrontReferenceIdeal.nD Cert.FrontReferenceIdeal.τ).loc Cert.FrontReferenceIdeal.main_arg3) = m ((c.tc : Thread Cert.FrontIdeal.nD Cert.FrontIdeal.τ).loc Cert.FrontIdeal.main_arg3)
      ∧ m' ((c.tc : Thread Cert.FrontReferenceIdeal.nD Cert.FrontReferenceIdeal.τ).loc Cert.FrontReferenceIdeal.main_arg4) = m ((c.tc : Thread Cert.FrontIdeal.nD Cert.FrontIdeal.τ).loc Cert.FrontIdeal.main_arg4)
      ∧ m' ((c.tc : Thread Cert.FrontReferenceIdeal.nD Cert.FrontReferenceIdeal.τ).loc Cert.FrontReferenceIdeal.main_arg5) = m ((c.tc : Thread Cert.FrontIdeal.nD Cert.FrontIdeal.τ).loc Cert.FrontIdeal.main_arg5)
      ∧ m' ((c.tc : Thread Cert.FrontReferenceIdeal.nD Cert.FrontReferenceIdeal.τ).loc Cert.FrontReferenceIdeal.main_arg6) = m ((c.tc : Thread Cert.FrontIdeal.nD Cert.FrontIdeal.τ).loc Cert.FrontIdeal.main_arg6)
      ∧ m' ((c.tc : Thread Cert.FrontReferenceIdeal.nD Cert.FrontReferenceIdeal.τ).loc Cert.FrontReferenceIdeal.main_arg7) = m ((c.tc : Thread Cert.FrontIdeal.nD Cert.FrontIdeal.τ).loc Cert.FrontIdeal.main_arg7)
      ∧ m' ((c.tc : Thread Cert.FrontReferenceIdeal.nD Cert.FrontReferenceIdeal.τ).loc Cert.FrontReferenceIdeal.main_arg8) = m ((c.tc : Thread Cert.FrontIdeal.nD Cert.FrontIdeal.τ).loc Cert.FrontIdeal.main_arg8)
      ∧ m' ((c.tc : Thread Cert.FrontReferenceIdeal.nD Cert.FrontReferenceIdeal.τ).loc Cert.FrontReferenceIdeal.main_arg9) = m ((c.tc : Thread Cert.FrontIdeal.nD Cert.FrontIdeal.τ).loc Cert.FrontIdeal.main_arg9)
      ∧ m' ((c.tc : Thread Cert.FrontReferenceIdeal.nD Cert.FrontReferenceIdeal.τ).loc Cert.FrontReferenceIdeal.main_arg10) = m ((c.tc : Thread Cert.FrontIdeal.nD Cert.FrontIdeal.τ).loc Cert.FrontIdeal.main_arg10)
      ∧ m' ((c.tc : Thread Cert.FrontReferenceIdeal.nD Cert.FrontReferenceIdeal.τ).loc Cert.FrontReferenceIdeal.main_arg11) = m ((c.tc : Thread Cert.FrontIdeal.nD Cert.FrontIdeal.τ).loc Cert.FrontIdeal.main_arg11)
      ∧ m' ((c.tc : Thread Cert.FrontReferenceIdeal.nD Cert.FrontReferenceIdeal.τ).loc Cert.FrontReferenceIdeal.main_arg12) = m ((c.tc : Thread Cert.FrontIdeal.nD Cert.FrontIdeal.τ).loc Cert.FrontIdeal.main_arg12)
      ∧ m' ((c.tc : Thread Cert.FrontReferenceIdeal.nD Cert.FrontReferenceIdeal.τ).loc Cert.FrontReferenceIdeal.main_arg13) = m ((c.tc : Thread Cert.FrontIdeal.nD Cert.FrontIdeal.τ).loc Cert.FrontIdeal.main_arg13)
      ∧ m' ((c.tc : Thread Cert.FrontReferenceIdeal.nD Cert.FrontReferenceIdeal.τ).loc Cert.FrontReferenceIdeal.main_arg14) = m ((c.tc : Thread Cert.FrontIdeal.nD Cert.FrontIdeal.τ).loc Cert.FrontIdeal.main_arg14)
      ∧ m' ((c.tc : Thread Cert.FrontReferenceIdeal.nD Cert.FrontReferenceIdeal.τ).loc Cert.FrontReferenceIdeal.main_arg15) = m ((c.tc : Thread Cert.FrontIdeal.nD Cert.FrontIdeal.τ).loc Cert.FrontIdeal.main_arg15)
      ∧ m' ((c.tc : Thread Cert.FrontReferenceIdeal.nD Cert.FrontReferenceIdeal.τ).loc Cert.FrontReferenceIdeal.main_arg16) = m ((c.tc : Thread Cert.FrontIdeal.nD Cert.FrontIdeal.τ).loc Cert.FrontIdeal.main_arg16)
      ∧ m' ((c.tc : Thread Cert.FrontReferenceIdeal.nD Cert.FrontReferenceIdeal.τ).loc Cert.FrontReferenceIdeal.main_arg17) = m ((c.tc : Thread Cert.FrontIdeal.nD Cert.FrontIdeal.τ).loc Cert.FrontIdeal.main_arg17)
      ∧ m' ((c.tc : Thread Cert.FrontReferenceIdeal.nD Cert.FrontReferenceIdeal.τ).loc Cert.FrontReferenceIdeal.main_arg18) = m ((c.tc : Thread Cert.FrontIdeal.nD Cert.FrontIdeal.τ).loc Cert.FrontIdeal.main_arg18)
      ∧ m' ((c.tc : Thread Cert.FrontReferenceIdeal.nD Cert.FrontReferenceIdeal.τ).loc Cert.FrontReferenceIdeal.main_arg19) = m ((c.tc : Thread Cert.FrontIdeal.nD Cert.FrontIdeal.τ).loc Cert.FrontIdeal.main_arg19)
      ∧ m' ((c.tc : Thread Cert.FrontReferenceIdeal.nD Cert.FrontReferenceIdeal.τ).loc Cert.FrontReferenceIdeal.main_arg20) = m ((c.tc : Thread Cert.FrontIdeal.nD Cert.FrontIdeal.τ).loc Cert.FrontIdeal.main_arg20)) →
    ∃ (v0 : (c : Dev Cert.FrontIdeal.nD) → Buf (Elt Ideal) ((c.tc : Thread Cert.FrontIdeal.nD Cert.FrontIdeal.τ).loc Cert.FrontIdeal.main_v12_0)) (v1 : (c : Dev Cert.FrontIdeal.nD) → Buf (Elt Ideal) ((c.tc : Thread Cert.FrontIdeal.nD Cert.FrontIdeal.τ).loc Cert.FrontIdeal.main_v12_1)),
      θ_run (Cert.FrontIdeal.defs (F := Ideal)) (onTc (τ := Cert.FrontIdeal.τ) (Cert.FrontIdeal.main (F := Ideal))) ⟨m, fun _ => 0, g⟩ (fun r => ∀ c : Dev Cert.FrontIdeal.nD,
          r.2.mem ((c.tc : Thread Cert.FrontIdeal.nD Cert.FrontIdeal.τ).loc Cert.FrontIdeal.main_v12_0) = v0 c
          ∧ r.2.mem ((c.tc : Thread Cert.FrontIdeal.nD Cert.FrontIdeal.τ).loc Cert.FrontIdeal.main_v12_1) = v1 c
          ∧ r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
          ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
          ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
          ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
          ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4)
          ∧ r.2.mem ((c.tc : Thread Cert.FrontIdeal.nD Cert.FrontIdeal.τ).loc Cert.FrontIdeal.main_arg5) = m ((c.tc : Thread Cert.FrontIdeal.nD Cert.FrontIdeal.τ).loc Cert.FrontIdeal.main_arg5)
          ∧ r.2.mem ((c.tc : Thread Cert.FrontIdeal.nD Cert.FrontIdeal.τ).loc Cert.FrontIdeal.main_arg6) = m ((c.tc : Thread Cert.FrontIdeal.nD Cert.FrontIdeal.τ).loc Cert.FrontIdeal.main_arg6)
          ∧ r.2.mem ((c.tc : Thread Cert.FrontIdeal.nD Cert.FrontIdeal.τ).loc Cert.FrontIdeal.main_arg7) = m ((c.tc : Thread Cert.FrontIdeal.nD Cert.FrontIdeal.τ).loc Cert.FrontIdeal.main_arg7)
          ∧ r.2.mem ((c.tc : Thread Cert.FrontIdeal.nD Cert.FrontIdeal.τ).loc Cert.FrontIdeal.main_arg8) = m ((c.tc : Thread Cert.FrontIdeal.nD Cert.FrontIdeal.τ).loc Cert.FrontIdeal.main_arg8)
          ∧ r.2.mem ((c.tc : Thread Cert.FrontIdeal.nD Cert.FrontIdeal.τ).loc Cert.FrontIdeal.main_arg9) = m ((c.tc : Thread Cert.FrontIdeal.nD Cert.FrontIdeal.τ).loc Cert.FrontIdeal.main_arg9)
          ∧ r.2.mem ((c.tc : Thread Cert.FrontIdeal.nD Cert.FrontIdeal.τ).loc Cert.FrontIdeal.main_arg10) = m ((c.tc : Thread Cert.FrontIdeal.nD Cert.FrontIdeal.τ).loc Cert.FrontIdeal.main_arg10)
          ∧ r.2.mem ((c.tc : Thread Cert.FrontIdeal.nD Cert.FrontIdeal.τ).loc Cert.FrontIdeal.main_arg11) = m ((c.tc : Thread Cert.FrontIdeal.nD Cert.FrontIdeal.τ).loc Cert.FrontIdeal.main_arg11)
          ∧ r.2.mem ((c.tc : Thread Cert.FrontIdeal.nD Cert.FrontIdeal.τ).loc Cert.FrontIdeal.main_arg12) = m ((c.tc : Thread Cert.FrontIdeal.nD Cert.FrontIdeal.τ).loc Cert.FrontIdeal.main_arg12)
          ∧ r.2.mem ((c.tc : Thread Cert.FrontIdeal.nD Cert.FrontIdeal.τ).loc Cert.FrontIdeal.main_arg13) = m ((c.tc : Thread Cert.FrontIdeal.nD Cert.FrontIdeal.τ).loc Cert.FrontIdeal.main_arg13)
          ∧ r.2.mem ((c.tc : Thread Cert.FrontIdeal.nD Cert.FrontIdeal.τ).loc Cert.FrontIdeal.main_arg14) = m ((c.tc : Thread Cert.FrontIdeal.nD Cert.FrontIdeal.τ).loc Cert.FrontIdeal.main_arg14)
          ∧ r.2.mem ((c.tc : Thread Cert.FrontIdeal.nD Cert.FrontIdeal.τ).loc Cert.FrontIdeal.main_arg15) = m ((c.tc : Thread Cert.FrontIdeal.nD Cert.FrontIdeal.τ).loc Cert.FrontIdeal.main_arg15)
          ∧ r.2.mem ((c.tc : Thread Cert.FrontIdeal.nD Cert.FrontIdeal.τ).loc Cert.FrontIdeal.main_arg16) = m ((c.tc : Thread Cert.FrontIdeal.nD Cert.FrontIdeal.τ).loc Cert.FrontIdeal.main_arg16)
          ∧ r.2.mem ((c.tc : Thread Cert.FrontIdeal.nD Cert.FrontIdeal.τ).loc Cert.FrontIdeal.main_arg17) = m ((c.tc : Thread Cert.FrontIdeal.nD Cert.FrontIdeal.τ).loc Cert.FrontIdeal.main_arg17)
          ∧ r.2.mem ((c.tc : Thread Cert.FrontIdeal.nD Cert.FrontIdeal.τ).loc Cert.FrontIdeal.main_arg18) = m ((c.tc : Thread Cert.FrontIdeal.nD Cert.FrontIdeal.τ).loc Cert.FrontIdeal.main_arg18)
          ∧ r.2.mem ((c.tc : Thread Cert.FrontIdeal.nD Cert.FrontIdeal.τ).loc Cert.FrontIdeal.main_arg19) = m ((c.tc : Thread Cert.FrontIdeal.nD Cert.FrontIdeal.τ).loc Cert.FrontIdeal.main_arg19)
          ∧ r.2.mem ((c.tc : Thread Cert.FrontIdeal.nD Cert.FrontIdeal.τ).loc Cert.FrontIdeal.main_arg20) = m ((c.tc : Thread Cert.FrontIdeal.nD Cert.FrontIdeal.τ).loc Cert.FrontIdeal.main_arg20))
      ∧ θ_run (Cert.FrontReferenceIdeal.defs (F := Ideal)) (onTc (τ := Cert.FrontReferenceIdeal.τ) (Cert.FrontReferenceIdeal.main (F := Ideal))) ⟨m', fun _ => 0, g'⟩ (fun r => ∀ c : Dev Cert.FrontReferenceIdeal.nD,
          r.2.mem ((c.tc : Thread Cert.FrontReferenceIdeal.nD Cert.FrontReferenceIdeal.τ).loc Cert.FrontReferenceIdeal.main_v3_0) = v0 c
          ∧ r.2.mem ((c.tc : Thread Cert.FrontReferenceIdeal.nD Cert.FrontReferenceIdeal.τ).loc Cert.FrontReferenceIdeal.main_v3_1) = v1 c
          ∧ r.2.mem ((c.tc : Thread Cert.FrontReferenceIdeal.nD Cert.FrontReferenceIdeal.τ).loc Cert.FrontReferenceIdeal.main_arg0) = m' ((c.tc : Thread Cert.FrontReferenceIdeal.nD Cert.FrontReferenceIdeal.τ).loc Cert.FrontReferenceIdeal.main_arg0)
          ∧ r.2.mem ((c.tc : Thread Cert.FrontReferenceIdeal.nD Cert.FrontReferenceIdeal.τ).loc Cert.FrontReferenceIdeal.main_arg1) = m' ((c.tc : Thread Cert.FrontReferenceIdeal.nD Cert.FrontReferenceIdeal.τ).loc Cert.FrontReferenceIdeal.main_arg1)
          ∧ r.2.mem ((c.tc : Thread Cert.FrontReferenceIdeal.nD Cert.FrontReferenceIdeal.τ).loc Cert.FrontReferenceIdeal.main_arg2) = m' ((c.tc : Thread Cert.FrontReferenceIdeal.nD Cert.FrontReferenceIdeal.τ).loc Cert.FrontReferenceIdeal.main_arg2)
          ∧ r.2.mem ((c.tc : Thread Cert.FrontReferenceIdeal.nD Cert.FrontReferenceIdeal.τ).loc Cert.FrontReferenceIdeal.main_arg3) = m' ((c.tc : Thread Cert.FrontReferenceIdeal.nD Cert.FrontReferenceIdeal.τ).loc Cert.FrontReferenceIdeal.main_arg3)
          ∧ r.2.mem ((c.tc : Thread Cert.FrontReferenceIdeal.nD Cert.FrontReferenceIdeal.τ).loc Cert.FrontReferenceIdeal.main_arg4) = m' ((c.tc : Thread Cert.FrontReferenceIdeal.nD Cert.FrontReferenceIdeal.τ).loc Cert.FrontReferenceIdeal.main_arg4)
          ∧ r.2.mem ((c.tc : Thread Cert.FrontReferenceIdeal.nD Cert.FrontReferenceIdeal.τ).loc Cert.FrontReferenceIdeal.main_arg5) = m' ((c.tc : Thread Cert.FrontReferenceIdeal.nD Cert.FrontReferenceIdeal.τ).loc Cert.FrontReferenceIdeal.main_arg5)
          ∧ r.2.mem ((c.tc : Thread Cert.FrontReferenceIdeal.nD Cert.FrontReferenceIdeal.τ).loc Cert.FrontReferenceIdeal.main_arg6) = m' ((c.tc : Thread Cert.FrontReferenceIdeal.nD Cert.FrontReferenceIdeal.τ).loc Cert.FrontReferenceIdeal.main_arg6)
          ∧ r.2.mem ((c.tc : Thread Cert.FrontReferenceIdeal.nD Cert.FrontReferenceIdeal.τ).loc Cert.FrontReferenceIdeal.main_arg7) = m' ((c.tc : Thread Cert.FrontReferenceIdeal.nD Cert.FrontReferenceIdeal.τ).loc Cert.FrontReferenceIdeal.main_arg7)
          ∧ r.2.mem ((c.tc : Thread Cert.FrontReferenceIdeal.nD Cert.FrontReferenceIdeal.τ).loc Cert.FrontReferenceIdeal.main_arg8) = m' ((c.tc : Thread Cert.FrontReferenceIdeal.nD Cert.FrontReferenceIdeal.τ).loc Cert.FrontReferenceIdeal.main_arg8)
          ∧ r.2.mem ((c.tc : Thread Cert.FrontReferenceIdeal.nD Cert.FrontReferenceIdeal.τ).loc Cert.FrontReferenceIdeal.main_arg9) = m' ((c.tc : Thread Cert.FrontReferenceIdeal.nD Cert.FrontReferenceIdeal.τ).loc Cert.FrontReferenceIdeal.main_arg9)
          ∧ r.2.mem ((c.tc : Thread Cert.FrontReferenceIdeal.nD Cert.FrontReferenceIdeal.τ).loc Cert.FrontReferenceIdeal.main_arg10) = m' ((c.tc : Thread Cert.FrontReferenceIdeal.nD Cert.FrontReferenceIdeal.τ).loc Cert.FrontReferenceIdeal.main_arg10)
          ∧ r.2.mem ((c.tc : Thread Cert.FrontReferenceIdeal.nD Cert.FrontReferenceIdeal.τ).loc Cert.FrontReferenceIdeal.main_arg11) = m' ((c.tc : Thread Cert.FrontReferenceIdeal.nD Cert.FrontReferenceIdeal.τ).loc Cert.FrontReferenceIdeal.main_arg11)
          ∧ r.2.mem ((c.tc : Thread Cert.FrontReferenceIdeal.nD Cert.FrontReferenceIdeal.τ).loc Cert.FrontReferenceIdeal.main_arg12) = m' ((c.tc : Thread Cert.FrontReferenceIdeal.nD Cert.FrontReferenceIdeal.τ).loc Cert.FrontReferenceIdeal.main_arg12)
          ∧ r.2.mem ((c.tc : Thread Cert.FrontReferenceIdeal.nD Cert.FrontReferenceIdeal.τ).loc Cert.FrontReferenceIdeal.main_arg13) = m' ((c.tc : Thread Cert.FrontReferenceIdeal.nD Cert.FrontReferenceIdeal.τ).loc Cert.FrontReferenceIdeal.main_arg13)
          ∧ r.2.mem ((c.tc : Thread Cert.FrontReferenceIdeal.nD Cert.FrontReferenceIdeal.τ).loc Cert.FrontReferenceIdeal.main_arg14) = m' ((c.tc : Thread Cert.FrontReferenceIdeal.nD Cert.FrontReferenceIdeal.τ).loc Cert.FrontReferenceIdeal.main_arg14)
          ∧ r.2.mem ((c.tc : Thread Cert.FrontReferenceIdeal.nD Cert.FrontReferenceIdeal.τ).loc Cert.FrontReferenceIdeal.main_arg15) = m' ((c.tc : Thread Cert.FrontReferenceIdeal.nD Cert.FrontReferenceIdeal.τ).loc Cert.FrontReferenceIdeal.main_arg15)
          ∧ r.2.mem ((c.tc : Thread Cert.FrontReferenceIdeal.nD Cert.FrontReferenceIdeal.τ).loc Cert.FrontReferenceIdeal.main_arg16) = m' ((c.tc : Thread Cert.FrontReferenceIdeal.nD Cert.FrontReferenceIdeal.τ).loc Cert.FrontReferenceIdeal.main_arg16)
          ∧ r.2.mem ((c.tc : Thread Cert.FrontReferenceIdeal.nD Cert.FrontReferenceIdeal.τ).loc Cert.FrontReferenceIdeal.main_arg17) = m' ((c.tc : Thread Cert.FrontReferenceIdeal.nD Cert.FrontReferenceIdeal.τ).loc Cert.FrontReferenceIdeal.main_arg17)
          ∧ r.2.mem ((c.tc : Thread Cert.FrontReferenceIdeal.nD Cert.FrontReferenceIdeal.τ).loc Cert.FrontReferenceIdeal.main_arg18) = m' ((c.tc : Thread Cert.FrontReferenceIdeal.nD Cert.FrontReferenceIdeal.τ).loc Cert.FrontReferenceIdeal.main_arg18)
          ∧ r.2.mem ((c.tc : Thread Cert.FrontReferenceIdeal.nD Cert.FrontReferenceIdeal.τ).loc Cert.FrontReferenceIdeal.main_arg19) = m' ((c.tc : Thread Cert.FrontReferenceIdeal.nD Cert.FrontReferenceIdeal.τ).loc Cert.FrontReferenceIdeal.main_arg19)
          ∧ r.2.mem ((c.tc : Thread Cert.FrontReferenceIdeal.nD Cert.FrontReferenceIdeal.τ).loc Cert.FrontReferenceIdeal.main_arg20) = m' ((c.tc : Thread Cert.FrontReferenceIdeal.nD Cert.FrontReferenceIdeal.τ).loc Cert.FrontReferenceIdeal.main_arg20))

def Claim : Prop :=
  ∃ (hKernel : Cert.Kernel.Facts) (hKernelIdeal : Cert.KernelIdeal.Facts) (hReferenceIdeal : Cert.ReferenceIdeal.Facts) (hFront : Cert.Front.Facts) (hFrontIdeal : Cert.FrontIdeal.Facts) (hFrontReferenceIdeal : Cert.FrontReferenceIdeal.Facts) (hPre_scales_tame : Cert.Pre_scales_tame.Facts) (hPre_front_tame : Cert.Pre_front_tame.Facts),
    quiescent_Kernel (hKernel := hKernel)
    ∧ quiescent_KernelIdeal (hKernelIdeal := hKernelIdeal)
    ∧ quiescent_KernelIdeal_pre_scales_tame (hKernelIdeal := hKernelIdeal) (hPre_scales_tame := hPre_scales_tame)
    ∧ quiescent_ReferenceIdeal (hReferenceIdeal := hReferenceIdeal)
    ∧ quiescent_ReferenceIdeal_pre_scales_tame (hReferenceIdeal := hReferenceIdeal) (hPre_scales_tame := hPre_scales_tame)
    ∧ quiescent_Front (hFront := hFront)
    ∧ quiescent_FrontIdeal (hFrontIdeal := hFrontIdeal)
    ∧ quiescent_FrontIdeal_pre_front_tame (hFrontIdeal := hFrontIdeal) (hPre_front_tame := hPre_front_tame)
    ∧ quiescent_FrontReferenceIdeal (hFrontReferenceIdeal := hFrontReferenceIdeal)
    ∧ quiescent_FrontReferenceIdeal_pre_front_tame (hFrontReferenceIdeal := hFrontReferenceIdeal) (hPre_front_tame := hPre_front_tame)
    ∧ preserves_Kernel_KernelIdeal
    ∧ algebraic_KernelIdeal_ReferenceIdeal_pre_scales_tame (hKernelIdeal := hKernelIdeal) (hReferenceIdeal := hReferenceIdeal) (hPre_scales_tame := hPre_scales_tame)
    ∧ preserves_Front_FrontIdeal
    ∧ algebraic_FrontIdeal_FrontReferenceIdeal_pre_front_tame (hFrontIdeal := hFrontIdeal) (hFrontReferenceIdeal := hFrontReferenceIdeal) (hPre_front_tame := hPre_front_tame)
-- ==== Pre_front_tame.lean ====
abbrev S8x14x18x512 : Shape := ⟨4, ![8, 14, 18, 512]⟩
abbrev S512 : Shape := ⟨1, ![512]⟩
abbrev S_ : Shape := ⟨0, ![]⟩
abbrev S256x1024 : Shape := ⟨2, ![256, 1024]⟩
abbrev S1024 : Shape := ⟨1, ![1024]⟩
abbrev S3x3x1024 : Shape := ⟨3, ![3, 3, 1024]⟩
abbrev S4x1024x34 : Shape := ⟨3, ![4, 1024, 34]⟩
abbrev S4x34 : Shape := ⟨2, ![4, 34]⟩
abbrev S4 : Shape := ⟨1, ![4]⟩
abbrev S4x32x1024 : Shape := ⟨3, ![4, 32, 1024]⟩
abbrev S4x1024 : Shape := ⟨2, ![4, 1024]⟩
abbrev S4x1024x1 : Shape := ⟨3, ![4, 1024, 1]⟩

class Facts : Prop where
  bcast_S_S1024 : S_.BroadcastsInDim S1024 (![] : Fin 0 → Fin S1024.rank)

variable [Facts]

def fn {F : FTy → Type} [FloatOps F] (main_arg0 : FVec F S8x14x18x512 .bf16) (main_arg1 : FVec F S512 .f32) (main_arg2 : FVec F S512 .f32) (main_arg3 : FVec F S_ .f32) (main_arg4 : IVec S256x1024 8) (main_arg5 : FVec F S1024 .f32) (main_arg6 : FVec F S1024 .f32) (main_arg7 : IVec S3x3x1024 8) (main_arg8 : FVec F S1024 .f32) (main_arg9 : FVec F S1024 .f32) (main_arg10 : FVec F S1024 .f32) (main_arg11 : IVec S4x1024x34 8) (main_arg12 : FVec F S4x34 .f32) (main_arg13 : FVec F S4 .f32) (main_arg14 : FVec F S4 .f32) (main_arg15 : FVec F S4 .f32) (main_arg16 : IVec S4x32x1024 8) (main_arg17 : FVec F S4x1024 .f32) (main_arg18 : FVec F S4x1024 .f32) (main_arg19 : FVec F S4x1024x1 .f32) (main_arg20 : FVec F S4x1024 .f32) : IVec S_ 1 × IVec S1024 1 :=
  let main_cst : FVec F S_ .f32 := constant S_ .f32 0x07800000#32
  let main_v0 : IVec S_ 1 := cmpf .oge main_arg3 main_cst
  let main_v1 : FVec F S1024 .f32 := Host.absf main_arg6
  let main_cst_0 : FVec F S_ .f32 := constant S_ .f32 0x07800000#32
  let main_v2 : FVec F S1024 .f32 := broadcastInDim S1024 ![] bcast_S_S1024 main_cst_0
  let main_v3 : IVec S1024 1 := cmpf .oge main_v1 main_v2
  (main_v0, main_v3)
-- ==== Pre_scales_tame.lean ====
abbrev S252x8x1024 : Shape := ⟨3, ![252, 8, 1024]⟩
abbrev S8x14x18x512 : Shape := ⟨4, ![8, 14, 18, 512]⟩
abbrev S1024 : Shape := ⟨1, ![1024]⟩
abbrev S1024x256 : Shape := ⟨2, ![1024, 256]⟩
abbrev S512 : Shape := ⟨1, ![512]⟩
abbrev S_ : Shape := ⟨0, ![]⟩
abbrev S256x2048 : Shape := ⟨2, ![256, 2048]⟩
abbrev S2048 : Shape := ⟨1, ![2048]⟩
abbrev S1024x512 : Shape := ⟨2, ![1024, 512]⟩

class Facts : Prop where

variable [Facts]

def fn {F : FTy → Type} [FloatOps F] (main_arg0 : FVec F S252x8x1024 .f32) (main_arg1 : FVec F S8x14x18x512 .bf16) (main_arg2 : FVec F S1024 .f32) (main_arg3 : FVec F S1024 .f32) (main_arg4 : IVec S1024x256 8) (main_arg5 : FVec F S512 .f32) (main_arg6 : FVec F S512 .f32) (main_arg7 : FVec F S512 .f32) (main_arg8 : FVec F S_ .f32) (main_arg9 : IVec S256x2048 8) (main_arg10 : FVec F S2048 .f32) (main_arg11 : FVec F S2048 .f32) (main_arg12 : FVec F S_ .f32) (main_arg13 : IVec S_ 32) (main_arg14 : IVec S1024x512 8) (main_arg15 : FVec F S512 .f32) (main_arg16 : FVec F S512 .f32) : IVec S_ 1 × IVec S_ 1 × IVec S_ 1 :=
  let main_cst : FVec F S_ .f32 := constant S_ .f32 0x07800000#32
  let main_v0 : IVec S_ 1 := cmpf .oge main_arg8 main_cst
  let main_v1 : FVec F S_ .f32 := Host.absf main_arg12
  let main_cst_0 : FVec F S_ .f32 := constant S_ .f32 0x07800000#32
  let main_v2 : IVec S_ 1 := cmpf .oge main_v1 main_cst_0
  let main_c : IVec S_ 32 := constantI S_ 32 2147483904#32
  let main_v3 : IVec S_ 1 := cmpi .sge main_arg13 main_c
  (main_v0, main_v2, main_v3)
-- ==== Kernel.lean ====
abbrev S252x8x1024 : Shape := ⟨3, ![252, 8, 1024]⟩
abbrev S8x14x18x512 : Shape := ⟨4, ![8, 14, 18, 512]⟩
abbrev S1024 : Shape := ⟨1, ![1024]⟩
abbrev S1024x256 : Shape := ⟨2, ![1024, 256]⟩
abbrev S512 : Shape := ⟨1, ![512]⟩
abbrev S_ : Shape := ⟨0, ![]⟩
abbrev S256x2048 : Shape := ⟨2, ![256, 2048]⟩
abbrev S2048 : Shape := ⟨1, ![2048]⟩
abbrev S1024x512 : Shape := ⟨2, ![1024, 512]⟩
abbrev S14x18x8x512 : Shape := ⟨4, ![14, 18, 8, 512]⟩
abbrev S252x8x512 : Shape := ⟨3, ![252, 8, 512]⟩
abbrev S1 : Shape := ⟨1, ![1]⟩
abbrev S1x1024 : Shape := ⟨2, ![1, 1024]⟩
abbrev S1x512 : Shape := ⟨2, ![1, 512]⟩
abbrev S1x2048 : Shape := ⟨2, ![1, 2048]⟩
abbrev S14x8x18 : Shape := ⟨3, ![14, 8, 18]⟩
abbrev S252x8x2048 : Shape := ⟨3, ![252, 8, 2048]⟩
abbrev S36x8x1024 : Shape := ⟨3, ![36, 8, 1024]⟩
abbrev S36x8x512 : Shape := ⟨3, ![36, 8, 512]⟩
abbrev S2x8x18 : Shape := ⟨3, ![2, 8, 18]⟩
abbrev S36x8x2048 : Shape := ⟨3, ![36, 8, 2048]⟩
abbrev S512x2048 : Shape := ⟨2, ![512, 2048]⟩
abbrev S2048x512 : Shape := ⟨2, ![2048, 512]⟩
abbrev S288x1024 : Shape := ⟨2, ![288, 1024]⟩
abbrev S288x512 : Shape := ⟨2, ![288, 512]⟩
abbrev S288x2048 : Shape := ⟨2, ![288, 2048]⟩
abbrev S288x128 : Shape := ⟨2, ![288, 128]⟩
abbrev S256x1x2048 : Shape := ⟨3, ![256, 1, 2048]⟩
abbrev S256x2x2048 : Shape := ⟨3, ![256, 2, 2048]⟩
abbrev S1024x1x512 : Shape := ⟨3, ![1024, 1, 512]⟩
abbrev S1024x2x512 : Shape := ⟨3, ![1024, 2, 512]⟩
abbrev S256x512 : Shape := ⟨2, ![256, 512]⟩
abbrev S8x128 : Shape := ⟨2, ![8, 128]⟩
abbrev S1x8x1024 : Shape := ⟨3, ![1, 8, 1024]⟩
abbrev S8x1024 : Shape := ⟨2, ![8, 1024]⟩
abbrev S8 : Shape := ⟨1, ![8]⟩
abbrev S8x1 : Shape := ⟨2, ![8, 1]⟩
abbrev S16x1024 : Shape := ⟨2, ![16, 1024]⟩
abbrev S8x18 : Shape := ⟨2, ![8, 18]⟩
abbrev S1x8x18 : Shape := ⟨3, ![1, 8, 18]⟩
abbrev S288x256 : Shape := ⟨2, ![288, 256]⟩
abbrev S1x256 : Shape := ⟨2, ![1, 256]⟩
abbrev S36x8x256 : Shape := ⟨3, ![36, 8, 256]⟩
abbrev S1x8x512 : Shape := ⟨3, ![1, 8, 512]⟩
abbrev S8x512 : Shape := ⟨2, ![8, 512]⟩
abbrev S16x512 : Shape := ⟨2, ![16, 512]⟩
abbrev S512x256 : Shape := ⟨2, ![512, 256]⟩
abbrev S2048x256 : Shape := ⟨2, ![2048, 256]⟩

abbrev nBuf : Space → Nat
  | .hbm => 36
  | .vmem => 34
  | .smem => 3
  | _ => 0

abbrev bufTy : (tb : Table) → Fin (tcTables nBuf tb) → BufTy
  | .hbm, ⟨0, _⟩ => ⟨S252x8x1024, .f32⟩
  | .hbm, ⟨1, _⟩ => ⟨S8x14x18x512, .bf16⟩
  | .hbm, ⟨2, _⟩ => ⟨S1024, .f32⟩
  | .hbm, ⟨3, _⟩ => ⟨S1024, .f32⟩
  | .hbm, ⟨4, _⟩ => ⟨S1024x256, .i8⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S_, .f32⟩
  | .hbm, ⟨9, _⟩ => ⟨S256x2048, .i8⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .i32⟩
  | .hbm, ⟨14, _⟩ => ⟨S1024x512, .i8⟩
  | .hbm, ⟨15, _⟩ => ⟨S512, .f32⟩
  | .hbm, ⟨16, _⟩ => ⟨S512, .f32⟩
  | .hbm, ⟨17, _⟩ => ⟨S14x18x8x512, .bf16⟩
  | .hbm, ⟨18, _⟩ => ⟨S252x8x512, .bf16⟩
  | .hbm, ⟨19, _⟩ => ⟨S1, .f32⟩
  | .hbm, ⟨20, _⟩ => ⟨S1, .f32⟩
  | .hbm, ⟨21, _⟩ => ⟨S1, .i32⟩
  | .hbm, ⟨22, _⟩ => ⟨S1x1024, .f32⟩
  | .hbm, ⟨23, _⟩ => ⟨S1x1024, .f32⟩
  | .hbm, ⟨24, _⟩ => ⟨S1x512, .f32⟩
  | .hbm, ⟨25, _⟩ => ⟨S1x512, .f32⟩
  | .hbm, ⟨26, _⟩ => ⟨S1x512, .f32⟩
  | .hbm, ⟨27, _⟩ => ⟨S1x2048, .f32⟩
  | .hbm, ⟨28, _⟩ => ⟨S1x2048, .f32⟩
  | .hbm, ⟨29, _⟩ => ⟨S1x512, .f32⟩
  | .hbm, ⟨30, _⟩ => ⟨S1x512, .f32⟩
  | .hbm, ⟨31, _⟩ => ⟨S252x8x512, .bf16⟩
  | .hbm, ⟨32, _⟩ => ⟨S252x8x1024, .i8⟩
  | .hbm, ⟨33, _⟩ => ⟨S14x8x18, .f32⟩
  | .hbm, ⟨34, _⟩ => ⟨S252x8x512, .i8⟩
  | .hbm, ⟨35, _⟩ => ⟨S252x8x2048, .i8⟩
  | .local _ .vmem, ⟨0, _⟩ => ⟨S36x8x1024, .f32⟩
  | .local _ .vmem, ⟨1, _⟩ => ⟨S36x8x1024, .f32⟩
  | .local _ .vmem, ⟨2, _⟩ => ⟨S36x8x512, .bf16⟩
  | .local _ .vmem, ⟨3, _⟩ => ⟨S36x8x512, .bf16⟩
  | .local _ .vmem, ⟨4, _⟩ => ⟨S1x1024, .f32⟩
  | .local _ .vmem, ⟨5, _⟩ => ⟨S1x1024, .f32⟩
  | .local _ .vmem, ⟨6, _⟩ => ⟨S1024x256, .i8⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S256x2048, .i8⟩
  | .local _ .vmem, ⟨11, _⟩ => ⟨S1x2048, .f32⟩
  | .local _ .vmem, ⟨12, _⟩ => ⟨S1x2048, .f32⟩
  | .local _ .vmem, ⟨13, _⟩ => ⟨S1024x512, .i8⟩
  | .local _ .vmem, ⟨14, _⟩ => ⟨S1x512, .f32⟩
  | .local _ .vmem, ⟨15, _⟩ => ⟨S1x512, .f32⟩
  | .local _ .vmem, ⟨16, _⟩ => ⟨S36x8x512, .bf16⟩
  | .local _ .vmem, ⟨17, _⟩ => ⟨S36x8x512, .bf16⟩
  | .local _ .vmem, ⟨18, _⟩ => ⟨S36x8x1024, .i8⟩
  | .local _ .vmem, ⟨19, _⟩ => ⟨S36x8x1024, .i8⟩
  | .local _ .vmem, ⟨20, _⟩ => ⟨S2x8x18, .f32⟩
  | .local _ .vmem, ⟨21, _⟩ => ⟨S2x8x18, .f32⟩
  | .local _ .vmem, ⟨22, _⟩ => ⟨S36x8x512, .i8⟩
  | .local _ .vmem, ⟨23, _⟩ => ⟨S36x8x512, .i8⟩
  | .local _ .vmem, ⟨24, _⟩ => ⟨S36x8x2048, .i8⟩
  | .local _ .vmem, ⟨25, _⟩ => ⟨S36x8x2048, .i8⟩
  | .local _ .vmem, ⟨26, _⟩ => ⟨S1024x512, .bf16⟩
  | .local _ .vmem, ⟨27, _⟩ => ⟨S512x2048, .bf16⟩
  | .local _ .vmem, ⟨28, _⟩ => ⟨S2048x512, .bf16⟩
  | .local _ .vmem, ⟨29, _⟩ => ⟨S288x1024, .bf16⟩
  | .local _ .vmem, ⟨30, _⟩ => ⟨S288x512, .bf16⟩
  | .local _ .vmem, ⟨31, _⟩ => ⟨S288x2048, .bf16⟩
  | .local _ .vmem, ⟨32, _⟩ => ⟨S36x8x512, .f32⟩
  | .local _ .vmem, ⟨33, _⟩ => ⟨S288x128, .f32⟩
  | .local _ .smem, ⟨0, _⟩ => ⟨S1, .f32⟩
  | .local _ .smem, ⟨1, _⟩ => ⟨S1, .f32⟩
  | .local _ .smem, ⟨2, _⟩ => ⟨S1, .i32⟩
  | _, _ => ⟨S252x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14_0 : Ref sig .tc := ⟨.hbm, 31, rfl⟩
abbrev main_v14_1 : Ref sig .tc := ⟨.hbm, 32, rfl⟩
abbrev main_v14_2 : Ref sig .tc := ⟨.hbm, 33, rfl⟩
abbrev main_v14_3 : Ref sig .tc := ⟨.hbm, 34, rfl⟩
abbrev main_v14_4 : Ref sig .tc := ⟨.hbm, 35, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg13_0 : Ref sig .tc := ⟨.vmem, 12, rfl⟩
abbrev cc0_stg14_0 : Ref sig .tc := ⟨.vmem, 13, rfl⟩
abbrev cc0_stg15_0 : Ref sig .tc := ⟨.vmem, 14, rfl⟩
abbrev cc0_stg16_0 : Ref sig .tc := ⟨.vmem, 15, rfl⟩
abbrev cc0_stg17_0 : Ref sig .tc := ⟨.vmem, 16, rfl⟩
abbrev cc0_stg17_1 : Ref sig .tc := ⟨.vmem, 17, rfl⟩
abbrev cc0_stg18_0 : Ref sig .tc := ⟨.vmem, 18, rfl⟩
abbrev cc0_stg18_1 : Ref sig .tc := ⟨.vmem, 19, rfl⟩
abbrev cc0_stg19_0 : Ref sig .tc := ⟨.vmem, 20, rfl⟩
abbrev cc0_stg19_1 : Ref sig .tc := ⟨.vmem, 21, rfl⟩
abbrev cc0_stg20_0 : Ref sig .tc := ⟨.vmem, 22, rfl⟩
abbrev cc0_stg20_1 : Ref sig .tc := ⟨.vmem, 23, rfl⟩
abbrev cc0_stg21_0 : Ref sig .tc := ⟨.vmem, 24, rfl⟩
abbrev cc0_stg21_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_scratch6 : Ref sig .tc := ⟨.vmem, 32, rfl⟩
abbrev cc0_scratch7 : Ref sig .tc := ⟨.vmem, 33, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem17_1 : DmaSem sig := 20
abbrev cc0_sem18_0 : DmaSem sig := 21
abbrev cc0_sem18_1 : DmaSem sig := 22
abbrev cc0_sem19_0 : DmaSem sig := 23
abbrev cc0_sem19_1 : DmaSem sig := 24
abbrev cc0_sem20_0 : DmaSem sig := 25
abbrev cc0_sem20_1 : DmaSem sig := 26
abbrev cc0_sem21_0 : DmaSem sig := 27
abbrev cc0_sem21_1 : DmaSem sig := 28

abbrev nD : Nat := 1
abbrev τ : Topo := Topo.v7x

variable {F : FTy → Type} [FloatOps F]

abbrev grid0 : Pipeline.Grid := ⟨1, ![7], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S36x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S36x8x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x2048 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x512 .i8 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S36x8x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S36x8x1024 .i8 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2x8x18 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S36x8x512 .i8 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S36x8x2048 .i8 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== KernelIdeal.lean ====
variable {F : FTy → Type} [FloatOps F] [Named F]
def κ : String → Option EReal := fun
  | "inv127" => some ((1 / 127 : ℝ) : EReal)
  | "rsqrt2" => some (((Real.sqrt 2)⁻¹ : ℝ) : EReal)
  | _ => none
-- ==== ReferenceIdeal.lean ====
abbrev S252x8x1024 : Shape := ⟨3, ![252, 8, 1024]⟩
abbrev S8x14x18x512 : Shape := ⟨4, ![8, 14, 18, 512]⟩
abbrev S1024 : Shape := ⟨1, ![1024]⟩
abbrev S1024x256 : Shape := ⟨2, ![1024, 256]⟩
abbrev S512 : Shape := ⟨1, ![512]⟩
abbrev S_ : Shape := ⟨0, ![]⟩
abbrev S256x2048 : Shape := ⟨2, ![256, 2048]⟩
abbrev S2048 : Shape := ⟨1, ![2048]⟩
abbrev S1024x512 : Shape := ⟨2, ![1024, 512]⟩
abbrev S14x18x8x512 : Shape := ⟨4, ![14, 18, 8, 512]⟩
abbrev S252x8x512 : Shape := ⟨3, ![252, 8, 512]⟩
abbrev S1 : Shape := ⟨1, ![1]⟩
abbrev S14x8x18 : Shape := ⟨3, ![14, 8, 18]⟩
abbrev S252x8x2048 : Shape := ⟨3, ![252, 8, 2048]⟩
abbrev S252x8 : Shape := ⟨2, ![252, 8]⟩
abbrev S252x8x1 : Shape := ⟨3, ![252, 8, 1]⟩
abbrev S1x1x1024 : Shape := ⟨3, ![1, 1, 1024]⟩
abbrev S14x18x8 : Shape := ⟨3, ![14, 18, 8]⟩
abbrev S256x1024 : Shape := ⟨2, ![256, 1024]⟩
abbrev S256x1x1024 : Shape := ⟨3, ![256, 1, 1024]⟩
abbrev S256x2x1024 : Shape := ⟨3, ![256, 2, 1024]⟩
abbrev S512x1024 : Shape := ⟨2, ![512, 1024]⟩
abbrev S2016x1024 : Shape := ⟨2, ![2016, 1024]⟩
abbrev S2016x512 : Shape := ⟨2, ![2016, 512]⟩
abbrev S1x1x512 : Shape := ⟨3, ![1, 1, 512]⟩
abbrev S256x1x2048 : Shape := ⟨3, ![256, 1, 2048]⟩
abbrev S256x2x2048 : Shape := ⟨3, ![256, 2, 2048]⟩
abbrev S512x2048 : Shape := ⟨2, ![512, 2048]⟩
abbrev S2016x2048 : Shape := ⟨2, ![2016, 2048]⟩
abbrev S1x1x2048 : Shape := ⟨3, ![1, 1, 2048]⟩
abbrev S1024x1x512 : Shape := ⟨3, ![1024, 1, 512]⟩
abbrev S1024x2x512 : Shape := ⟨3, ![1024, 2, 512]⟩
abbrev S2048x512 : Shape := ⟨2, ![2048, 512]⟩

abbrev nBuf : Space → Nat
  | .hbm => 27
  | .vmem => 19
  | .smem => 3
  | _ => 0

abbrev bufTy : (tb : Table) → Fin (tcTables nBuf tb) → BufTy
  | .hbm, ⟨0, _⟩ => ⟨S252x8x1024, .f32⟩
  | .hbm, ⟨1, _⟩ => ⟨S8x14x18x512, .bf16⟩
  | .hbm, ⟨2, _⟩ => ⟨S1024, .f32⟩
  | .hbm, ⟨3, _⟩ => ⟨S1024, .f32⟩
  | .hbm, ⟨4, _⟩ => ⟨S1024x256, .i8⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S_, .f32⟩
  | .hbm, ⟨9, _⟩ => ⟨S256x2048, .i8⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .i32⟩
  | .hbm, ⟨14, _⟩ => ⟨S1024x512, .i8⟩
  | .hbm, ⟨15, _⟩ => ⟨S512, .f32⟩
  | .hbm, ⟨16, _⟩ => ⟨S512, .f32⟩
  | .hbm, ⟨17, _⟩ => ⟨S14x18x8x512, .bf16⟩
  | .hbm, ⟨18, _⟩ => ⟨S252x8x512, .bf16⟩
  | .hbm, ⟨19, _⟩ => ⟨S1, .f32⟩
  | .hbm, ⟨20, _⟩ => ⟨S1, .f32⟩
  | .hbm, ⟨21, _⟩ => ⟨S1, .i32⟩
  | .hbm, ⟨22, _⟩ => ⟨S252x8x512, .bf16⟩
  | .hbm, ⟨23, _⟩ => ⟨S252x8x1024, .i8⟩
  | .hbm, ⟨24, _⟩ => ⟨S14x8x18, .f32⟩
  | .hbm, ⟨25, _⟩ => ⟨S252x8x512, .i8⟩
  | .hbm, ⟨26, _⟩ => ⟨S252x8x2048, .i8⟩
  | .local _ .vmem, ⟨0, _⟩ => ⟨S252x8x1024, .f32⟩
  | .local _ .vmem, ⟨1, _⟩ => ⟨S252x8x512, .bf16⟩
  | .local _ .vmem, ⟨2, _⟩ => ⟨S1024, .f32⟩
  | .local _ .vmem, ⟨3, _⟩ => ⟨S1024, .f32⟩
  | .local _ .vmem, ⟨4, _⟩ => ⟨S1024x256, .i8⟩
  | .local _ .vmem, ⟨5, _⟩ => ⟨S512, .f32⟩
  | .local _ .vmem, ⟨6, _⟩ => ⟨S512, .f32⟩
  | .local _ .vmem, ⟨7, _⟩ => ⟨S512, .f32⟩
  | .local _ .vmem, ⟨8, _⟩ => ⟨S256x2048, .i8⟩
  | .local _ .vmem, ⟨9, _⟩ => ⟨S2048, .f32⟩
  | .local _ .vmem, ⟨10, _⟩ => ⟨S2048, .f32⟩
  | .local _ .vmem, ⟨11, _⟩ => ⟨S1024x512, .i8⟩
  | .local _ .vmem, ⟨12, _⟩ => ⟨S512, .f32⟩
  | .local _ .vmem, ⟨13, _⟩ => ⟨S512, .f32⟩
  | .local _ .vmem, ⟨14, _⟩ => ⟨S252x8x512, .bf16⟩
  | .local _ .vmem, ⟨15, _⟩ => ⟨S252x8x1024, .i8⟩
  | .local _ .vmem, ⟨16, _⟩ => ⟨S14x8x18, .f32⟩
  | .local _ .vmem, ⟨17, _⟩ => ⟨S252x8x512, .i8⟩
  | .local _ .vmem, ⟨18, _⟩ => ⟨S252x8x2048, .i8⟩
  | .local _ .smem, ⟨0, _⟩ => ⟨S1, .f32⟩
  | .local _ .smem, ⟨1, _⟩ => ⟨S1, .f32⟩
  | .local _ .smem, ⟨2, _⟩ => ⟨S1, .i32⟩
  | _, _ => ⟨S252x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5_0 : Ref sig .tc := ⟨.hbm, 22, rfl⟩
abbrev main_v5_1 : Ref sig .tc := ⟨.hbm, 23, rfl⟩
abbrev main_v5_2 : Ref sig .tc := ⟨.hbm, 24, rfl⟩
abbrev main_v5_3 : Ref sig .tc := ⟨.hbm, 25, rfl⟩
abbrev main_v5_4 : Ref sig .tc := ⟨.hbm, 26, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg7_0 : Ref sig .tc := ⟨.vmem, 4, rfl⟩
abbrev cc0_stg8_0 : Ref sig .tc := ⟨.vmem, 5, rfl⟩
abbrev cc0_stg9_0 : Ref sig .tc := ⟨.vmem, 6, rfl⟩
abbrev cc0_stg10_0 : Ref sig .tc := ⟨.vmem, 7, rfl⟩
abbrev cc0_stg11_0 : Ref sig .tc := ⟨.vmem, 8, rfl⟩
abbrev cc0_stg12_0 : Ref sig .tc := ⟨.vmem, 9, rfl⟩
abbrev cc0_stg13_0 : Ref sig .tc := ⟨.vmem, 10, rfl⟩
abbrev cc0_stg14_0 : Ref sig .tc := ⟨.vmem, 11, rfl⟩
abbrev cc0_stg15_0 : Ref sig .tc := ⟨.vmem, 12, rfl⟩
abbrev cc0_stg16_0 : Ref sig .tc := ⟨.vmem, 13, rfl⟩
abbrev cc0_stg17_0 : Ref sig .tc := ⟨.vmem, 14, rfl⟩
abbrev cc0_stg18_0 : Ref sig .tc := ⟨.vmem, 15, rfl⟩
abbrev cc0_stg19_0 : Ref sig .tc := ⟨.vmem, 16, rfl⟩
abbrev cc0_stg20_0 : Ref sig .tc := ⟨.vmem, 17, rfl⟩
abbrev cc0_stg21_0 : Ref sig .tc := ⟨.vmem, 18, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F] [Named F]

def κ : String → Option EReal := fun
  | "rsqrt2" => some (((Real.sqrt 2)⁻¹ : ℝ) : EReal)
  | _ => none

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S252x8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S252x8x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x256 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x2048 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1024x512 .i8 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S252x8x512 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S252x8x1024 .i8 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S14x8x18 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S252x8x512 .i8 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S252x8x2048 .i8 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
-- ==== Front.lean ====
abbrev S8x14x18x512 : Shape := ⟨4, ![8, 14, 18, 512]⟩
abbrev S512 : Shape := ⟨1, ![512]⟩
abbrev S_ : Shape := ⟨0, ![]⟩
abbrev S256x1024 : Shape := ⟨2, ![256, 1024]⟩
abbrev S1024 : Shape := ⟨1, ![1024]⟩
abbrev S3x3x1024 : Shape := ⟨3, ![3, 3, 1024]⟩
abbrev S4x1024x34 : Shape := ⟨3, ![4, 1024, 34]⟩
abbrev S4x34 : Shape := ⟨2, ![4, 34]⟩
abbrev S4 : Shape := ⟨1, ![4]⟩
abbrev S4x32x1024 : Shape := ⟨3, ![4, 32, 1024]⟩
abbrev S4x1024 : Shape := ⟨2, ![4, 1024]⟩
abbrev S4x1024x1 : Shape := ⟨3, ![4, 1024, 1]⟩
abbrev S14x18x8x512 : Shape := ⟨4, ![14, 18, 8, 512]⟩
abbrev S252x8x512 : Shape := ⟨3, ![252, 8, 512]⟩
abbrev S1 : Shape := ⟨1, ![1]⟩
abbrev S1x512 : Shape := ⟨2, ![1, 512]⟩
abbrev S1x1024 : Shape := ⟨2, ![1, 1024]⟩
abbrev S34x4x1024 : Shape := ⟨3, ![34, 4, 1024]⟩
abbrev S252x8x1024 : Shape := ⟨3, ![252, 8, 1024]⟩
abbrev S4x252x8x32 : Shape := ⟨4, ![4, 252, 8, 32]⟩
abbrev S4x14x8x18 : Shape := ⟨4, ![4, 14, 8, 18]⟩
abbrev S512x1024 : Shape := ⟨2, ![512, 1024]⟩
abbrev S1024x512 : Shape := ⟨2, ![1024, 512]⟩
abbrev S4x128x1024 : Shape := ⟨3, ![4, 128, 1024]⟩
abbrev S9x8x1024 : Shape := ⟨3, ![9, 8, 1024]⟩
abbrev S16x20x8x1024 : Shape := ⟨4, ![16, 20, 8, 1024]⟩
abbrev S144x512 : Shape := ⟨2, ![144, 512]⟩
abbrev S144x1024 : Shape := ⟨2, ![144, 1024]⟩
abbrev S4x252x8x128 : Shape := ⟨4, ![4, 252, 8, 128]⟩
abbrev S2x144x1024 : Shape := ⟨3, ![2, 144, 1024]⟩
abbrev S8x1024 : Shape := ⟨2, ![8, 1024]⟩
abbrev S8x128 : Shape := ⟨2, ![8, 128]⟩
abbrev S256x1x1024 : Shape := ⟨3, ![256, 1, 1024]⟩
abbrev S256x2x1024 : Shape := ⟨3, ![256, 2, 1024]⟩
abbrev S1x1x1024 : Shape := ⟨3, ![1, 1, 1024]⟩
abbrev S1x8x1024 : Shape := ⟨3, ![1, 8, 1024]⟩
abbrev S34x1x1024 : Shape := ⟨3, ![34, 1, 1024]⟩
abbrev S34x1024 : Shape := ⟨2, ![34, 1024]⟩
abbrev S6x1024 : Shape := ⟨2, ![6, 1024]⟩
abbrev S40x1024 : Shape := ⟨2, ![40, 1024]⟩
abbrev S128x1024 : Shape := ⟨2, ![128, 1024]⟩
abbrev S1024x128 : Shape := ⟨2, ![1024, 128]⟩
abbrev S1x128 : Shape := ⟨2, ![1, 128]⟩
abbrev S1x34 : Shape := ⟨2, ![1, 34]⟩
abbrev S1x94 : Shape := ⟨2, ![1, 94]⟩
abbrev S1x32x1024 : Shape := ⟨3, ![1, 32, 1024]⟩
abbrev S32x1024 : Shape := ⟨2, ![32, 1024]⟩
abbrev S5x1024 : Shape := ⟨2, ![5, 1024]⟩
abbrev S1x128x1024 : Shape := ⟨3, ![1, 128, 1024]⟩
abbrev S1x8x512 : Shape := ⟨3, ![1, 8, 512]⟩
abbrev S8x512 : Shape := ⟨2, ![8, 512]⟩
abbrev S8 : Shape := ⟨1, ![8]⟩
abbrev S8x1 : Shape := ⟨2, ![8, 1]⟩
abbrev S16x512 : Shape := ⟨2, ![16, 512]⟩
abbrev S512x256 : Shape := ⟨2, ![512, 256]⟩
abbrev S144x256 : Shape := ⟨2, ![144, 256]⟩
abbrev S1x256 : Shape := ⟨2, ![1, 256]⟩
abbrev S18x8x256 : Shape := ⟨3, ![18, 8, 256]⟩
abbrev S1x18x8x256 : Shape := ⟨4, ![1, 18, 8, 256]⟩
abbrev S1x1x8x256 : Shape := ⟨4, ![1, 1, 8, 256]⟩
abbrev S8x256 : Shape := ⟨2, ![8, 256]⟩
abbrev S1x8x256 : Shape := ⟨3, ![1, 8, 256]⟩
abbrev S16x256 : Shape := ⟨2, ![16, 256]⟩
abbrev S1024x256 : Shape := ⟨2, ![1024, 256]⟩
abbrev S144x128 : Shape := ⟨2, ![144, 128]⟩
abbrev S18x8x128 : Shape := ⟨3, ![18, 8, 128]⟩
abbrev S18x8x32 : Shape := ⟨3, ![18, 8, 32]⟩
abbrev S1x18x8x32 : Shape := ⟨4, ![1, 18, 8, 32]⟩
abbrev S1x8x128 : Shape := ⟨3, ![1, 8, 128]⟩
abbrev S1x1x8x128 : Shape := ⟨4, ![1, 1, 8, 128]⟩
abbrev S1x8x1 : Shape := ⟨3, ![1, 8, 1]⟩
abbrev S8x18 : Shape := ⟨2, ![8, 18]⟩
abbrev S1x1x8x18 : Shape := ⟨4, ![1, 1, 8, 18]⟩
abbrev S1x18x8x128 : Shape := ⟨4, ![1, 18, 8, 128]⟩
abbrev S1x144x1024 : Shape := ⟨3, ![1, 144, 1024]⟩
abbrev S1x14x8x128 : Shape := ⟨4, ![1, 14, 8, 128]⟩
abbrev S14x8x128 : Shape := ⟨3, ![14, 8, 128]⟩
abbrev S112x128 : Shape := ⟨2, ![112, 128]⟩
abbrev S112x1024 : Shape := ⟨2, ![112, 1024]⟩
abbrev S1x112x1024 : Shape := ⟨3, ![1, 112, 1024]⟩

abbrev nBuf : Space → Nat
  | .hbm => 40
  | .vmem => 38
  | .smem => 4
  | _ => 0

abbrev bufTy : (tb : Table) → Fin (tcTables nBuf tb) → BufTy
  | .hbm, ⟨0, _⟩ => ⟨S8x14x18x512, .bf16⟩
  | .hbm, ⟨1, _⟩ => ⟨S512, .f32⟩
  | .hbm, ⟨2, _⟩ => ⟨S512, .f32⟩
  | .hbm, ⟨3, _⟩ => ⟨S_, .f32⟩
  | .hbm, ⟨4, _⟩ => ⟨S256x1024, .i8⟩
  | .hbm, ⟨5, _⟩ => ⟨S1024, .f32⟩
  | .hbm, ⟨6, _⟩ => ⟨S1024, .f32⟩
  | .hbm, ⟨7, _⟩ => ⟨S3x3x1024, .i8⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S4x1024x34, .i8⟩
  | .hbm, ⟨12, _⟩ => ⟨S4x34, .f32⟩
  | .hbm, ⟨13, _⟩ => ⟨S4, .f32⟩
  | .hbm, ⟨14, _⟩ => ⟨S4, .f32⟩
  | .hbm, ⟨15, _⟩ => ⟨S4, .f32⟩
  | .hbm, ⟨16, _⟩ => ⟨S4x32x1024, .i8⟩
  | .hbm, ⟨17, _⟩ => ⟨S4x1024, .f32⟩
  | .hbm, ⟨18, _⟩ => ⟨S4x1024, .f32⟩
  | .hbm, ⟨19, _⟩ => ⟨S4x1024x1, .f32⟩
  | .hbm, ⟨20, _⟩ => ⟨S4x1024, .f32⟩
  | .hbm, ⟨21, _⟩ => ⟨S14x18x8x512, .bf16⟩
  | .hbm, ⟨22, _⟩ => ⟨S252x8x512, .bf16⟩
  | .hbm, ⟨23, _⟩ => ⟨S1, .f32⟩
  | .hbm, ⟨24, _⟩ => ⟨S1x512, .f32⟩
  | .hbm, ⟨25, _⟩ => ⟨S1x512, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S34x4x1024, .i8⟩
  | .hbm, ⟨32, _⟩ => ⟨S4x1024, .f32⟩
  | .hbm, ⟨33, _⟩ => ⟨S252x8x512, .i8⟩
  | .hbm, ⟨34, _⟩ => ⟨S252x8x1024, .i8⟩
  | .hbm, ⟨35, _⟩ => ⟨S252x8x1024, .i8⟩
  | .hbm, ⟨36, _⟩ => ⟨S4x252x8x32, .i8⟩
  | .hbm, ⟨37, _⟩ => ⟨S4x14x8x18, .i8⟩
  | .hbm, ⟨38, _⟩ => ⟨S4x14x8x18, .i8⟩
  | .hbm, ⟨39, _⟩ => ⟨S252x8x1024, .f32⟩
  | .local _ .vmem, ⟨0, _⟩ => ⟨S252x8x512, .bf16⟩
  | .local _ .vmem, ⟨1, _⟩ => ⟨S1x512, .f32⟩
  | .local _ .vmem, ⟨2, _⟩ => ⟨S1x512, .f32⟩
  | .local _ .vmem, ⟨3, _⟩ => ⟨S256x1024, .i8⟩
  | .local _ .vmem, ⟨4, _⟩ => ⟨S1x1024, .f32⟩
  | .local _ .vmem, ⟨5, _⟩ => ⟨S1x1024, .f32⟩
  | .local _ .vmem, ⟨6, _⟩ => ⟨S3x3x1024, .i8⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S34x4x1024, .i8⟩
  | .local _ .vmem, ⟨11, _⟩ => ⟨S4x34, .f32⟩
  | .local _ .vmem, ⟨12, _⟩ => ⟨S4x32x1024, .i8⟩
  | .local _ .vmem, ⟨13, _⟩ => ⟨S4x1024, .f32⟩
  | .local _ .vmem, ⟨14, _⟩ => ⟨S4x1024, .f32⟩
  | .local _ .vmem, ⟨15, _⟩ => ⟨S4x1024, .f32⟩
  | .local _ .vmem, ⟨16, _⟩ => ⟨S4x1024, .f32⟩
  | .local _ .vmem, ⟨17, _⟩ => ⟨S252x8x512, .i8⟩
  | .local _ .vmem, ⟨18, _⟩ => ⟨S252x8x1024, .i8⟩
  | .local _ .vmem, ⟨19, _⟩ => ⟨S252x8x1024, .i8⟩
  | .local _ .vmem, ⟨20, _⟩ => ⟨S4x252x8x32, .i8⟩
  | .local _ .vmem, ⟨21, _⟩ => ⟨S4x14x8x18, .i8⟩
  | .local _ .vmem, ⟨22, _⟩ => ⟨S4x14x8x18, .i8⟩
  | .local _ .vmem, ⟨23, _⟩ => ⟨S252x8x1024, .f32⟩
  | .local _ .vmem, ⟨24, _⟩ => ⟨S512x1024, .bf16⟩
  | .local _ .vmem, ⟨25, _⟩ => ⟨S1024x512, .bf16⟩
  | .local _ .vmem, ⟨26, _⟩ => ⟨S4x128x1024, .bf16⟩
  | .local _ .vmem, ⟨27, _⟩ => ⟨S9x8x1024, .bf16⟩
  | .local _ .vmem, ⟨28, _⟩ => ⟨S16x20x8x1024, .bf16⟩
  | .local _ .vmem, ⟨29, _⟩ => ⟨S252x8x1024, .f32⟩
  | .local _ .vmem, ⟨30, _⟩ => ⟨S252x8x1024, .f32⟩
  | .local _ .vmem, ⟨31, _⟩ => ⟨S144x512, .bf16⟩
  | .local _ .vmem, ⟨32, _⟩ => ⟨S144x1024, .bf16⟩
  | .local _ .vmem, ⟨33, _⟩ => ⟨S4x252x8x128, .f32⟩
  | .local _ .vmem, ⟨34, _⟩ => ⟨S2x144x1024, .f32⟩
  | .local _ .vmem, ⟨35, _⟩ => ⟨S8x1024, .f32⟩
  | .local _ .vmem, ⟨36, _⟩ => ⟨S8x128, .f32⟩
  | .local _ .vmem, ⟨37, _⟩ => ⟨S8x1024, .f32⟩
  | .local _ .smem, ⟨0, _⟩ => ⟨S1, .f32⟩
  | .local _ .smem, ⟨1, _⟩ => ⟨S4, .f32⟩
  | .local _ .smem, ⟨2, _⟩ => ⟨S4, .f32⟩
  | .local _ .smem, ⟨3, _⟩ => ⟨S4, .f32⟩
  | _, _ => ⟨S8x14x18x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12_0 : Ref sig .tc := ⟨.hbm, 33, rfl⟩
abbrev main_v12_1 : Ref sig .tc := ⟨.hbm, 34, rfl⟩
abbrev main_v12_2 : Ref sig .tc := ⟨.hbm, 35, rfl⟩
abbrev main_v12_3 : Ref sig .tc := ⟨.hbm, 36, rfl⟩
abbrev main_v12_4 : Ref sig .tc := ⟨.hbm, 37, rfl⟩
abbrev main_v12_5 : Ref sig .tc := ⟨.hbm, 38, rfl⟩
abbrev main_v12_6 : Ref sig .tc := ⟨.hbm, 39, rfl⟩
abbrev cc0_stg4_0 : Ref sig .tc := ⟨.vmem, 0, rfl⟩
abbrev cc0_stg5_0 : Ref sig .tc := ⟨.vmem, 1, rfl⟩
abbrev cc0_stg6_0 : Ref sig .tc := ⟨.vmem, 2, rfl⟩
abbrev cc0_stg7_0 : Ref sig .tc := ⟨.vmem, 3, rfl⟩
abbrev cc0_stg8_0 : Ref sig .tc := ⟨.vmem, 4, rfl⟩
abbrev cc0_stg9_0 : Ref sig .tc := ⟨.vmem, 5, rfl⟩
abbrev cc0_stg10_0 : Ref sig .tc := ⟨.vmem, 6, rfl⟩
abbrev cc0_stg11_0 : Ref sig .tc := ⟨.vmem, 7, rfl⟩
abbrev cc0_stg12_0 : Ref sig .tc := ⟨.vmem, 8, rfl⟩
abbrev cc0_stg13_0 : Ref sig .tc := ⟨.vmem, 9, rfl⟩
abbrev cc0_stg14_0 : Ref sig .tc := ⟨.vmem, 10, rfl⟩
abbrev cc0_stg15_0 : Ref sig .tc := ⟨.vmem, 11, rfl⟩
abbrev cc0_stg16_0 : Ref sig .tc := ⟨.vmem, 12, rfl⟩
abbrev cc0_stg17_0 : Ref sig .tc := ⟨.vmem, 13, rfl⟩
abbrev cc0_stg18_0 : Ref sig .tc := ⟨.vmem, 14, rfl⟩
abbrev cc0_stg19_0 : Ref sig .tc := ⟨.vmem, 15, rfl⟩
abbrev cc0_stg20_0 : Ref sig .tc := ⟨.vmem, 16, rfl⟩
abbrev cc0_stg21_0 : Ref sig .tc := ⟨.vmem, 17, rfl⟩
abbrev cc0_stg22_0 : Ref sig .tc := ⟨.vmem, 18, rfl⟩
abbrev cc0_stg23_0 : Ref sig .tc := ⟨.vmem, 19, rfl⟩
abbrev cc0_stg24_0 : Ref sig .tc := ⟨.vmem, 20, rfl⟩
abbrev cc0_stg25_0 : Ref sig .tc := ⟨.vmem, 21, rfl⟩
abbrev cc0_stg26_0 : Ref sig .tc := ⟨.vmem, 22, rfl⟩
abbrev cc0_stg27_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_scratch7 : Ref sig .tc := ⟨.vmem, 31, rfl⟩
abbrev cc0_scratch8 : Ref sig .tc := ⟨.vmem, 32, rfl⟩
abbrev cc0_scratch9 : Ref sig .tc := ⟨.vmem, 33, rfl⟩
abbrev cc0_scratch10 : Ref sig .tc := ⟨.vmem, 34, rfl⟩
abbrev cc0_scratch11 : Ref sig .tc := ⟨.vmem, 35, rfl⟩
abbrev cc0_scratch12 : Ref sig .tc := ⟨.vmem, 36, rfl⟩
abbrev cc0_scratch13 : Ref sig .tc := ⟨.vmem, 37, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c14_i32 : BitVec 32 := 14#32
  let v497 : BitVec 32 := Scalar.addi c0_i32 c14_i32
  let c1_i32 : BitVec 32 := 1#32
  ⟨c0_i32, v497, c1_i32⟩
def k0_off1 (k0_t1 : Fin k0_t1_loop.trips) (c0_i32_277 : BitVec 32) (c0_i32_278 : BitVec 32) : Fin 3 → Nat :=
  let c0_i32 : BitVec 32 := 0#32
  let c1_i32 : BitVec 32 := 1#32
  let arg42 : BitVec 32 := Scf.iv c0_i32 c1_i32 k0_t1
  let c18_i32_276 : BitVec 32 := 18#32
  let v506 : BitVec 32 := Scalar.muli arg42 c18_i32_276
  let v507 : BitVec 32 := Scalar.addi v506 c0_i32_277
  let v508 : BitVec 32 := Scalar.addi v507 c0_i32_278
  let v509 : Index := Scalar.indexCast v508
  let c0_279 : Index := 0#32
  let c0_280 : Index := 0#32
  ![v509.toNat, 0, 0]
def k0_off2 (k0_t1 : Fin k0_t1_loop.trips) : Fin 4 → Nat :=
  let c0_i32 : BitVec 32 := 0#32
  let c1_i32 : BitVec 32 := 1#32
  let arg42 : BitVec 32 := Scf.iv c0_i32 c1_i32 k0_t1
  let c1_i32_524 : BitVec 32 := 1#32
  let v1213 : BitVec 32 := Scalar.addi arg42 c1_i32_524
  let v1214 : Index := Scalar.indexCast v1213
  let c1_525 : Index := 1#32
  let c0_526 : Index := 0#32
  let c0_527 : Index := 0#32
  ![v1214.toNat, 1, 0, 0]
def k0_off3 (k0_t1 : Fin k0_t1_loop.trips) : Fin 3 → Nat :=
  let c0_i32 : BitVec 32 := 0#32
  let c1_i32 : BitVec 32 := 1#32
  let arg42 : BitVec 32 := Scf.iv c0_i32 c1_i32 k0_t1
  let c18_i32_276 : BitVec 32 := 18#32
  let v506 : BitVec 32 := Scalar.muli arg42 c18_i32_276
  let v1219 : Index := Scalar.indexCast v506
  let c0_528 : Index := 0#32
  let c0_529 : Index := 0#32
  ![v1219.toNat, 0, 0]
def k0_off4 (k0_t1 : Fin k0_t1_loop.trips) : Fin 4 → Nat :=
  let c0_i32 : BitVec 32 := 0#32
  let c1_i32 : BitVec 32 := 1#32
  let arg42 : BitVec 32 := Scf.iv c0_i32 c1_i32 k0_t1
  let c1_i32_539 : BitVec 32 := 1#32
  let v1234 : BitVec 32 := Scalar.addi arg42 c1_i32_539
  let v1235 : Index := Scalar.indexCast v1234
  let c1_540 : Index := 1#32
  let c0_541 : Index := 0#32
  let c256_542 : Index := 256#32
  ![v1235.toNat, 1, 0, 256]
def k0_off5 (k0_t1 : Fin k0_t1_loop.trips) : Fin 3 → Nat :=
  let c0_i32 : BitVec 32 := 0#32
  let c1_i32 : BitVec 32 := 1#32
  let arg42 : BitVec 32 := Scf.iv c0_i32 c1_i32 k0_t1
  let c18_i32_276 : BitVec 32 := 18#32
  let v506 : BitVec 32 := Scalar.muli arg42 c18_i32_276
  let v1240 : Index := Scalar.indexCast v506
  let c0_543 : Index := 0#32
  let c256_544 : Index := 256#32
  ![v1240.toNat, 0, 256]
def k0_off6 (k0_t1 : Fin k0_t1_loop.trips) : Fin 4 → Nat :=
  let c0_i32 : BitVec 32 := 0#32
  let c1_i32 : BitVec 32 := 1#32
  let arg42 : BitVec 32 := Scf.iv c0_i32 c1_i32 k0_t1
  let c1_i32_553 : BitVec 32 := 1#32
  let v1255 : BitVec 32 := Scalar.addi arg42 c1_i32_553
  let v1256 : Index := Scalar.indexCast v1255
  let c1_554 : Index := 1#32
  let c0_555 : Index := 0#32
  let c512_556 : Index := 512#32
  ![v1256.toNat, 1, 0, 512]
def k0_off7 (k0_t1 : Fin k0_t1_loop.trips) : Fin 3 → Nat :=
  let c0_i32 : BitVec 32 := 0#32
  let c1_i32 : BitVec 32 := 1#32
  let arg42 : BitVec 32 := Scf.iv c0_i32 c1_i32 k0_t1
  let c18_i32_276 : BitVec 32 := 18#32
  let v506 : BitVec 32 := Scalar.muli arg42 c18_i32_276
  let v1261 : Index := Scalar.indexCast v506
  let c0_557 : Index := 0#32
  let c512_558 : Index := 512#32
  ![v1261.toNat, 0, 512]
def k0_off8 (k0_t1 : Fin k0_t1_loop.trips) : Fin 4 → Nat :=
  let c0_i32 : BitVec 32 := 0#32
  let c1_i32 : BitVec 32 := 1#32
  let arg42 : BitVec 32 := Scf.iv c0_i32 c1_i32 k0_t1
  let c1_i32_567 : BitVec 32 := 1#32
  let v1276 : BitVec 32 := Scalar.addi arg42 c1_i32_567
  let v1277 : Index := Scalar.indexCast v1276
  let c1_568 : Index := 1#32
  let c0_569 : Index := 0#32
  let c768_570 : Index := 768#32
  ![v1277.toNat, 1, 0, 768]
def k0_off9 (k0_t1 : Fin k0_t1_loop.trips) : Fin 3 → Nat :=
  let c0_i32 : BitVec 32 := 0#32
  let c1_i32 : BitVec 32 := 1#32
  let arg42 : BitVec 32 := Scf.iv c0_i32 c1_i32 k0_t1
  let c18_i32_276 : BitVec 32 := 18#32
  let v506 : BitVec 32 := Scalar.muli arg42 c18_i32_276
  let v1282 : Index := Scalar.indexCast v506
  let c0_571 : Index := 0#32
  let c768_572 : Index := 768#32
  ![v1282.toNat, 0, 768]
@[reducible] def k0_t2_loop : Scf.Loop 32 :=
  let c0_i32_260 : BitVec 32 := 0#32
  let c14_i32_261 : BitVec 32 := 14#32
  let v498 : BitVec 32 := Scalar.addi c0_i32_260 c14_i32_261
  let c1_i32_262 : BitVec 32 := 1#32
  ⟨c0_i32_260, v498, c1_i32_262⟩
def k0_off10 (k0_t2 : Fin k0_t2_loop.trips) (c0_i32_277 : BitVec 32) : Fin 4 → Nat :=
  let c0_i32_260 : BitVec 32 := 0#32
  let c1_i32_262 : BitVec 32 := 1#32
  let arg42 : BitVec 32 := Scf.iv c0_i32_260 c1_i32_262 k0_t2
  let v507 : BitVec 32 := Scalar.addi arg42 c0_i32_277
  let v508 : Index := Scalar.indexCast v507
  let c0_278 : Index := 0#32
  let c0_279 : Index := 0#32
  let c0_280 : Index := 0#32
  ![v508.toNat, 0, 0, 0]
def k0_off11 (k0_t2 : Fin k0_t2_loop.trips) (c0_i32_284 : BitVec 32) : Fin 4 → Nat :=
  let c0_i32_260 : BitVec 32 := 0#32
  let c1_i32_262 : BitVec 32 := 1#32
  let arg42 : BitVec 32 := Scf.iv c0_i32_260 c1_i32_262 k0_t2
  let v516 : BitVec 32 := Scalar.addi arg42 c0_i32_284
  let v517 : Index := Scalar.indexCast v516
  let c1_285 : Index := 1#32
  let c0_286 : Index := 0#32
  let c0_287 : Index := 0#32
  ![v517.toNat, 1, 0, 0]
def k0_off12 (k0_t2 : Fin k0_t2_loop.trips) (c0_i32_291 : BitVec 32) : Fin 4 → Nat :=
  let c0_i32_260 : BitVec 32 := 0#32
  let c1_i32_262 : BitVec 32 := 1#32
  let arg42 : BitVec 32 := Scf.iv c0_i32_260 c1_i32_262 k0_t2
  let v526 : BitVec 32 := Scalar.addi arg42 c0_i32_291
  let v527 : Index := Scalar.indexCast v526
  let c2_292 : Index := 2#32
  let c0_293 : Index := 0#32
  let c0_294 : Index := 0#32
  ![v527.toNat, 2, 0, 0]
def k0_off13 (k0_t2 : Fin k0_t2_loop.trips) (c0_i32_349 : BitVec 32) : Fin 3 → Nat :=
  let c0_i32_260 : BitVec 32 := 0#32
  let c1_i32_262 : BitVec 32 := 1#32
  let arg42 : BitVec 32 := Scf.iv c0_i32_260 c1_i32_262 k0_t2
  let c18_i32_276 : BitVec 32 := 18#32
  let v506 : BitVec 32 := Scalar.muli arg42 c18_i32_276
  let v617 : BitVec 32 := Scalar.addi v506 c0_i32_349
  let v618 : Index := Scalar.indexCast v617
  let c0_350 : Index := 0#32
  let c0_351 : Index := 0#32
  ![v618.toNat, 0, 0]
def k0_off14 (k0_t2 : Fin k0_t2_loop.trips) (c0_i32_373 : BitVec 32) : Fin 4 → Nat :=
  let c0_i32_260 : BitVec 32 := 0#32
  let c1_i32_262 : BitVec 32 := 1#32
  let arg42 : BitVec 32 := Scf.iv c0_i32_260 c1_i32_262 k0_t2
  let v652 : BitVec 32 := Scalar.addi arg42 c0_i32_373
  let v653 : Index := Scalar.indexCast v652
  let c3_374 : Index := 3#32
  let c0_375 : Index := 0#32
  let c0_376 : Index := 0#32
  ![v653.toNat, 3, 0, 0]
def k0_off15 (k0_t2 : Fin k0_t2_loop.trips) (c0_i32_458 : BitVec 32) : Fin 4 → Nat :=
  let c0_i32_260 : BitVec 32 := 0#32
  let c1_i32_262 : BitVec 32 := 1#32
  let arg42 : BitVec 32 := Scf.iv c0_i32_260 c1_i32_262 k0_t2
  let v783 : BitVec 32 := Scalar.addi arg42 c0_i32_458
  let v784 : Index := Scalar.indexCast v783
  let c4_459 : Index := 4#32
  let c0_460 : Index := 0#32
  let c0_461 : Index := 0#32
  ![v784.toNat, 4, 0, 0]
def k0_off16 (k0_t2 : Fin k0_t2_loop.trips) (c0_i32_541 : BitVec 32) : Fin 4 → Nat :=
  let c0_i32_260 : BitVec 32 := 0#32
  let c1_i32_262 : BitVec 32 := 1#32
  let arg42 : BitVec 32 := Scf.iv c0_i32_260 c1_i32_262 k0_t2
  let v909 : BitVec 32 := Scalar.addi arg42 c0_i32_541
  let v910 : Index := Scalar.indexCast v909
  let c5_542 : Index := 5#32
  let c0_543 : Index := 0#32
  let c0_544 : Index := 0#32
  ![v910.toNat, 5, 0, 0]
def k0_off17 (k0_t2 : Fin k0_t2_loop.trips) (c0_i32_624 : BitVec 32) : Fin 4 → Nat :=
  let c0_i32_260 : BitVec 32 := 0#32
  let c1_i32_262 : BitVec 32 := 1#32
  let arg42 : BitVec 32 := Scf.iv c0_i32_260 c1_i32_262 k0_t2
  let v1040 : BitVec 32 := Scalar.addi arg42 c0_i32_624
  let v1041 : Index := Scalar.indexCast v1040
  let c6_625 : Index := 6#32
  let c0_626 : Index := 0#32
  let c0_627 : Index := 0#32
  ![v1041.toNat, 6, 0, 0]
def k0_off18 (k0_t2 : Fin k0_t2_loop.trips) (c0_i32_706 : BitVec 32) : Fin 4 → Nat :=
  let c0_i32_260 : BitVec 32 := 0#32
  let c1_i32_262 : BitVec 32 := 1#32
  let arg42 : BitVec 32 := Scf.iv c0_i32_260 c1_i32_262 k0_t2
  let v1166 : BitVec 32 := Scalar.addi arg42 c0_i32_706
  let v1167 : Index := Scalar.indexCast v1166
  let c7_707 : Index := 7#32
  let c0_708 : Index := 0#32
  let c0_709 : Index := 0#32
  ![v1167.toNat, 7, 0, 0]
def k0_off19 (k0_t2 : Fin k0_t2_loop.trips) (c0_i32_789 : BitVec 32) : Fin 4 → Nat :=
  let c0_i32_260 : BitVec 32 := 0#32
  let c1_i32_262 : BitVec 32 := 1#32
  let arg42 : BitVec 32 := Scf.iv c0_i32_260 c1_i32_262 k0_t2
  let v1297 : BitVec 32 := Scalar.addi arg42 c0_i32_789
  let v1298 : Index := Scalar.indexCast v1297
  let c8_790 : Index := 8#32
  let c0_791 : Index := 0#32
  let c0_792 : Index := 0#32
  ![v1298.toNat, 8, 0, 0]
def k0_off20 (k0_t2 : Fin k0_t2_loop.trips) (c0_i32_871 : BitVec 32) : Fin 4 → Nat :=
  let c0_i32_260 : BitVec 32 := 0#32
  let c1_i32_262 : BitVec 32 := 1#32
  let arg42 : BitVec 32 := Scf.iv c0_i32_260 c1_i32_262 k0_t2
  let v1423 : BitVec 32 := Scalar.addi arg42 c0_i32_871
  let v1424 : Index := Scalar.indexCast v1423
  let c9 : Index := 9#32
  let c0_872 : Index := 0#32
  let c0_873 : Index := 0#32
  ![v1424.toNat, 9, 0, 0]
def k0_off21 (k0_t2 : Fin k0_t2_loop.trips) (c0_i32_953 : BitVec 32) : Fin 4 → Nat :=
  let c0_i32_260 : BitVec 32 := 0#32
  let c1_i32_262 : BitVec 32 := 1#32
  let arg42 : BitVec 32 := Scf.iv c0_i32_260 c1_i32_262 k0_t2
  let v1554 : BitVec 32 := Scalar.addi arg42 c0_i32_953
  let v1555 : Index := Scalar.indexCast v1554
  let c10 : Index := 10#32
  let c0_954 : Index := 0#32
  let c0_955 : Index := 0#32
  ![v1555.toNat, 10, 0, 0]
def k0_off22 (k0_t2 : Fin k0_t2_loop.trips) (c0_i32_1034 : BitVec 32) : Fin 4 → Nat :=
  let c0_i32_260 : BitVec 32 := 0#32
  let c1_i32_262 : BitVec 32 := 1#32
  let arg42 : BitVec 32 := Scf.iv c0_i32_260 c1_i32_262 k0_t2
  let v1680 : BitVec 32 := Scalar.addi arg42 c0_i32_1034
  let v1681 : Index := Scalar.indexCast v1680
  let c11 : Index := 11#32
  let c0_1035 : Index := 0#32
  let c0_1036 : Index := 0#32
  ![v1681.toNat, 11, 0, 0]
def k0_off23 (k0_t2 : Fin k0_t2_loop.trips) (c0_i32_1116 : BitVec 32) : Fin 4 → Nat :=
  let c0_i32_260 : BitVec 32 := 0#32
  let c1_i32_262 : BitVec 32 := 1#32
  let arg42 : BitVec 32 := Scf.iv c0_i32_260 c1_i32_262 k0_t2
  let v1811 : BitVec 32 := Scalar.addi arg42 c0_i32_1116
  let v1812 : Index := Scalar.indexCast v1811
  let c12 : Index := 12#32
  let c0_1117 : Index := 0#32
  let c0_1118 : Index := 0#32
  ![v1812.toNat, 12, 0, 0]
def k0_off24 (k0_t2 : Fin k0_t2_loop.trips) (c0_i32_1197 : BitVec 32) : Fin 4 → Nat :=
  let c0_i32_260 : BitVec 32 := 0#32
  let c1_i32_262 : BitVec 32 := 1#32
  let arg42 : BitVec 32 := Scf.iv c0_i32_260 c1_i32_262 k0_t2
  let v1937 : BitVec 32 := Scalar.addi arg42 c0_i32_1197
  let v1938 : Index := Scalar.indexCast v1937
  let c13 : Index := 13#32
  let c0_1198 : Index := 0#32
  let c0_1199 : Index := 0#32
  ![v1938.toNat, 13, 0, 0]
def k0_off25 (k0_t2 : Fin k0_t2_loop.trips) (c0_i32_1279 : BitVec 32) : Fin 4 → Nat :=
  let c0_i32_260 : BitVec 32 := 0#32
  let c1_i32_262 : BitVec 32 := 1#32
  let arg42 : BitVec 32 := Scf.iv c0_i32_260 c1_i32_262 k0_t2
  let v2068 : BitVec 32 := Scalar.addi arg42 c0_i32_1279
  let v2069 : Index := Scalar.indexCast v2068
  let c14 : Index := 14#32
  let c0_1280 : Index := 0#32
  let c0_1281 : Index := 0#32
  ![v2069.toNat, 14, 0, 0]
def k0_off26 (k0_t2 : Fin k0_t2_loop.trips) (c0_i32_1360 : BitVec 32) : Fin 4 → Nat :=
  let c0_i32_260 : BitVec 32 := 0#32
  let c1_i32_262 : BitVec 32 := 1#32
  let arg42 : BitVec 32 := Scf.iv c0_i32_260 c1_i32_262 k0_t2
  let v2194 : BitVec 32 := Scalar.addi arg42 c0_i32_1360
  let v2195 : Index := Scalar.indexCast v2194
  let c15 : Index := 15#32
  let c0_1361 : Index := 0#32
  let c0_1362 : Index := 0#32
  ![v2195.toNat, 15, 0, 0]
def k0_off27 (k0_t2 : Fin k0_t2_loop.trips) (c0_i32_1442 : BitVec 32) : Fin 4 → Nat :=
  let c0_i32_260 : BitVec 32 := 0#32
  let c1_i32_262 : BitVec 32 := 1#32
  let arg42 : BitVec 32 := Scf.iv c0_i32_260 c1_i32_262 k0_t2
  let v2325 : BitVec 32 := Scalar.addi arg42 c0_i32_1442
  let v2326 : Index := Scalar.indexCast v2325
  let c16_1443 : Index := 16#32
  let c0_1444 : Index := 0#32
  let c0_1445 : Index := 0#32
  ![v2326.toNat, 16, 0, 0]
def k0_off28 (k0_t2 : Fin k0_t2_loop.trips) (c0_i32_1525 : BitVec 32) : Fin 4 → Nat :=
  let c0_i32_260 : BitVec 32 := 0#32
  let c1_i32_262 : BitVec 32 := 1#32
  let arg42 : BitVec 32 := Scf.iv c0_i32_260 c1_i32_262 k0_t2
  let v2451 : BitVec 32 := Scalar.addi arg42 c0_i32_1525
  let v2452 : Index := Scalar.indexCast v2451
  let c17 : Index := 17#32
  let c0_1526 : Index := 0#32
  let c0_1527 : Index := 0#32
  ![v2452.toNat, 17, 0, 0]
def k0_off29 (k0_t2 : Fin k0_t2_loop.trips) (c0_i32_1607 : BitVec 32) : Fin 4 → Nat :=
  let c0_i32_260 : BitVec 32 := 0#32
  let c1_i32_262 : BitVec 32 := 1#32
  let arg42 : BitVec 32 := Scf.iv c0_i32_260 c1_i32_262 k0_t2
  let v2582 : BitVec 32 := Scalar.addi arg42 c0_i32_1607
  let v2583 : Index := Scalar.indexCast v2582
  let c18 : Index := 18#32
  let c0_1608 : Index := 0#32
  let c0_1609 : Index := 0#32
  ![v2583.toNat, 18, 0, 0]
def k0_off30 (k0_t2 : Fin k0_t2_loop.trips) (c0_i32_1688 : BitVec 32) : Fin 4 → Nat :=
  let c0_i32_260 : BitVec 32 := 0#32
  let c1_i32_262 : BitVec 32 := 1#32
  let arg42 : BitVec 32 := Scf.iv c0_i32_260 c1_i32_262 k0_t2
  let v2708 : BitVec 32 := Scalar.addi arg42 c0_i32_1688
  let v2709 : Index := Scalar.indexCast v2708
  let c19 : Index := 19#32
  let c0_1689 : Index := 0#32
  let c0_1690 : Index := 0#32
  ![v2709.toNat, 19, 0, 0]
def k0_off31 (k0_t2 : Fin k0_t2_loop.trips) (c0_i32_1757 : BitVec 32) : Fin 4 → Nat :=
  let c0_i32_260 : BitVec 32 := 0#32
  let c1_i32_262 : BitVec 32 := 1#32
  let arg42 : BitVec 32 := Scf.iv c0_i32_260 c1_i32_262 k0_t2
  let v2820 : BitVec 32 := Scalar.addi arg42 c0_i32_1757
  let v2821 : Index := Scalar.indexCast v2820
  let c0_1758 : Index := 0#32
  let c0_1759 : Index := 0#32
  let c256_1760 : Index := 256#32
  ![v2821.toNat, 0, 0, 256]
def k0_off32 (k0_t2 : Fin k0_t2_loop.trips) (c0_i32_1764 : BitVec 32) : Fin 4 → Nat :=
  let c0_i32_260 : BitVec 32 := 0#32
  let c1_i32_262 : BitVec 32 := 1#32
  let arg42 : BitVec 32 := Scf.iv c0_i32_260 c1_i32_262 k0_t2
  let v2829 : BitVec 32 := Scalar.addi arg42 c0_i32_1764
  let v2830 : Index := Scalar.indexCast v2829
  let c1_1765 : Index := 1#32
  let c0_1766 : Index := 0#32
  let c256_1767 : Index := 256#32
  ![v2830.toNat, 1, 0, 256]
def k0_off33 (k0_t2 : Fin k0_t2_loop.trips) (c0_i32_1771 : BitVec 32) : Fin 4 → Nat :=
  let c0_i32_260 : BitVec 32 := 0#32
  let c1_i32_262 : BitVec 32 := 1#32
  let arg42 : BitVec 32 := Scf.iv c0_i32_260 c1_i32_262 k0_t2
  let v2839 : BitVec 32 := Scalar.addi arg42 c0_i32_1771
  let v2840 : Index := Scalar.indexCast v2839
  let c2_1772 : Index := 2#32
  let c0_1773 : Index := 0#32
  let c256_1774 : Index := 256#32
  ![v2840.toNat, 2, 0, 256]
def k0_off34 (k0_t2 : Fin k0_t2_loop.trips) (c0_i32_1830 : BitVec 32) : Fin 3 → Nat :=
  let c0_i32_260 : BitVec 32 := 0#32
  let c1_i32_262 : BitVec 32 := 1#32
  let arg42 : BitVec 32 := Scf.iv c0_i32_260 c1_i32_262 k0_t2
  let c18_i32_276 : BitVec 32 := 18#32
  let v506 : BitVec 32 := Scalar.muli arg42 c18_i32_276
  let v2930 : BitVec 32 := Scalar.addi v506 c0_i32_1830
  let v2931 : Index := Scalar.indexCast v2930
  let c0_1831 : Index := 0#32
  let c256_1832 : Index := 256#32
  ![v2931.toNat, 0, 256]
def k0_off35 (k0_t2 : Fin k0_t2_loop.trips) (c0_i32_1854 : BitVec 32) : Fin 4 → Nat :=
  let c0_i32_260 : BitVec 32 := 0#32
  let c1_i32_262 : BitVec 32 := 1#32
  let arg42 : BitVec 32 := Scf.iv c0_i32_260 c1_i32_262 k0_t2
  let v2965 : BitVec 32 := Scalar.addi arg42 c0_i32_1854
  let v2966 : Index := Scalar.indexCast v2965
  let c3_1855 : Index := 3#32
  let c0_1856 : Index := 0#32
  let c256_1857 : Index := 256#32
  ![v2966.toNat, 3, 0, 256]
def k0_off36 (k0_t2 : Fin k0_t2_loop.trips) (c0_i32_1939 : BitVec 32) : Fin 4 → Nat :=
  let c0_i32_260 : BitVec 32 := 0#32
  let c1_i32_262 : BitVec 32 := 1#32
  let arg42 : BitVec 32 := Scf.iv c0_i32_260 c1_i32_262 k0_t2
  let v3096 : BitVec 32 := Scalar.addi arg42 c0_i32_1939
  let v3097 : Index := Scalar.indexCast v3096
  let c4_1940 : Index := 4#32
  let c0_1941 : Index := 0#32
  let c256_1942 : Index := 256#32
  ![v3097.toNat, 4, 0, 256]
def k0_off37 (k0_t2 : Fin k0_t2_loop.trips) (c0_i32_2022 : BitVec 32) : Fin 4 → Nat :=
  let c0_i32_260 : BitVec 32 := 0#32
  let c1_i32_262 : BitVec 32 := 1#32
  let arg42 : BitVec 32 := Scf.iv c0_i32_260 c1_i32_262 k0_t2
  let v3222 : BitVec 32 := Scalar.addi arg42 c0_i32_2022
  let v3223 : Index := Scalar.indexCast v3222
  let c5_2023 : Index := 5#32
  let c0_2024 : Index := 0#32
  let c256_2025 : Index := 256#32
  ![v3223.toNat, 5, 0, 256]
def k0_off38 (k0_t2 : Fin k0_t2_loop.trips) (c0_i32_2107 : BitVec 32) : Fin 4 → Nat :=
  let c0_i32_260 : BitVec 32 := 0#32
  let c1_i32_262 : BitVec 32 := 1#32
  let arg42 : BitVec 32 := Scf.iv c0_i32_260 c1_i32_262 k0_t2
  let v3353 : BitVec 32 := Scalar.addi arg42 c0_i32_2107
  let v3354 : Index := Scalar.indexCast v3353
  let c6_2108 : Index := 6#32
  let c0_2109 : Index := 0#32
  let c256_2110 : Index := 256#32
  ![v3354.toNat, 6, 0, 256]
def k0_off39 (k0_t2 : Fin k0_t2_loop.trips) (c0_i32_2190 : BitVec 32) : Fin 4 → Nat :=
  let c0_i32_260 : BitVec 32 := 0#32
  let c1_i32_262 : BitVec 32 := 1#32
  let arg42 : BitVec 32 := Scf.iv c0_i32_260 c1_i32_262 k0_t2
  let v3479 : BitVec 32 := Scalar.addi arg42 c0_i32_2190
  let v3480 : Index := Scalar.indexCast v3479
  let c7_2191 : Index := 7#32
  let c0_2192 : Index := 0#32
  let c256_2193 : Index := 256#32
  ![v3480.toNat, 7, 0, 256]
def k0_off40 (k0_t2 : Fin k0_t2_loop.trips) (c0_i32_2275 : BitVec 32) : Fin 4 → Nat :=
  let c0_i32_260 : BitVec 32 := 0#32
  let c1_i32_262 : BitVec 32 := 1#32
  let arg42 : BitVec 32 := Scf.iv c0_i32_260 c1_i32_262 k0_t2
  let v3610 : BitVec 32 := Scalar.addi arg42 c0_i32_2275
  let v3611 : Index := Scalar.indexCast v3610
  let c8_2276 : Index := 8#32
  let c0_2277 : Index := 0#32
  let c256_2278 : Index := 256#32
  ![v3611.toNat, 8, 0, 256]
def k0_off41 (k0_t2 : Fin k0_t2_loop.trips) (c0_i32_2358 : BitVec 32) : Fin 4 → Nat :=
  let c0_i32_260 : BitVec 32 := 0#32
  let c1_i32_262 : BitVec 32 := 1#32
  let arg42 : BitVec 32 := Scf.iv c0_i32_260 c1_i32_262 k0_t2
  let v3736 : BitVec 32 := Scalar.addi arg42 c0_i32_2358
  let v3737 : Index := Scalar.indexCast v3736
  let c9_2359 : Index := 9#32
  let c0_2360 : Index := 0#32
  let c256_2361 : Index := 256#32
  ![v3737.toNat, 9, 0, 256]
def k0_off42 (k0_t2 : Fin k0_t2_loop.trips) (c0_i32_2443 : BitVec 32) : Fin 4 → Nat :=
  let c0_i32_260 : BitVec 32 := 0#32
  let c1_i32_262 : BitVec 32 := 1#32
  let arg42 : BitVec 32 := Scf.iv c0_i32_260 c1_i32_262 k0_t2
  let v3867 : BitVec 32 := Scalar.addi arg42 c0_i32_2443
  let v3868 : Index := Scalar.indexCast v3867
  let c10_2444 : Index := 10#32
  let c0_2445 : Index := 0#32
  let c256_2446 : Index := 256#32
  ![v3868.toNat, 10, 0, 256]
def k0_off43 (k0_t2 : Fin k0_t2_loop.trips) (c0_i32_2526 : BitVec 32) : Fin 4 → Nat :=
  let c0_i32_260 : BitVec 32 := 0#32
  let c1_i32_262 : BitVec 32 := 1#32
  let arg42 : BitVec 32 := Scf.iv c0_i32_260 c1_i32_262 k0_t2
  let v3993 : BitVec 32 := Scalar.addi arg42 c0_i32_2526
  let v3994 : Index := Scalar.indexCast v3993
  let c11_2527 : Index := 11#32
  let c0_2528 : Index := 0#32
  let c256_2529 : Index := 256#32
  ![v3994.toNat, 11, 0, 256]
def k0_off44 (k0_t2 : Fin k0_t2_loop.trips) (c0_i32_2611 : BitVec 32) : Fin 4 → Nat :=
  let c0_i32_260 : BitVec 32 := 0#32
  let c1_i32_262 : BitVec 32 := 1#32
  let arg42 : BitVec 32 := Scf.iv c0_i32_260 c1_i32_262 k0_t2
  let v4124 : BitVec 32 := Scalar.addi arg42 c0_i32_2611
  let v4125 : Index := Scalar.indexCast v4124
  let c12_2612 : Index := 12#32
  let c0_2613 : Index := 0#32
  let c256_2614 : Index := 256#32
  ![v4125.toNat, 12, 0, 256]
def k0_off45 (k0_t2 : Fin k0_t2_loop.trips) (c0_i32_2694 : BitVec 32) : Fin 4 → Nat :=
  let c0_i32_260 : BitVec 32 := 0#32
  let c1_i32_262 : BitVec 32 := 1#32
  let arg42 : BitVec 32 := Scf.iv c0_i32_260 c1_i32_262 k0_t2
  let v4250 : BitVec 32 := Scalar.addi arg42 c0_i32_2694
  let v4251 : Index := Scalar.indexCast v4250
  let c13_2695 : Index := 13#32
  let c0_2696 : Index := 0#32
  let c256_2697 : Index := 256#32
  ![v4251.toNat, 13, 0, 256]
def k0_off46 (k0_t2 : Fin k0_t2_loop.trips) (c0_i32_2779 : BitVec 32) : Fin 4 → Nat :=
  let c0_i32_260 : BitVec 32 := 0#32
  let c1_i32_262 : BitVec 32 := 1#32
  let arg42 : BitVec 32 := Scf.iv c0_i32_260 c1_i32_262 k0_t2
  let v4381 : BitVec 32 := Scalar.addi arg42 c0_i32_2779
  let v4382 : Index := Scalar.indexCast v4381
  let c14_2780 : Index := 14#32
  let c0_2781 : Index := 0#32
  let c256_2782 : Index := 256#32
  ![v4382.toNat, 14, 0, 256]
def k0_off47 (k0_t2 : Fin k0_t2_loop.trips) (c0_i32_2862 : BitVec 32) : Fin 4 → Nat :=
  let c0_i32_260 : BitVec 32 := 0#32
  let c1_i32_262 : BitVec 32 := 1#32
  let arg42 : BitVec 32 := Scf.iv c0_i32_260 c1_i32_262 k0_t2
  let v4507 : BitVec 32 := Scalar.addi arg42 c0_i32_2862
  let v4508 : Index := Scalar.indexCast v4507
  let c15_2863 : Index := 15#32
  let c0_2864 : Index := 0#32
  let c256_2865 : Index := 256#32
  ![v4508.toNat, 15, 0, 256]
def k0_off48 (k0_t2 : Fin k0_t2_loop.trips) (c0_i32_2947 : BitVec 32) : Fin 4 → Nat :=
  let c0_i32_260 : BitVec 32 := 0#32
  let c1_i32_262 : BitVec 32 := 1#32
  let arg42 : BitVec 32 := Scf.iv c0_i32_260 c1_i32_262 k0_t2
  let v4638 : BitVec 32 := Scalar.addi arg42 c0_i32_2947
  let v4639 : Index := Scalar.indexCast v4638
  let c16_2948 : Index := 16#32
  let c0_2949 : Index := 0#32
  let c256_2950 : Index := 256#32
  ![v4639.toNat, 16, 0, 256]
def k0_off49 (k0_t2 : Fin k0_t2_loop.trips) (c0_i32_3030 : BitVec 32) : Fin 4 → Nat :=
  let c0_i32_260 : BitVec 32 := 0#32
  let c1_i32_262 : BitVec 32 := 1#32
  let arg42 : BitVec 32 := Scf.iv c0_i32_260 c1_i32_262 k0_t2
  let v4764 : BitVec 32 := Scalar.addi arg42 c0_i32_3030
  let v4765 : Index := Scalar.indexCast v4764
  let c17_3031 : Index := 17#32
  let c0_3032 : Index := 0#32
  let c256_3033 : Index := 256#32
  ![v4765.toNat, 17, 0, 256]
def k0_off50 (k0_t2 : Fin k0_t2_loop.trips) (c0_i32_3115 : BitVec 32) : Fin 4 → Nat :=
  let c0_i32_260 : BitVec 32 := 0#32
  let c1_i32_262 : BitVec 32 := 1#32
  let arg42 : BitVec 32 := Scf.iv c0_i32_260 c1_i32_262 k0_t2
  let v4895 : BitVec 32 := Scalar.addi arg42 c0_i32_3115
  let v4896 : Index := Scalar.indexCast v4895
  let c18_3116 : Index := 18#32
  let c0_3117 : Index := 0#32
  let c256_3118 : Index := 256#32
  ![v4896.toNat, 18, 0, 256]
def k0_off51 (k0_t2 : Fin k0_t2_loop.trips) (c0_i32_3198 : BitVec 32) : Fin 4 → Nat :=
  let c0_i32_260 : BitVec 32 := 0#32
  let c1_i32_262 : BitVec 32 := 1#32
  let arg42 : BitVec 32 := Scf.iv c0_i32_260 c1_i32_262 k0_t2
  let v5021 : BitVec 32 := Scalar.addi arg42 c0_i32_3198
  let v5022 : Index := Scalar.indexCast v5021
  let c19_3199 : Index := 19#32
  let c0_3200 : Index := 0#32
  let c256_3201 : Index := 256#32
  ![v5022.toNat, 19, 0, 256]
def k0_off52 (k0_t2 : Fin k0_t2_loop.trips) (c0_i32_3269 : BitVec 32) : Fin 4 → Nat :=
  let c0_i32_260 : BitVec 32 := 0#32
  let c1_i32_262 : BitVec 32 := 1#32
  let arg42 : BitVec 32 := Scf.iv c0_i32_260 c1_i32_262 k0_t2
  let v5133 : BitVec 32 := Scalar.addi arg42 c0_i32_3269
  let v5134 : Index := Scalar.indexCast v5133
  let c0_3270 : Index := 0#32
  let c0_3271 : Index := 0#32
  let c512 : Index := 512#32
  ![v5134.toNat, 0, 0, 512]
def k0_off53 (k0_t2 : Fin k0_t2_loop.trips) (c0_i32_3275 : BitVec 32) : Fin 4 → Nat :=
  let c0_i32_260 : BitVec 32 := 0#32
  let c1_i32_262 : BitVec 32 := 1#32
  let arg42 : BitVec 32 := Scf.iv c0_i32_260 c1_i32_262 k0_t2
  let v5142 : BitVec 32 := Scalar.addi arg42 c0_i32_3275
  let v5143 : Index := Scalar.indexCast v5142
  let c1_3276 : Index := 1#32
  let c0_3277 : Index := 0#32
  let c512_3278 : Index := 512#32
  ![v5143.toNat, 1, 0, 512]
def k0_off54 (k0_t2 : Fin k0_t2_loop.trips) (c0_i32_3282 : BitVec 32) : Fin 4 → Nat :=
  let c0_i32_260 : BitVec 32 := 0#32
  let c1_i32_262 : BitVec 32 := 1#32
  let arg42 : BitVec 32 := Scf.iv c0_i32_260 c1_i32_262 k0_t2
  let v5152 : BitVec 32 := Scalar.addi arg42 c0_i32_3282
  let v5153 : Index := Scalar.indexCast v5152
  let c2_3283 : Index := 2#32
  let c0_3284 : Index := 0#32
  let c512_3285 : Index := 512#32
  ![v5153.toNat, 2, 0, 512]
def k0_off55 (k0_t2 : Fin k0_t2_loop.trips) (c0_i32_3341 : BitVec 32) : Fin 3 → Nat :=
  let c0_i32_260 : BitVec 32 := 0#32
  let c1_i32_262 : BitVec 32 := 1#32
  let arg42 : BitVec 32 := Scf.iv c0_i32_260 c1_i32_262 k0_t2
  let c18_i32_276 : BitVec 32 := 18#32
  let v506 : BitVec 32 := Scalar.muli arg42 c18_i32_276
  let v5243 : BitVec 32 := Scalar.addi v506 c0_i32_3341
  let v5244 : Index := Scalar.indexCast v5243
  let c0_3342 : Index := 0#32
  let c512_3343 : Index := 512#32
  ![v5244.toNat, 0, 512]
def k0_off56 (k0_t2 : Fin k0_t2_loop.trips) (c0_i32_3365 : BitVec 32) : Fin 4 → Nat :=
  let c0_i32_260 : BitVec 32 := 0#32
  let c1_i32_262 : BitVec 32 := 1#32
  let arg42 : BitVec 32 := Scf.iv c0_i32_260 c1_i32_262 k0_t2
  let v5278 : BitVec 32 := Scalar.addi arg42 c0_i32_3365
  let v5279 : Index := Scalar.indexCast v5278
  let c3_3366 : Index := 3#32
  let c0_3367 : Index := 0#32
  let c512_3368 : Index := 512#32
  ![v5279.toNat, 3, 0, 512]
def k0_off57 (k0_t2 : Fin k0_t2_loop.trips) (c0_i32_3450 : BitVec 32) : Fin 4 → Nat :=
  let c0_i32_260 : BitVec 32 := 0#32
  let c1_i32_262 : BitVec 32 := 1#32
  let arg42 : BitVec 32 := Scf.iv c0_i32_260 c1_i32_262 k0_t2
  let v5409 : BitVec 32 := Scalar.addi arg42 c0_i32_3450
  let v5410 : Index := Scalar.indexCast v5409
  let c4_3451 : Index := 4#32
  let c0_3452 : Index := 0#32
  let c512_3453 : Index := 512#32
  ![v5410.toNat, 4, 0, 512]
def k0_off58 (k0_t2 : Fin k0_t2_loop.trips) (c0_i32_3533 : BitVec 32) : Fin 4 → Nat :=
  let c0_i32_260 : BitVec 32 := 0#32
  let c1_i32_262 : BitVec 32 := 1#32
  let arg42 : BitVec 32 := Scf.iv c0_i32_260 c1_i32_262 k0_t2
  let v5535 : BitVec 32 := Scalar.addi arg42 c0_i32_3533
  let v5536 : Index := Scalar.indexCast v5535
  let c5_3534 : Index := 5#32
  let c0_3535 : Index := 0#32
  let c512_3536 : Index := 512#32
  ![v5536.toNat, 5, 0, 512]
def k0_off59 (k0_t2 : Fin k0_t2_loop.trips) (c0_i32_3618 : BitVec 32) : Fin 4 → Nat :=
  let c0_i32_260 : BitVec 32 := 0#32
  let c1_i32_262 : BitVec 32 := 1#32
  let arg42 : BitVec 32 := Scf.iv c0_i32_260 c1_i32_262 k0_t2
  let v5666 : BitVec 32 := Scalar.addi arg42 c0_i32_3618
  let v5667 : Index := Scalar.indexCast v5666
  let c6_3619 : Index := 6#32
  let c0_3620 : Index := 0#32
  let c512_3621 : Index := 512#32
  ![v5667.toNat, 6, 0, 512]
def k0_off60 (k0_t2 : Fin k0_t2_loop.trips) (c0_i32_3701 : BitVec 32) : Fin 4 → Nat :=
  let c0_i32_260 : BitVec 32 := 0#32
  let c1_i32_262 : BitVec 32 := 1#32
  let arg42 : BitVec 32 := Scf.iv c0_i32_260 c1_i32_262 k0_t2
  let v5792 : BitVec 32 := Scalar.addi arg42 c0_i32_3701
  let v5793 : Index := Scalar.indexCast v5792
  let c7_3702 : Index := 7#32
  let c0_3703 : Index := 0#32
  let c512_3704 : Index := 512#32
  ![v5793.toNat, 7, 0, 512]
def k0_off61 (k0_t2 : Fin k0_t2_loop.trips) (c0_i32_3786 : BitVec 32) : Fin 4 → Nat :=
  let c0_i32_260 : BitVec 32 := 0#32
  let c1_i32_262 : BitVec 32 := 1#32
  let arg42 : BitVec 32 := Scf.iv c0_i32_260 c1_i32_262 k0_t2
  let v5923 : BitVec 32 := Scalar.addi arg42 c0_i32_3786
  let v5924 : Index := Scalar.indexCast v5923
  let c8_3787 : Index := 8#32
  let c0_3788 : Index := 0#32
  let c512_3789 : Index := 512#32
  ![v5924.toNat, 8, 0, 512]
def k0_off62 (k0_t2 : Fin k0_t2_loop.trips) (c0_i32_3869 : BitVec 32) : Fin 4 → Nat :=
  let c0_i32_260 : BitVec 32 := 0#32
  let c1_i32_262 : BitVec 32 := 1#32
  let arg42 : BitVec 32 := Scf.iv c0_i32_260 c1_i32_262 k0_t2
  let v6049 : BitVec 32 := Scalar.addi arg42 c0_i32_3869
  let v6050 : Index := Scalar.indexCast v6049
  let c9_3870 : Index := 9#32
  let c0_3871 : Index := 0#32
  let c512_3872 : Index := 512#32
  ![v6050.toNat, 9, 0, 512]
def k0_off63 (k0_t2 : Fin k0_t2_loop.trips) (c0_i32_3954 : BitVec 32) : Fin 4 → Nat :=
  let c0_i32_260 : BitVec 32 := 0#32
  let c1_i32_262 : BitVec 32 := 1#32
  let arg42 : BitVec 32 := Scf.iv c0_i32_260 c1_i32_262 k0_t2
  let v6180 : BitVec 32 := Scalar.addi arg42 c0_i32_3954
  let v6181 : Index := Scalar.indexCast v6180
  let c10_3955 : Index := 10#32
  let c0_3956 : Index := 0#32
  let c512_3957 : Index := 512#32
  ![v6181.toNat, 10, 0, 512]
def k0_off64 (k0_t2 : Fin k0_t2_loop.trips) (c0_i32_4037 : BitVec 32) : Fin 4 → Nat :=
  let c0_i32_260 : BitVec 32 := 0#32
  let c1_i32_262 : BitVec 32 := 1#32
  let arg42 : BitVec 32 := Scf.iv c0_i32_260 c1_i32_262 k0_t2
  let v6306 : BitVec 32 := Scalar.addi arg42 c0_i32_4037
  let v6307 : Index := Scalar.indexCast v6306
  let c11_4038 : Index := 11#32
  let c0_4039 : Index := 0#32
  let c512_4040 : Index := 512#32
  ![v6307.toNat, 11, 0, 512]
def k0_off65 (k0_t2 : Fin k0_t2_loop.trips) (c0_i32_4122 : BitVec 32) : Fin 4 → Nat :=
  let c0_i32_260 : BitVec 32 := 0#32
  let c1_i32_262 : BitVec 32 := 1#32
  let arg42 : BitVec 32 := Scf.iv c0_i32_260 c1_i32_262 k0_t2
  let v6437 : BitVec 32 := Scalar.addi arg42 c0_i32_4122
  let v6438 : Index := Scalar.indexCast v6437
  let c12_4123 : Index := 12#32
  let c0_4124 : Index := 0#32
  let c512_4125 : Index := 512#32
  ![v6438.toNat, 12, 0, 512]
def k0_off66 (k0_t2 : Fin k0_t2_loop.trips) (c0_i32_4205 : BitVec 32) : Fin 4 → Nat :=
  let c0_i32_260 : BitVec 32 := 0#32
  let c1_i32_262 : BitVec 32 := 1#32
  let arg42 : BitVec 32 := Scf.iv c0_i32_260 c1_i32_262 k0_t2
  let v6563 : BitVec 32 := Scalar.addi arg42 c0_i32_4205
  let v6564 : Index := Scalar.indexCast v6563
  let c13_4206 : Index := 13#32
  let c0_4207 : Index := 0#32
  let c512_4208 : Index := 512#32
  ![v6564.toNat, 13, 0, 512]
def k0_off67 (k0_t2 : Fin k0_t2_loop.trips) (c0_i32_4290 : BitVec 32) : Fin 4 → Nat :=
  let c0_i32_260 : BitVec 32 := 0#32
  let c1_i32_262 : BitVec 32 := 1#32
  let arg42 : BitVec 32 := Scf.iv c0_i32_260 c1_i32_262 k0_t2
  let v6694 : BitVec 32 := Scalar.addi arg42 c0_i32_4290
  let v6695 : Index := Scalar.indexCast v6694
  let c14_4291 : Index := 14#32
  let c0_4292 : Index := 0#32
  let c512_4293 : Index := 512#32
  ![v6695.toNat, 14, 0, 512]
def k0_off68 (k0_t2 : Fin k0_t2_loop.trips) (c0_i32_4373 : BitVec 32) : Fin 4 → Nat :=
  let c0_i32_260 : BitVec 32 := 0#32
  let c1_i32_262 : BitVec 32 := 1#32
  let arg42 : BitVec 32 := Scf.iv c0_i32_260 c1_i32_262 k0_t2
  let v6820 : BitVec 32 := Scalar.addi arg42 c0_i32_4373
  let v6821 : Index := Scalar.indexCast v6820
  let c15_4374 : Index := 15#32
  let c0_4375 : Index := 0#32
  let c512_4376 : Index := 512#32
  ![v6821.toNat, 15, 0, 512]
def k0_off69 (k0_t2 : Fin k0_t2_loop.trips) (c0_i32_4458 : BitVec 32) : Fin 4 → Nat :=
  let c0_i32_260 : BitVec 32 := 0#32
  let c1_i32_262 : BitVec 32 := 1#32
  let arg42 : BitVec 32 := Scf.iv c0_i32_260 c1_i32_262 k0_t2
  let v6951 : BitVec 32 := Scalar.addi arg42 c0_i32_4458
  let v6952 : Index := Scalar.indexCast v6951
  let c16_4459 : Index := 16#32
  let c0_4460 : Index := 0#32
  let c512_4461 : Index := 512#32
  ![v6952.toNat, 16, 0, 512]
def k0_off70 (k0_t2 : Fin k0_t2_loop.trips) (c0_i32_4541 : BitVec 32) : Fin 4 → Nat :=
  let c0_i32_260 : BitVec 32 := 0#32
  let c1_i32_262 : BitVec 32 := 1#32
  let arg42 : BitVec 32 := Scf.iv c0_i32_260 c1_i32_262 k0_t2
  let v7077 : BitVec 32 := Scalar.addi arg42 c0_i32_4541
  let v7078 : Index := Scalar.indexCast v7077
  let c17_4542 : Index := 17#32
  let c0_4543 : Index := 0#32
  let c512_4544 : Index := 512#32
  ![v7078.toNat, 17, 0, 512]
def k0_off71 (k0_t2 : Fin k0_t2_loop.trips) (c0_i32_4626 : BitVec 32) : Fin 4 → Nat :=
  let c0_i32_260 : BitVec 32 := 0#32
  let c1_i32_262 : BitVec 32 := 1#32
  let arg42 : BitVec 32 := Scf.iv c0_i32_260 c1_i32_262 k0_t2
  let v7208 : BitVec 32 := Scalar.addi arg42 c0_i32_4626
  let v7209 : Index := Scalar.indexCast v7208
  let c18_4627 : Index := 18#32
  let c0_4628 : Index := 0#32
  let c512_4629 : Index := 512#32
  ![v7209.toNat, 18, 0, 512]
def k0_off72 (k0_t2 : Fin k0_t2_loop.trips) (c0_i32_4709 : BitVec 32) : Fin 4 → Nat :=
  let c0_i32_260 : BitVec 32 := 0#32
  let c1_i32_262 : BitVec 32 := 1#32
  let arg42 : BitVec 32 := Scf.iv c0_i32_260 c1_i32_262 k0_t2
  let v7334 : BitVec 32 := Scalar.addi arg42 c0_i32_4709
  let v7335 : Index := Scalar.indexCast v7334
  let c19_4710 : Index := 19#32
  let c0_4711 : Index := 0#32
  let c512_4712 : Index := 512#32
  ![v7335.toNat, 19, 0, 512]
def k0_off73 (k0_t2 : Fin k0_t2_loop.trips) (c0_i32_4780 : BitVec 32) : Fin 4 → Nat :=
  let c0_i32_260 : BitVec 32 := 0#32
  let c1_i32_262 : BitVec 32 := 1#32
  let arg42 : BitVec 32 := Scf.iv c0_i32_260 c1_i32_262 k0_t2
  let v7446 : BitVec 32 := Scalar.addi arg42 c0_i32_4780
  let v7447 : Index := Scalar.indexCast v7446
  let c0_4781 : Index := 0#32
  let c0_4782 : Index := 0#32
  let c768 : Index := 768#32
  ![v7447.toNat, 0, 0, 768]
def k0_off74 (k0_t2 : Fin k0_t2_loop.trips) (c0_i32_4786 : BitVec 32) : Fin 4 → Nat :=
  let c0_i32_260 : BitVec 32 := 0#32
  let c1_i32_262 : BitVec 32 := 1#32
  let arg42 : BitVec 32 := Scf.iv c0_i32_260 c1_i32_262 k0_t2
  let v7455 : BitVec 32 := Scalar.addi arg42 c0_i32_4786
  let v7456 : Index := Scalar.indexCast v7455
  let c1_4787 : Index := 1#32
  let c0_4788 : Index := 0#32
  let c768_4789 : Index := 768#32
  ![v7456.toNat, 1, 0, 768]
def k0_off75 (k0_t2 : Fin k0_t2_loop.trips) (c0_i32_4793 : BitVec 32) : Fin 4 → Nat :=
  let c0_i32_260 : BitVec 32 := 0#32
  let c1_i32_262 : BitVec 32 := 1#32
  let arg42 : BitVec 32 := Scf.iv c0_i32_260 c1_i32_262 k0_t2
  let v7465 : BitVec 32 := Scalar.addi arg42 c0_i32_4793
  let v7466 : Index := Scalar.indexCast v7465
  let c2_4794 : Index := 2#32
  let c0_4795 : Index := 0#32
  let c768_4796 : Index := 768#32
  ![v7466.toNat, 2, 0, 768]
def k0_off76 (k0_t2 : Fin k0_t2_loop.trips) (c0_i32_4852 : BitVec 32) : Fin 3 → Nat :=
  let c0_i32_260 : BitVec 32 := 0#32
  let c1_i32_262 : BitVec 32 := 1#32
  let arg42 : BitVec 32 := Scf.iv c0_i32_260 c1_i32_262 k0_t2
  let c18_i32_276 : BitVec 32 := 18#32
  let v506 : BitVec 32 := Scalar.muli arg42 c18_i32_276
  let v7556 : BitVec 32 := Scalar.addi v506 c0_i32_4852
  let v7557 : Index := Scalar.indexCast v7556
  let c0_4853 : Index := 0#32
  let c768_4854 : Index := 768#32
  ![v7557.toNat, 0, 768]
def k0_off77 (k0_t2 : Fin k0_t2_loop.trips) (c0_i32_4876 : BitVec 32) : Fin 4 → Nat :=
  let c0_i32_260 : BitVec 32 := 0#32
  let c1_i32_262 : BitVec 32 := 1#32
  let arg42 : BitVec 32 := Scf.iv c0_i32_260 c1_i32_262 k0_t2
  let v7591 : BitVec 32 := Scalar.addi arg42 c0_i32_4876
  let v7592 : Index := Scalar.indexCast v7591
  let c3_4877 : Index := 3#32
  let c0_4878 : Index := 0#32
  let c768_4879 : Index := 768#32
  ![v7592.toNat, 3, 0, 768]
def k0_off78 (k0_t2 : Fin k0_t2_loop.trips) (c0_i32_4961 : BitVec 32) : Fin 4 → Nat :=
  let c0_i32_260 : BitVec 32 := 0#32
  let c1_i32_262 : BitVec 32 := 1#32
  let arg42 : BitVec 32 := Scf.iv c0_i32_260 c1_i32_262 k0_t2
  let v7722 : BitVec 32 := Scalar.addi arg42 c0_i32_4961
  let v7723 : Index := Scalar.indexCast v7722
  let c4_4962 : Index := 4#32
  let c0_4963 : Index := 0#32
  let c768_4964 : Index := 768#32
  ![v7723.toNat, 4, 0, 768]
def k0_off79 (k0_t2 : Fin k0_t2_loop.trips) (c0_i32_5044 : BitVec 32) : Fin 4 → Nat :=
  let c0_i32_260 : BitVec 32 := 0#32
  let c1_i32_262 : BitVec 32 := 1#32
  let arg42 : BitVec 32 := Scf.iv c0_i32_260 c1_i32_262 k0_t2
  let v7848 : BitVec 32 := Scalar.addi arg42 c0_i32_5044
  let v7849 : Index := Scalar.indexCast v7848
  let c5_5045 : Index := 5#32
  let c0_5046 : Index := 0#32
  let c768_5047 : Index := 768#32
  ![v7849.toNat, 5, 0, 768]
def k0_off80 (k0_t2 : Fin k0_t2_loop.trips) (c0_i32_5129 : BitVec 32) : Fin 4 → Nat :=
  let c0_i32_260 : BitVec 32 := 0#32
  let c1_i32_262 : BitVec 32 := 1#32
  let arg42 : BitVec 32 := Scf.iv c0_i32_260 c1_i32_262 k0_t2
  let v7979 : BitVec 32 := Scalar.addi arg42 c0_i32_5129
  let v7980 : Index := Scalar.indexCast v7979
  let c6_5130 : Index := 6#32
  let c0_5131 : Index := 0#32
  let c768_5132 : Index := 768#32
  ![v7980.toNat, 6, 0, 768]
def k0_off81 (k0_t2 : Fin k0_t2_loop.trips) (c0_i32_5212 : BitVec 32) : Fin 4 → Nat :=
  let c0_i32_260 : BitVec 32 := 0#32
  let c1_i32_262 : BitVec 32 := 1#32
  let arg42 : BitVec 32 := Scf.iv c0_i32_260 c1_i32_262 k0_t2
  let v8105 : BitVec 32 := Scalar.addi arg42 c0_i32_5212
  let v8106 : Index := Scalar.indexCast v8105
  let c7_5213 : Index := 7#32
  let c0_5214 : Index := 0#32
  let c768_5215 : Index := 768#32
  ![v8106.toNat, 7, 0, 768]
def k0_off82 (k0_t2 : Fin k0_t2_loop.trips) (c0_i32_5297 : BitVec 32) : Fin 4 → Nat :=
  let c0_i32_260 : BitVec 32 := 0#32
  let c1_i32_262 : BitVec 32 := 1#32
  let arg42 : BitVec 32 := Scf.iv c0_i32_260 c1_i32_262 k0_t2
  let v8236 : BitVec 32 := Scalar.addi arg42 c0_i32_5297
  let v8237 : Index := Scalar.indexCast v8236
  let c8_5298 : Index := 8#32
  let c0_5299 : Index := 0#32
  let c768_5300 : Index := 768#32
  ![v8237.toNat, 8, 0, 768]
def k0_off83 (k0_t2 : Fin k0_t2_loop.trips) (c0_i32_5380 : BitVec 32) : Fin 4 → Nat :=
  let c0_i32_260 : BitVec 32 := 0#32
  let c1_i32_262 : BitVec 32 := 1#32
  let arg42 : BitVec 32 := Scf.iv c0_i32_260 c1_i32_262 k0_t2
  let v8362 : BitVec 32 := Scalar.addi arg42 c0_i32_5380
  let v8363 : Index := Scalar.indexCast v8362
  let c9_5381 : Index := 9#32
  let c0_5382 : Index := 0#32
  let c768_5383 : Index := 768#32
  ![v8363.toNat, 9, 0, 768]
def k0_off84 (k0_t2 : Fin k0_t2_loop.trips) (c0_i32_5465 : BitVec 32) : Fin 4 → Nat :=
  let c0_i32_260 : BitVec 32 := 0#32
  let c1_i32_262 : BitVec 32 := 1#32
  let arg42 : BitVec 32 := Scf.iv c0_i32_260 c1_i32_262 k0_t2
  let v8493 : BitVec 32 := Scalar.addi arg42 c0_i32_5465
  let v8494 : Index := Scalar.indexCast v8493
  let c10_5466 : Index := 10#32
  let c0_5467 : Index := 0#32
  let c768_5468 : Index := 768#32
  ![v8494.toNat, 10, 0, 768]
def k0_off85 (k0_t2 : Fin k0_t2_loop.trips) (c0_i32_5548 : BitVec 32) : Fin 4 → Nat :=
  let c0_i32_260 : BitVec 32 := 0#32
  let c1_i32_262 : BitVec 32 := 1#32
  let arg42 : BitVec 32 := Scf.iv c0_i32_260 c1_i32_262 k0_t2
  let v8619 : BitVec 32 := Scalar.addi arg42 c0_i32_5548
  let v8620 : Index := Scalar.indexCast v8619
  let c11_5549 : Index := 11#32
  let c0_5550 : Index := 0#32
  let c768_5551 : Index := 768#32
  ![v8620.toNat, 11, 0, 768]
def k0_off86 (k0_t2 : Fin k0_t2_loop.trips) (c0_i32_5633 : BitVec 32) : Fin 4 → Nat :=
  let c0_i32_260 : BitVec 32 := 0#32
  let c1_i32_262 : BitVec 32 := 1#32
  let arg42 : BitVec 32 := Scf.iv c0_i32_260 c1_i32_262 k0_t2
  let v8750 : BitVec 32 := Scalar.addi arg42 c0_i32_5633
  let v8751 : Index := Scalar.indexCast v8750
  let c12_5634 : Index := 12#32
  let c0_5635 : Index := 0#32
  let c768_5636 : Index := 768#32
  ![v8751.toNat, 12, 0, 768]
def k0_off87 (k0_t2 : Fin k0_t2_loop.trips) (c0_i32_5716 : BitVec 32) : Fin 4 → Nat :=
  let c0_i32_260 : BitVec 32 := 0#32
  let c1_i32_262 : BitVec 32 := 1#32
  let arg42 : BitVec 32 := Scf.iv c0_i32_260 c1_i32_262 k0_t2
  let v8876 : BitVec 32 := Scalar.addi arg42 c0_i32_5716
  let v8877 : Index := Scalar.indexCast v8876
  let c13_5717 : Index := 13#32
  let c0_5718 : Index := 0#32
  let c768_5719 : Index := 768#32
  ![v8877.toNat, 13, 0, 768]
def k0_off88 (k0_t2 : Fin k0_t2_loop.trips) (c0_i32_5801 : BitVec 32) : Fin 4 → Nat :=
  let c0_i32_260 : BitVec 32 := 0#32
  let c1_i32_262 : BitVec 32 := 1#32
  let arg42 : BitVec 32 := Scf.iv c0_i32_260 c1_i32_262 k0_t2
  let v9007 : BitVec 32 := Scalar.addi arg42 c0_i32_5801
  let v9008 : Index := Scalar.indexCast v9007
  let c14_5802 : Index := 14#32
  let c0_5803 : Index := 0#32
  let c768_5804 : Index := 768#32
  ![v9008.toNat, 14, 0, 768]
def k0_off89 (k0_t2 : Fin k0_t2_loop.trips) (c0_i32_5884 : BitVec 32) : Fin 4 → Nat :=
  let c0_i32_260 : BitVec 32 := 0#32
  let c1_i32_262 : BitVec 32 := 1#32
  let arg42 : BitVec 32 := Scf.iv c0_i32_260 c1_i32_262 k0_t2
  let v9133 : BitVec 32 := Scalar.addi arg42 c0_i32_5884
  let v9134 : Index := Scalar.indexCast v9133
  let c15_5885 : Index := 15#32
  let c0_5886 : Index := 0#32
  let c768_5887 : Index := 768#32
  ![v9134.toNat, 15, 0, 768]
def k0_off90 (k0_t2 : Fin k0_t2_loop.trips) (c0_i32_5969 : BitVec 32) : Fin 4 → Nat :=
  let c0_i32_260 : BitVec 32 := 0#32
  let c1_i32_262 : BitVec 32 := 1#32
  let arg42 : BitVec 32 := Scf.iv c0_i32_260 c1_i32_262 k0_t2
  let v9264 : BitVec 32 := Scalar.addi arg42 c0_i32_5969
  let v9265 : Index := Scalar.indexCast v9264
  let c16_5970 : Index := 16#32
  let c0_5971 : Index := 0#32
  let c768_5972 : Index := 768#32
  ![v9265.toNat, 16, 0, 768]
def k0_off91 (k0_t2 : Fin k0_t2_loop.trips) (c0_i32_6052 : BitVec 32) : Fin 4 → Nat :=
  let c0_i32_260 : BitVec 32 := 0#32
  let c1_i32_262 : BitVec 32 := 1#32
  let arg42 : BitVec 32 := Scf.iv c0_i32_260 c1_i32_262 k0_t2
  let v9390 : BitVec 32 := Scalar.addi arg42 c0_i32_6052
  let v9391 : Index := Scalar.indexCast v9390
  let c17_6053 : Index := 17#32
  let c0_6054 : Index := 0#32
  let c768_6055 : Index := 768#32
  ![v9391.toNat, 17, 0, 768]
def k0_off92 (k0_t2 : Fin k0_t2_loop.trips) (c0_i32_6137 : BitVec 32) : Fin 4 → Nat :=
  let c0_i32_260 : BitVec 32 := 0#32
  let c1_i32_262 : BitVec 32 := 1#32
  let arg42 : BitVec 32 := Scf.iv c0_i32_260 c1_i32_262 k0_t2
  let v9521 : BitVec 32 := Scalar.addi arg42 c0_i32_6137
  let v9522 : Index := Scalar.indexCast v9521
  let c18_6138 : Index := 18#32
  let c0_6139 : Index := 0#32
  let c768_6140 : Index := 768#32
  ![v9522.toNat, 18, 0, 768]
def k0_off93 (k0_t2 : Fin k0_t2_loop.trips) (c0_i32_6220 : BitVec 32) : Fin 4 → Nat :=
  let c0_i32_260 : BitVec 32 := 0#32
  let c1_i32_262 : BitVec 32 := 1#32
  let arg42 : BitVec 32 := Scf.iv c0_i32_260 c1_i32_262 k0_t2
  let v9647 : BitVec 32 := Scalar.addi arg42 c0_i32_6220
  let v9648 : Index := Scalar.indexCast v9647
  let c19_6221 : Index := 19#32
  let c0_6222 : Index := 0#32
  let c768_6223 : Index := 768#32
  ![v9648.toNat, 19, 0, 768]
def k0_off94 (k0_t2 : Fin k0_t2_loop.trips) : Fin 4 → Nat :=
  let c0_6308 : Index := 0#32
  let c0_i32_260 : BitVec 32 := 0#32
  let c1_i32_262 : BitVec 32 := 1#32
  let arg42 : BitVec 32 := Scf.iv c0_i32_260 c1_i32_262 k0_t2
  let c18_i32_276 : BitVec 32 := 18#32
  let v506 : BitVec 32 := Scalar.muli arg42 c18_i32_276
  let v9783 : Index := Scalar.indexCast v506
  let c0_6309 : Index := 0#32
  let c0_6310 : Index := 0#32
  ![0, v9783.toNat, 0, 0]
def k0_off95 (k0_t2 : Fin k0_t2_loop.trips) (c0_i32_6312 : BitVec 32) : Fin 4 → Nat :=
  let c0_6313 : Index := 0#32
  let c0_i32_260 : BitVec 32 := 0#32
  let c1_i32_262 : BitVec 32 := 1#32
  let arg42 : BitVec 32 := Scf.iv c0_i32_260 c1_i32_262 k0_t2
  let c18_i32_276 : BitVec 32 := 18#32
  let v506 : BitVec 32 := Scalar.muli arg42 c18_i32_276
  let v9793 : BitVec 32 := Scalar.addi v506 c0_i32_6312
  let v9796 : Index := Scalar.indexCast v9793
  let c0_6314 : Index := 0#32
  let c0_6315 : Index := 0#32
  ![0, v9796.toNat, 0, 0]
def k0_off96 (k0_t2 : Fin k0_t2_loop.trips) : Fin 4 → Nat :=
  let c1_6424 : Index := 1#32
  let c0_i32_260 : BitVec 32 := 0#32
  let c1_i32_262 : BitVec 32 := 1#32
  let arg42 : BitVec 32 := Scf.iv c0_i32_260 c1_i32_262 k0_t2
  let c18_i32_276 : BitVec 32 := 18#32
  let v506 : BitVec 32 := Scalar.muli arg42 c18_i32_276
  let v10183 : Index := Scalar.indexCast v506
  let c0_6425 : Index := 0#32
  let c0_6426 : Index := 0#32
  ![1, v10183.toNat, 0, 0]
def k0_off97 (k0_t2 : Fin k0_t2_loop.trips) (c0_i32_6429 : BitVec 32) : Fin 4 → Nat :=
  let c1_6430 : Index := 1#32
  let c0_i32_260 : BitVec 32 := 0#32
  let c1_i32_262 : BitVec 32 := 1#32
  let arg42 : BitVec 32 := Scf.iv c0_i32_260 c1_i32_262 k0_t2
  let v10193 : BitVec 32 := Scalar.addi c0_i32_6429 arg42
  let v10196 : Index := Scalar.indexCast v10193
  let c0_6431 : Index := 0#32
  let c0_6432 : Index := 0#32
  ![1, v10196.toNat, 0, 0]
def k0_off98 (k0_t2 : Fin k0_t2_loop.trips) : Fin 4 → Nat :=
  let c2_6531 : Index := 2#32
  let c0_i32_260 : BitVec 32 := 0#32
  let c1_i32_262 : BitVec 32 := 1#32
  let arg42 : BitVec 32 := Scf.iv c0_i32_260 c1_i32_262 k0_t2
  let c18_i32_276 : BitVec 32 := 18#32
  let v506 : BitVec 32 := Scalar.muli arg42 c18_i32_276
  let v10586 : Index := Scalar.indexCast v506
  let c0_6532 : Index := 0#32
  let c0_6533 : Index := 0#32
  ![2, v10586.toNat, 0, 0]
def k0_off99 (k0_t2 : Fin k0_t2_loop.trips) (c0_i32_6536 : BitVec 32) : Fin 4 → Nat :=
  let c2_6537 : Index := 2#32
  let c0_i32_260 : BitVec 32 := 0#32
  let c1_i32_262 : BitVec 32 := 1#32
  let arg42 : BitVec 32 := Scf.iv c0_i32_260 c1_i32_262 k0_t2
  let c18_i32_276 : BitVec 32 := 18#32
  let v506 : BitVec 32 := Scalar.muli arg42 c18_i32_276
  let v10596 : BitVec 32 := Scalar.addi v506 c0_i32_6536
  let v10599 : Index := Scalar.indexCast v10596
  let c0_6538 : Index := 0#32
  let c0_6539 : Index := 0#32
  ![2, v10599.toNat, 0, 0]
def k0_off100 (k0_t2 : Fin k0_t2_loop.trips) : Fin 4 → Nat :=
  let c3_6648 : Index := 3#32
  let c0_i32_260 : BitVec 32 := 0#32
  let c1_i32_262 : BitVec 32 := 1#32
  let arg42 : BitVec 32 := Scf.iv c0_i32_260 c1_i32_262 k0_t2
  let c18_i32_276 : BitVec 32 := 18#32
  let v506 : BitVec 32 := Scalar.muli arg42 c18_i32_276
  let v10986 : Index := Scalar.indexCast v506
  let c0_6649 : Index := 0#32
  let c0_6650 : Index := 0#32
  ![3, v10986.toNat, 0, 0]
def k0_off101 (k0_t2 : Fin k0_t2_loop.trips) (c0_i32_6653 : BitVec 32) : Fin 4 → Nat :=
  let c3_6654 : Index := 3#32
  let c0_i32_260 : BitVec 32 := 0#32
  let c1_i32_262 : BitVec 32 := 1#32
  let arg42 : BitVec 32 := Scf.iv c0_i32_260 c1_i32_262 k0_t2
  let v10996 : BitVec 32 := Scalar.addi c0_i32_6653 arg42
  let v10999 : Index := Scalar.indexCast v10996
  let c0_6655 : Index := 0#32
  let c0_6656 : Index := 0#32
  ![3, v10999.toNat, 0, 0]
def k0_off102 (k0_t2 : Fin k0_t2_loop.trips) : Fin 4 → Nat :=
  let c0_6761 : Index := 0#32
  let c0_i32_260 : BitVec 32 := 0#32
  let c1_i32_262 : BitVec 32 := 1#32
  let arg42 : BitVec 32 := Scf.iv c0_i32_260 c1_i32_262 k0_t2
  let v11376 : Index := Scalar.indexCast arg42
  let c0_6762 : Index := 0#32
  let c0_6763 : Index := 0#32
  ![0, v11376.toNat, 0, 0]
def k0_off103 (k0_t2 : Fin k0_t2_loop.trips) : Fin 4 → Nat :=
  let c1_6767 : Index := 1#32
  let c0_i32_260 : BitVec 32 := 0#32
  let c1_i32_262 : BitVec 32 := 1#32
  let arg42 : BitVec 32 := Scf.iv c0_i32_260 c1_i32_262 k0_t2
  let v11388 : Index := Scalar.indexCast arg42
  let c0_6768 : Index := 0#32
  let c0_6769 : Index := 0#32
  ![1, v11388.toNat, 0, 0]
def k0_off104 (k0_t2 : Fin k0_t2_loop.trips) : Fin 4 → Nat :=
  let c2_6773 : Index := 2#32
  let c0_i32_260 : BitVec 32 := 0#32
  let c1_i32_262 : BitVec 32 := 1#32
  let arg42 : BitVec 32 := Scf.iv c0_i32_260 c1_i32_262 k0_t2
  let v11400 : Index := Scalar.indexCast arg42
  let c0_6774 : Index := 0#32
  let c0_6775 : Index := 0#32
  ![2, v11400.toNat, 0, 0]
def k0_off105 (k0_t2 : Fin k0_t2_loop.trips) : Fin 4 → Nat :=
  let c3_6779 : Index := 3#32
  let c0_i32_260 : BitVec 32 := 0#32
  let c1_i32_262 : BitVec 32 := 1#32
  let arg42 : BitVec 32 := Scf.iv c0_i32_260 c1_i32_262 k0_t2
  let v11412 : Index := Scalar.indexCast arg42
  let c0_6780 : Index := 0#32
  let c0_6781 : Index := 0#32
  ![3, v11412.toNat, 0, 0]
@[reducible] def k0_t3_loop : Scf.Loop 32 :=
  let c0_i32_265 : BitVec 32 := 0#32
  let c14_i32_266 : BitVec 32 := 14#32
  let v500 : BitVec 32 := Scalar.addi c0_i32_265 c14_i32_266
  let c1_i32_267 : BitVec 32 := 1#32
  ⟨c0_i32_265, v500, c1_i32_267⟩
def k0_off106 (k0_t3 : Fin k0_t3_loop.trips) : Fin 4 → Nat :=
  let c0_277 : Index := 0#32
  let c0_i32_265 : BitVec 32 := 0#32
  let c1_i32_267 : BitVec 32 := 1#32
  let arg42 : BitVec 32 := Scf.iv c0_i32_265 c1_i32_267 k0_t3
  let c18_i32_276 : BitVec 32 := 18#32
  let v507 : BitVec 32 := Scalar.muli arg42 c18_i32_276
  let v508 : Index := Scalar.indexCast v507
  let c0_278 : Index := 0#32
  let c0_279 : Index := 0#32
  ![0, v508.toNat, 0, 0]
def k0_off107 (k0_t3 : Fin k0_t3_loop.trips) : Fin 4 → Nat :=
  let c2_288 : Index := 2#32
  let c13_i32 : BitVec 32 := 13#32
  let c0_i32_265 : BitVec 32 := 0#32
  let c1_i32_267 : BitVec 32 := 1#32
  let arg42 : BitVec 32 := Scf.iv c0_i32_265 c1_i32_267 k0_t3
  let v506 : BitVec 32 := Scalar.subi c13_i32 arg42
  let c18_i32_287 : BitVec 32 := 18#32
  let v519 : BitVec 32 := Scalar.muli v506 c18_i32_287
  let v520 : Index := Scalar.indexCast v519
  let c0_289 : Index := 0#32
  let c0_290 : Index := 0#32
  ![2, v520.toNat, 0, 0]
def k0_off108 (k0_t3 : Fin k0_t3_loop.trips) (c0_i32_305 : BitVec 32) : Fin 3 → Nat :=
  let c0_i32_265 : BitVec 32 := 0#32
  let c1_i32_267 : BitVec 32 := 1#32
  let arg42 : BitVec 32 := Scf.iv c0_i32_265 c1_i32_267 k0_t3
  let c18_i32_304 : BitVec 32 := 18#32
  let v539 : BitVec 32 := Scalar.muli arg42 c18_i32_304
  let v540 : BitVec 32 := Scalar.addi v539 c0_i32_305
  let v572 : Index := Scalar.indexCast v540
  let c0_316 : Index := 0#32
  let c0_317 : Index := 0#32
  ![v572.toNat, 0, 0]
def k0_off109 (k0_t3 : Fin k0_t3_loop.trips) (c0_i32_305 : BitVec 32) : Fin 3 → Nat :=
  let c0_i32_265 : BitVec 32 := 0#32
  let c1_i32_267 : BitVec 32 := 1#32
  let arg42 : BitVec 32 := Scf.iv c0_i32_265 c1_i32_267 k0_t3
  let c18_i32_304 : BitVec 32 := 18#32
  let v539 : BitVec 32 := Scalar.muli arg42 c18_i32_304
  let v540 : BitVec 32 := Scalar.addi v539 c0_i32_305
  let v604 : Index := Scalar.indexCast v540
  let c0_330 : Index := 0#32
  let c128_331 : Index := 128#32
  ![v604.toNat, 0, 128]
def k0_off110 (k0_t3 : Fin k0_t3_loop.trips) (c0_i32_305 : BitVec 32) : Fin 3 → Nat :=
  let c0_i32_265 : BitVec 32 := 0#32
  let c1_i32_267 : BitVec 32 := 1#32
  let arg42 : BitVec 32 := Scf.iv c0_i32_265 c1_i32_267 k0_t3
  let c18_i32_304 : BitVec 32 := 18#32
  let v539 : BitVec 32 := Scalar.muli arg42 c18_i32_304
  let v540 : BitVec 32 := Scalar.addi v539 c0_i32_305
  let v636 : Index := Scalar.indexCast v540
  let c0_344 : Index := 0#32
  let c256_345 : Index := 256#32
  ![v636.toNat, 0, 256]
def k0_off111 (k0_t3 : Fin k0_t3_loop.trips) (c0_i32_305 : BitVec 32) : Fin 3 → Nat :=
  let c0_i32_265 : BitVec 32 := 0#32
  let c1_i32_267 : BitVec 32 := 1#32
  let arg42 : BitVec 32 := Scf.iv c0_i32_265 c1_i32_267 k0_t3
  let c18_i32_304 : BitVec 32 := 18#32
  let v539 : BitVec 32 := Scalar.muli arg42 c18_i32_304
  let v540 : BitVec 32 := Scalar.addi v539 c0_i32_305
  let v668 : Index := Scalar.indexCast v540
  let c0_358 : Index := 0#32
  let c384_359 : Index := 384#32
  ![v668.toNat, 0, 384]
def k0_off112 (k0_t3 : Fin k0_t3_loop.trips) (c0_i32_305 : BitVec 32) : Fin 3 → Nat :=
  let c0_i32_265 : BitVec 32 := 0#32
  let c1_i32_267 : BitVec 32 := 1#32
  let arg42 : BitVec 32 := Scf.iv c0_i32_265 c1_i32_267 k0_t3
  let c18_i32_304 : BitVec 32 := 18#32
  let v539 : BitVec 32 := Scalar.muli arg42 c18_i32_304
  let v540 : BitVec 32 := Scalar.addi v539 c0_i32_305
  let v700 : Index := Scalar.indexCast v540
  let c0_371 : Index := 0#32
  let c512_372 : Index := 512#32
  ![v700.toNat, 0, 512]
def k0_off113 (k0_t3 : Fin k0_t3_loop.trips) (c0_i32_305 : BitVec 32) : Fin 3 → Nat :=
  let c0_i32_265 : BitVec 32 := 0#32
  let c1_i32_267 : BitVec 32 := 1#32
  let arg42 : BitVec 32 := Scf.iv c0_i32_265 c1_i32_267 k0_t3
  let c18_i32_304 : BitVec 32 := 18#32
  let v539 : BitVec 32 := Scalar.muli arg42 c18_i32_304
  let v540 : BitVec 32 := Scalar.addi v539 c0_i32_305
  let v732 : Index := Scalar.indexCast v540
  let c0_384 : Index := 0#32
  let c640_385 : Index := 640#32
  ![v732.toNat, 0, 640]
def k0_off114 (k0_t3 : Fin k0_t3_loop.trips) (c0_i32_305 : BitVec 32) : Fin 3 → Nat :=
  let c0_i32_265 : BitVec 32 := 0#32
  let c1_i32_267 : BitVec 32 := 1#32
  let arg42 : BitVec 32 := Scf.iv c0_i32_265 c1_i32_267 k0_t3
  let c18_i32_304 : BitVec 32 := 18#32
  let v539 : BitVec 32 := Scalar.muli arg42 c18_i32_304
  let v540 : BitVec 32 := Scalar.addi v539 c0_i32_305
  let v764 : Index := Scalar.indexCast v540
  let c0_397 : Index := 0#32
  let c768_398 : Index := 768#32
  ![v764.toNat, 0, 768]
def k0_off115 (k0_t3 : Fin k0_t3_loop.trips) (c0_i32_305 : BitVec 32) : Fin 3 → Nat :=
  let c0_i32_265 : BitVec 32 := 0#32
  let c1_i32_267 : BitVec 32 := 1#32
  let arg42 : BitVec 32 := Scf.iv c0_i32_265 c1_i32_267 k0_t3
  let c18_i32_304 : BitVec 32 := 18#32
  let v539 : BitVec 32 := Scalar.muli arg42 c18_i32_304
  let v540 : BitVec 32 := Scalar.addi v539 c0_i32_305
  let v796 : Index := Scalar.indexCast v540
  let c0_410 : Index := 0#32
  let c896_411 : Index := 896#32
  ![v796.toNat, 0, 896]
def k0_off116 (k0_t3 : Fin k0_t3_loop.trips) (c17_i32 : BitVec 32) : Fin 3 → Nat :=
  let c13_i32 : BitVec 32 := 13#32
  let c0_i32_265 : BitVec 32 := 0#32
  let c1_i32_267 : BitVec 32 := 1#32
  let arg42 : BitVec 32 := Scf.iv c0_i32_265 c1_i32_267 k0_t3
  let v506 : BitVec 32 := Scalar.subi c13_i32 arg42
  let c18_i32_414 : BitVec 32 := 18#32
  let v807 : BitVec 32 := Scalar.muli v506 c18_i32_414
  let v808 : BitVec 32 := Scalar.addi v807 c17_i32
  let v840 : Index := Scalar.indexCast v808
  let c0_424 : Index := 0#32
  let c0_425 : Index := 0#32
  ![v840.toNat, 0, 0]
def k0_off117 (k0_t3 : Fin k0_t3_loop.trips) (c17_i32 : BitVec 32) : Fin 3 → Nat :=
  let c13_i32 : BitVec 32 := 13#32
  let c0_i32_265 : BitVec 32 := 0#32
  let c1_i32_267 : BitVec 32 := 1#32
  let arg42 : BitVec 32 := Scf.iv c0_i32_265 c1_i32_267 k0_t3
  let v506 : BitVec 32 := Scalar.subi c13_i32 arg42
  let c18_i32_414 : BitVec 32 := 18#32
  let v807 : BitVec 32 := Scalar.muli v506 c18_i32_414
  let v808 : BitVec 32 := Scalar.addi v807 c17_i32
  let v872 : Index := Scalar.indexCast v808
  let c0_438 : Index := 0#32
  let c128_439 : Index := 128#32
  ![v872.toNat, 0, 128]
def k0_off118 (k0_t3 : Fin k0_t3_loop.trips) (c17_i32 : BitVec 32) : Fin 3 → Nat :=
  let c13_i32 : BitVec 32 := 13#32
  let c0_i32_265 : BitVec 32 := 0#32
  let c1_i32_267 : BitVec 32 := 1#32
  let arg42 : BitVec 32 := Scf.iv c0_i32_265 c1_i32_267 k0_t3
  let v506 : BitVec 32 := Scalar.subi c13_i32 arg42
  let c18_i32_414 : BitVec 32 := 18#32
  let v807 : BitVec 32 := Scalar.muli v506 c18_i32_414
  let v808 : BitVec 32 := Scalar.addi v807 c17_i32
  let v904 : Index := Scalar.indexCast v808
  let c0_452 : Index := 0#32
  let c256_453 : Index := 256#32
  ![v904.toNat, 0, 256]
def k0_off119 (k0_t3 : Fin k0_t3_loop.trips) (c17_i32 : BitVec 32) : Fin 3 → Nat :=
  let c13_i32 : BitVec 32 := 13#32
  let c0_i32_265 : BitVec 32 := 0#32
  let c1_i32_267 : BitVec 32 := 1#32
  let arg42 : BitVec 32 := Scf.iv c0_i32_265 c1_i32_267 k0_t3
  let v506 : BitVec 32 := Scalar.subi c13_i32 arg42
  let c18_i32_414 : BitVec 32 := 18#32
  let v807 : BitVec 32 := Scalar.muli v506 c18_i32_414
  let v808 : BitVec 32 := Scalar.addi v807 c17_i32
  let v936 : Index := Scalar.indexCast v808
  let c0_466 : Index := 0#32
  let c384_467 : Index := 384#32
  ![v936.toNat, 0, 384]
def k0_off120 (k0_t3 : Fin k0_t3_loop.trips) (c17_i32 : BitVec 32) : Fin 3 → Nat :=
  let c13_i32 : BitVec 32 := 13#32
  let c0_i32_265 : BitVec 32 := 0#32
  let c1_i32_267 : BitVec 32 := 1#32
  let arg42 : BitVec 32 := Scf.iv c0_i32_265 c1_i32_267 k0_t3
  let v506 : BitVec 32 := Scalar.subi c13_i32 arg42
  let c18_i32_414 : BitVec 32 := 18#32
  let v807 : BitVec 32 := Scalar.muli v506 c18_i32_414
  let v808 : BitVec 32 := Scalar.addi v807 c17_i32
  let v968 : Index := Scalar.indexCast v808
  let c0_480 : Index := 0#32
  let c512_481 : Index := 512#32
  ![v968.toNat, 0, 512]
def k0_off121 (k0_t3 : Fin k0_t3_loop.trips) (c17_i32 : BitVec 32) : Fin 3 → Nat :=
  let c13_i32 : BitVec 32 := 13#32
  let c0_i32_265 : BitVec 32 := 0#32
  let c1_i32_267 : BitVec 32 := 1#32
  let arg42 : BitVec 32 := Scf.iv c0_i32_265 c1_i32_267 k0_t3
  let v506 : BitVec 32 := Scalar.subi c13_i32 arg42
  let c18_i32_414 : BitVec 32 := 18#32
  let v807 : BitVec 32 := Scalar.muli v506 c18_i32_414
  let v808 : BitVec 32 := Scalar.addi v807 c17_i32
  let v1000 : Index := Scalar.indexCast v808
  let c0_494 : Index := 0#32
  let c640_495 : Index := 640#32
  ![v1000.toNat, 0, 640]
def k0_off122 (k0_t3 : Fin k0_t3_loop.trips) (c17_i32 : BitVec 32) : Fin 3 → Nat :=
  let c13_i32 : BitVec 32 := 13#32
  let c0_i32_265 : BitVec 32 := 0#32
  let c1_i32_267 : BitVec 32 := 1#32
  let arg42 : BitVec 32 := Scf.iv c0_i32_265 c1_i32_267 k0_t3
  let v506 : BitVec 32 := Scalar.subi c13_i32 arg42
  let c18_i32_414 : BitVec 32 := 18#32
  let v807 : BitVec 32 := Scalar.muli v506 c18_i32_414
  let v808 : BitVec 32 := Scalar.addi v807 c17_i32
  let v1032 : Index := Scalar.indexCast v808
  let c0_508 : Index := 0#32
  let c768_509 : Index := 768#32
  ![v1032.toNat, 0, 768]
def k0_off123 (k0_t3 : Fin k0_t3_loop.trips) (c17_i32 : BitVec 32) : Fin 3 → Nat :=
  let c13_i32 : BitVec 32 := 13#32
  let c0_i32_265 : BitVec 32 := 0#32
  let c1_i32_267 : BitVec 32 := 1#32
  let arg42 : BitVec 32 := Scf.iv c0_i32_265 c1_i32_267 k0_t3
  let v506 : BitVec 32 := Scalar.subi c13_i32 arg42
  let c18_i32_414 : BitVec 32 := 18#32
  let v807 : BitVec 32 := Scalar.muli v506 c18_i32_414
  let v808 : BitVec 32 := Scalar.addi v807 c17_i32
  let v1064 : Index := Scalar.indexCast v808
  let c0_522 : Index := 0#32
  let c896_523 : Index := 896#32
  ![v1064.toNat, 0, 896]
@[reducible] def k0_t4_loop : Scf.Loop 32 :=
  let c0_i32_270 : BitVec 32 := 0#32
  let c18_i32 : BitVec 32 := 18#32
  let v503 : BitVec 32 := Scalar.addi c0_i32_270 c18_i32
  let c1_i32_271 : BitVec 32 := 1#32
  ⟨c0_i32_270, v503, c1_i32_271⟩
def k0_off124 (k0_t4 : Fin k0_t4_loop.trips) : Fin 4 → Nat :=
  let c1_277 : Index := 1#32
  let c0_i32_270 : BitVec 32 := 0#32
  let c1_i32_271 : BitVec 32 := 1#32
  let arg42 : BitVec 32 := Scf.iv c0_i32_270 c1_i32_271 k0_t4
  let c14_i32_276 : BitVec 32 := 14#32
  let v507 : BitVec 32 := Scalar.muli arg42 c14_i32_276
  let v508 : Index := Scalar.indexCast v507
  let c0_278 : Index := 0#32
  let c0_279 : Index := 0#32
  ![1, v508.toNat, 0, 0]
def k0_off125 (k0_t4 : Fin k0_t4_loop.trips) : Fin 4 → Nat :=
  let c3_288 : Index := 3#32
  let c17_i32 : BitVec 32 := 17#32
  let c0_i32_270 : BitVec 32 := 0#32
  let c1_i32_271 : BitVec 32 := 1#32
  let arg42 : BitVec 32 := Scf.iv c0_i32_270 c1_i32_271 k0_t4
  let v506 : BitVec 32 := Scalar.subi c17_i32 arg42
  let c14_i32_287 : BitVec 32 := 14#32
  let v519 : BitVec 32 := Scalar.muli v506 c14_i32_287
  let v520 : Index := Scalar.indexCast v519
  let c0_289 : Index := 0#32
  let c0_290 : Index := 0#32
  ![3, v520.toNat, 0, 0]
def k0_off126 (k0_t4 : Fin k0_t4_loop.trips) (c0_i32_304 : BitVec 32) : Fin 3 → Nat :=
  let c0_i32_270 : BitVec 32 := 0#32
  let c1_i32_271 : BitVec 32 := 1#32
  let arg42 : BitVec 32 := Scf.iv c0_i32_270 c1_i32_271 k0_t4
  let v539 : BitVec 32 := Scalar.addi c0_i32_304 arg42
  let v571 : Index := Scalar.indexCast v539
  let c0_315 : Index := 0#32
  let c0_316 : Index := 0#32
  ![v571.toNat, 0, 0]
def k0_off127 (k0_t4 : Fin k0_t4_loop.trips) (c0_i32_304 : BitVec 32) : Fin 3 → Nat :=
  let c0_i32_270 : BitVec 32 := 0#32
  let c1_i32_271 : BitVec 32 := 1#32
  let arg42 : BitVec 32 := Scf.iv c0_i32_270 c1_i32_271 k0_t4
  let v539 : BitVec 32 := Scalar.addi c0_i32_304 arg42
  let v607 : Index := Scalar.indexCast v539
  let c0_331 : Index := 0#32
  let c128_332 : Index := 128#32
  ![v607.toNat, 0, 128]
def k0_off128 (k0_t4 : Fin k0_t4_loop.trips) (c0_i32_304 : BitVec 32) : Fin 3 → Nat :=
  let c0_i32_270 : BitVec 32 := 0#32
  let c1_i32_271 : BitVec 32 := 1#32
  let arg42 : BitVec 32 := Scf.iv c0_i32_270 c1_i32_271 k0_t4
  let v539 : BitVec 32 := Scalar.addi c0_i32_304 arg42
  let v643 : Index := Scalar.indexCast v539
  let c0_347 : Index := 0#32
  let c256_348 : Index := 256#32
  ![v643.toNat, 0, 256]
def k0_off129 (k0_t4 : Fin k0_t4_loop.trips) (c0_i32_304 : BitVec 32) : Fin 3 → Nat :=
  let c0_i32_270 : BitVec 32 := 0#32
  let c1_i32_271 : BitVec 32 := 1#32
  let arg42 : BitVec 32 := Scf.iv c0_i32_270 c1_i32_271 k0_t4
  let v539 : BitVec 32 := Scalar.addi c0_i32_304 arg42
  let v679 : Index := Scalar.indexCast v539
  let c0_363 : Index := 0#32
  let c384_364 : Index := 384#32
  ![v679.toNat, 0, 384]
def k0_off130 (k0_t4 : Fin k0_t4_loop.trips) (c0_i32_304 : BitVec 32) : Fin 3 → Nat :=
  let c0_i32_270 : BitVec 32 := 0#32
  let c1_i32_271 : BitVec 32 := 1#32
  let arg42 : BitVec 32 := Scf.iv c0_i32_270 c1_i32_271 k0_t4
  let v539 : BitVec 32 := Scalar.addi c0_i32_304 arg42
  let v715 : Index := Scalar.indexCast v539
  let c0_378 : Index := 0#32
  let c512_379 : Index := 512#32
  ![v715.toNat, 0, 512]
def k0_off131 (k0_t4 : Fin k0_t4_loop.trips) (c0_i32_304 : BitVec 32) : Fin 3 → Nat :=
  let c0_i32_270 : BitVec 32 := 0#32
  let c1_i32_271 : BitVec 32 := 1#32
  let arg42 : BitVec 32 := Scf.iv c0_i32_270 c1_i32_271 k0_t4
  let v539 : BitVec 32 := Scalar.addi c0_i32_304 arg42
  let v751 : Index := Scalar.indexCast v539
  let c0_393 : Index := 0#32
  let c640_394 : Index := 640#32
  ![v751.toNat, 0, 640]
def k0_off132 (k0_t4 : Fin k0_t4_loop.trips) (c0_i32_304 : BitVec 32) : Fin 3 → Nat :=
  let c0_i32_270 : BitVec 32 := 0#32
  let c1_i32_271 : BitVec 32 := 1#32
  let arg42 : BitVec 32 := Scf.iv c0_i32_270 c1_i32_271 k0_t4
  let v539 : BitVec 32 := Scalar.addi c0_i32_304 arg42
  let v787 : Index := Scalar.indexCast v539
  let c0_408 : Index := 0#32
  let c768_409 : Index := 768#32
  ![v787.toNat, 0, 768]
def k0_off133 (k0_t4 : Fin k0_t4_loop.trips) (c0_i32_304 : BitVec 32) : Fin 3 → Nat :=
  let c0_i32_270 : BitVec 32 := 0#32
  let c1_i32_271 : BitVec 32 := 1#32
  let arg42 : BitVec 32 := Scf.iv c0_i32_270 c1_i32_271 k0_t4
  let v539 : BitVec 32 := Scalar.addi c0_i32_304 arg42
  let v823 : Index := Scalar.indexCast v539
  let c0_423 : Index := 0#32
  let c896_424 : Index := 896#32
  ![v823.toNat, 0, 896]
def k0_off134 (k0_t4 : Fin k0_t4_loop.trips) (c234_i32 : BitVec 32) : Fin 3 → Nat :=
  let c17_i32 : BitVec 32 := 17#32
  let c0_i32_270 : BitVec 32 := 0#32
  let c1_i32_271 : BitVec 32 := 1#32
  let arg42 : BitVec 32 := Scf.iv c0_i32_270 c1_i32_271 k0_t4
  let v506 : BitVec 32 := Scalar.subi c17_i32 arg42
  let v838 : BitVec 32 := Scalar.addi c234_i32 v506
  let v870 : Index := Scalar.indexCast v838
  let c0_438 : Index := 0#32
  let c0_439 : Index := 0#32
  ![v870.toNat, 0, 0]
def k0_off135 (k0_t4 : Fin k0_t4_loop.trips) (c234_i32 : BitVec 32) : Fin 3 → Nat :=
  let c17_i32 : BitVec 32 := 17#32
  let c0_i32_270 : BitVec 32 := 0#32
  let c1_i32_271 : BitVec 32 := 1#32
  let arg42 : BitVec 32 := Scf.iv c0_i32_270 c1_i32_271 k0_t4
  let v506 : BitVec 32 := Scalar.subi c17_i32 arg42
  let v838 : BitVec 32 := Scalar.addi c234_i32 v506
  let v906 : Index := Scalar.indexCast v838
  let c0_454 : Index := 0#32
  let c128_455 : Index := 128#32
  ![v906.toNat, 0, 128]
def k0_off136 (k0_t4 : Fin k0_t4_loop.trips) (c234_i32 : BitVec 32) : Fin 3 → Nat :=
  let c17_i32 : BitVec 32 := 17#32
  let c0_i32_270 : BitVec 32 := 0#32
  let c1_i32_271 : BitVec 32 := 1#32
  let arg42 : BitVec 32 := Scf.iv c0_i32_270 c1_i32_271 k0_t4
  let v506 : BitVec 32 := Scalar.subi c17_i32 arg42
  let v838 : BitVec 32 := Scalar.addi c234_i32 v506
  let v942 : Index := Scalar.indexCast v838
  let c0_470 : Index := 0#32
  let c256_471 : Index := 256#32
  ![v942.toNat, 0, 256]
def k0_off137 (k0_t4 : Fin k0_t4_loop.trips) (c234_i32 : BitVec 32) : Fin 3 → Nat :=
  let c17_i32 : BitVec 32 := 17#32
  let c0_i32_270 : BitVec 32 := 0#32
  let c1_i32_271 : BitVec 32 := 1#32
  let arg42 : BitVec 32 := Scf.iv c0_i32_270 c1_i32_271 k0_t4
  let v506 : BitVec 32 := Scalar.subi c17_i32 arg42
  let v838 : BitVec 32 := Scalar.addi c234_i32 v506
  let v978 : Index := Scalar.indexCast v838
  let c0_486 : Index := 0#32
  let c384_487 : Index := 384#32
  ![v978.toNat, 0, 384]
def k0_off138 (k0_t4 : Fin k0_t4_loop.trips) (c234_i32 : BitVec 32) : Fin 3 → Nat :=
  let c17_i32 : BitVec 32 := 17#32
  let c0_i32_270 : BitVec 32 := 0#32
  let c1_i32_271 : BitVec 32 := 1#32
  let arg42 : BitVec 32 := Scf.iv c0_i32_270 c1_i32_271 k0_t4
  let v506 : BitVec 32 := Scalar.subi c17_i32 arg42
  let v838 : BitVec 32 := Scalar.addi c234_i32 v506
  let v1014 : Index := Scalar.indexCast v838
  let c0_502 : Index := 0#32
  let c512_503 : Index := 512#32
  ![v1014.toNat, 0, 512]
def k0_off139 (k0_t4 : Fin k0_t4_loop.trips) (c234_i32 : BitVec 32) : Fin 3 → Nat :=
  let c17_i32 : BitVec 32 := 17#32
  let c0_i32_270 : BitVec 32 := 0#32
  let c1_i32_271 : BitVec 32 := 1#32
  let arg42 : BitVec 32 := Scf.iv c0_i32_270 c1_i32_271 k0_t4
  let v506 : BitVec 32 := Scalar.subi c17_i32 arg42
  let v838 : BitVec 32 := Scalar.addi c234_i32 v506
  let v1050 : Index := Scalar.indexCast v838
  let c0_518 : Index := 0#32
  let c640_519 : Index := 640#32
  ![v1050.toNat, 0, 640]
def k0_off140 (k0_t4 : Fin k0_t4_loop.trips) (c234_i32 : BitVec 32) : Fin 3 → Nat :=
  let c17_i32 : BitVec 32 := 17#32
  let c0_i32_270 : BitVec 32 := 0#32
  let c1_i32_271 : BitVec 32 := 1#32
  let arg42 : BitVec 32 := Scf.iv c0_i32_270 c1_i32_271 k0_t4
  let v506 : BitVec 32 := Scalar.subi c17_i32 arg42
  let v838 : BitVec 32 := Scalar.addi c234_i32 v506
  let v1086 : Index := Scalar.indexCast v838
  let c0_534 : Index := 0#32
  let c768_535 : Index := 768#32
  ![v1086.toNat, 0, 768]
def k0_off141 (k0_t4 : Fin k0_t4_loop.trips) (c234_i32 : BitVec 32) : Fin 3 → Nat :=
  let c17_i32 : BitVec 32 := 17#32
  let c0_i32_270 : BitVec 32 := 0#32
  let c1_i32_271 : BitVec 32 := 1#32
  let arg42 : BitVec 32 := Scf.iv c0_i32_270 c1_i32_271 k0_t4
  let v506 : BitVec 32 := Scalar.subi c17_i32 arg42
  let v838 : BitVec 32 := Scalar.addi c234_i32 v506
  let v1122 : Index := Scalar.indexCast v838
  let c0_550 : Index := 0#32
  let c896_551 : Index := 896#32
  ![v1122.toNat, 0, 896]
@[reducible] def k0_t5_loop : Scf.Loop 32 :=
  let c0_i32_273 : BitVec 32 := 0#32
  let c252_i32 : BitVec 32 := 252#32
  let v505 : BitVec 32 := Scalar.addi c0_i32_273 c252_i32
  let c1_i32_274 : BitVec 32 := 1#32
  ⟨c0_i32_273, v505, c1_i32_274⟩
def k0_off142 (k0_t5 : Fin k0_t5_loop.trips) : Fin 3 → Nat :=
  let c0_i32_273 : BitVec 32 := 0#32
  let c1_i32_274 : BitVec 32 := 1#32
  let arg42 : BitVec 32 := Scf.iv c0_i32_273 c1_i32_274 k0_t5
  let v506 : Index := Scalar.indexCast arg42
  let c0_276 : Index := 0#32
  let c0_277 : Index := 0#32
  ![v506.toNat, 0, 0]
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S252x8x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x1024 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x3x1024 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S34x4x1024 .i8 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4x34 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S4x32x1024 .i8 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S4x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S4x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S4x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S4x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S252x8x512 .i8 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S252x8x1024 .i8 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S252x8x1024 .i8 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S4x252x8x32 .i8 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S4x14x8x18 .i8 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S4x14x8x18 .i8 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S252x8x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== FrontReferenceIdeal.lean ====
abbrev S8x14x18x512 : Shape := ⟨4, ![8, 14, 18, 512]⟩
abbrev S512 : Shape := ⟨1, ![512]⟩
abbrev S_ : Shape := ⟨0, ![]⟩
abbrev S256x1024 : Shape := ⟨2, ![256, 1024]⟩
abbrev S1024 : Shape := ⟨1, ![1024]⟩
abbrev S3x3x1024 : Shape := ⟨3, ![3, 3, 1024]⟩
abbrev S4x1024x34 : Shape := ⟨3, ![4, 1024, 34]⟩
abbrev S4x34 : Shape := ⟨2, ![4, 34]⟩
abbrev S4 : Shape := ⟨1, ![4]⟩
abbrev S4x32x1024 : Shape := ⟨3, ![4, 32, 1024]⟩
abbrev S4x1024 : Shape := ⟨2, ![4, 1024]⟩
abbrev S4x1024x1 : Shape := ⟨3, ![4, 1024, 1]⟩
abbrev S14x18x8x512 : Shape := ⟨4, ![14, 18, 8, 512]⟩
abbrev S252x8x512 : Shape := ⟨3, ![252, 8, 512]⟩
abbrev S1 : Shape := ⟨1, ![1]⟩
abbrev S252x8x1024 : Shape := ⟨3, ![252, 8, 1024]⟩
abbrev S252x8 : Shape := ⟨2, ![252, 8]⟩
abbrev S252x8x1 : Shape := ⟨3, ![252, 8, 1]⟩
abbrev S1x1x512 : Shape := ⟨3, ![1, 1, 512]⟩
abbrev S256x1x1024 : Shape := ⟨3, ![256, 1, 1024]⟩
abbrev S256x2x1024 : Shape := ⟨3, ![256, 2, 1024]⟩
abbrev S512x1024 : Shape := ⟨2, ![512, 1024]⟩
abbrev S2016x512 : Shape := ⟨2, ![2016, 512]⟩
abbrev S2016x1024 : Shape := ⟨2, ![2016, 1024]⟩
abbrev S1x1x1024 : Shape := ⟨3, ![1, 1, 1024]⟩

abbrev nBuf : Space → Nat
  | .hbm => 26
  | .vmem => 8
  | .smem => 1
  | _ => 0

abbrev bufTy : (tb : Table) → Fin (tcTables nBuf tb) → BufTy
  | .hbm, ⟨0, _⟩ => ⟨S8x14x18x512, .bf16⟩
  | .hbm, ⟨1, _⟩ => ⟨S512, .f32⟩
  | .hbm, ⟨2, _⟩ => ⟨S512, .f32⟩
  | .hbm, ⟨3, _⟩ => ⟨S_, .f32⟩
  | .hbm, ⟨4, _⟩ => ⟨S256x1024, .i8⟩
  | .hbm, ⟨5, _⟩ => ⟨S1024, .f32⟩
  | .hbm, ⟨6, _⟩ => ⟨S1024, .f32⟩
  | .hbm, ⟨7, _⟩ => ⟨S3x3x1024, .i8⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S4x1024x34, .i8⟩
  | .hbm, ⟨12, _⟩ => ⟨S4x34, .f32⟩
  | .hbm, ⟨13, _⟩ => ⟨S4, .f32⟩
  | .hbm, ⟨14, _⟩ => ⟨S4, .f32⟩
  | .hbm, ⟨15, _⟩ => ⟨S4, .f32⟩
  | .hbm, ⟨16, _⟩ => ⟨S4x32x1024, .i8⟩
  | .hbm, ⟨17, _⟩ => ⟨S4x1024, .f32⟩
  | .hbm, ⟨18, _⟩ => ⟨S4x1024, .f32⟩
  | .hbm, ⟨19, _⟩ => ⟨S4x1024x1, .f32⟩
  | .hbm, ⟨20, _⟩ => ⟨S4x1024, .f32⟩
  | .hbm, ⟨21, _⟩ => ⟨S14x18x8x512, .bf16⟩
  | .hbm, ⟨22, _⟩ => ⟨S252x8x512, .bf16⟩
  | .hbm, ⟨23, _⟩ => ⟨S1, .f32⟩
  | .hbm, ⟨24, _⟩ => ⟨S252x8x512, .i8⟩
  | .hbm, ⟨25, _⟩ => ⟨S252x8x1024, .i8⟩
  | .local _ .vmem, ⟨0, _⟩ => ⟨S252x8x512, .bf16⟩
  | .local _ .vmem, ⟨1, _⟩ => ⟨S512, .f32⟩
  | .local _ .vmem, ⟨2, _⟩ => ⟨S512, .f32⟩
  | .local _ .vmem, ⟨3, _⟩ => ⟨S256x1024, .i8⟩
  | .local _ .vmem, ⟨4, _⟩ => ⟨S1024, .f32⟩
  | .local _ .vmem, ⟨5, _⟩ => ⟨S1024, .f32⟩
  | .local _ .vmem, ⟨6, _⟩ => ⟨S252x8x512, .i8⟩
  | .local _ .vmem, ⟨7, _⟩ => ⟨S252x8x1024, .i8⟩
  | .local _ .smem, ⟨0, _⟩ => ⟨S1, .f32⟩
  | _, _ => ⟨S8x14x18x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3_0 : Ref sig .tc := ⟨.hbm, 24, rfl⟩
abbrev main_v3_1 : Ref sig .tc := ⟨.hbm, 25, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S252x8x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S252x8x512 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S252x8x1024 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.FrontLoop.lean ====
/- The second loop of the front call (Front): each trip runs, keeps what it reads, and leaves what it writes at some
   contents. -/
module

public import proofs.«01_k».proof.Proof.Gen.Front.Loops

@[expose] public section

-- a LISTED loop's recursion (`pb_…` / `st_…`) and its successor equation apply the region's every parameter around the
-- recursive call; for a kernel with some forty operands and words (flash-attention forward) elaborating the recursion's
-- equation lemmas — realised in the recursion's own context, so a budget set on the `_succ` theorem does not reach
-- them — needs a deeper traversal and more heartbeats than Lean's defaults
set_option maxRecDepth 8192
set_option maxHeartbeats 4000000

noncomputable section

namespace Cert.Front.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

set_option warn.classDefReducibility false in
/-- Before every trip the memrefs the trip reads are as at entry, and those it writes hold something. -/
@[sl_loop] def keeps_k0_t2 (𝒱 : Variants) (c : Dev nD) (bd : Option 𝒱.V) (E : Set ℕ) (arg0 : Memref sig .tc .smem S1 .f32) (harg0 : arg0.IsWhole) (arg1 : Memref sig .tc .smem S4 .f32) (harg1 : arg1.IsWhole) (arg2 : Memref sig .tc .smem S4 .f32) (harg2 : arg2.IsWhole) (arg3 : Memref sig .tc .smem S4 .f32) (harg3 : arg3.IsWhole) (arg4 : Memref sig .tc .vmem S252x8x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S256x1024 .i8) (harg7 : arg7.IsWhole) (arg8 : Memref sig .tc .vmem S1x1024 .f32) (harg8 : arg8.IsWhole) (arg9 : Memref sig .tc .vmem S1x1024 .f32) (harg9 : arg9.IsWhole) (arg10 : Memref sig .tc .vmem S3x3x1024 .i8) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S34x4x1024 .i8) (harg14 : arg14.IsWhole) (arg15 : Memref sig .tc .vmem S4x34 .f32) (harg15 : arg15.IsWhole) (arg16 : Memref sig .tc .vmem S4x32x1024 .i8) (harg16 : arg16.IsWhole) (arg17 : Memref sig .tc .vmem S4x1024 .f32) (harg17 : arg17.IsWhole) (arg18 : Memref sig .tc .vmem S4x1024 .f32) (harg18 : arg18.IsWhole) (arg19 : Memref sig .tc .vmem S4x1024 .f32) (harg19 : arg19.IsWhole) (arg20 : Memref sig .tc .vmem S4x1024 .f32) (harg20 : arg20.IsWhole) (arg21 : Memref sig .tc .vmem S252x8x512 .i8) (harg21 : arg21.IsWhole) (arg22 : Memref sig .tc .vmem S252x8x1024 .i8) (harg22 : arg22.IsWhole) (arg23 : Memref sig .tc .vmem S252x8x1024 .i8) (harg23 : arg23.IsWhole) (arg24 : Memref sig .tc .vmem S4x252x8x32 .i8) (harg24 : arg24.IsWhole) (arg25 : Memref sig .tc .vmem S4x14x8x18 .i8) (harg25 : arg25.IsWhole) (arg26 : Memref sig .tc .vmem S4x14x8x18 .i8) (harg26 : arg26.IsWhole) (arg27 : Memref sig .tc .vmem S252x8x1024 .f32) (harg27 : arg27.IsWhole) (arg28 : Memref sig .tc .vmem S512x1024 .bf16) (harg28 : arg28.IsWhole) (arg29 : Memref sig .tc .vmem S1024x512 .bf16) (harg29 : arg29.IsWhole) (arg30 : Memref sig .tc .vmem S4x128x1024 .bf16) (harg30 : arg30.IsWhole) (arg31 : Memref sig .tc .vmem S9x8x1024 .bf16) (harg31 : arg31.IsWhole) (arg32 : Memref sig .tc .vmem S16x20x8x1024 .bf16) (harg32 : arg32.IsWhole) (arg33 : Memref sig .tc .vmem S252x8x1024 .f32) (harg33 : arg33.IsWhole) (arg34 : Memref sig .tc .vmem S252x8x1024 .f32) (harg34 : arg34.IsWhole) (arg35 : Memref sig .tc .vmem S144x512 .bf16) (harg35 : arg35.IsWhole) (arg36 : Memref sig .tc .vmem S144x1024 .bf16) (harg36 : arg36.IsWhole) (arg37 : Memref sig .tc .vmem S4x252x8x128 .f32) (harg37 : arg37.IsWhole) (arg38 : Memref sig .tc .vmem S2x144x1024 .f32) (harg38 : arg38.IsWhole) (arg39 : Memref sig .tc .vmem S8x1024 .f32) (harg39 : arg39.IsWhole) (arg40 : Memref sig .tc .vmem S8x128 .f32) (harg40 : arg40.IsWhole) (arg41 : Memref sig .tc .vmem S8x1024 .f32) (harg41 : arg41.IsWhole) (v29 : FVec F S1x512 .f32) (v32 : FVec F S1x512 .f32) (v483 : FVec F S4x1024 .f32) (X_arg29 : BufTy.Contents (Elt F) arg29.view.ty) (X_arg31 : BufTy.Contents (Elt F) arg31.view.ty) (X_arg32 : BufTy.Contents (Elt F) arg32.view.ty) (X_arg39 : BufTy.Contents (Elt F) arg39.view.ty) (X_arg40 : BufTy.Contents (Elt F) arg40.view.ty) :
    Cert.Front.Gen.LoopInvTy_k0_t2 (F := F) Unit ℕ (UR sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v29 v32 v483 where
  inv _ _ := iprop((arg29.view.loc (c : Thread nD τ) ↦[arg29.view.set]{fullShare} X_arg29) ∗ (arg31.view.loc (c : Thread nD τ) ↦[arg31.view.set]{fullShare} X_arg31) ∗ (arg32.view.loc (c : Thread nD τ) ↦[arg32.view.set]{fullShare} X_arg32) ∗ (arg39.view.loc (c : Thread nD τ) ↦[arg39.view.set]{fullShare} X_arg39) ∗ (arg40.view.loc (c : Thread nD τ) ↦[arg40.view.set]{fullShare} X_arg40) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗ (∃ f, (arg33.view.loc (c : Thread nD τ) ↦[arg33.view.set]{fullShare} f)) ∗ (∃ f, (arg36.view.loc (c : Thread nD τ) ↦[arg36.view.set]{fullShare} f)) ∗ (∃ f, (arg37.view.loc (c : Thread nD τ) ↦[arg37.view.set]{fullShare} f)))
  step k acc := by
    have hk : k.val < 14 := Nat.lt_of_lt_of_le k.isLt k0_t2_abs.2.1
    iintro ⟨HR_arg29, HR_arg31, HR_arg32, HR_arg39, HR_arg40, ⟨%f_arg23, HW_arg23⟩, ⟨%f_arg24, HW_arg24⟩, ⟨%f_arg25, HW_arg25⟩, ⟨%f_arg26, HW_arg26⟩, ⟨%f_arg33, HW_arg33⟩, ⟨%f_arg36, HW_arg36⟩, ⟨%f_arg37, HW_arg37⟩⟩
    unfold k0_t2_body
    sl_exec
    sl_step
    isplitl [HR_arg29]; · iexact HR_arg29
    isplitl [HR_arg31]; · iexact HR_arg31
    isplitl [HR_arg32]; · iexact HR_arg32
    isplitl [HR_arg39]; · iexact HR_arg39
    isplitl [HR_arg40]; · iexact HR_arg40
    isplitl [HW_arg23]; · iexists _; iexact HW_arg23
    isplitl [HW_arg24]; · iexists _; iexact HW_arg24
    isplitl [HW_arg25]; · iexists _; iexact HW_arg25
    isplitl [HW_arg26]; · iexists _; iexact HW_arg26
    isplitl [HW_arg33]; · iexists _; iexact HW_arg33
    isplitl [HW_arg36]; · iexists _; iexact HW_arg36
    iexists _; iexact HW_arg37

end Cert.Front.Gen

end
-- ==== Proof.FrontLoop3.lean ====
/- The third loop of the front call (Front): each trip runs, keeps what it reads, and leaves what it writes at some
   contents. -/
module

public import proofs.«01_k».proof.Proof.Gen.Front.Loops

@[expose] public section

-- a LISTED loop's recursion (`pb_…` / `st_…`) and its successor equation apply the region's every parameter around the
-- recursive call; for a kernel with some forty operands and words (flash-attention forward) elaborating the recursion's
-- equation lemmas — realised in the recursion's own context, so a budget set on the `_succ` theorem does not reach
-- them — needs a deeper traversal and more heartbeats than Lean's defaults
set_option maxRecDepth 8192
set_option maxHeartbeats 4000000

noncomputable section

namespace Cert.Front.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

set_option warn.classDefReducibility false in
/-- Before every trip the memrefs the trip reads are as at entry, and those it writes hold something. -/
@[sl_loop] def keeps_k0_t3 (𝒱 : Variants) (c : Dev nD) (bd : Option 𝒱.V) (E : Set ℕ) (arg0 : Memref sig .tc .smem S1 .f32) (harg0 : arg0.IsWhole) (arg1 : Memref sig .tc .smem S4 .f32) (harg1 : arg1.IsWhole) (arg2 : Memref sig .tc .smem S4 .f32) (harg2 : arg2.IsWhole) (arg3 : Memref sig .tc .smem S4 .f32) (harg3 : arg3.IsWhole) (arg4 : Memref sig .tc .vmem S252x8x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S256x1024 .i8) (harg7 : arg7.IsWhole) (arg8 : Memref sig .tc .vmem S1x1024 .f32) (harg8 : arg8.IsWhole) (arg9 : Memref sig .tc .vmem S1x1024 .f32) (harg9 : arg9.IsWhole) (arg10 : Memref sig .tc .vmem S3x3x1024 .i8) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S34x4x1024 .i8) (harg14 : arg14.IsWhole) (arg15 : Memref sig .tc .vmem S4x34 .f32) (harg15 : arg15.IsWhole) (arg16 : Memref sig .tc .vmem S4x32x1024 .i8) (harg16 : arg16.IsWhole) (arg17 : Memref sig .tc .vmem S4x1024 .f32) (harg17 : arg17.IsWhole) (arg18 : Memref sig .tc .vmem S4x1024 .f32) (harg18 : arg18.IsWhole) (arg19 : Memref sig .tc .vmem S4x1024 .f32) (harg19 : arg19.IsWhole) (arg20 : Memref sig .tc .vmem S4x1024 .f32) (harg20 : arg20.IsWhole) (arg21 : Memref sig .tc .vmem S252x8x512 .i8) (harg21 : arg21.IsWhole) (arg22 : Memref sig .tc .vmem S252x8x1024 .i8) (harg22 : arg22.IsWhole) (arg23 : Memref sig .tc .vmem S252x8x1024 .i8) (harg23 : arg23.IsWhole) (arg24 : Memref sig .tc .vmem S4x252x8x32 .i8) (harg24 : arg24.IsWhole) (arg25 : Memref sig .tc .vmem S4x14x8x18 .i8) (harg25 : arg25.IsWhole) (arg26 : Memref sig .tc .vmem S4x14x8x18 .i8) (harg26 : arg26.IsWhole) (arg27 : Memref sig .tc .vmem S252x8x1024 .f32) (harg27 : arg27.IsWhole) (arg28 : Memref sig .tc .vmem S512x1024 .bf16) (harg28 : arg28.IsWhole) (arg29 : Memref sig .tc .vmem S1024x512 .bf16) (harg29 : arg29.IsWhole) (arg30 : Memref sig .tc .vmem S4x128x1024 .bf16) (harg30 : arg30.IsWhole) (arg31 : Memref sig .tc .vmem S9x8x1024 .bf16) (harg31 : arg31.IsWhole) (arg32 : Memref sig .tc .vmem S16x20x8x1024 .bf16) (harg32 : arg32.IsWhole) (arg33 : Memref sig .tc .vmem S252x8x1024 .f32) (harg33 : arg33.IsWhole) (arg34 : Memref sig .tc .vmem S252x8x1024 .f32) (harg34 : arg34.IsWhole) (arg35 : Memref sig .tc .vmem S144x512 .bf16) (harg35 : arg35.IsWhole) (arg36 : Memref sig .tc .vmem S144x1024 .bf16) (harg36 : arg36.IsWhole) (arg37 : Memref sig .tc .vmem S4x252x8x128 .f32) (harg37 : arg37.IsWhole) (arg38 : Memref sig .tc .vmem S2x144x1024 .f32) (harg38 : arg38.IsWhole) (arg39 : Memref sig .tc .vmem S8x1024 .f32) (harg39 : arg39.IsWhole) (arg40 : Memref sig .tc .vmem S8x128 .f32) (harg40 : arg40.IsWhole) (arg41 : Memref sig .tc .vmem S8x1024 .f32) (harg41 : arg41.IsWhole) (v29 : FVec F S1x512 .f32) (v32 : FVec F S1x512 .f32) (v483 : FVec F S4x1024 .f32) (X_arg2 : BufTy.Contents (Elt F) arg2.view.ty) (X_arg3 : BufTy.Contents (Elt F) arg3.view.ty) (X_arg30 : BufTy.Contents (Elt F) arg30.view.ty) (X_arg33 : BufTy.Contents (Elt F) arg33.view.ty) (X_arg37 : BufTy.Contents (Elt F) arg37.view.ty) (X_arg41 : BufTy.Contents (Elt F) arg41.view.ty) (init : FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32) :
    Cert.Front.Gen.LoopInvTy_k0_t3 (F := F) Unit ℕ (UR sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v29 v32 v483 init where
  inv _ _ := iprop((arg2.view.loc (c : Thread nD τ) ↦[arg2.view.set]{fullShare} X_arg2) ∗ (arg3.view.loc (c : Thread nD τ) ↦[arg3.view.set]{fullShare} X_arg3) ∗ (arg30.view.loc (c : Thread nD τ) ↦[arg30.view.set]{fullShare} X_arg30) ∗ (arg33.view.loc (c : Thread nD τ) ↦[arg33.view.set]{fullShare} X_arg33) ∗ (arg37.view.loc (c : Thread nD τ) ↦[arg37.view.set]{fullShare} X_arg37) ∗ (arg41.view.loc (c : Thread nD τ) ↦[arg41.view.set]{fullShare} X_arg41) ∗ (∃ f, (arg27.view.loc (c : Thread nD τ) ↦[arg27.view.set]{fullShare} f)) ∗ (∃ f, (arg34.view.loc (c : Thread nD τ) ↦[arg34.view.set]{fullShare} f)) ∗ (∃ f, (arg38.view.loc (c : Thread nD τ) ↦[arg38.view.set]{fullShare} f)))
  step k acc := by
    have hk : k.val < 14 := Nat.lt_of_lt_of_le k.isLt k0_t3_abs.2.1
    iintro ⟨HR_arg2, HR_arg3, HR_arg30, HR_arg33, HR_arg37, HR_arg41, ⟨%f_arg27, HW_arg27⟩, ⟨%f_arg34, HW_arg34⟩, ⟨%f_arg38, HW_arg38⟩⟩
    unfold k0_t3_body
    sl_exec
    sl_step
    isplitl [HR_arg2]; · iexact HR_arg2
    isplitl [HR_arg3]; · iexact HR_arg3
    isplitl [HR_arg30]; · iexact HR_arg30
    isplitl [HR_arg33]; · iexact HR_arg33
    isplitl [HR_arg37]; · iexact HR_arg37
    isplitl [HR_arg41]; · iexact HR_arg41
    isplitl [HW_arg27]; · iexists _; iexact HW_arg27
    isplitl [HW_arg34]; · iexists _; iexact HW_arg34
    iexists _; iexact HW_arg38

end Cert.Front.Gen

end
-- ==== Proof.FrontLoop4.lean ====
/- The fourth loop of the front call (Front): each trip runs, keeps what it reads, and leaves what it writes at some
   contents. -/
module

public import proofs.«01_k».proof.Proof.Gen.Front.Loops

@[expose] public section

-- a LISTED loop's recursion (`pb_…` / `st_…`) and its successor equation apply the region's every parameter around the
-- recursive call; for a kernel with some forty operands and words (flash-attention forward) elaborating the recursion's
-- equation lemmas — realised in the recursion's own context, so a budget set on the `_succ` theorem does not reach
-- them — needs a deeper traversal and more heartbeats than Lean's defaults
set_option maxRecDepth 8192
set_option maxHeartbeats 4000000

noncomputable section

namespace Cert.Front.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

set_option warn.classDefReducibility false in
/-- Before every trip the memrefs the trip reads are as at entry, and those it writes hold something. -/
@[sl_loop] def keeps_k0_t4 (𝒱 : Variants) (c : Dev nD) (bd : Option 𝒱.V) (E : Set ℕ) (arg0 : Memref sig .tc .smem S1 .f32) (harg0 : arg0.IsWhole) (arg1 : Memref sig .tc .smem S4 .f32) (harg1 : arg1.IsWhole) (arg2 : Memref sig .tc .smem S4 .f32) (harg2 : arg2.IsWhole) (arg3 : Memref sig .tc .smem S4 .f32) (harg3 : arg3.IsWhole) (arg4 : Memref sig .tc .vmem S252x8x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S256x1024 .i8) (harg7 : arg7.IsWhole) (arg8 : Memref sig .tc .vmem S1x1024 .f32) (harg8 : arg8.IsWhole) (arg9 : Memref sig .tc .vmem S1x1024 .f32) (harg9 : arg9.IsWhole) (arg10 : Memref sig .tc .vmem S3x3x1024 .i8) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S34x4x1024 .i8) (harg14 : arg14.IsWhole) (arg15 : Memref sig .tc .vmem S4x34 .f32) (harg15 : arg15.IsWhole) (arg16 : Memref sig .tc .vmem S4x32x1024 .i8) (harg16 : arg16.IsWhole) (arg17 : Memref sig .tc .vmem S4x1024 .f32) (harg17 : arg17.IsWhole) (arg18 : Memref sig .tc .vmem S4x1024 .f32) (harg18 : arg18.IsWhole) (arg19 : Memref sig .tc .vmem S4x1024 .f32) (harg19 : arg19.IsWhole) (arg20 : Memref sig .tc .vmem S4x1024 .f32) (harg20 : arg20.IsWhole) (arg21 : Memref sig .tc .vmem S252x8x512 .i8) (harg21 : arg21.IsWhole) (arg22 : Memref sig .tc .vmem S252x8x1024 .i8) (harg22 : arg22.IsWhole) (arg23 : Memref sig .tc .vmem S252x8x1024 .i8) (harg23 : arg23.IsWhole) (arg24 : Memref sig .tc .vmem S4x252x8x32 .i8) (harg24 : arg24.IsWhole) (arg25 : Memref sig .tc .vmem S4x14x8x18 .i8) (harg25 : arg25.IsWhole) (arg26 : Memref sig .tc .vmem S4x14x8x18 .i8) (harg26 : arg26.IsWhole) (arg27 : Memref sig .tc .vmem S252x8x1024 .f32) (harg27 : arg27.IsWhole) (arg28 : Memref sig .tc .vmem S512x1024 .bf16) (harg28 : arg28.IsWhole) (arg29 : Memref sig .tc .vmem S1024x512 .bf16) (harg29 : arg29.IsWhole) (arg30 : Memref sig .tc .vmem S4x128x1024 .bf16) (harg30 : arg30.IsWhole) (arg31 : Memref sig .tc .vmem S9x8x1024 .bf16) (harg31 : arg31.IsWhole) (arg32 : Memref sig .tc .vmem S16x20x8x1024 .bf16) (harg32 : arg32.IsWhole) (arg33 : Memref sig .tc .vmem S252x8x1024 .f32) (harg33 : arg33.IsWhole) (arg34 : Memref sig .tc .vmem S252x8x1024 .f32) (harg34 : arg34.IsWhole) (arg35 : Memref sig .tc .vmem S144x512 .bf16) (harg35 : arg35.IsWhole) (arg36 : Memref sig .tc .vmem S144x1024 .bf16) (harg36 : arg36.IsWhole) (arg37 : Memref sig .tc .vmem S4x252x8x128 .f32) (harg37 : arg37.IsWhole) (arg38 : Memref sig .tc .vmem S2x144x1024 .f32) (harg38 : arg38.IsWhole) (arg39 : Memref sig .tc .vmem S8x1024 .f32) (harg39 : arg39.IsWhole) (arg40 : Memref sig .tc .vmem S8x128 .f32) (harg40 : arg40.IsWhole) (arg41 : Memref sig .tc .vmem S8x1024 .f32) (harg41 : arg41.IsWhole) (v29 : FVec F S1x512 .f32) (v32 : FVec F S1x512 .f32) (v483 : FVec F S4x1024 .f32) (X_arg2 : BufTy.Contents (Elt F) arg2.view.ty) (X_arg3 : BufTy.Contents (Elt F) arg3.view.ty) (X_arg30 : BufTy.Contents (Elt F) arg30.view.ty) (X_arg33 : BufTy.Contents (Elt F) arg33.view.ty) (X_arg37 : BufTy.Contents (Elt F) arg37.view.ty) (X_arg41 : BufTy.Contents (Elt F) arg41.view.ty) (init : FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32) :
    Cert.Front.Gen.LoopInvTy_k0_t4 (F := F) Unit ℕ (UR sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v29 v32 v483 init where
  inv _ _ := iprop((arg2.view.loc (c : Thread nD τ) ↦[arg2.view.set]{fullShare} X_arg2) ∗ (arg3.view.loc (c : Thread nD τ) ↦[arg3.view.set]{fullShare} X_arg3) ∗ (arg30.view.loc (c : Thread nD τ) ↦[arg30.view.set]{fullShare} X_arg30) ∗ (arg33.view.loc (c : Thread nD τ) ↦[arg33.view.set]{fullShare} X_arg33) ∗ (arg37.view.loc (c : Thread nD τ) ↦[arg37.view.set]{fullShare} X_arg37) ∗ (arg41.view.loc (c : Thread nD τ) ↦[arg41.view.set]{fullShare} X_arg41) ∗ (∃ f, (arg27.view.loc (c : Thread nD τ) ↦[arg27.view.set]{fullShare} f)) ∗ (∃ f, (arg34.view.loc (c : Thread nD τ) ↦[arg34.view.set]{fullShare} f)) ∗ (∃ f, (arg38.view.loc (c : Thread nD τ) ↦[arg38.view.set]{fullShare} f)))
  step k acc := by
    have hk : k.val < 18 := Nat.lt_of_lt_of_le k.isLt k0_t4_abs.2.1
    iintro ⟨HR_arg2, HR_arg3, HR_arg30, HR_arg33, HR_arg37, HR_arg41, ⟨%f_arg27, HW_arg27⟩, ⟨%f_arg34, HW_arg34⟩, ⟨%f_arg38, HW_arg38⟩⟩
    unfold k0_t4_body
    sl_exec
    sl_step
    isplitl [HR_arg2]; · iexact HR_arg2
    isplitl [HR_arg3]; · iexact HR_arg3
    isplitl [HR_arg30]; · iexact HR_arg30
    isplitl [HR_arg33]; · iexact HR_arg33
    isplitl [HR_arg37]; · iexact HR_arg37
    isplitl [HR_arg41]; · iexact HR_arg41
    isplitl [HW_arg27]; · iexists _; iexact HW_arg27
    isplitl [HW_arg34]; · iexists _; iexact HW_arg34
    iexists _; iexact HW_arg38

end Cert.Front.Gen

end
-- ==== Proof.FrontLoop5.lean ====
/- The fifth loop of the front call (Front): each trip runs, keeps what it reads, and leaves what it writes at some
   contents. -/
module

public import proofs.«01_k».proof.Proof.Gen.Front.Loops

@[expose] public section

-- a LISTED loop's recursion (`pb_…` / `st_…`) and its successor equation apply the region's every parameter around the
-- recursive call; for a kernel with some forty operands and words (flash-attention forward) elaborating the recursion's
-- equation lemmas — realised in the recursion's own context, so a budget set on the `_succ` theorem does not reach
-- them — needs a deeper traversal and more heartbeats than Lean's defaults
set_option maxRecDepth 8192
set_option maxHeartbeats 4000000

noncomputable section

namespace Cert.Front.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

set_option warn.classDefReducibility false in
/-- Before every trip the memrefs the trip reads are as at entry, and those it writes hold something. -/
@[sl_loop] def keeps_k0_t5 (𝒱 : Variants) (c : Dev nD) (bd : Option 𝒱.V) (E : Set ℕ) (arg0 : Memref sig .tc .smem S1 .f32) (harg0 : arg0.IsWhole) (arg1 : Memref sig .tc .smem S4 .f32) (harg1 : arg1.IsWhole) (arg2 : Memref sig .tc .smem S4 .f32) (harg2 : arg2.IsWhole) (arg3 : Memref sig .tc .smem S4 .f32) (harg3 : arg3.IsWhole) (arg4 : Memref sig .tc .vmem S252x8x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S256x1024 .i8) (harg7 : arg7.IsWhole) (arg8 : Memref sig .tc .vmem S1x1024 .f32) (harg8 : arg8.IsWhole) (arg9 : Memref sig .tc .vmem S1x1024 .f32) (harg9 : arg9.IsWhole) (arg10 : Memref sig .tc .vmem S3x3x1024 .i8) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S34x4x1024 .i8) (harg14 : arg14.IsWhole) (arg15 : Memref sig .tc .vmem S4x34 .f32) (harg15 : arg15.IsWhole) (arg16 : Memref sig .tc .vmem S4x32x1024 .i8) (harg16 : arg16.IsWhole) (arg17 : Memref sig .tc .vmem S4x1024 .f32) (harg17 : arg17.IsWhole) (arg18 : Memref sig .tc .vmem S4x1024 .f32) (harg18 : arg18.IsWhole) (arg19 : Memref sig .tc .vmem S4x1024 .f32) (harg19 : arg19.IsWhole) (arg20 : Memref sig .tc .vmem S4x1024 .f32) (harg20 : arg20.IsWhole) (arg21 : Memref sig .tc .vmem S252x8x512 .i8) (harg21 : arg21.IsWhole) (arg22 : Memref sig .tc .vmem S252x8x1024 .i8) (harg22 : arg22.IsWhole) (arg23 : Memref sig .tc .vmem S252x8x1024 .i8) (harg23 : arg23.IsWhole) (arg24 : Memref sig .tc .vmem S4x252x8x32 .i8) (harg24 : arg24.IsWhole) (arg25 : Memref sig .tc .vmem S4x14x8x18 .i8) (harg25 : arg25.IsWhole) (arg26 : Memref sig .tc .vmem S4x14x8x18 .i8) (harg26 : arg26.IsWhole) (arg27 : Memref sig .tc .vmem S252x8x1024 .f32) (harg27 : arg27.IsWhole) (arg28 : Memref sig .tc .vmem S512x1024 .bf16) (harg28 : arg28.IsWhole) (arg29 : Memref sig .tc .vmem S1024x512 .bf16) (harg29 : arg29.IsWhole) (arg30 : Memref sig .tc .vmem S4x128x1024 .bf16) (harg30 : arg30.IsWhole) (arg31 : Memref sig .tc .vmem S9x8x1024 .bf16) (harg31 : arg31.IsWhole) (arg32 : Memref sig .tc .vmem S16x20x8x1024 .bf16) (harg32 : arg32.IsWhole) (arg33 : Memref sig .tc .vmem S252x8x1024 .f32) (harg33 : arg33.IsWhole) (arg34 : Memref sig .tc .vmem S252x8x1024 .f32) (harg34 : arg34.IsWhole) (arg35 : Memref sig .tc .vmem S144x512 .bf16) (harg35 : arg35.IsWhole) (arg36 : Memref sig .tc .vmem S144x1024 .bf16) (harg36 : arg36.IsWhole) (arg37 : Memref sig .tc .vmem S4x252x8x128 .f32) (harg37 : arg37.IsWhole) (arg38 : Memref sig .tc .vmem S2x144x1024 .f32) (harg38 : arg38.IsWhole) (arg39 : Memref sig .tc .vmem S8x1024 .f32) (harg39 : arg39.IsWhole) (arg40 : Memref sig .tc .vmem S8x128 .f32) (harg40 : arg40.IsWhole) (arg41 : Memref sig .tc .vmem S8x1024 .f32) (harg41 : arg41.IsWhole) (v29 : FVec F S1x512 .f32) (v32 : FVec F S1x512 .f32) (v483 : FVec F S4x1024 .f32) (X_arg33 : BufTy.Contents (Elt F) arg33.view.ty) (X_arg34 : BufTy.Contents (Elt F) arg34.view.ty) (X_arg41 : BufTy.Contents (Elt F) arg41.view.ty) :
    Cert.Front.Gen.LoopInvTy_k0_t5 (F := F) Unit ℕ (UR sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v29 v32 v483 where
  inv _ _ := iprop((arg33.view.loc (c : Thread nD τ) ↦[arg33.view.set]{fullShare} X_arg33) ∗ (arg34.view.loc (c : Thread nD τ) ↦[arg34.view.set]{fullShare} X_arg34) ∗ (arg41.view.loc (c : Thread nD τ) ↦[arg41.view.set]{fullShare} X_arg41) ∗ (∃ f, (arg27.view.loc (c : Thread nD τ) ↦[arg27.view.set]{fullShare} f)))
  step k acc := by
    have hk : k.val < 252 := Nat.lt_of_lt_of_le k.isLt k0_t5_abs.2.1
    iintro ⟨HR_arg33, HR_arg34, HR_arg41, ⟨%f_arg27, HW_arg27⟩⟩
    unfold k0_t5_body
    sl_exec
    sl_step
    isplitl [HR_arg33]; · iexact HR_arg33
    isplitl [HR_arg34]; · iexact HR_arg34
    isplitl [HR_arg41]; · iexact HR_arg41
    iexists _; iexact HW_arg27

end Cert.Front.Gen

end
-- ==== Proof.FrontRun.lean ====
/- The front call's body (Front), run whole: the inputs are kept, and the outputs and the scratch hold something. -/
module

public import proofs.«01_k».proof.Proof.Gen.Front.Frame
public import proofs.«01_k».proof.Proof.FrontLoop
public import proofs.«01_k».proof.Proof.FrontLoop3
public import proofs.«01_k».proof.Proof.FrontLoop4
public import proofs.«01_k».proof.Proof.FrontLoop5

@[expose] public section

-- membership in a rectangle of production extents (`View.cover_of_tiled`): the elaborator's structural look
-- recurses once per coordinate of the long axes
set_option maxRecDepth 16384

noncomputable section

namespace Cert.Front.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 20000000 in
/-- The body's triple: on whole staging memrefs — the inputs' at their contents,
    the FORGOTTEN outputs' (21, 22, 23, 24, 25, 26, 27) at anything, handed back at some contents nothing names —
    the body runs to the continuation holding the inputs' as they were, the scratch at some contents: the printed functions are their skeletons (`Gen.*_eq_skeleton`),
    which `sl_exec` runs (Lib/Exec.lean). -/
theorem kernelRun0_A (c : Dev nD) (arg0 : Memref sig .tc .smem S1 .f32) (harg0 : arg0.IsWhole) (arg1 : Memref sig .tc .smem S4 .f32) (harg1 : arg1.IsWhole) (arg2 : Memref sig .tc .smem S4 .f32) (harg2 : arg2.IsWhole) (arg3 : Memref sig .tc .smem S4 .f32) (harg3 : arg3.IsWhole) (arg4 : Memref sig .tc .vmem S252x8x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S256x1024 .i8) (harg7 : arg7.IsWhole) (arg8 : Memref sig .tc .vmem S1x1024 .f32) (harg8 : arg8.IsWhole) (arg9 : Memref sig .tc .vmem S1x1024 .f32) (harg9 : arg9.IsWhole) (arg10 : Memref sig .tc .vmem S3x3x1024 .i8) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S34x4x1024 .i8) (harg14 : arg14.IsWhole) (arg15 : Memref sig .tc .vmem S4x34 .f32) (harg15 : arg15.IsWhole) (arg16 : Memref sig .tc .vmem S4x32x1024 .i8) (harg16 : arg16.IsWhole) (arg17 : Memref sig .tc .vmem S4x1024 .f32) (harg17 : arg17.IsWhole) (arg18 : Memref sig .tc .vmem S4x1024 .f32) (harg18 : arg18.IsWhole) (arg19 : Memref sig .tc .vmem S4x1024 .f32) (harg19 : arg19.IsWhole) (arg20 : Memref sig .tc .vmem S4x1024 .f32) (harg20 : arg20.IsWhole) (arg21 : Memref sig .tc .vmem S252x8x512 .i8) (harg21 : arg21.IsWhole) (arg22 : Memref sig .tc .vmem S252x8x1024 .i8) (harg22 : arg22.IsWhole) (arg23 : Memref sig .tc .vmem S252x8x1024 .i8) (harg23 : arg23.IsWhole) (arg24 : Memref sig .tc .vmem S4x252x8x32 .i8) (harg24 : arg24.IsWhole) (arg25 : Memref sig .tc .vmem S4x14x8x18 .i8) (harg25 : arg25.IsWhole) (arg26 : Memref sig .tc .vmem S4x14x8x18 .i8) (harg26 : arg26.IsWhole) (arg27 : Memref sig .tc .vmem S252x8x1024 .f32) (harg27 : arg27.IsWhole) (arg28 : Memref sig .tc .vmem S512x1024 .bf16) (harg28 : arg28.IsWhole) (arg29 : Memref sig .tc .vmem S1024x512 .bf16) (harg29 : arg29.IsWhole) (arg30 : Memref sig .tc .vmem S4x128x1024 .bf16) (harg30 : arg30.IsWhole) (arg31 : Memref sig .tc .vmem S9x8x1024 .bf16) (harg31 : arg31.IsWhole) (arg32 : Memref sig .tc .vmem S16x20x8x1024 .bf16) (harg32 : arg32.IsWhole) (arg33 : Memref sig .tc .vmem S252x8x1024 .f32) (harg33 : arg33.IsWhole) (arg34 : Memref sig .tc .vmem S252x8x1024 .f32) (harg34 : arg34.IsWhole) (arg35 : Memref sig .tc .vmem S144x512 .bf16) (harg35 : arg35.IsWhole) (arg36 : Memref sig .tc .vmem S144x1024 .bf16) (harg36 : arg36.IsWhole) (arg37 : Memref sig .tc .vmem S4x252x8x128 .f32) (harg37 : arg37.IsWhole) (arg38 : Memref sig .tc .vmem S2x144x1024 .f32) (harg38 : arg38.IsWhole) (arg39 : Memref sig .tc .vmem S8x1024 .f32) (harg39 : arg39.IsWhole) (arg40 : Memref sig .tc .vmem S8x128 .f32) (harg40 : arg40.IsWhole) (arg41 : Memref sig .tc .vmem S8x1024 .f32) (harg41 : arg41.IsWhole)
    (x0 : Vec F S1 .f32) (x1 : Vec F S4 .f32) (x2 : Vec F S4 .f32) (x3 : Vec F S4 .f32) (x4 : Vec F S252x8x512 .bf16) (x5 : Vec F S1x512 .f32) (x6 : Vec F S1x512 .f32) (x7 : Vec F S256x1024 .i8) (x8 : Vec F S1x1024 .f32) (x9 : Vec F S1x1024 .f32) (x10 : Vec F S3x3x1024 .i8) (x11 : Vec F S1x1024 .f32) (x12 : Vec F S1x1024 .f32) (x13 : Vec F S1x1024 .f32) (x14 : Vec F S34x4x1024 .i8) (x15 : Vec F S4x34 .f32) (x16 : Vec F S4x32x1024 .i8) (x17 : Vec F S4x1024 .f32) (x18 : Vec F S4x1024 .f32) (x19 : Vec F S4x1024 .f32) (x20 : Vec F S4x1024 .f32) :
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d)) -∗ K ⟨⟩))
          ⊢ wp frame (wpE (defs₀ (F := F)) Variants.none c none) E (cc0_vss_front arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41) K := by
    intro E K
    simp only [cc0_vss_front_eq_skeleton]; unfold cc0_vss_front_skel
    simp only [k0_part767_eq_skeleton, k0_part768_eq_skeleton, k0_part769_eq_skeleton, k0_part770_eq_skeleton, k0_part771_eq_skeleton, k0_part772_eq_skeleton, k0_part773_eq_skeleton, k0_part774_eq_skeleton, k0_part775_eq_skeleton, k0_part776_eq_skeleton, k0_part777_eq_skeleton, k0_part778_eq_skeleton, k0_part779_eq_skeleton, k0_part780_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, ⟨%ds12, %fs12, -, HS12⟩, ⟨%ds13, %fs13, -, HS13⟩, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    isplitl [H19]
    · iexists _; isplitr; · ipureintro; exact harg19.read_unread _
      iexact H19
    isplitl [H20]
    · iexists _; isplitr; · ipureintro; exact harg20.read_unread _
      iexact H20
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    isplitl [H26]
    · iexists _, _; isplitr; swap; · iexact H26
      ipureintro; rfl
    isplitl [H27]
    · iexists _, _; isplitr; swap; · iexact H27
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    isplitl [HS10]
    · iexists _, _; isplitr; swap; · iexact HS10
      ipureintro; rfl
    isplitl [HS11]
    · iexists _, _; isplitr; swap; · iexact HS11
      ipureintro; rfl
    isplitl [HS12]
    · iexists _, _; isplitr; swap; · iexact HS12
      ipureintro; rfl
    iexists _, _; isplitr; swap; · iexact HS13
    ipureintro; rfl

end Cert.Front.Gen

end
-- ==== Proof.FrontRuns.lean ====
/- What the frame of the front call is stated with: its staging memrefs at a point, its scratch operands as memrefs, and the frame claim from a run
   that forgets some outputs. -/
module

public import proofs.«01_k».proof.Proof.Gen.Front.Frame
public import proofs.«01_k».proof.Proof.Gen.Front.Launch
public import proofs.«01_k».proof.Proof.Gen.Front.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Front.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame claim's post from the frame run's -/

set_option maxHeartbeats 1680000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post at any `F`. -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      (Pipeline.RDat.FramePost.arr_in h c 7 rfl).trans ((hA c 7).trans (V_main_arg4 m c)),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      (Pipeline.RDat.FramePost.arr_in h c 10 rfl).trans ((hA c 10).trans (V_main_arg7 m c)),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      (Pipeline.RDat.FramePost.arr_in h c 15 rfl).trans ((hA c 15).trans (V_main_arg12 m c)),
      (Pipeline.RDat.FramePost.arr_in h c 1 rfl).trans ((hA c 1).trans (V_main_arg13 m c)),
      (Pipeline.RDat.FramePost.arr_in h c 2 rfl).trans ((hA c 2).trans (V_main_arg14 m c)),
      (Pipeline.RDat.FramePost.arr_in h c 3 rfl).trans ((hA c 3).trans (V_main_arg15 m c)),
      (Pipeline.RDat.FramePost.arr_in h c 16 rfl).trans ((hA c 16).trans (V_main_arg16 m c)),
      (Pipeline.RDat.FramePost.arr_in h c 17 rfl).trans ((hA c 17).trans (V_main_arg17 m c)),
      (Pipeline.RDat.FramePost.arr_in h c 18 rfl).trans ((hA c 18).trans (V_main_arg18 m c)),
      ((h c).2 main_arg19 (Pipeline.mem_restRefs_of main_arg19 (by decide) (by decide))).trans (V_main_arg19 m c),
      (Pipeline.RDat.FramePost.arr_in h c 20 rfl).trans ((hA c 20).trans (V_main_arg20 m c))⟩) h

/-! ## The kernel body on any staging memrefs: a subtype the run finds -/

/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 0
abbrev ms0_1 (t : Fin cfg0.N) : Memref sig .tc .smem S4 .f32 := win0_1.stage (cfg0.slots t 1)
abbrev hs0_1 (t : Fin cfg0.N) : (ms0_1 t).IsWhole := hstage0_1 0
abbrev ms0_2 (t : Fin cfg0.N) : Memref sig .tc .smem S4 .f32 := win0_2.stage (cfg0.slots t 2)
abbrev hs0_2 (t : Fin cfg0.N) : (ms0_2 t).IsWhole := hstage0_2 0
abbrev ms0_3 (t : Fin cfg0.N) : Memref sig .tc .smem S4 .f32 := win0_3.stage (cfg0.slots t 3)
abbrev hs0_3 (t : Fin cfg0.N) : (ms0_3 t).IsWhole := hstage0_3 0
abbrev ms0_4 (t : Fin cfg0.N) : Memref sig .tc .vmem S252x8x512 .bf16 := win0_4.stage (cfg0.slots t 4)
abbrev hs0_4 (t : Fin cfg0.N) : (ms0_4 t).IsWhole := hstage0_4 0
abbrev ms0_5 (t : Fin cfg0.N) : Memref sig .tc .vmem S1x512 .f32 := win0_5.stage (cfg0.slots t 5)
abbrev hs0_5 (t : Fin cfg0.N) : (ms0_5 t).IsWhole := hstage0_5 0
abbrev ms0_6 (t : Fin cfg0.N) : Memref sig .tc .vmem S1x512 .f32 := win0_6.stage (cfg0.slots t 6)
abbrev hs0_6 (t : Fin cfg0.N) : (ms0_6 t).IsWhole := hstage0_6 0
abbrev ms0_7 (t : Fin cfg0.N) : Memref sig .tc .vmem S256x1024 .i8 := win0_7.stage (cfg0.slots t 7)
abbrev hs0_7 (t : Fin cfg0.N) : (ms0_7 t).IsWhole := hstage0_7 0
abbrev ms0_8 (t : Fin cfg0.N) : Memref sig .tc .vmem S1x1024 .f32 := win0_8.stage (cfg0.slots t 8)
abbrev hs0_8 (t : Fin cfg0.N) : (ms0_8 t).IsWhole := hstage0_8 0
abbrev ms0_9 (t : Fin cfg0.N) : Memref sig .tc .vmem S1x1024 .f32 := win0_9.stage (cfg0.slots t 9)
abbrev hs0_9 (t : Fin cfg0.N) : (ms0_9 t).IsWhole := hstage0_9 0
abbrev ms0_10 (t : Fin cfg0.N) : Memref sig .tc .vmem S3x3x1024 .i8 := win0_10.stage (cfg0.slots t 10)
abbrev hs0_10 (t : Fin cfg0.N) : (ms0_10 t).IsWhole := hstage0_10 0
abbrev ms0_11 (t : Fin cfg0.N) : Memref sig .tc .vmem S1x1024 .f32 := win0_11.stage (cfg0.slots t 11)
abbrev hs0_11 (t : Fin cfg0.N) : (ms0_11 t).IsWhole := hstage0_11 0
abbrev ms0_12 (t : Fin cfg0.N) : Memref sig .tc .vmem S1x1024 .f32 := win0_12.stage (cfg0.slots t 12)
abbrev hs0_12 (t : Fin cfg0.N) : (ms0_12 t).IsWhole := hstage0_12 0
abbrev ms0_13 (t : Fin cfg0.N) : Memref sig .tc .vmem S1x1024 .f32 := win0_13.stage (cfg0.slots t 13)
abbrev hs0_13 (t : Fin cfg0.N) : (ms0_13 t).IsWhole := hstage0_13 0
abbrev ms0_14 (t : Fin cfg0.N) : Memref sig .tc .vmem S34x4x1024 .i8 := win0_14.stage (cfg0.slots t 14)
abbrev hs0_14 (t : Fin cfg0.N) : (ms0_14 t).IsWhole := hstage0_14 0
abbrev ms0_15 (t : Fin cfg0.N) : Memref sig .tc .vmem S4x34 .f32 := win0_15.stage (cfg0.slots t 15)
abbrev hs0_15 (t : Fin cfg0.N) : (ms0_15 t).IsWhole := hstage0_15 0
abbrev ms0_16 (t : Fin cfg0.N) : Memref sig .tc .vmem S4x32x1024 .i8 := win0_16.stage (cfg0.slots t 16)
abbrev hs0_16 (t : Fin cfg0.N) : (ms0_16 t).IsWhole := hstage0_16 0
abbrev ms0_17 (t : Fin cfg0.N) : Memref sig .tc .vmem S4x1024 .f32 := win0_17.stage (cfg0.slots t 17)
abbrev hs0_17 (t : Fin cfg0.N) : (ms0_17 t).IsWhole := hstage0_17 0
abbrev ms0_18 (t : Fin cfg0.N) : Memref sig .tc .vmem S4x1024 .f32 := win0_18.stage (cfg0.slots t 18)
abbrev hs0_18 (t : Fin cfg0.N) : (ms0_18 t).IsWhole := hstage0_18 0
abbrev ms0_19 (t : Fin cfg0.N) : Memref sig .tc .vmem S4x1024 .f32 := win0_19.stage (cfg0.slots t 19)
abbrev hs0_19 (t : Fin cfg0.N) : (ms0_19 t).IsWhole := hstage0_19 0
abbrev ms0_20 (t : Fin cfg0.N) : Memref sig .tc .vmem S4x1024 .f32 := win0_20.stage (cfg0.slots t 20)
abbrev hs0_20 (t : Fin cfg0.N) : (ms0_20 t).IsWhole := hstage0_20 0
abbrev ms0_21 (t : Fin cfg0.N) : Memref sig .tc .vmem S252x8x512 .i8 := win0_21.stage (cfg0.slots t 21)
abbrev hs0_21 (t : Fin cfg0.N) : (ms0_21 t).IsWhole := hstage0_21 0
abbrev ms0_22 (t : Fin cfg0.N) : Memref sig .tc .vmem S252x8x1024 .i8 := win0_22.stage (cfg0.slots t 22)
abbrev hs0_22 (t : Fin cfg0.N) : (ms0_22 t).IsWhole := hstage0_22 0
abbrev ms0_23 (t : Fin cfg0.N) : Memref sig .tc .vmem S252x8x1024 .i8 := win0_23.stage (cfg0.slots t 23)
abbrev hs0_23 (t : Fin cfg0.N) : (ms0_23 t).IsWhole := hstage0_23 0
abbrev ms0_24 (t : Fin cfg0.N) : Memref sig .tc .vmem S4x252x8x32 .i8 := win0_24.stage (cfg0.slots t 24)
abbrev hs0_24 (t : Fin cfg0.N) : (ms0_24 t).IsWhole := hstage0_24 0
abbrev ms0_25 (t : Fin cfg0.N) : Memref sig .tc .vmem S4x14x8x18 .i8 := win0_25.stage (cfg0.slots t 25)
abbrev hs0_25 (t : Fin cfg0.N) : (ms0_25 t).IsWhole := hstage0_25 0
abbrev ms0_26 (t : Fin cfg0.N) : Memref sig .tc .vmem S4x14x8x18 .i8 := win0_26.stage (cfg0.slots t 26)
abbrev hs0_26 (t : Fin cfg0.N) : (ms0_26 t).IsWhole := hstage0_26 0
abbrev ms0_27 (t : Fin cfg0.N) : Memref sig .tc .vmem S252x8x1024 .f32 := win0_27.stage (cfg0.slots t 27)
abbrev hs0_27 (t : Fin cfg0.N) : (ms0_27 t).IsWhole := hstage0_27 0
/-- The scratch operands: whole scoped buffers of the kernel's own, passed beside the windows. -/
abbrev scM0_0 : Memref sig .tc .vmem S512x1024 .bf16 := Memref.whole cc0_scratch0
abbrev scM0_1 : Memref sig .tc .vmem S1024x512 .bf16 := Memref.whole cc0_scratch1
abbrev scM0_2 : Memref sig .tc .vmem S4x128x1024 .bf16 := Memref.whole cc0_scratch2
abbrev scM0_3 : Memref sig .tc .vmem S9x8x1024 .bf16 := Memref.whole cc0_scratch3
abbrev scM0_4 : Memref sig .tc .vmem S16x20x8x1024 .bf16 := Memref.whole cc0_scratch4
abbrev scM0_5 : Memref sig .tc .vmem S252x8x1024 .f32 := Memref.whole cc0_scratch5
abbrev scM0_6 : Memref sig .tc .vmem S252x8x1024 .f32 := Memref.whole cc0_scratch6
abbrev scM0_7 : Memref sig .tc .vmem S144x512 .bf16 := Memref.whole cc0_scratch7
abbrev scM0_8 : Memref sig .tc .vmem S144x1024 .bf16 := Memref.whole cc0_scratch8
abbrev scM0_9 : Memref sig .tc .vmem S4x252x8x128 .f32 := Memref.whole cc0_scratch9
abbrev scM0_10 : Memref sig .tc .vmem S2x144x1024 .f32 := Memref.whole cc0_scratch10
abbrev scM0_11 : Memref sig .tc .vmem S8x1024 .f32 := Memref.whole cc0_scratch11
abbrev scM0_12 : Memref sig .tc .vmem S8x128 .f32 := Memref.whole cc0_scratch12
abbrev scM0_13 : Memref sig .tc .vmem S8x1024 .f32 := Memref.whole cc0_scratch13

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d)) ∗ (∃ r, prngReg c r)) := by
  unfold Pipeline.ΦA; rw [scopedRest0_eq]; simp only [scM0_0, scM0_1, scM0_2, scM0_3, scM0_4, scM0_5, scM0_6, scM0_7, scM0_8, scM0_9, scM0_10, scM0_11, scM0_12, scM0_13, owns_whole]; try rfl

end Cert.Front.Gen

end
-- ==== Proof.FrontFrame.lean ====
/- The front call's frame (Front): every run ends, with the arguments unchanged and every counter at zero. -/
module

public import proofs.«01_k».proof.Proof.FrontRun
public import proofs.«01_k».proof.Proof.FrontRuns
public import Idealize.ShloMosaic.Lib.Claim

@[expose] public section

-- membership in a rectangle of production extents (`View.cover_of_tiled`): the elaborator's structural look
-- recurses once per coordinate of the long axes
set_option maxRecDepth 16384

noncomputable section

namespace Cert.Front.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (21, 22, 23, 24, 25, 26, 27): nothing reads what the kernel leaves in them, so nothing
    of it is named (Lib/Pipeline/Dat.lean `Dat.toRForget`). -/
def forgets0 : Fin 28 → Bool := fun w => w.val == 21 || w.val == 22 || w.val == 23 || w.val == 24 || w.val == 25 || w.val == 26 || w.val == 27

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, h⟩ => Pipeline.Dat.unnamed (cfg := cfg0) ⟨21, h⟩ t
    | ⟨22, h⟩ => Pipeline.Dat.unnamed (cfg := cfg0) ⟨22, h⟩ t
    | ⟨23, h⟩ => Pipeline.Dat.unnamed (cfg := cfg0) ⟨23, h⟩ t
    | ⟨24, h⟩ => Pipeline.Dat.unnamed (cfg := cfg0) ⟨24, h⟩ t
    | ⟨25, h⟩ => Pipeline.Dat.unnamed (cfg := cfg0) ⟨25, h⟩ t
    | ⟨26, h⟩ => Pipeline.Dat.unnamed (cfg := cfg0) ⟨26, h⟩ t
    | ⟨27, h⟩ => Pipeline.Dat.unnamed (cfg := cfg0) ⟨27, h⟩ t
    | ⟨_ + 28, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare d)
    ∗ (∃ d, owns (c : Thread nD τ) (ms0_26 t) fullShare d)
    ∗ (∃ d, owns (c : Thread nD τ) (ms0_27 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare d)
    ∗ (∃ d, owns (c : Thread nD τ) (ms0_26 t) fullShare d)
    ∗ (∃ d, owns (c : Thread nD τ) (ms0_27 t) fullShare d))

set_option maxHeartbeats 4000000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20]
  rw [show (dats m 0 c).Φ t.castSucc = Pipeline.ΦA spec0 c from rfl, PhiA0_eq]
  iintro ⟨⟨⟨HS0, HS1, HS2, HS3, HS4, HS5, HS6, HS7, HS8, HS9, HS10, HS11, HS12, HS13⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply ((kernelRun0_A c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  iintro ⟨H0, H1, H2, H3, H4, H5, H6, H7, H8, H9, H10, H11, H12, H13, H14, H15, H16, H17, H18, H19, H20, H21, H22, H23, H24, H25, H26, H27, HS0, HS1, HS2, HS3, HS4, HS5, HS6, HS7, HS8, HS9, HS10, HS11, HS12, HS13⟩
  isplitl [HS0 HS1 HS2 HS3 HS4 HS5 HS6 HS7 HS8 HS9 HS10 HS11 HS12 HS13 Hg]
  · isplitl [HS0 HS1 HS2 HS3 HS4 HS5 HS6 HS7 HS8 HS9 HS10 HS11 HS12 HS13]
    · isplitl [HS0]
      · iexact HS0
      isplitl [HS1]
      · iexact HS1
      isplitl [HS2]
      · iexact HS2
      isplitl [HS3]
      · iexact HS3
      isplitl [HS4]
      · iexact HS4
      isplitl [HS5]
      · iexact HS5
      isplitl [HS6]
      · iexact HS6
      isplitl [HS7]
      · iexact HS7
      isplitl [HS8]
      · iexact HS8
      isplitl [HS9]
      · iexact HS9
      isplitl [HS10]
      · iexact HS10
      isplitl [HS11]
      · iexact HS11
      isplitl [HS12]
      · iexact HS12
      iexact HS13
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 21, 22, 23, 24, 25, 26, 27) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_of_forget m ρ (fun c => (dats m 0 c).toRForget forgets0) (A_eq m) (run_main m ρ)

/-- The frame of the front call: every run ends, the arguments are unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.sem = fun _ => 0) :=
  θ_run_and (unchanged m ρ) ((θ_run defs _ _).mono (fun _ h => h.2) (run_main_quiescent m ρ))

end Cert.Front.Gen

end
-- ==== Proof.FrontIdealLoop.lean ====
/- The second loop of the front call (FrontIdeal): each trip runs, keeps what it reads, and leaves what it writes at some
   contents. -/
module

public import proofs.«01_k».proof.Proof.Gen.FrontIdeal.Loops

@[expose] public section

-- a LISTED loop's recursion (`pb_…` / `st_…`) and its successor equation apply the region's every parameter around the
-- recursive call; for a kernel with some forty operands and words (flash-attention forward) elaborating the recursion's
-- equation lemmas — realised in the recursion's own context, so a budget set on the `_succ` theorem does not reach
-- them — needs a deeper traversal and more heartbeats than Lean's defaults
set_option maxRecDepth 8192
set_option maxHeartbeats 4000000

noncomputable section

namespace Cert.FrontIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

set_option warn.classDefReducibility false in
/-- Before every trip the memrefs the trip reads are as at entry, and those it writes hold something. -/
@[sl_loop] def keeps_k0_t2 (𝒱 : Variants) (c : Dev nD) (bd : Option 𝒱.V) (E : Set ℕ) (arg0 : Memref sig .tc .smem S1 .f32) (harg0 : arg0.IsWhole) (arg1 : Memref sig .tc .smem S4 .f32) (harg1 : arg1.IsWhole) (arg2 : Memref sig .tc .smem S4 .f32) (harg2 : arg2.IsWhole) (arg3 : Memref sig .tc .smem S4 .f32) (harg3 : arg3.IsWhole) (arg4 : Memref sig .tc .vmem S252x8x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S256x1024 .i8) (harg7 : arg7.IsWhole) (arg8 : Memref sig .tc .vmem S1x1024 .f32) (harg8 : arg8.IsWhole) (arg9 : Memref sig .tc .vmem S1x1024 .f32) (harg9 : arg9.IsWhole) (arg10 : Memref sig .tc .vmem S3x3x1024 .i8) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S34x4x1024 .i8) (harg14 : arg14.IsWhole) (arg15 : Memref sig .tc .vmem S4x34 .f32) (harg15 : arg15.IsWhole) (arg16 : Memref sig .tc .vmem S4x32x1024 .i8) (harg16 : arg16.IsWhole) (arg17 : Memref sig .tc .vmem S4x1024 .f32) (harg17 : arg17.IsWhole) (arg18 : Memref sig .tc .vmem S4x1024 .f32) (harg18 : arg18.IsWhole) (arg19 : Memref sig .tc .vmem S4x1024 .f32) (harg19 : arg19.IsWhole) (arg20 : Memref sig .tc .vmem S4x1024 .f32) (harg20 : arg20.IsWhole) (arg21 : Memref sig .tc .vmem S252x8x512 .i8) (harg21 : arg21.IsWhole) (arg22 : Memref sig .tc .vmem S252x8x1024 .i8) (harg22 : arg22.IsWhole) (arg23 : Memref sig .tc .vmem S252x8x1024 .i8) (harg23 : arg23.IsWhole) (arg24 : Memref sig .tc .vmem S4x252x8x32 .i8) (harg24 : arg24.IsWhole) (arg25 : Memref sig .tc .vmem S4x14x8x18 .i8) (harg25 : arg25.IsWhole) (arg26 : Memref sig .tc .vmem S4x14x8x18 .i8) (harg26 : arg26.IsWhole) (arg27 : Memref sig .tc .vmem S252x8x1024 .f32) (harg27 : arg27.IsWhole) (arg28 : Memref sig .tc .vmem S512x1024 .bf16) (harg28 : arg28.IsWhole) (arg29 : Memref sig .tc .vmem S1024x512 .bf16) (harg29 : arg29.IsWhole) (arg30 : Memref sig .tc .vmem S4x128x1024 .bf16) (harg30 : arg30.IsWhole) (arg31 : Memref sig .tc .vmem S9x8x1024 .bf16) (harg31 : arg31.IsWhole) (arg32 : Memref sig .tc .vmem S16x20x8x1024 .bf16) (harg32 : arg32.IsWhole) (arg33 : Memref sig .tc .vmem S252x8x1024 .f32) (harg33 : arg33.IsWhole) (arg34 : Memref sig .tc .vmem S252x8x1024 .f32) (harg34 : arg34.IsWhole) (arg35 : Memref sig .tc .vmem S144x512 .bf16) (harg35 : arg35.IsWhole) (arg36 : Memref sig .tc .vmem S144x1024 .bf16) (harg36 : arg36.IsWhole) (arg37 : Memref sig .tc .vmem S4x252x8x128 .f32) (harg37 : arg37.IsWhole) (arg38 : Memref sig .tc .vmem S2x144x1024 .f32) (harg38 : arg38.IsWhole) (arg39 : Memref sig .tc .vmem S8x1024 .f32) (harg39 : arg39.IsWhole) (arg40 : Memref sig .tc .vmem S8x128 .f32) (harg40 : arg40.IsWhole) (arg41 : Memref sig .tc .vmem S8x1024 .f32) (harg41 : arg41.IsWhole) (v29 : FVec F S1x512 .f32) (v32 : FVec F S1x512 .f32) (v483 : FVec F S4x1024 .f32) (X_arg29 : BufTy.Contents (Elt F) arg29.view.ty) (X_arg31 : BufTy.Contents (Elt F) arg31.view.ty) (X_arg32 : BufTy.Contents (Elt F) arg32.view.ty) (X_arg39 : BufTy.Contents (Elt F) arg39.view.ty) (X_arg40 : BufTy.Contents (Elt F) arg40.view.ty) :
    Cert.FrontIdeal.Gen.LoopInvTy_k0_t2 (F := F) Unit ℕ (UR sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v29 v32 v483 where
  inv _ _ := iprop((arg29.view.loc (c : Thread nD τ) ↦[arg29.view.set]{fullShare} X_arg29) ∗ (arg31.view.loc (c : Thread nD τ) ↦[arg31.view.set]{fullShare} X_arg31) ∗ (arg32.view.loc (c : Thread nD τ) ↦[arg32.view.set]{fullShare} X_arg32) ∗ (arg39.view.loc (c : Thread nD τ) ↦[arg39.view.set]{fullShare} X_arg39) ∗ (arg40.view.loc (c : Thread nD τ) ↦[arg40.view.set]{fullShare} X_arg40) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗ (∃ f, (arg33.view.loc (c : Thread nD τ) ↦[arg33.view.set]{fullShare} f)) ∗ (∃ f, (arg36.view.loc (c : Thread nD τ) ↦[arg36.view.set]{fullShare} f)) ∗ (∃ f, (arg37.view.loc (c : Thread nD τ) ↦[arg37.view.set]{fullShare} f)))
  step k acc := by
    have hk : k.val < 14 := Nat.lt_of_lt_of_le k.isLt k0_t2_abs.2.1
    iintro ⟨HR_arg29, HR_arg31, HR_arg32, HR_arg39, HR_arg40, ⟨%f_arg23, HW_arg23⟩, ⟨%f_arg24, HW_arg24⟩, ⟨%f_arg25, HW_arg25⟩, ⟨%f_arg26, HW_arg26⟩, ⟨%f_arg33, HW_arg33⟩, ⟨%f_arg36, HW_arg36⟩, ⟨%f_arg37, HW_arg37⟩⟩
    unfold k0_t2_body
    sl_exec
    sl_step
    isplitl [HR_arg29]; · iexact HR_arg29
    isplitl [HR_arg31]; · iexact HR_arg31
    isplitl [HR_arg32]; · iexact HR_arg32
    isplitl [HR_arg39]; · iexact HR_arg39
    isplitl [HR_arg40]; · iexact HR_arg40
    isplitl [HW_arg23]; · iexists _; iexact HW_arg23
    isplitl [HW_arg24]; · iexists _; iexact HW_arg24
    isplitl [HW_arg25]; · iexists _; iexact HW_arg25
    isplitl [HW_arg26]; · iexists _; iexact HW_arg26
    isplitl [HW_arg33]; · iexists _; iexact HW_arg33
    isplitl [HW_arg36]; · iexists _; iexact HW_arg36
    iexists _; iexact HW_arg37

end Cert.FrontIdeal.Gen

end
-- ==== Proof.FrontIdealLoop3.lean ====
/- The third loop of the front call (FrontIdeal): each trip runs, keeps what it reads, and leaves what it writes at some
   contents. -/
module

public import proofs.«01_k».proof.Proof.Gen.FrontIdeal.Loops

@[expose] public section

-- a LISTED loop's recursion (`pb_…` / `st_…`) and its successor equation apply the region's every parameter around the
-- recursive call; for a kernel with some forty operands and words (flash-attention forward) elaborating the recursion's
-- equation lemmas — realised in the recursion's own context, so a budget set on the `_succ` theorem does not reach
-- them — needs a deeper traversal and more heartbeats than Lean's defaults
set_option maxRecDepth 8192
set_option maxHeartbeats 4000000

noncomputable section

namespace Cert.FrontIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

set_option warn.classDefReducibility false in
/-- Before every trip the memrefs the trip reads are as at entry, and those it writes hold something. -/
@[sl_loop] def keeps_k0_t3 (𝒱 : Variants) (c : Dev nD) (bd : Option 𝒱.V) (E : Set ℕ) (arg0 : Memref sig .tc .smem S1 .f32) (harg0 : arg0.IsWhole) (arg1 : Memref sig .tc .smem S4 .f32) (harg1 : arg1.IsWhole) (arg2 : Memref sig .tc .smem S4 .f32) (harg2 : arg2.IsWhole) (arg3 : Memref sig .tc .smem S4 .f32) (harg3 : arg3.IsWhole) (arg4 : Memref sig .tc .vmem S252x8x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S256x1024 .i8) (harg7 : arg7.IsWhole) (arg8 : Memref sig .tc .vmem S1x1024 .f32) (harg8 : arg8.IsWhole) (arg9 : Memref sig .tc .vmem S1x1024 .f32) (harg9 : arg9.IsWhole) (arg10 : Memref sig .tc .vmem S3x3x1024 .i8) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S34x4x1024 .i8) (harg14 : arg14.IsWhole) (arg15 : Memref sig .tc .vmem S4x34 .f32) (harg15 : arg15.IsWhole) (arg16 : Memref sig .tc .vmem S4x32x1024 .i8) (harg16 : arg16.IsWhole) (arg17 : Memref sig .tc .vmem S4x1024 .f32) (harg17 : arg17.IsWhole) (arg18 : Memref sig .tc .vmem S4x1024 .f32) (harg18 : arg18.IsWhole) (arg19 : Memref sig .tc .vmem S4x1024 .f32) (harg19 : arg19.IsWhole) (arg20 : Memref sig .tc .vmem S4x1024 .f32) (harg20 : arg20.IsWhole) (arg21 : Memref sig .tc .vmem S252x8x512 .i8) (harg21 : arg21.IsWhole) (arg22 : Memref sig .tc .vmem S252x8x1024 .i8) (harg22 : arg22.IsWhole) (arg23 : Memref sig .tc .vmem S252x8x1024 .i8) (harg23 : arg23.IsWhole) (arg24 : Memref sig .tc .vmem S4x252x8x32 .i8) (harg24 : arg24.IsWhole) (arg25 : Memref sig .tc .vmem S4x14x8x18 .i8) (harg25 : arg25.IsWhole) (arg26 : Memref sig .tc .vmem S4x14x8x18 .i8) (harg26 : arg26.IsWhole) (arg27 : Memref sig .tc .vmem S252x8x1024 .f32) (harg27 : arg27.IsWhole) (arg28 : Memref sig .tc .vmem S512x1024 .bf16) (harg28 : arg28.IsWhole) (arg29 : Memref sig .tc .vmem S1024x512 .bf16) (harg29 : arg29.IsWhole) (arg30 : Memref sig .tc .vmem S4x128x1024 .bf16) (harg30 : arg30.IsWhole) (arg31 : Memref sig .tc .vmem S9x8x1024 .bf16) (harg31 : arg31.IsWhole) (arg32 : Memref sig .tc .vmem S16x20x8x1024 .bf16) (harg32 : arg32.IsWhole) (arg33 : Memref sig .tc .vmem S252x8x1024 .f32) (harg33 : arg33.IsWhole) (arg34 : Memref sig .tc .vmem S252x8x1024 .f32) (harg34 : arg34.IsWhole) (arg35 : Memref sig .tc .vmem S144x512 .bf16) (harg35 : arg35.IsWhole) (arg36 : Memref sig .tc .vmem S144x1024 .bf16) (harg36 : arg36.IsWhole) (arg37 : Memref sig .tc .vmem S4x252x8x128 .f32) (harg37 : arg37.IsWhole) (arg38 : Memref sig .tc .vmem S2x144x1024 .f32) (harg38 : arg38.IsWhole) (arg39 : Memref sig .tc .vmem S8x1024 .f32) (harg39 : arg39.IsWhole) (arg40 : Memref sig .tc .vmem S8x128 .f32) (harg40 : arg40.IsWhole) (arg41 : Memref sig .tc .vmem S8x1024 .f32) (harg41 : arg41.IsWhole) (v29 : FVec F S1x512 .f32) (v32 : FVec F S1x512 .f32) (v483 : FVec F S4x1024 .f32) (X_arg2 : BufTy.Contents (Elt F) arg2.view.ty) (X_arg3 : BufTy.Contents (Elt F) arg3.view.ty) (X_arg30 : BufTy.Contents (Elt F) arg30.view.ty) (X_arg33 : BufTy.Contents (Elt F) arg33.view.ty) (X_arg37 : BufTy.Contents (Elt F) arg37.view.ty) (X_arg41 : BufTy.Contents (Elt F) arg41.view.ty) (init : FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32) :
    Cert.FrontIdeal.Gen.LoopInvTy_k0_t3 (F := F) Unit ℕ (UR sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v29 v32 v483 init where
  inv _ _ := iprop((arg2.view.loc (c : Thread nD τ) ↦[arg2.view.set]{fullShare} X_arg2) ∗ (arg3.view.loc (c : Thread nD τ) ↦[arg3.view.set]{fullShare} X_arg3) ∗ (arg30.view.loc (c : Thread nD τ) ↦[arg30.view.set]{fullShare} X_arg30) ∗ (arg33.view.loc (c : Thread nD τ) ↦[arg33.view.set]{fullShare} X_arg33) ∗ (arg37.view.loc (c : Thread nD τ) ↦[arg37.view.set]{fullShare} X_arg37) ∗ (arg41.view.loc (c : Thread nD τ) ↦[arg41.view.set]{fullShare} X_arg41) ∗ (∃ f, (arg27.view.loc (c : Thread nD τ) ↦[arg27.view.set]{fullShare} f)) ∗ (∃ f, (arg34.view.loc (c : Thread nD τ) ↦[arg34.view.set]{fullShare} f)) ∗ (∃ f, (arg38.view.loc (c : Thread nD τ) ↦[arg38.view.set]{fullShare} f)))
  step k acc := by
    have hk : k.val < 14 := Nat.lt_of_lt_of_le k.isLt k0_t3_abs.2.1
    iintro ⟨HR_arg2, HR_arg3, HR_arg30, HR_arg33, HR_arg37, HR_arg41, ⟨%f_arg27, HW_arg27⟩, ⟨%f_arg34, HW_arg34⟩, ⟨%f_arg38, HW_arg38⟩⟩
    unfold k0_t3_body
    sl_exec
    sl_step
    isplitl [HR_arg2]; · iexact HR_arg2
    isplitl [HR_arg3]; · iexact HR_arg3
    isplitl [HR_arg30]; · iexact HR_arg30
    isplitl [HR_arg33]; · iexact HR_arg33
    isplitl [HR_arg37]; · iexact HR_arg37
    isplitl [HR_arg41]; · iexact HR_arg41
    isplitl [HW_arg27]; · iexists _; iexact HW_arg27
    isplitl [HW_arg34]; · iexists _; iexact HW_arg34
    iexists _; iexact HW_arg38

end Cert.FrontIdeal.Gen

end
-- ==== Proof.FrontIdealLoop4.lean ====
/- The fourth loop of the front call (FrontIdeal): each trip runs, keeps what it reads, and leaves what it writes at some
   contents. -/
module

public import proofs.«01_k».proof.Proof.Gen.FrontIdeal.Loops

@[expose] public section

-- a LISTED loop's recursion (`pb_…` / `st_…`) and its successor equation apply the region's every parameter around the
-- recursive call; for a kernel with some forty operands and words (flash-attention forward) elaborating the recursion's
-- equation lemmas — realised in the recursion's own context, so a budget set on the `_succ` theorem does not reach
-- them — needs a deeper traversal and more heartbeats than Lean's defaults
set_option maxRecDepth 8192
set_option maxHeartbeats 4000000

noncomputable section

namespace Cert.FrontIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

set_option warn.classDefReducibility false in
/-- Before every trip the memrefs the trip reads are as at entry, and those it writes hold something. -/
@[sl_loop] def keeps_k0_t4 (𝒱 : Variants) (c : Dev nD) (bd : Option 𝒱.V) (E : Set ℕ) (arg0 : Memref sig .tc .smem S1 .f32) (harg0 : arg0.IsWhole) (arg1 : Memref sig .tc .smem S4 .f32) (harg1 : arg1.IsWhole) (arg2 : Memref sig .tc .smem S4 .f32) (harg2 : arg2.IsWhole) (arg3 : Memref sig .tc .smem S4 .f32) (harg3 : arg3.IsWhole) (arg4 : Memref sig .tc .vmem S252x8x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S256x1024 .i8) (harg7 : arg7.IsWhole) (arg8 : Memref sig .tc .vmem S1x1024 .f32) (harg8 : arg8.IsWhole) (arg9 : Memref sig .tc .vmem S1x1024 .f32) (harg9 : arg9.IsWhole) (arg10 : Memref sig .tc .vmem S3x3x1024 .i8) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S34x4x1024 .i8) (harg14 : arg14.IsWhole) (arg15 : Memref sig .tc .vmem S4x34 .f32) (harg15 : arg15.IsWhole) (arg16 : Memref sig .tc .vmem S4x32x1024 .i8) (harg16 : arg16.IsWhole) (arg17 : Memref sig .tc .vmem S4x1024 .f32) (harg17 : arg17.IsWhole) (arg18 : Memref sig .tc .vmem S4x1024 .f32) (harg18 : arg18.IsWhole) (arg19 : Memref sig .tc .vmem S4x1024 .f32) (harg19 : arg19.IsWhole) (arg20 : Memref sig .tc .vmem S4x1024 .f32) (harg20 : arg20.IsWhole) (arg21 : Memref sig .tc .vmem S252x8x512 .i8) (harg21 : arg21.IsWhole) (arg22 : Memref sig .tc .vmem S252x8x1024 .i8) (harg22 : arg22.IsWhole) (arg23 : Memref sig .tc .vmem S252x8x1024 .i8) (harg23 : arg23.IsWhole) (arg24 : Memref sig .tc .vmem S4x252x8x32 .i8) (harg24 : arg24.IsWhole) (arg25 : Memref sig .tc .vmem S4x14x8x18 .i8) (harg25 : arg25.IsWhole) (arg26 : Memref sig .tc .vmem S4x14x8x18 .i8) (harg26 : arg26.IsWhole) (arg27 : Memref sig .tc .vmem S252x8x1024 .f32) (harg27 : arg27.IsWhole) (arg28 : Memref sig .tc .vmem S512x1024 .bf16) (harg28 : arg28.IsWhole) (arg29 : Memref sig .tc .vmem S1024x512 .bf16) (harg29 : arg29.IsWhole) (arg30 : Memref sig .tc .vmem S4x128x1024 .bf16) (harg30 : arg30.IsWhole) (arg31 : Memref sig .tc .vmem S9x8x1024 .bf16) (harg31 : arg31.IsWhole) (arg32 : Memref sig .tc .vmem S16x20x8x1024 .bf16) (harg32 : arg32.IsWhole) (arg33 : Memref sig .tc .vmem S252x8x1024 .f32) (harg33 : arg33.IsWhole) (arg34 : Memref sig .tc .vmem S252x8x1024 .f32) (harg34 : arg34.IsWhole) (arg35 : Memref sig .tc .vmem S144x512 .bf16) (harg35 : arg35.IsWhole) (arg36 : Memref sig .tc .vmem S144x1024 .bf16) (harg36 : arg36.IsWhole) (arg37 : Memref sig .tc .vmem S4x252x8x128 .f32) (harg37 : arg37.IsWhole) (arg38 : Memref sig .tc .vmem S2x144x1024 .f32) (harg38 : arg38.IsWhole) (arg39 : Memref sig .tc .vmem S8x1024 .f32) (harg39 : arg39.IsWhole) (arg40 : Memref sig .tc .vmem S8x128 .f32) (harg40 : arg40.IsWhole) (arg41 : Memref sig .tc .vmem S8x1024 .f32) (harg41 : arg41.IsWhole) (v29 : FVec F S1x512 .f32) (v32 : FVec F S1x512 .f32) (v483 : FVec F S4x1024 .f32) (X_arg2 : BufTy.Contents (Elt F) arg2.view.ty) (X_arg3 : BufTy.Contents (Elt F) arg3.view.ty) (X_arg30 : BufTy.Contents (Elt F) arg30.view.ty) (X_arg33 : BufTy.Contents (Elt F) arg33.view.ty) (X_arg37 : BufTy.Contents (Elt F) arg37.view.ty) (X_arg41 : BufTy.Contents (Elt F) arg41.view.ty) (init : FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32 × FVec F S8x128 .f32) :
    Cert.FrontIdeal.Gen.LoopInvTy_k0_t4 (F := F) Unit ℕ (UR sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v29 v32 v483 init where
  inv _ _ := iprop((arg2.view.loc (c : Thread nD τ) ↦[arg2.view.set]{fullShare} X_arg2) ∗ (arg3.view.loc (c : Thread nD τ) ↦[arg3.view.set]{fullShare} X_arg3) ∗ (arg30.view.loc (c : Thread nD τ) ↦[arg30.view.set]{fullShare} X_arg30) ∗ (arg33.view.loc (c : Thread nD τ) ↦[arg33.view.set]{fullShare} X_arg33) ∗ (arg37.view.loc (c : Thread nD τ) ↦[arg37.view.set]{fullShare} X_arg37) ∗ (arg41.view.loc (c : Thread nD τ) ↦[arg41.view.set]{fullShare} X_arg41) ∗ (∃ f, (arg27.view.loc (c : Thread nD τ) ↦[arg27.view.set]{fullShare} f)) ∗ (∃ f, (arg34.view.loc (c : Thread nD τ) ↦[arg34.view.set]{fullShare} f)) ∗ (∃ f, (arg38.view.loc (c : Thread nD τ) ↦[arg38.view.set]{fullShare} f)))
  step k acc := by
    have hk : k.val < 18 := Nat.lt_of_lt_of_le k.isLt k0_t4_abs.2.1
    iintro ⟨HR_arg2, HR_arg3, HR_arg30, HR_arg33, HR_arg37, HR_arg41, ⟨%f_arg27, HW_arg27⟩, ⟨%f_arg34, HW_arg34⟩, ⟨%f_arg38, HW_arg38⟩⟩
    unfold k0_t4_body
    sl_exec
    sl_step
    isplitl [HR_arg2]; · iexact HR_arg2
    isplitl [HR_arg3]; · iexact HR_arg3
    isplitl [HR_arg30]; · iexact HR_arg30
    isplitl [HR_arg33]; · iexact HR_arg33
    isplitl [HR_arg37]; · iexact HR_arg37
    isplitl [HR_arg41]; · iexact HR_arg41
    isplitl [HW_arg27]; · iexists _; iexact HW_arg27
    isplitl [HW_arg34]; · iexists _; iexact HW_arg34
    iexists _; iexact HW_arg38

end Cert.FrontIdeal.Gen

end
-- ==== Proof.FrontIdealLoop5.lean ====
/- The fifth loop of the front call (FrontIdeal): each trip runs, keeps what it reads, and leaves what it writes at some
   contents. -/
module

public import proofs.«01_k».proof.Proof.Gen.FrontIdeal.Loops

@[expose] public section

-- a LISTED loop's recursion (`pb_…` / `st_…`) and its successor equation apply the region's every parameter around the
-- recursive call; for a kernel with some forty operands and words (flash-attention forward) elaborating the recursion's
-- equation lemmas — realised in the recursion's own context, so a budget set on the `_succ` theorem does not reach
-- them — needs a deeper traversal and more heartbeats than Lean's defaults
set_option maxRecDepth 8192
set_option maxHeartbeats 4000000

noncomputable section

namespace Cert.FrontIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

set_option warn.classDefReducibility false in
/-- Before every trip the memrefs the trip reads are as at entry, and those it writes hold something. -/
@[sl_loop] def keeps_k0_t5 (𝒱 : Variants) (c : Dev nD) (bd : Option 𝒱.V) (E : Set ℕ) (arg0 : Memref sig .tc .smem S1 .f32) (harg0 : arg0.IsWhole) (arg1 : Memref sig .tc .smem S4 .f32) (harg1 : arg1.IsWhole) (arg2 : Memref sig .tc .smem S4 .f32) (harg2 : arg2.IsWhole) (arg3 : Memref sig .tc .smem S4 .f32) (harg3 : arg3.IsWhole) (arg4 : Memref sig .tc .vmem S252x8x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S256x1024 .i8) (harg7 : arg7.IsWhole) (arg8 : Memref sig .tc .vmem S1x1024 .f32) (harg8 : arg8.IsWhole) (arg9 : Memref sig .tc .vmem S1x1024 .f32) (harg9 : arg9.IsWhole) (arg10 : Memref sig .tc .vmem S3x3x1024 .i8) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S34x4x1024 .i8) (harg14 : arg14.IsWhole) (arg15 : Memref sig .tc .vmem S4x34 .f32) (harg15 : arg15.IsWhole) (arg16 : Memref sig .tc .vmem S4x32x1024 .i8) (harg16 : arg16.IsWhole) (arg17 : Memref sig .tc .vmem S4x1024 .f32) (harg17 : arg17.IsWhole) (arg18 : Memref sig .tc .vmem S4x1024 .f32) (harg18 : arg18.IsWhole) (arg19 : Memref sig .tc .vmem S4x1024 .f32) (harg19 : arg19.IsWhole) (arg20 : Memref sig .tc .vmem S4x1024 .f32) (harg20 : arg20.IsWhole) (arg21 : Memref sig .tc .vmem S252x8x512 .i8) (harg21 : arg21.IsWhole) (arg22 : Memref sig .tc .vmem S252x8x1024 .i8) (harg22 : arg22.IsWhole) (arg23 : Memref sig .tc .vmem S252x8x1024 .i8) (harg23 : arg23.IsWhole) (arg24 : Memref sig .tc .vmem S4x252x8x32 .i8) (harg24 : arg24.IsWhole) (arg25 : Memref sig .tc .vmem S4x14x8x18 .i8) (harg25 : arg25.IsWhole) (arg26 : Memref sig .tc .vmem S4x14x8x18 .i8) (harg26 : arg26.IsWhole) (arg27 : Memref sig .tc .vmem S252x8x1024 .f32) (harg27 : arg27.IsWhole) (arg28 : Memref sig .tc .vmem S512x1024 .bf16) (harg28 : arg28.IsWhole) (arg29 : Memref sig .tc .vmem S1024x512 .bf16) (harg29 : arg29.IsWhole) (arg30 : Memref sig .tc .vmem S4x128x1024 .bf16) (harg30 : arg30.IsWhole) (arg31 : Memref sig .tc .vmem S9x8x1024 .bf16) (harg31 : arg31.IsWhole) (arg32 : Memref sig .tc .vmem S16x20x8x1024 .bf16) (harg32 : arg32.IsWhole) (arg33 : Memref sig .tc .vmem S252x8x1024 .f32) (harg33 : arg33.IsWhole) (arg34 : Memref sig .tc .vmem S252x8x1024 .f32) (harg34 : arg34.IsWhole) (arg35 : Memref sig .tc .vmem S144x512 .bf16) (harg35 : arg35.IsWhole) (arg36 : Memref sig .tc .vmem S144x1024 .bf16) (harg36 : arg36.IsWhole) (arg37 : Memref sig .tc .vmem S4x252x8x128 .f32) (harg37 : arg37.IsWhole) (arg38 : Memref sig .tc .vmem S2x144x1024 .f32) (harg38 : arg38.IsWhole) (arg39 : Memref sig .tc .vmem S8x1024 .f32) (harg39 : arg39.IsWhole) (arg40 : Memref sig .tc .vmem S8x128 .f32) (harg40 : arg40.IsWhole) (arg41 : Memref sig .tc .vmem S8x1024 .f32) (harg41 : arg41.IsWhole) (v29 : FVec F S1x512 .f32) (v32 : FVec F S1x512 .f32) (v483 : FVec F S4x1024 .f32) (X_arg33 : BufTy.Contents (Elt F) arg33.view.ty) (X_arg34 : BufTy.Contents (Elt F) arg34.view.ty) (X_arg41 : BufTy.Contents (Elt F) arg41.view.ty) :
    Cert.FrontIdeal.Gen.LoopInvTy_k0_t5 (F := F) Unit ℕ (UR sig nD τ) ℕ 𝒱 c bd E arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v29 v32 v483 where
  inv _ _ := iprop((arg33.view.loc (c : Thread nD τ) ↦[arg33.view.set]{fullShare} X_arg33) ∗ (arg34.view.loc (c : Thread nD τ) ↦[arg34.view.set]{fullShare} X_arg34) ∗ (arg41.view.loc (c : Thread nD τ) ↦[arg41.view.set]{fullShare} X_arg41) ∗ (∃ f, (arg27.view.loc (c : Thread nD τ) ↦[arg27.view.set]{fullShare} f)))
  step k acc := by
    have hk : k.val < 252 := Nat.lt_of_lt_of_le k.isLt k0_t5_abs.2.1
    iintro ⟨HR_arg33, HR_arg34, HR_arg41, ⟨%f_arg27, HW_arg27⟩⟩
    unfold k0_t5_body
    sl_exec
    sl_step
    isplitl [HR_arg33]; · iexact HR_arg33
    isplitl [HR_arg34]; · iexact HR_arg34
    isplitl [HR_arg41]; · iexact HR_arg41
    iexists _; iexact HW_arg27

end Cert.FrontIdeal.Gen

end
-- ==== Proof.Consts.lean ====
/- The float constants that the two programs spell, as the extended reals which their patterns denote. One module
   states them, so that no other unfolds `Ideal.ofBits`. -/
module

public import Idealize.ShloMosaic.PureOps.Ideal

@[expose] public section

noncomputable section

namespace Cert.Tail

open Idealize.ShloMosaic

/-- `1/1024`. -/
theorem bits_c1024 : Ideal.ofBits .f32 0x3A800000#32 = ((1 / 1024 : ℝ) : EReal) := by
  simp [Ideal.ofBits, Ideal.ieee, -EReal.coe_mul]; norm_num

/-- `1/512`. -/
theorem bits_c512 : Ideal.ofBits .f32 0x3B000000#32 = ((1 / 512 : ℝ) : EReal) := by
  simp [Ideal.ofBits, Ideal.ieee, -EReal.coe_mul]; norm_num

/-- `1024`. -/
theorem bits_1024 : Ideal.ofBits .f32 0x44800000#32 = ((1024 : ℝ) : EReal) := by
  simp [Ideal.ofBits, Ideal.ieee, -EReal.coe_mul]; norm_num

/-- `512`. -/
theorem bits_512 : Ideal.ofBits .f32 0x44000000#32 = ((512 : ℝ) : EReal) := by
  simp [Ideal.ofBits, Ideal.ieee, -EReal.coe_mul]; norm_num

/-- The norms' epsilon: the f32 nearest `1e-5`. -/
theorem bits_eps : Ideal.ofBits .f32 0x3727C5AC#32 = ((10995116 / 2 ^ 40 : ℝ) : EReal) := by
  simp [Ideal.ofBits, Ideal.ieee, -EReal.coe_mul]; norm_num

/-- `-127`. -/
theorem bits_m127 : Ideal.ofBits .f32 0xC2FE0000#32 = ((-127 : ℝ) : EReal) := by
  simp [Ideal.ofBits, Ideal.ieee, -EReal.coe_mul]; norm_num

/-- `127`. -/
theorem bits_127 : Ideal.ofBits .f32 0x42FE0000#32 = ((127 : ℝ) : EReal) := by
  simp [Ideal.ofBits, Ideal.ieee, -EReal.coe_mul]; norm_num

/-- `255`. -/
theorem bits_255 : Ideal.ofBits .f32 0x437F0000#32 = ((255 : ℝ) : EReal) := by
  simp [Ideal.ofBits, Ideal.ieee, -EReal.coe_mul]; norm_num

/-- `1/2`. -/
theorem bits_half : Ideal.ofBits .f32 0x3F000000#32 = ((1 / 2 : ℝ) : EReal) := by
  simp [Ideal.ofBits, Ideal.ieee, -EReal.coe_mul]; norm_num

/-- The upper limit of a reciprocal: the f32 nearest `1e34`. -/
theorem bits_lim : Ideal.ofBits .f32 0x77F684DF#32 = ((16155871 * 2 ^ 89 : ℝ) : EReal) := by
  simp [Ideal.ofBits, Ideal.ieee, -EReal.coe_mul]

/-- The lower limit of a reciprocal. -/
theorem bits_nlim : Ideal.ofBits .f32 0xF7F684DF#32 = ((-(16155871 * 2 ^ 89) : ℝ) : EReal) := by
  simp [Ideal.ofBits, Ideal.ieee, -EReal.coe_mul]

/-- `2^-112`, the least scale of the precondition. -/
theorem bits_tiny : Ideal.ofBits .f32 0x07800000#32 = ((1 / 2 ^ 112 : ℝ) : EReal) := by
  simp [Ideal.ofBits, Ideal.ieee, -EReal.coe_mul]; norm_num

end Cert.Tail

end
-- ==== Proof.Spec.lean ====
/- What one token becomes, as functions of its rows: once as the kernel computes it (`…K`) and once as the reference
   writes it (`…R`). The literals are kept as the programs spell them. -/
module

public import Idealize.ShloMosaic.PureOps.Ideal
public import Idealize.ShloMosaic.Lib.Pointwise

@[expose] public section

noncomputable section

namespace Cert.Tail

open Idealize.ShloMosaic
open scoped BigOperators

/-- A row of `n` extended reals: one token's features. -/
abbrev Row (n : Nat) := Fin n → EReal

/-- The norm as the kernel takes it: the mean by a product with `c = 1/n`, then the reciprocal root. -/
def normK (c : EReal) {n : Nat} (v : Row n) (l : Fin n) : EReal :=
  (v l - (∑ x, v x) * c) *
    Ideal.rsqrt ((∑ x, (v x - (∑ y, v y) * c) * (v x - (∑ y, v y) * c)) * c + Ideal.ofBits .f32 0x3727C5AC#32)

/-- The norm as written: the mean by a division by `N`, then a division by the root. -/
def normR (N : EReal) {n : Nat} (v : Row n) (l : Fin n) : EReal :=
  Ideal.div (v l - Ideal.div (∑ x, v x) N)
    (Ideal.sqrt (Ideal.div (∑ x, (v x - Ideal.div (∑ y, v y) N) * (v x - Ideal.div (∑ y, v y) N)) N
      + Ideal.ofBits .f32 0x3727C5AC#32))

/-- The greatest magnitude in a row. -/
def amax {n : Nat} (o : Row n) : EReal :=
  Finset.univ.fold max (Ideal.ofBits .f32 0xFF800000#32) fun x => FloatOps.absf (F := Ideal) (φ := .f32) (o x)

/-- The output norm. -/
def oK (y g b : Row 1024) (l : Fin 1024) : EReal := normK (Ideal.ofBits .f32 0x3A800000#32) y l * g l + b l
def oR (y g b : Row 1024) (l : Fin 1024) : EReal := normR (Ideal.ofBits .f32 0x44800000#32) y l * g l + b l

/-- A token's quantisation scale. -/
def scaleK (o : Row 1024) : EReal := if amax o = 0 then 1 else amax o * ((1 / 127 : ℝ) : EReal)
def scaleR (o : Row 1024) : EReal := if amax o = 0 then 1 else Ideal.div (amax o) (Ideal.ofBits .f32 0x42FE0000#32)

/-- Rounding to the nearest integer, ties to even, then clipping to the signed byte's symmetric range. -/
def quantK (x : EReal) : EReal :=
  min (Ideal.ofBits .f32 0x42FE0000#32) (max (Ideal.ofBits .f32 0xC2FE0000#32)
    (Ideal.liftRound Ideal.roundHalfEven x))
def quantR (x : EReal) : EReal :=
  min ((((127#32).toInt : ℝ)) : EReal) (max ((((4294967169#32).toInt : ℝ)) : EReal)
    (Ideal.liftRound Ideal.roundHalfEven x))

/-- The quantised output norm: the kernel keeps the rounded float, the reference the byte. -/
def qK (o : Row 1024) (l : Fin 1024) : EReal := quantK (o l * Ideal.div 1 (scaleK o))
def qR (o : Row 1024) (l : Fin 1024) : BitVec 8 := Ideal.fptosi 8 (quantR (Ideal.div (o l) (scaleR o)))

/-- A byte's integer as an extended real. -/
def byte (b : BitVec 8) : EReal := ((b.toInt : ℝ) : EReal)

/-- The low and the high nibble of a packed byte, sign extended, as the kernel shifts them out. -/
def loK (p : BitVec 8) : EReal :=
  FloatOps.sitofp (F := Ideal) .f32 (IntOp.shrsi .vector (IntOp.shli .vector (BitVec.setWidth 32 p) 28#32) 28#32)
def hiK (p : BitVec 8) : EReal :=
  FloatOps.sitofp (F := Ideal) .f32 (IntOp.shrsi .vector (IntOp.shli .vector (BitVec.setWidth 32 p) 24#32) 28#32)

/-- A four-bit number taken as signed. -/
def signed4 (n : BitVec 32) : BitVec 32 :=
  IntOp.subi n (Scalar.select (IntOp.cmpi CmpIPredicate.sge n 8#32) 16#32 0#32)
def loR (p : BitVec 8) : EReal := FloatOps.sitofp (F := Ideal) .f32 (signed4 (IntOp.andi (BitVec.setWidth 32 p) 15#32))
def hiR (p : BitVec 8) : EReal :=
  FloatOps.sitofp (F := Ideal) .f32 (signed4 (IntOp.shrsi .vector (BitVec.setWidth 32 p) 4#32))

/-- Half of an index below `2 n`. -/
def halfIx {m : Nat} (n : Nat) (k : Fin m) (h : m = 2 * n) : Fin n := ⟨k.val / 2, by omega⟩

/-- The output projection's weight: output feature `d` is the low or the high nibble of the packed column `d / 2`. -/
def wOut (lo hi : BitVec 8 → EReal) (P : Fin 1024 → Fin 256 → BitVec 8) (k : Fin 1024) (d : Fin 512) : EReal :=
  if d.val % 2 < 1 then lo (P k (halfIx 256 d rfl)) else hi (P k (halfIx 256 d rfl))

/-- The first layer's weight: input feature `k` is a nibble of the packed row `k / 2`. -/
def wFc1 (lo hi : BitVec 8 → EReal) (P : Fin 256 → Fin 2048 → BitVec 8) (k : Fin 512) (f : Fin 2048) : EReal :=
  if k.val % 2 < 1 then lo (P (halfIx 256 k rfl) f) else hi (P (halfIx 256 k rfl) f)

/-- The second layer's weight, likewise. -/
def wFc2 (lo hi : BitVec 8 → EReal) (P : Fin 1024 → Fin 512 → BitVec 8) (k : Fin 2048) (d : Fin 512) : EReal :=
  if k.val % 2 < 1 then lo (P (halfIx 1024 k rfl) d) else hi (P (halfIx 1024 k rfl) d)

/-- The residual stream after the output projection. -/
def x1F (q : Row 1024) (s : EReal) (W : Fin 1024 → Fin 512 → EReal) (ws xr : Row 512) (d : Fin 512) : EReal :=
  xr d + (∑ k, q k * W k d) * s * ws d

/-- The limited reciprocal. -/
def recipK (s : EReal) : EReal :=
  min (Ideal.ofBits .f32 0x77F684DF#32) (max (Ideal.ofBits .f32 0xF7F684DF#32) (Ideal.div 1 s))

/-- The second norm, quantised by the given scale. -/
def a2K (x1 g b : Row 512) (s : EReal) (d : Fin 512) : EReal :=
  quantK (normK (Ideal.ofBits .f32 0x3B000000#32) x1 d * (g d * recipK s) + b d * recipK s)
def a2R (x1 g b : Row 512) (s : EReal) (d : Fin 512) : BitVec 8 :=
  Ideal.fptosi 8 (quantR (Ideal.div (normR (Ideal.ofBits .f32 0x44000000#32) x1 d * g d + b d) s))

/-- The reciprocal root of two. -/
def rs2 : EReal := (((Real.sqrt 2)⁻¹ : ℝ) : EReal)

/-- The hidden layer before it is rounded: the activation over its scale. -/
def actK (acc s w b sh : EReal) : EReal :=
  ((acc * (s * w * rs2) + b * rs2) * (rs2 * recipK sh)) * (1 + Ideal.erf (acc * (s * w * rs2) + b * rs2))
def actR (acc s w b sh : EReal) : EReal :=
  Ideal.div (Ideal.ofBits .f32 0x3F000000#32 * (acc * s * w + b) * (1 + Ideal.erf ((acc * s * w + b) * rs2))) sh

/-- The hidden layer as an unsigned byte's value. -/
def hidK (act : EReal) (z : BitVec 32) : EReal :=
  min (Ideal.ofBits .f32 0x437F0000#32) (max 0 (Ideal.liftRound Ideal.roundHalfEven act + ((z.toInt : ℝ) : EReal)))
def hidR (act : EReal) (z : BitVec 32) : BitVec 32 :=
  Ideal.fptosi 32 (min ((((255#32).toInt : ℝ)) : EReal) (max ((((0#32).toInt : ℝ)) : EReal)
    (Ideal.liftRound Ideal.roundHalfEven act + ((z.toInt : ℝ) : EReal))))

/-- The result row. -/
def yK (x1 : Row 512) (h : Row 2048) (W : Fin 2048 → Fin 512 → EReal) (sh : EReal) (w b : Row 512) (d : Fin 512) : EReal :=
  x1 d + ((∑ k, h k * W k d) * (sh * w d) + b d)
def yR (x1 : Row 512) (h : Row 2048) (W : Fin 2048 → Fin 512 → EReal) (sh : EReal) (w b : Row 512) (d : Fin 512) : EReal :=
  x1 d + ((∑ k, h k * W k d) * sh * w d + b d)

end Cert.Tail

end
-- ==== Proof.Laws.lean ====
/- The kernel's and the reference's ways with one number are the same function of the extended reals. -/
module

public import proofs.«01_k».proof.Proof.Consts
public import proofs.«01_k».proof.Proof.Spec

@[expose] public section

noncomputable section

namespace Cert.Tail

open Idealize.ShloMosaic
open scoped BigOperators

/-- A square is not negative. -/
theorem sq_nonneg' (x : EReal) : 0 ≤ x * x := by
  rcases le_total 0 x with h | h
  · exact mul_nonneg h h
  · have := mul_nonneg (EReal.neg_nonneg.2 h) (EReal.neg_nonneg.2 h)
    simpa using this

/-- A product with the reciprocal root is a quotient by the root. -/
theorem mul_rsqrt (d w : EReal) (hw : 0 < w) : d * Ideal.rsqrt w = Ideal.div d (Ideal.sqrt w) := by
  induction w with
  | bot => simp at hw
  | top => simp [Ideal.div]
  | coe r =>
    have hr : 0 < r := by exact_mod_cast hw
    have hs : Real.sqrt r ≠ 0 := (Real.sqrt_pos.2 hr).ne'
    rw [Ideal.rsqrt_coe, Ideal.sqrt_coe, if_neg hr.not_gt, if_neg hr.ne', if_neg hr.not_gt, Ideal.div_coe hs, one_div]

/-- The two norms agree, whatever the row holds. -/
theorem norm_eq {n : Nat} (v : Row n) (l : Fin n) {c N : EReal} {r : ℝ} (hr : 0 < r) (hc : c = ((1 / r : ℝ) : EReal))
    (hN : N = (r : EReal)) : normK c v l = normR N v l := by
  subst hc hN
  unfold normK normR
  simp only [Ideal.div_coe hr.ne']
  refine mul_rsqrt _ _ ?_
  have h0 : (0 : EReal) ≤ (∑ x, (v x - (∑ y, v y) * ((1 / r : ℝ) : EReal)) * (v x - (∑ y, v y) * ((1 / r : ℝ) : EReal)))
      * ((1 / r : ℝ) : EReal) :=
    mul_nonneg (Finset.sum_nonneg fun x _ => sq_nonneg' _) (by exact_mod_cast (by positivity : (0 : ℝ) ≤ 1 / r))
  refine lt_of_lt_of_le ?_ (le_add_of_nonneg_left h0)
  rw [bits_eps]
  exact_mod_cast (by norm_num : (0 : ℝ) < 10995116 / 2 ^ 40)

theorem o_eq (y g b : Row 1024) : oK y g b = oR y g b := by
  funext l
  unfold oK oR
  rw [norm_eq y l (r := 1024) (by norm_num) bits_c1024 bits_1024]

theorem scale_eq (o : Row 1024) : scaleK o = scaleR o := by
  unfold scaleK scaleR
  rw [bits_127, Ideal.div_coe (by norm_num)]

theorem scaleK_ne (o : Row 1024) : scaleK o ≠ 0 := by
  unfold scaleK
  split
  · exact one_ne_zero
  · next h => exact mul_ne_zero h (by exact_mod_cast (by norm_num : (1 / 127 : ℝ) ≠ 0))

/-- A product with a reciprocal is a quotient. -/
theorem mul_div_one (x s : EReal) (hs : s ≠ 0) : x * Ideal.div 1 s = Ideal.div x s := by
  simp [Ideal.div, hs]

theorem quant_eq (x : EReal) : quantK x = quantR x := by
  unfold quantK quantR
  rw [bits_127, bits_m127]
  have h1 : (((127#32 : BitVec 32).toInt : ℝ)) = 127 := by
    have : (127#32 : BitVec 32).toInt = 127 := by decide
    rw [this]; norm_num
  have h2 : (((4294967169#32 : BitVec 32).toInt : ℝ)) = -127 := by
    have : (4294967169#32 : BitVec 32).toInt = -127 := by decide
    rw [this]; norm_num
  rw [h1, h2]

/-- What is clipped between two integers after rounding is an integer between them. -/
theorem clip_int (lo hi : ℤ) (h : lo ≤ hi) (x : EReal) (hx : x = ⊥ ∨ x = ⊤ ∨ ∃ z : ℤ, x = ((z : ℝ) : EReal)) :
    ∃ z : ℤ, lo ≤ z ∧ z ≤ hi ∧ min ((hi : ℝ) : EReal) (max ((lo : ℝ) : EReal) x) = ((z : ℝ) : EReal) := by
  have hlh : ((lo : ℝ) : EReal) ≤ ((hi : ℝ) : EReal) := by exact_mod_cast h
  rcases hx with rfl | rfl | ⟨z, rfl⟩
  · exact ⟨lo, le_refl _, h, by rw [max_eq_left bot_le, min_eq_right hlh]⟩
  · exact ⟨hi, h, le_refl _, by rw [max_eq_right le_top, min_eq_left le_top]⟩
  · refine ⟨min hi (max lo z), le_min h (le_max_left _ _), min_le_left _ _, ?_⟩
    push_cast
    rw [EReal.coe_strictMono.monotone.map_min, EReal.coe_strictMono.monotone.map_max]

theorem round_cases (x : EReal) : Ideal.liftRound Ideal.roundHalfEven x = ⊥ ∨ Ideal.liftRound Ideal.roundHalfEven x = ⊤ ∨
    ∃ z : ℤ, Ideal.liftRound Ideal.roundHalfEven x = ((z : ℝ) : EReal) := by
  induction x with
  | bot => exact .inl rfl
  | top => exact .inr (.inl rfl)
  | coe r => exact .inr (.inr ⟨_, rfl⟩)

theorem quant_int (x : EReal) : ∃ z : ℤ, -127 ≤ z ∧ z ≤ 127 ∧ quantK x = ((z : ℝ) : EReal) := by
  unfold quantK
  rw [bits_127, bits_m127]
  have := clip_int (-127) 127 (by norm_num) _ (round_cases x)
  push_cast at this
  exact this

/-- An integer of the word's range survives the conversion to the word. -/
theorem toInt_fptosi (w : Nat) (z : ℤ) (hw : 0 < w) (h1 : -(2 ^ (w - 1) : ℤ) ≤ z) (h2 : z < 2 ^ (w - 1)) :
    (Ideal.fptosi w ((z : ℝ) : EReal)).toInt = z := by
  unfold Ideal.fptosi
  rw [Ideal.toIntClamped_coe]
  have h3 : (if (0 : ℝ) ≤ (z : ℝ) then ⌊(z : ℝ)⌋ else ⌈(z : ℝ)⌉) = z := by
    split <;> simp
  rw [h3]
  have h4 : max (-((2 ^ (w - 1) : ℕ) : ℤ)) (min (((2 ^ (w - 1) : ℕ) : ℤ) - 1) z) = z := by
    push_cast
    rw [min_eq_right (by omega), max_eq_right h1]
  rw [h4]
  exact BitVec.toInt_ofInt_eq_self hw h1 h2

theorem byte_fptosi_quant (x : EReal) : byte (Ideal.fptosi 8 (quantK x)) = quantK x := by
  obtain ⟨z, h1, h2, h⟩ := quant_int x
  unfold byte
  rw [h, toInt_fptosi 8 z (by norm_num) (by norm_num; omega) (by norm_num; omega)]

theorem on_eq (o : Row 1024) (l : Fin 1024) : Ideal.fptosi 8 (qK o l) = qR o l := by
  unfold qK qR
  rw [mul_div_one _ _ (scaleK_ne o), quant_eq, scale_eq]

theorem q_eq (o : Row 1024) (l : Fin 1024) : qK o l = byte (qR o l) := by
  rw [← on_eq]; unfold qK; rw [byte_fptosi_quant]

/-- What a scale that is not tiny gives: its limited reciprocal is a real, and dividing by the scale is multiplying by
    that real. -/
theorem recip_spec (s : EReal) (hs : ((1 / 2 ^ 112 : ℝ) : EReal) ≤ max s (-s)) :
    ∃ i : ℝ, recipK s = (i : EReal) ∧ (∀ x, Ideal.div x s = x * (i : EReal)) ∧ (0 ≤ s → 0 ≤ i) := by
  unfold recipK
  rw [bits_lim, bits_nlim]
  induction s with
  | bot =>
    refine ⟨0, ?_, fun x => by simp [Ideal.div], fun _ => le_refl _⟩
    have : Ideal.div 1 ⊥ = ((0 : ℝ) : EReal) := by simp [Ideal.div]
    rw [this, ← EReal.coe_strictMono.monotone.map_max, ← EReal.coe_strictMono.monotone.map_min]
    congr 1; norm_num
  | top =>
    refine ⟨0, ?_, fun x => by simp [Ideal.div], fun _ => le_refl _⟩
    have : Ideal.div 1 ⊤ = ((0 : ℝ) : EReal) := by simp [Ideal.div]
    rw [this, ← EReal.coe_strictMono.monotone.map_max, ← EReal.coe_strictMono.monotone.map_min]
    congr 1; norm_num
  | coe r =>
    have hr : (1 / 2 ^ 112 : ℝ) ≤ |r| := by
      have : ((1 / 2 ^ 112 : ℝ) : EReal) ≤ ((max r (-r) : ℝ) : EReal) := by
        rw [EReal.coe_strictMono.monotone.map_max]; simpa using hs
      rw [abs_eq_max_neg]; exact_mod_cast this
    have hne : r ≠ 0 := by
      rintro rfl
      rw [abs_zero] at hr
      norm_num at hr
    have hi : |1 / r| ≤ 2 ^ 112 := by
      rw [abs_div, abs_one]
      rw [div_le_iff₀ (abs_pos.2 hne)]
      have := mul_le_mul_of_nonneg_left hr (by positivity : (0 : ℝ) ≤ 2 ^ 112)
      norm_num at this ⊢
      exact this
    have hi' := abs_le.1 hi
    refine ⟨1 / r, ?_, fun x => Ideal.div_coe hne x, fun h => ?_⟩
    · rw [Ideal.div_coe hne, one_mul, ← EReal.coe_strictMono.monotone.map_max,
        ← EReal.coe_strictMono.monotone.map_min]
      congr 1
      rw [max_eq_right (le_trans (by norm_num) hi'.1), min_eq_right (le_trans hi'.2 (by norm_num))]
    · have : 0 ≤ r := by exact_mod_cast h
      positivity

theorem add_mul_real (x y : EReal) {i : ℝ} (hi : 0 ≤ i) : (x + y) * (i : EReal) = x * i + y * i := by
  exact EReal.right_distrib_of_nonneg_of_ne_top (by exact_mod_cast hi) (EReal.coe_ne_top i) x y

/-- The second norm's byte: the kernel folds the scale into the affine coefficients, the reference divides by it. -/
theorem a2_eq (x1 g b : Row 512) (s : EReal) (hs : ((1 / 2 ^ 112 : ℝ) : EReal) ≤ s) (d : Fin 512) :
    Ideal.fptosi 8 (a2K x1 g b s d) = a2R x1 g b s d := by
  obtain ⟨i, h1, h2, h3⟩ := recip_spec s (le_trans hs (le_max_left _ _))
  have hi : 0 ≤ i := h3 (le_trans (by exact_mod_cast (by positivity : (0 : ℝ) ≤ 1 / 2 ^ 112)) hs)
  unfold a2K a2R
  rw [quant_eq, h2, h1, add_mul_real _ _ hi, norm_eq x1 d (r := 512) (by norm_num) bits_c512 bits_512, mul_assoc]

theorem a2_byte (x1 g b : Row 512) (s : EReal) (hs : ((1 / 2 ^ 112 : ℝ) : EReal) ≤ s) (d : Fin 512) :
    a2K x1 g b s d = byte (a2R x1 g b s d) := by
  rw [← a2_eq x1 g b s hs d]; unfold a2K; rw [byte_fptosi_quant]

theorem rs2_sq : rs2 * rs2 = Ideal.ofBits .f32 0x3F000000#32 := by
  rw [bits_half, rs2, ← EReal.coe_mul]
  congr 1
  rw [← mul_inv, Real.mul_self_sqrt (by norm_num)]; norm_num

/-- The activation over its scale. -/
theorem act_eq (acc s w b sh : EReal) (hs : ((1 / 2 ^ 112 : ℝ) : EReal) ≤ max sh (-sh)) :
    actK acc s w b sh = actR acc s w b sh := by
  obtain ⟨i, h1, h2, -⟩ := recip_spec sh hs
  unfold actK actR
  have hv : acc * (s * w * rs2) + b * rs2 = (acc * s * w + b) * rs2 := by
    have hp : (0 : ℝ) ≤ (Real.sqrt 2)⁻¹ := by positivity
    rw [rs2, add_mul_real _ _ hp]; simp only [mul_assoc]
  rw [hv, h2, h1, ← rs2_sq]
  generalize acc * s * w + b = v
  generalize 1 + Ideal.erf (v * rs2) = e
  generalize (i : EReal) = j
  simp only [mul_comm, mul_left_comm, mul_assoc]

theorem hid_cases (act : EReal) (z : BitVec 32) : ∃ n : ℤ, 0 ≤ n ∧ n ≤ 255 ∧ hidK act z = ((n : ℝ) : EReal) := by
  unfold hidK
  rw [bits_255]
  have := clip_int 0 255 (by norm_num) (Ideal.liftRound Ideal.roundHalfEven act + ((z.toInt : ℝ) : EReal)) (by
    rcases round_cases act with h | h | ⟨n, h⟩
    · left; rw [h]; simp
    · right; left; rw [h]; simp
    · right; right; exact ⟨n + z.toInt, by rw [h, ← EReal.coe_add]; push_cast; rfl⟩)
  push_cast at this
  simpa using this

theorem hid_word (act : EReal) (z : BitVec 32) : Ideal.fptosi 32 (hidK act z) = hidR act z := by
  unfold hidK hidR
  rw [bits_255]
  have h1 : (((255#32 : BitVec 32).toInt : ℝ)) = 255 := by
    have : (255#32 : BitVec 32).toInt = 255 := by decide
    rw [this]; norm_num
  have h2 : (((0#32 : BitVec 32).toInt : ℝ)) = 0 := by
    have : (0#32 : BitVec 32).toInt = 0 := by decide
    rw [this]; norm_num
  rw [h1, h2]; rfl

/-- The hidden layer less its zero point: the kernel subtracts floats, the reference words; no word wraps. -/
theorem hid_sub (act : EReal) (z : BitVec 32) (hz : -2147483392 ≤ z.toInt) :
    hidK act z - ((z.toInt : ℝ) : EReal) = (((IntOp.subi (hidR act z) z).toInt : ℝ) : EReal) := by
  rw [← hid_word]
  obtain ⟨n, h1, h2, h⟩ := hid_cases act z
  have hn : (Ideal.fptosi 32 (hidK act z)).toInt = n := by
    rw [h, toInt_fptosi 32 n (by norm_num) (by norm_num; omega) (by norm_num; omega)]
  have hz2 : z.toInt < 2 ^ 31 := by have := BitVec.toInt_lt (x := z); simpa using this
  have hs : (IntOp.subi (Ideal.fptosi 32 (hidK act z)) z).toInt = n - z.toInt := by
    show (Ideal.fptosi 32 (hidK act z) - z).toInt = _
    rw [BitVec.toInt_sub, hn]
    apply Int.bmod_eq_of_le <;> norm_num <;> omega
  rw [hs, h, Int.cast_sub, EReal.coe_sub]

theorem y_eq (x1 : Row 512) (h : Row 2048) (W : Fin 2048 → Fin 512 → EReal) (sh : EReal) (w b : Row 512) (d : Fin 512) :
    yK x1 h W sh w b d = yR x1 h W sh w b d := by
  unfold yK yR; rw [mul_assoc]

/-- The two ways to take a nibble, over the 256 bytes. -/
theorem lo_word (k : Fin 256) : IntOp.shrsi .vector (IntOp.shli .vector (BitVec.setWidth 32 (BitVec.ofFin (w := 8) k)) 28#32) 28#32
    = signed4 (IntOp.andi (BitVec.setWidth 32 (BitVec.ofFin (w := 8) k)) 15#32) := by
  revert k; decide +kernel

theorem hi_word (k : Fin 256) : IntOp.shrsi .vector (IntOp.shli .vector (BitVec.setWidth 32 (BitVec.ofFin (w := 8) k)) 24#32) 28#32
    = signed4 (IntOp.shrsi .vector (BitVec.setWidth 32 (BitVec.ofFin (w := 8) k)) 4#32) := by
  revert k; decide +kernel

theorem lo_eq (p : BitVec 8) : loK p = loR p := by
  unfold loK loR
  exact congrArg (FloatOps.sitofp (F := Ideal) .f32) (lo_word p.toFin)

theorem hi_eq (p : BitVec 8) : hiK p = hiR p := by
  unfold hiK hiR
  exact congrArg (FloatOps.sitofp (F := Ideal) .f32) (hi_word p.toFin)

end Cert.Tail

end
-- ==== Proof.Rows.lean ====
/- What the kernel's straight-line operations leave, read at an index: one pixel's eight tokens for the norms, all 288
   tokens of a block for the matrix products. -/
module

public import proofs.«01_k».proof.Proof.Gen.KernelIdeal.Frame
public import proofs.«01_k».proof.Proof.Laws

@[expose] public section

set_option maxRecDepth 16384

noncomputable section

namespace Cert.Tail

open Idealize.ShloMosaic Cert.KernelIdeal Cert.KernelIdeal.Gen
open scoped BigOperators

/-- The contents of an array over the extended reals. -/
local notation "𝕍" => Vec (Idealize.ShloMosaic.Ideal)

/-! ## The norm of the scan's output: rows of 1024 -/

section Norm

variable (Y : 𝕍 S1x8x1024 .f32) (g b : 𝕍 S1x1024 .f32)

theorem pay17_at (r : Fin 8) (l : Fin 1024) : k0_pay17 (F := Ideal) Y g b (ix2 r l)
    = oK (fun l => Y (ix3 0 r l)) (fun l => g (ix2 0 l)) (fun l => b (ix2 0 l)) l := by
  pointwise [k0_pay17]
  rfl

theorem pay18_at (r : Fin 8) : k0_pay18 (F := Ideal) Y g b (ix2 r 0)
    = scaleK (oK (fun l => Y (ix3 0 r l)) (fun l => g (ix2 0 l)) (fun l => b (ix2 0 l))) := by
  pointwise [k0_pay18]
  simp only [pay17_at]
  rfl

theorem pay19_at (r : Fin 8) (l : Fin 1024) : k0_pay19 (F := Ideal) Y g b (ix2 r l)
    = qK (oK (fun l => Y (ix3 0 r l)) (fun l => g (ix2 0 l)) (fun l => b (ix2 0 l))) l := by
  pointwise [k0_pay19]
  simp only [pay17_at, pay18_at]
  rfl

/-- Two pixels' quantised norms, one above the other. -/
theorem pay23_at (Q R : 𝕍 S8x1024 .f32) (a : Fin 16) (l : Fin 1024) : k0_pay23 (F := Ideal) Q R (ix2 a l)
    = if h : a.val < 8 then Q (ix2 ⟨a.val, h⟩ l) else R (ix2 ⟨a.val - 8, by omega⟩ l) := by
  pointwise [k0_pay23]

theorem pay20_at (Q : 𝕍 S8x1024 .f32) (r : Fin 8) (l : Fin 1024) : k0_pay20 (F := Ideal) Q (ix3 0 r l)
    = Ideal.fptosi 8 (Q (ix2 r l)) := by
  pointwise [k0_pay20]
  rfl

theorem pay21_at (Q : 𝕍 S8x1 .f32) (r : Fin 8) (l : Fin 128) : k0_pay21 (F := Ideal) Q (ix2 r l) = Q (ix2 r 0) := by
  pointwise [k0_pay21]

end Norm

/-! ## The output projection and the residual stream: a slab of 256 features -/

theorem pay317_at (Q : 𝕍 S288x1024 .bf16) (W : 𝕍 S1024x256 .bf16) (S : 𝕍 S288x128 .f32) (w : 𝕍 S1x256 .f32)
    (X : 𝕍 S36x8x256 .bf16) (p : Fin 36) (r : Fin 8) (d : Fin 256) (s : EReal)
    (hS : ∀ j, S (ix2 ⟨p.val * 8 + r.val, by omega⟩ j) = s) : k0_pay317 (F := Ideal) Q W S w X (ix3 p r d)
    = X (ix3 p r d) + (∑ k, Q (ix2 ⟨p.val * 8 + r.val, by omega⟩ k) * W (ix2 k d)) * s * w (ix2 0 d) := by
  pointwise [k0_pay317]
  simp only [hS, dite_eq_ite, ite_self]

/-! ## The second norm: rows of 512 -/

section Second

variable (g b : 𝕍 S1x512 .f32) (X : 𝕍 S1x8x512 .f32)

theorem pay321_at (r : Fin 8) (d : Fin 512) : k0_pay321 (F := Ideal) g b X (ix2 r d)
    = quantK (normK (Ideal.ofBits .f32 0x3B000000#32) (fun d => X (ix3 0 r d)) d * g (ix2 0 d) + b (ix2 0 d)) := by
  pointwise [k0_pay321]
  rfl

theorem pay325_at (r : Fin 8) (d : Fin 512) : k0_pay325 (F := Ideal) g b X (ix3 0 r d)
    = Ideal.fptosi 8 (k0_pay321 (F := Ideal) g b X (ix2 r d)) := by
  pointwise [k0_pay325]
  rfl

theorem pay326_at (A : 𝕍 S8x512 .f32) (r : Fin 16) (d : Fin 512) : k0_pay326 (F := Ideal) g b A X (ix2 r d)
    = if h : r.val < 8 then A (ix2 ⟨r.val, h⟩ d) else k0_pay321 (F := Ideal) g b X (ix2 ⟨r.val - 8, by omega⟩ d) := by
  pointwise [k0_pay326]
  rfl

end Second

theorem pay6_at (s : Elt Ideal .f32) (d : Fin 512) : k0_pay6 (F := Ideal) s (ix2 0 d) = recipK s := by
  pointwise [k0_pay6]
  rfl

theorem pay7_at (s : Elt Ideal .f32) (g : 𝕍 S1x512 .f32) (d : Fin 512) :
    k0_pay7 (F := Ideal) s g (ix2 0 d) = g (ix2 0 d) * recipK s := by
  pointwise [k0_pay7]
  rw [pay6_at]

theorem pay8_at (s : Elt Ideal .f32) (g : 𝕍 S1x512 .f32) (d : Fin 512) :
    k0_pay8 (F := Ideal) s g (ix2 0 d) = g (ix2 0 d) * recipK s := by
  pointwise [k0_pay8]
  rw [pay6_at]

/-! ## The hidden layer: a slab of 256 features -/

theorem pay449_at (s : Elt Ideal .f32) (w : 𝕍 S1x2048 .f32) (f : Fin 2048) :
    k0_pay449 (F := Ideal) s w (ix2 0 f) = s * w (ix2 0 f) * rs2 := by
  pointwise [k0_pay449]
  rfl

theorem pay450_at (w : 𝕍 S1x2048 .f32) (f : Fin 2048) : k0_pay450 (F := Ideal) w (ix2 0 f) = w (ix2 0 f) * rs2 := by
  pointwise [k0_pay450]
  rfl

theorem pay451_at (s : Elt Ideal .f32) (f : Fin 256) : k0_pay451 (F := Ideal) s (ix2 0 f) = rs2 * recipK s := by
  pointwise [k0_pay451]
  rfl

/-- The hidden slab at the columns `o … o + 255`: the first product, the activation, the rounding and the clip. -/
def slab (o : Nat) (ho : S1x2048.Slices ![0, o] S1x256) (z : Ideal .f32) (gs gb : 𝕍 S1x2048 .f32) (gk : 𝕍 S1x256 .f32)
    (A : 𝕍 S288x512 .bf16) (U : 𝕍 S512x256 .bf16) : 𝕍 S288x256 .f32 :=
  have acc : FVec Ideal S288x256 .f32 := matmul (φ₁ := .bf16) (φ₂ := .bf16) dot_S288x512_S512x256_S288x256_1_0_0_1_n_n none A U (constant S288x256 .f32 0x00000000#32)
  have u : FVec Ideal S288x256 .f32 := addf
    (mulf acc (broadcastTo S288x256 (extractStridedSlice S1x256 ![0, o] gs ho) broadcasts_S1x256_S288x256))
    (broadcastTo S288x256 (extractStridedSlice S1x256 ![0, o] gb ho) broadcasts_S1x256_S288x256)
  have act : FVec Ideal S288x256 .f32 := mulf (mulf u (broadcastTo S288x256 gk broadcasts_S1x256_S288x256))
    (addf (broadcast S288x256 (Scalar.ofBits .f32 0x3F800000#32)) (erf u))
  minimumf (broadcast S288x256 (Scalar.ofBits .f32 0x437F0000#32))
    (maximumf (broadcast S288x256 (Scalar.ofBits .f32 0x00000000#32)) (addf (roundeven act) (broadcast S288x256 z)))

/-- Its bytes, and the slab with the zero point taken off. -/
def slabI (H : 𝕍 S288x256 .f32) : 𝕍 S36x8x256 .i8 :=
  trunci 8 (shapeCast S36x8x256 (fptosi (F := Ideal) (φ := .f32) 32 H) shapeCasts_S288x256_S36x8x256) natLt_8_32
def slabH (z : Ideal .f32) (H : 𝕍 S288x256 .f32) : 𝕍 S288x256 .bf16 :=
  shapeCast S288x256 (truncf .bf16 (subf (F := Ideal) (φ := .f32) H (broadcast S288x256 z)) bitsLt_bf16_f32) shapeCasts_S288x256_S288x256

theorem slab_at (o : Nat) (ho : S1x2048.Slices ![0, o] S1x256) (hf : o + 256 ≤ 2048) (z : Ideal .f32) (gs gb : 𝕍 S1x2048 .f32) (gk : 𝕍 S1x256 .f32)
    (A : 𝕍 S288x512 .bf16) (U : 𝕍 S512x256 .bf16) (t : Fin 288) (f : Fin 256) :
    slab o ho z gs gb gk A U (ix2 t f) = min (Ideal.ofBits .f32 0x437F0000#32) (max 0 (Ideal.liftRound Ideal.roundHalfEven
      (((∑ k, A (ix2 t k) * U (ix2 k f)) * gs (ix2 0 ⟨o + f.val, by omega⟩) + gb (ix2 0 ⟨o + f.val, by omega⟩)) * gk (ix2 0 f) *
        (1 + Ideal.erf ((∑ k, A (ix2 t k) * U (ix2 k f)) * gs (ix2 0 ⟨o + f.val, by omega⟩) + gb (ix2 0 ⟨o + f.val, by omega⟩)))) + z)) := by
  pointwise [slab]
  rfl

theorem slabI_at (H : 𝕍 S288x256 .f32) (p : Fin 36) (r : Fin 8) (f : Fin 256) : slabI H (ix3 p r f)
    = BitVec.setWidth 8 (Ideal.fptosi 32 (H (ix2 ⟨p.val * 8 + r.val, by omega⟩ f))) := by
  pointwise [slabI]
  rfl

theorem slabH_at (z : Ideal .f32) (H : 𝕍 S288x256 .f32) (t : Fin 288) (f : Fin 256) : slabH z H (ix2 t f) = H (ix2 t f) - z := by
  pointwise [slabH]

/-! ## The second product and the result: a slab of 256 features -/

theorem pay484_at (H : 𝕍 S288x2048 .bf16) (W : 𝕍 S2048x256 .bf16) (s : Elt Ideal .f32) (w b : 𝕍 S1x256 .f32)
    (X : 𝕍 S36x8x256 .f32) (p : Fin 36) (r : Fin 8) (d : Fin 256) :
    k0_pay484 (F := Ideal) (k0_pay482 H W s w) (k0_pay483 b) X (ix3 p r d)
    = X (ix3 p r d) + ((∑ k, H (ix2 ⟨p.val * 8 + r.val, by omega⟩ k) * W (ix2 k d)) * (s * w (ix2 0 d)) + b (ix2 0 d)) := by
  pointwise [k0_pay484, k0_pay482, k0_pay483]

/-! ## The scales of a row of pixels, gathered by lane -/

/-- The scales of 18 pixels: pixel `w` fills lane `w`. -/
theorem pay316_at (A : 𝕍 S8x128 .f32) (r : Fin 8) (w : Fin 18) :
    k0_pay316 (F := Ideal) A (ix3 0 r w) = A (ix2 r ⟨w.val, by omega⟩) := by
  pointwise [k0_pay316]

theorem select_eq {α : Type} {w : Nat} (a b : BitVec w) (x y : α) :
    Scalar.select (IntOp.cmpi .eq a b) x y = if a = b then x else y := by
  unfold Scalar.select IntOp.cmpi
  by_cases h : a = b
  · simp [h]
  · have e : (a == b) = false := beq_eq_false_iff_ne.mpr h
    simp [h, e]

/-- One pixel's scales written to its lane. -/
def laneStep (n : Nat) (A : 𝕍 S8x128 .f32) (s : 𝕍 S8x1 .f32) : 𝕍 S8x128 .f32 :=
  select (cmpi .eq (iota .tc S8x128 32 [1] iota_S8x128_d1_w32) (broadcast S8x128 (BitVec.ofNat 32 n)))
    (broadcastTo S8x128 (shapeCast S8x1 s shapeCasts_S8x1_S8x1) broadcasts_S8x1_S8x128) A

theorem laneStep_at (n : Nat) (hn : n < 128) (A : 𝕍 S8x128 .f32) (s : 𝕍 S8x1 .f32) (r : Fin 8) (j : Fin 128) :
    laneStep n A s (ix2 r j) = if j.val = n then s (ix2 r 0) else A (ix2 r j) := by
  pointwise [laneStep]
  rw [select_eq]
  refine if_congr ?_ rfl rfl
  have := j.isLt
  constructor
  · intro h
    have := congrArg BitVec.toNat h
    simp only [BitVec.toNat_ofNat] at this
    omega
  · intro h
    rw [h]

/-- The first `n` pixels' scales, each in its lane. -/
def gather (s : Nat → 𝕍 S8x1 .f32) : Nat → 𝕍 S8x128 .f32
  | 0 => k0_pay9 (F := Ideal)
  | n + 1 => laneStep n (gather s n) (s n)

theorem gather_at (s : Nat → 𝕍 S8x1 .f32) (r : Fin 8) (j : Fin 128) : ∀ n, n ≤ 128 → j.val < n →
    gather s n (ix2 r j) = s j.val (ix2 r 0)
  | 0, _, h => absurd h (Nat.not_lt_zero _)
  | n + 1, hn, h => by
    show laneStep n (gather s n) (s n) (ix2 r j) = _
    rw [laneStep_at n (by omega)]
    split
    · next e => rw [e]
    · next e => exact gather_at s r j n (by omega) (by omega)

end Cert.Tail

end
-- ==== Proof.Pieces.lean ====
/- One block's arrays as functions of its arguments, and what each store of the kernel's body contributes to them: every
   store agrees with its array on the rectangle it writes. -/
module

public import proofs.«01_k».proof.Proof.Rows
public import Idealize.ShloMosaic.Lib.Pipeline.ReadBack

@[expose] public section

set_option maxRecDepth 16384

noncomputable section

namespace Cert.Tail

open Idealize.ShloMosaic Cert.KernelIdeal Cert.KernelIdeal.Gen
open scoped BigOperators

/-- The contents of an array over the extended reals. -/
local notation "𝕍" => Vec (Idealize.ShloMosaic.Ideal)

/-! ## The arrays of a block: 36 pixels of 8 tokens, or 288 tokens -/

/-- Token `t`'s pixel and its place in the pixel, and back. -/
def pix (t : Fin 288) : Fin 36 := ⟨t.val / 8, by omega⟩
def lan (t : Fin 288) : Fin 8 := ⟨t.val % 8, by omega⟩
def tok (p : Fin 36) (r : Fin 8) : Fin 288 := ⟨p.val * 8 + r.val, by omega⟩

theorem pix_tok (p : Fin 36) (r : Fin 8) : pix (tok p r) = p := Fin.ext (by simp only [pix, tok]; omega)
theorem lan_tok (p : Fin 36) (r : Fin 8) : lan (tok p r) = r := Fin.ext (by simp only [lan, tok]; omega)

/-- A token's normed row. -/
def oB (X : 𝕍 S36x8x1024 .f32) (g b : 𝕍 S1x1024 .f32) (p : Fin 36) (r : Fin 8) : Row 1024 :=
  oK (fun l => X (ix3 p r l)) (fun l => g (ix2 0 l)) (fun l => b (ix2 0 l))

/-- The quantised norms, their bytes, the scales across the lanes, and the scales by row of pixels. -/
def lhsOn (X : 𝕍 S36x8x1024 .f32) (g b : 𝕍 S1x1024 .f32) : 𝕍 S288x1024 .bf16 := fun i =>
  qK (oB X g b (pix (i 0)) (lan (i 0))) (i 1)
def onOut (X : 𝕍 S36x8x1024 .f32) (g b : 𝕍 S1x1024 .f32) : 𝕍 S36x8x1024 .i8 := fun i =>
  Ideal.fptosi 8 (qK (oB X g b (i 0) (i 1)) (i 2))
def sclArr (X : 𝕍 S36x8x1024 .f32) (g b : 𝕍 S1x1024 .f32) : 𝕍 S288x128 .f32 := fun i =>
  scaleK (oB X g b (pix (i 0)) (lan (i 0)))
def onsOut (X : 𝕍 S36x8x1024 .f32) (g b : 𝕍 S1x1024 .f32) : 𝕍 S2x8x18 .f32 := fun i =>
  scaleK (oB X g b ⟨18 * (i 0).val + (i 2).val, by
    have h0 : (i 0).val < 2 := (i 0).isLt
    have h2 : (i 2).val < 18 := (i 2).isLt
    omega⟩ (i 1))

/-- The residual stream. -/
def x1Arr (X : 𝕍 S36x8x1024 .f32) (g b : 𝕍 S1x1024 .f32) (W : 𝕍 S1024x512 .bf16) (ws : 𝕍 S1x512 .f32)
    (xr : 𝕍 S36x8x512 .bf16) : 𝕍 S36x8x512 .f32 := fun i =>
  x1F (qK (oB X g b (i 0) (i 1))) (scaleK (oB X g b (i 0) (i 1))) (fun k d => W (ix2 k d)) (fun d => ws (ix2 0 d))
    (fun d => xr (ix3 (i 0) (i 1) d)) (i 2)

/-- The second norm quantised, by token and by pixel. -/
def a2Row (x1 : 𝕍 S36x8x512 .f32) (g b : 𝕍 S1x512 .f32) (s : 𝕍 S1 .f32) (p : Fin 36) (r : Fin 8) : Row 512 :=
  a2K (fun d => x1 (ix3 p r d)) (fun d => g (ix2 0 d)) (fun d => b (ix2 0 d)) (s (ix1 0))
def lhsA2 (x1 : 𝕍 S36x8x512 .f32) (g b : 𝕍 S1x512 .f32) (s : 𝕍 S1 .f32) : 𝕍 S288x512 .bf16 := fun i =>
  a2Row x1 g b s (pix (i 0)) (lan (i 0)) (i 1)
def a2Out (x1 : 𝕍 S36x8x512 .f32) (g b : 𝕍 S1x512 .f32) (s : 𝕍 S1 .f32) : 𝕍 S36x8x512 .i8 := fun i =>
  Ideal.fptosi 8 (a2Row x1 g b s (i 0) (i 1) (i 2))

/-- The hidden layer as the value of an unsigned byte, of one token. -/
def hB (A : 𝕍 S288x512 .bf16) (U : 𝕍 S512x2048 .bf16) (us ub : 𝕍 S1x2048 .f32) (sa sh : 𝕍 S1 .f32) (z : 𝕍 S1 .i32)
    (t : Fin 288) (f : Fin 2048) : EReal :=
  hidK (actK (∑ k, A (ix2 t k) * U (ix2 k f)) (sa (ix1 0)) (us (ix2 0 f)) (ub (ix2 0 f)) (sh (ix1 0))) (z (ix1 0))
def lhsH (A : 𝕍 S288x512 .bf16) (U : 𝕍 S512x2048 .bf16) (us ub : 𝕍 S1x2048 .f32) (sa sh : 𝕍 S1 .f32) (z : 𝕍 S1 .i32) :
    𝕍 S288x2048 .bf16 := fun i => hB A U us ub sa sh z (i 0) (i 1) - (((z (ix1 0)).toInt : ℝ) : EReal)
def hqOut (A : 𝕍 S288x512 .bf16) (U : 𝕍 S512x2048 .bf16) (us ub : 𝕍 S1x2048 .f32) (sa sh : 𝕍 S1 .f32) (z : 𝕍 S1 .i32) :
    𝕍 S36x8x2048 .i8 := fun i => BitVec.setWidth 8 (Ideal.fptosi 32 (hB A U us ub sa sh z (tok (i 0) (i 1)) (i 2)))

/-- The result. -/
def yOut (x1 : 𝕍 S36x8x512 .f32) (H : 𝕍 S288x2048 .bf16) (V : 𝕍 S2048x512 .bf16) (sh : 𝕍 S1 .f32) (vs vb : 𝕍 S1x512 .f32) :
    𝕍 S36x8x512 .bf16 := fun i =>
  yK (fun d => x1 (ix3 (i 0) (i 1) d)) (fun k => H (ix2 (tok (i 0) (i 1)) k)) (fun k d => V (ix2 k d)) (sh (ix1 0))
    (fun d => vs (ix2 0 d)) (fun d => vb (ix2 0 d)) (i 2)

/-! ## Where a rectangle's entries lie -/

theorem emb2 {A B a b o q : Nat} (h) (i : Fin a) (j : Fin b) (hi : o + i.val < A) (hj : q + j.val < B) :
    (Rect.unit (s := ⟨2, ![A, B]⟩) ![o, q] ![a, b] h).emb (ix2 i j) = ix2 ⟨o + i.val, hi⟩ ⟨q + j.val, hj⟩ := by
  funext d
  refine Fin.ext ?_
  rw [Rect.emb_apply]
  match d with
  | ⟨0, _⟩ => show o + 1 * i.val = o + i.val; omega
  | ⟨1, _⟩ => show q + 1 * j.val = q + j.val; omega

theorem emb3 {A B C a b c o q u : Nat} (h) (i : Fin a) (j : Fin b) (k : Fin c) (hi : o + i.val < A) (hj : q + j.val < B)
    (hk : u + k.val < C) : (Rect.unit (s := ⟨3, ![A, B, C]⟩) ![o, q, u] ![a, b, c] h).emb (ix3 i j k)
      = ix3 ⟨o + i.val, hi⟩ ⟨q + j.val, hj⟩ ⟨u + k.val, hk⟩ := by
  funext d
  refine Fin.ext ?_
  rw [Rect.emb_apply]
  match d with
  | ⟨0, _⟩ => show o + 1 * i.val = o + i.val; omega
  | ⟨1, _⟩ => show q + 1 * j.val = q + j.val; omega
  | ⟨2, _⟩ => show u + 1 * k.val = u + k.val; omega

/-! ## Loads -/

section Loads

variable {sp : Space} {S : Shape} {e : EltTy}

/-- A load from an argument's buffer, and from a buffer the body itself has filled. -/
theorem read_ld {arg : Memref sig .tc sp S e} (h : arg.IsWhole) (X : 𝕍 S e) (r : Rect S) :
    arg.view.readAt (Elt Ideal) r.toLoadRect (h.unread X) = View.ld X r := by
  rw [View.readAt_eq_ld, h.read_unread]

theorem cov_ld (v : View sig .tc sp S e) (L : List (View.Piece (Elt Ideal) S e)) (G : 𝕍 S e) (hG : View.PiecesOf G L)
    (hc : ∀ y, ∃ p ∈ L, y ∈ p.1.set) (r : Rect S) : v.readCov L r.toLoadRect = View.ld G r := by
  rw [View.readCov_eq_canon_ld v L r hc]
  exact congrArg (View.ld · r) (funext fun y => View.canon_apply_of_pieces G L hG.mem y (hc y))

theorem ld_whole {off : Fin S.rank → Nat} (inb : ∀ a, off a + S.size a ≤ S.size a) (X : 𝕍 S e) (h : ∀ a, off a = 0) :
    View.ld X (Rect.unit off S.size inb) = X := View.ld_unit_lit inb X h

end Loads

theorem ld3 {A B C a b c o q u : Nat} {e : EltTy} (X : 𝕍 ⟨3, ![A, B, C]⟩ e) (h) (i : Fin a) (j : Fin b) (k : Fin c)
    (hi : o + i.val < A) (hj : q + j.val < B) (hk : u + k.val < C) :
    View.ld X (Rect.unit (s := ⟨3, ![A, B, C]⟩) ![o, q, u] ![a, b, c] h) (ix3 i j k)
      = X (ix3 ⟨o + i.val, hi⟩ ⟨q + j.val, hj⟩ ⟨u + k.val, hk⟩) := congrArg X (emb3 h i j k hi hj hk)

theorem ld2 {A B a b o q : Nat} {e : EltTy} (X : 𝕍 ⟨2, ![A, B]⟩ e) (h) (i : Fin a) (j : Fin b)
    (hi : o + i.val < A) (hj : q + j.val < B) :
    View.ld X (Rect.unit (s := ⟨2, ![A, B]⟩) ![o, q] ![a, b] h) (ix2 i j) = X (ix2 ⟨o + i.val, hi⟩ ⟨q + j.val, hj⟩) :=
  congrArg X (emb2 h i j hi hj)

/-! ## The stores of the first phase -/

section First

variable {X : 𝕍 S36x8x1024 .f32} {g b g' b' : 𝕍 S1x1024 .f32} {Y Z : 𝕍 S1x8x1024 .f32}

/-- A pixel's row of the normed array. -/
theorem row_at (p : Nat) (hp : p < 36) {h} (hY : Y = View.ld X (Rect.unit (s := S36x8x1024) ![p, 0, 0] S1x8x1024.size h)) (r : Fin 8) :
    (fun l : Fin 1024 => Y (ix3 0 r l)) = fun l => X (ix3 ⟨p, hp⟩ r l) := by
  funext l
  rw [hY]
  refine (ld3 X h (0 : Fin 1) r l (by simpa using hp) (by omega) (by omega)).trans (congrArg X ?_)
  simp

theorem on_piece (p : Nat) (hp : 2 * p + 1 < 36) {h0 h1}
    (hY : Y = View.ld X (Rect.unit (s := S36x8x1024) ![2 * p, 0, 0] S1x8x1024.size h0))
    (hZ : Z = View.ld X (Rect.unit (s := S36x8x1024) ![2 * p + 1, 0, 0] S1x8x1024.size h1)) (hg : g' = g) (hb : b' = b)
    (hq) (x : S16x1024.Idx) : k0_pay23 (F := Ideal) (k0_pay19 Y g' b') (k0_pay19 Z g' b') x
      = lhsOn X g b ((Rect.unit (s := S288x1024) ![16 * p, 0] S16x1024.size hq).emb x) := by
  obtain ⟨a, l, rfl⟩ : ∃ a l, x = ix2 a l := ⟨_, _, eq_ix2 x⟩
  subst hg hb
  have ha := a.isLt
  rw [emb2 hq a l (by omega) (by omega), pay23_at]
  have hl : (⟨0 + l.val, by omega⟩ : Fin 1024) = l := Fin.ext (Nat.zero_add _)
  show _ = qK (oB X g' b' (pix ⟨16 * p + a.val, _⟩) (lan ⟨16 * p + a.val, _⟩)) _
  rw [hl]
  unfold oB
  split
  · next h =>
    rw [pay19_at, row_at (2 * p) (by omega) hY]
    rw [show pix ⟨16 * p + a.val, by omega⟩ = ⟨2 * p, by omega⟩ from Fin.ext (by simp only [pix]; omega),
      show lan ⟨16 * p + a.val, by omega⟩ = ⟨a.val, h⟩ from Fin.ext (by simp only [lan]; omega)]
    rfl
  · next h =>
    rw [pay19_at, row_at (2 * p + 1) (by omega) hZ]
    rw [show pix ⟨16 * p + a.val, by omega⟩ = ⟨2 * p + 1, by omega⟩ from Fin.ext (by simp only [pix]; omega),
      show lan ⟨16 * p + a.val, by omega⟩ = ⟨a.val - 8, by omega⟩ from Fin.ext (by simp only [lan]; omega)]
    rfl

theorem oni_piece (p : Nat) (hp : p < 36) {h}
    (hY : Y = View.ld X (Rect.unit (s := S36x8x1024) ![p, 0, 0] S1x8x1024.size h)) (hg : g' = g) (hb : b' = b)
    (hq) (x : S1x8x1024.Idx) : k0_pay20 (F := Ideal) (k0_pay19 Y g' b') x
      = onOut X g b ((Rect.unit (s := S36x8x1024) ![p, 0, 0] S1x8x1024.size hq).emb x) := by
  obtain ⟨a, r, l, rfl⟩ : ∃ a r l, x = ix3 a r l := ⟨_, _, _, eq_ix3 x⟩
  subst hg hb
  obtain rfl : a = 0 := Subsingleton.elim _ _
  rw [emb3 hq 0 r l (by simpa using hp) (by omega) (by omega), pay20_at, pay19_at, row_at p hp hY]
  simp [onOut, oB]

theorem scl_piece (p : Nat) (hp : p < 36) {h}
    (hY : Y = View.ld X (Rect.unit (s := S36x8x1024) ![p, 0, 0] S1x8x1024.size h)) (hg : g' = g) (hb : b' = b)
    (hq) (x : S8x128.Idx) : k0_pay21 (F := Ideal) (k0_pay18 Y g' b') x
      = sclArr X g b ((Rect.unit (s := S288x128) ![8 * p, 0] S8x128.size hq).emb x) := by
  obtain ⟨r, j, rfl⟩ : ∃ r j, x = ix2 r j := ⟨_, _, eq_ix2 x⟩
  subst hg hb
  rw [emb2 hq r j (by omega) (by omega), pay21_at, pay18_at, row_at p hp hY]
  show _ = scaleK (oB X g' b' (pix ⟨8 * p + r.val, _⟩) (lan ⟨8 * p + r.val, _⟩))
  rw [show pix ⟨8 * p + r.val, by omega⟩ = ⟨p, by omega⟩ from Fin.ext (by simp only [pix]; omega),
      show lan ⟨8 * p + r.val, by omega⟩ = r from Fin.ext (by simp only [lan]; omega)]
  rfl

/-- The pixels `o, o + 1, …` as a family of loads. -/
theorem ons_piece (o : Nat) (ho : o < 2) (Ys : Nat → 𝕍 S1x8x1024 .f32)
    (hin : ∀ n : Nat, ∀ a, ![n % 36, 0, 0] a + S1x8x1024.size a ≤ S36x8x1024.size a)
    (hY : ∀ n, Ys n = View.ld X (Rect.unit (s := S36x8x1024) ![(18 * o + n) % 36, 0, 0] S1x8x1024.size (hin _)))
    (hg : g' = g) (hb : b' = b) (hq) (x : S1x8x18.Idx) :
    k0_pay316 (F := Ideal) (gather (fun n => k0_pay18 (Ys n) g' b') 18) x
      = onsOut X g b ((Rect.unit (s := S2x8x18) ![o, 0, 0] S1x8x18.size hq).emb x) := by
  obtain ⟨a, r, w, rfl⟩ : ∃ a r w, x = ix3 a r w := ⟨_, _, _, eq_ix3 x⟩
  subst hg hb
  obtain rfl : a = 0 := Subsingleton.elim _ _
  have hw := w.isLt
  rw [emb3 hq 0 r w (by simpa using ho) (by omega) (by omega), pay316_at, gather_at _ _ _ 18 (by omega) hw, pay18_at,
    row_at ((18 * o + w.val) % 36) (by omega) (hY w.val)]
  simp only [onsOut, oB]
  congr 3
  funext l
  refine congrArg X ?_
  have : (18 * o + w.val) % 36 = 18 * o + w.val := Nat.mod_eq_of_lt (by omega)
  simp [this]

end First

/-! ## The stores of the output projection -/

section Project

variable {X : 𝕍 S36x8x1024 .f32} {g b : 𝕍 S1x1024 .f32} {W : 𝕍 S1024x512 .bf16} {ws : 𝕍 S1x512 .f32} {xr : 𝕍 S36x8x512 .bf16}

theorem x1_piece (o : Nat) (ho : o + 256 ≤ 512) {Q : 𝕍 S288x1024 .bf16} {S : 𝕍 S288x128 .f32} {W' : 𝕍 S1024x256 .bf16}
    {ws' : 𝕍 S1x256 .f32} {xr' : 𝕍 S36x8x256 .bf16} {h1 h2 h3} (hQ : Q = lhsOn X g b) (hS : S = sclArr X g b)
    (hW : W' = View.ld W (Rect.unit (s := S1024x512) ![0, o] S1024x256.size h1))
    (hws : ws' = View.ld ws (Rect.unit (s := S1x512) ![0, o] S1x256.size h2))
    (hxr : xr' = View.ld xr (Rect.unit (s := S36x8x512) ![0, 0, o] S36x8x256.size h3)) (hq) (x : S36x8x256.Idx) :
    k0_pay317 (F := Ideal) Q W' S ws' xr' x
      = x1Arr X g b W ws xr ((Rect.unit (s := S36x8x512) ![0, 0, o] S36x8x256.size hq).emb x) := by
  obtain ⟨p, r, d, rfl⟩ : ∃ p r d, x = ix3 p r d := ⟨_, _, _, eq_ix3 x⟩
  have hp := p.isLt
  have hr := r.isLt
  have hd := d.isLt
  have e0 : (⟨0 + p.val, by omega⟩ : Fin 36) = p := Fin.ext (Nat.zero_add _)
  have e1 : (⟨0 + r.val, by omega⟩ : Fin 8) = r := Fin.ext (Nat.zero_add _)
  have eS : ∀ j, S (ix2 (tok p r) j) = scaleK (oB X g b p r) := fun j => by
    rw [hS]; show scaleK (oB X g b (pix (tok p r)) (lan (tok p r))) = _; rw [pix_tok, lan_tok]
  have eQ : ∀ k, Q (ix2 (tok p r) k) = qK (oB X g b p r) k := fun k => by
    rw [hQ]; show qK (oB X g b (pix (tok p r)) (lan (tok p r))) k = _; rw [pix_tok, lan_tok]
  rw [emb3 hq p r d (by omega) (by omega) (by omega), e0, e1,
    pay317_at _ _ _ _ _ _ _ _ (scaleK (oB X g b p r)) eS]
  show _ = x1F (qK (oB X g b p r)) (scaleK (oB X g b p r)) (fun k d => W (ix2 k d)) (fun d => ws (ix2 0 d))
    (fun d => xr (ix3 p r d)) ⟨o + d.val, by omega⟩
  unfold x1F
  have eW : ∀ k, W' (ix2 k d) = W (ix2 k ⟨o + d.val, by omega⟩) := fun k => by
    have hk := k.isLt
    rw [hW]
    exact (ld2 W h1 k d (by omega) (by omega)).trans (by simp)
  have ews : ws' (ix2 0 d) = ws (ix2 0 ⟨o + d.val, by omega⟩) := by
    rw [hws]
    exact (ld2 ws h2 (0 : Fin 1) d (by decide) (by omega)).trans (by simp)
  have exr : xr' (ix3 p r d) = xr (ix3 p r ⟨o + d.val, by omega⟩) := by
    rw [hxr]
    exact (ld3 xr h3 p r d (by omega) (by omega) (by omega)).trans (by simp)
  rw [ews, exr]
  refine congrArg (fun t => _ + t * _ * _) (Finset.sum_congr rfl fun k _ => ?_)
  rw [eW k]
  exact congrArg (· * _) (eQ k)

end Project

/-! ## The stores of the second norm -/

section Second

variable {x1 : 𝕍 S36x8x512 .f32} {g b g' b' : 𝕍 S1x512 .f32} {s : 𝕍 S1 .f32} {s' : Elt Ideal .f32} {Y Z : 𝕍 S1x8x512 .f32}

theorem row2_at (p : Nat) (hp : p < 36) {h} (hY : Y = View.ld x1 (Rect.unit (s := S36x8x512) ![p, 0, 0] S1x8x512.size h)) (r : Fin 8) :
    (fun l : Fin 512 => Y (ix3 0 r l)) = fun l => x1 (ix3 ⟨p, hp⟩ r l) := by
  funext l
  rw [hY]
  refine (ld3 x1 h (0 : Fin 1) r l (by simpa using hp) (by omega) (by omega)).trans (congrArg x1 ?_)
  simp

theorem a2_row (p : Nat) (hp : p < 36) {h} (hY : Y = View.ld x1 (Rect.unit (s := S36x8x512) ![p, 0, 0] S1x8x512.size h))
    (hs : s' = s (ix1 0)) (hg : g' = g) (hb : b' = b) (r : Fin 8) (d : Fin 512) :
    k0_pay321 (F := Ideal) (k0_pay7 s' g') (k0_pay8 s' b') Y (ix2 r d) = a2Row x1 g b s ⟨p, hp⟩ r d := by
  subst hs hg hb
  rw [pay321_at, pay7_at, pay8_at, row2_at p hp hY]
  rfl

theorem a2_piece (p : Nat) (hp : 2 * p + 1 < 36) {h0 h1}
    (hY : Y = View.ld x1 (Rect.unit (s := S36x8x512) ![2 * p, 0, 0] S1x8x512.size h0))
    (hZ : Z = View.ld x1 (Rect.unit (s := S36x8x512) ![2 * p + 1, 0, 0] S1x8x512.size h1))
    (hs : s' = s (ix1 0)) (hg : g' = g) (hb : b' = b) (hq) (x : S16x512.Idx) :
    k0_pay326 (F := Ideal) (k0_pay7 s' g') (k0_pay8 s' b') (k0_pay321 (k0_pay7 s' g') (k0_pay8 s' b') Y) Z x
      = lhsA2 x1 g b s ((Rect.unit (s := S288x512) ![16 * p, 0] S16x512.size hq).emb x) := by
  obtain ⟨a, l, rfl⟩ : ∃ a l, x = ix2 a l := ⟨_, _, eq_ix2 x⟩
  have ha := a.isLt
  rw [emb2 hq a l (by omega) (by omega), pay326_at]
  have hl : (⟨0 + l.val, by omega⟩ : Fin 512) = l := Fin.ext (Nat.zero_add _)
  rw [hl]
  show _ = a2Row x1 g b s (pix ⟨16 * p + a.val, _⟩) (lan ⟨16 * p + a.val, _⟩) l
  split
  · next h =>
    rw [a2_row (2 * p) (by omega) hY hs hg hb]
    rw [show pix ⟨16 * p + a.val, by omega⟩ = ⟨2 * p, by omega⟩ from Fin.ext (by simp only [pix]; omega),
      show lan ⟨16 * p + a.val, by omega⟩ = ⟨a.val, h⟩ from Fin.ext (by simp only [lan]; omega)]
  · next h =>
    rw [a2_row (2 * p + 1) (by omega) hZ hs hg hb]
    rw [show pix ⟨16 * p + a.val, by omega⟩ = ⟨2 * p + 1, by omega⟩ from Fin.ext (by simp only [pix]; omega),
      show lan ⟨16 * p + a.val, by omega⟩ = ⟨a.val - 8, by omega⟩ from Fin.ext (by simp only [lan]; omega)]

theorem a2o_piece (p : Nat) (hp : p < 36) {h}
    (hY : Y = View.ld x1 (Rect.unit (s := S36x8x512) ![p, 0, 0] S1x8x512.size h))
    (hs : s' = s (ix1 0)) (hg : g' = g) (hb : b' = b) (hq) (x : S1x8x512.Idx) :
    k0_pay325 (F := Ideal) (k0_pay7 s' g') (k0_pay8 s' b') Y x
      = a2Out x1 g b s ((Rect.unit (s := S36x8x512) ![p, 0, 0] S1x8x512.size hq).emb x) := by
  obtain ⟨a, r, l, rfl⟩ : ∃ a r l, x = ix3 a r l := ⟨_, _, _, eq_ix3 x⟩
  obtain rfl : a = 0 := Subsingleton.elim _ _
  rw [emb3 hq 0 r l (by simpa using hp) (by omega) (by omega), pay325_at, a2_row p hp hY hs hg hb]
  simp [a2Out]

end Second

/-! ## The stores of the hidden layer -/

section Hidden

variable {A A' : 𝕍 S288x512 .bf16} {U : 𝕍 S512x2048 .bf16} {us ub us' ub' : 𝕍 S1x2048 .f32} {sa sh : 𝕍 S1 .f32} {z : 𝕍 S1 .i32}
  {sa' sh' : Elt Ideal .f32} {z' : Elt Ideal .i32} {U' : 𝕍 S512x256 .bf16}

theorem slab_val (o : Nat) (ho : S1x2048.Slices ![0, o] S1x256) (hf : o + 256 ≤ 2048) (hA : A' = A) {h1}
    (hU : U' = View.ld U (Rect.unit (s := S512x2048) ![0, o] S512x256.size h1))
    (hus : us' = us) (hub : ub' = ub) (hsa : sa' = sa (ix1 0)) (hsh : sh' = sh (ix1 0)) (hz : z' = z (ix1 0))
    (t : Fin 288) (f : Fin 256) :
    slab o ho (k0_pay448 z') (k0_pay449 sa' us') (k0_pay450 ub') (k0_pay451 sh') A' U' (ix2 t f)
      = hB A U us ub sa sh z t ⟨o + f.val, by omega⟩ := by
  subst hA hus hub hsa hsh hz
  have eU : ∀ k, U' (ix2 k f) = U (ix2 k ⟨o + f.val, by omega⟩) := fun k => by
    have hk := k.isLt
    rw [hU]
    exact (ld2 U h1 k f (by omega) (by omega)).trans (by simp)
  rw [slab_at o ho hf, pay449_at, pay450_at, pay451_at]
  simp only [eU]
  rfl

theorem h_piece (o : Nat) (ho : S1x2048.Slices ![0, o] S1x256) (hf : o + 256 ≤ 2048) (hA : A' = A) {h1}
    (hU : U' = View.ld U (Rect.unit (s := S512x2048) ![0, o] S512x256.size h1))
    (hus : us' = us) (hub : ub' = ub) (hsa : sa' = sa (ix1 0)) (hsh : sh' = sh (ix1 0)) (hz : z' = z (ix1 0))
    (hq) (x : S288x256.Idx) :
    slabH (k0_pay448 z') (slab o ho (k0_pay448 z') (k0_pay449 sa' us') (k0_pay450 ub') (k0_pay451 sh') A' U') x
      = lhsH A U us ub sa sh z ((Rect.unit (s := S288x2048) ![0, o] S288x256.size hq).emb x) := by
  obtain ⟨t, f, rfl⟩ : ∃ t f, x = ix2 t f := ⟨_, _, eq_ix2 x⟩
  rw [emb2 hq t f (by omega) (by omega), slabH_at, slab_val o ho hf hA hU hus hub hsa hsh hz]
  have e0 : (⟨0 + t.val, by omega⟩ : Fin 288) = t := Fin.ext (Nat.zero_add _)
  rw [e0, hz]
  rfl

theorem hq_piece (o : Nat) (ho : S1x2048.Slices ![0, o] S1x256) (hf : o + 256 ≤ 2048) (hA : A' = A) {h1}
    (hU : U' = View.ld U (Rect.unit (s := S512x2048) ![0, o] S512x256.size h1))
    (hus : us' = us) (hub : ub' = ub) (hsa : sa' = sa (ix1 0)) (hsh : sh' = sh (ix1 0)) (hz : z' = z (ix1 0))
    (hq) (x : S36x8x256.Idx) :
    slabI (slab o ho (k0_pay448 z') (k0_pay449 sa' us') (k0_pay450 ub') (k0_pay451 sh') A' U') x
      = hqOut A U us ub sa sh z ((Rect.unit (s := S36x8x2048) ![0, 0, o] S36x8x256.size hq).emb x) := by
  obtain ⟨p, r, f, rfl⟩ : ∃ p r f, x = ix3 p r f := ⟨_, _, _, eq_ix3 x⟩
  have e0 : (⟨0 + p.val, by omega⟩ : Fin 36) = p := Fin.ext (Nat.zero_add _)
  have e1 : (⟨0 + r.val, by omega⟩ : Fin 8) = r := Fin.ext (Nat.zero_add _)
  rw [emb3 hq p r f (by omega) (by omega) (by omega), e0, e1, slabI_at, slab_val o ho hf hA hU hus hub hsa hsh hz]
  rfl

end Hidden

/-! ## The stores of the result -/

theorem y_piece {x1 : 𝕍 S36x8x512 .f32} {H H' : 𝕍 S288x2048 .bf16} {V : 𝕍 S2048x512 .bf16} {sh : 𝕍 S1 .f32}
    {sh' : Elt Ideal .f32} {vs vb : 𝕍 S1x512 .f32} (o : Nat) (ho : o + 256 ≤ 512)
    {x1' : 𝕍 S36x8x256 .f32} {V' : 𝕍 S2048x256 .bf16} {vs' vb' : 𝕍 S1x256 .f32} {h1 h2 h3 h4} (hH : H' = H)
    (hV : V' = View.ld V (Rect.unit (s := S2048x512) ![0, o] S2048x256.size h1)) (hsh : sh' = sh (ix1 0))
    (hvs : vs' = View.ld vs (Rect.unit (s := S1x512) ![0, o] S1x256.size h2))
    (hvb : vb' = View.ld vb (Rect.unit (s := S1x512) ![0, o] S1x256.size h3))
    (hx : x1' = View.ld x1 (Rect.unit (s := S36x8x512) ![0, 0, o] S36x8x256.size h4)) (hq) (x : S36x8x256.Idx) :
    k0_pay484 (F := Ideal) (k0_pay482 H' V' sh' vs') (k0_pay483 vb') x1' x
      = yOut x1 H V sh vs vb ((Rect.unit (s := S36x8x512) ![0, 0, o] S36x8x256.size hq).emb x) := by
  obtain ⟨p, r, d, rfl⟩ : ∃ p r d, x = ix3 p r d := ⟨_, _, _, eq_ix3 x⟩
  have hp := p.isLt
  have hr := r.isLt
  have hd := d.isLt
  have e0 : (⟨0 + p.val, by omega⟩ : Fin 36) = p := Fin.ext (Nat.zero_add _)
  have e1 : (⟨0 + r.val, by omega⟩ : Fin 8) = r := Fin.ext (Nat.zero_add _)
  subst hH hsh
  rw [emb3 hq p r d (by omega) (by omega) (by omega), e0, e1, pay484_at]
  have eV : ∀ k, V' (ix2 k d) = V (ix2 k ⟨o + d.val, by omega⟩) := fun k => by
    have hk := k.isLt
    rw [hV]
    exact (ld2 V h1 k d (by omega) (by omega)).trans (by simp)
  have evs : vs' (ix2 0 d) = vs (ix2 0 ⟨o + d.val, by omega⟩) := by
    rw [hvs]
    exact (ld2 vs h2 (0 : Fin 1) d (by decide) (by omega)).trans (by simp)
  have evb : vb' (ix2 0 d) = vb (ix2 0 ⟨o + d.val, by omega⟩) := by
    rw [hvb]
    exact (ld2 vb h3 (0 : Fin 1) d (by decide) (by omega)).trans (by simp)
  have ex : x1' (ix3 p r d) = x1 (ix3 p r ⟨o + d.val, by omega⟩) := by
    rw [hx]
    exact (ld3 x1 h4 p r d (by omega) (by omega) (by omega)).trans (by simp)
  rw [evs, evb, ex]
  simp only [eV]
  rfl

/-- A scalar argument. -/
theorem read_sc {sp : Space} {e : EltTy} {arg : Memref sig .tc sp S1 e} (h : arg.IsWhole) (x : 𝕍 S1 e) (hin) (hf) :
    arg.view.readAt (Elt Ideal) (Rect.unit (s := S1) ![0] S1.size hin).toLoadRect (h.unread x) (Shape.Idx.first hf) = x (ix1 0) := by
  rw [read_ld, ld_whole _ _ (by decide)]
  refine congrArg x ?_
  rw [eq_ix1 (Shape.Idx.first hf)]
  exact congrArg ix1 (Subsingleton.elim _ _)

end Cert.Tail

end
-- ==== Proof.FrontLoads.lean ====
/- Reading back what the first call's opening stores left: whole loads, whole stores, and the first of a stack of rows. -/
module

public import proofs.«01_k».proof.Proof.Gen.FrontIdeal.Skeleton
public import proofs.«01_k».proof.Proof.Pieces
public import Idealize.ShloMosaic.Lib.Pipeline.FrameBody
public import Idealize.ShloMosaic.Lib.WritesUnit

@[expose] public section

set_option maxRecDepth 16384

noncomputable section

namespace Cert.FrontIdeal.Gen

open Idealize.ShloMosaic Idealize.ShloMosaic.TcCoe Cert.Tail

variable {F : FTy → Type} [FloatOps F]

section Loads

variable {sp : Space} {S : Shape} {e : EltTy} {Val : EltTy → Type}

/-- A whole load of a staged input. -/
theorem front_ld {arg : Memref sig .tc sp S e} (h : arg.IsWhole) (X : S.Idx → Val e) {off : Fin S.rank → Nat} (inb : ∀ a, off a + S.size a ≤ S.size a)
    (h0 : ∀ a, off a = 0) : arg.view.readAt Val (Rect.unit off S.size inb).toLoadRect (h.unread X) = X := by
  rw [View.readAt_eq_ld, h.read_unread]
  exact View.ld_unit_lit inb X h0

/-- A scalar load. -/
theorem front_sc {arg : Memref sig .tc sp S1 e} (h : arg.IsWhole) (x : S1.Idx → Val e) (hin : ∀ a, (![0] : Fin 1 → Nat) a + S1.size a ≤ S1.size a) (hf) :
    arg.view.readAt Val (Rect.unit (s := S1) ![0] S1.size hin).toLoadRect (h.unread x) (Shape.Idx.first hf) = x (Shape.Idx.first hf) :=
  congrFun (front_ld h x hin (by decide)) _

/-- What one whole store leaves. -/
theorem front_full (arg : Memref sig .tc sp S e) (f : BufTy.Contents Val arg.view.ty) {off : Fin S.rank → Nat} (inb : ∀ a, off a + S.size a ≤ S.size a)
    (h0 : ∀ a, off a = 0) (w : S.Idx → Val e) :
    arg.view.read Val (arg.view.writes Val f [(⟨Rect.unit off S.size inb, w⟩ : View.Piece Val S e)]) = w := by
  funext y
  exact View.read_writes_cons_unit_of_mem arg.view f inb w [] y y (funext h0) (fun a => (Nat.zero_add _).symm)

/-- The first row of an array whose rows were stored one by one, the first of them first. -/
theorem front_row (arg : Memref sig .tc .vmem S8x1024 .f32) (f : BufTy.Contents Val arg.view.ty) (w0 w1 w2 w3 w4 w5 : S1x1024.Idx → Val .f32) (i0 i1 i2 i3 i4 i5) (l : Fin 1024) :
    arg.view.read Val (arg.view.writes Val f
      [(⟨Rect.unit ![5, 0] S1x1024.size i5, w5⟩ : View.Piece Val S8x1024 .f32), ⟨Rect.unit ![4, 0] S1x1024.size i4, w4⟩, ⟨Rect.unit ![3, 0] S1x1024.size i3, w3⟩,
        ⟨Rect.unit ![2, 0] S1x1024.size i2, w2⟩, ⟨Rect.unit ![1, 0] S1x1024.size i1, w1⟩, ⟨Rect.unit ![0, 0] S1x1024.size i0, w0⟩]) (ix2 0 l) = w0 (ix2 0 l) := by
  rw [View.read_writes_cons_unit_of_not_mem arg.view f i5 w5 _ (ix2 0 l) rfl 0 (.inl (by show 0 < 5; omega)),
    View.read_writes_cons_unit_of_not_mem arg.view f i4 w4 _ (ix2 0 l) rfl 0 (.inl (by show 0 < 4; omega)),
    View.read_writes_cons_unit_of_not_mem arg.view f i3 w3 _ (ix2 0 l) rfl 0 (.inl (by show 0 < 3; omega)),
    View.read_writes_cons_unit_of_not_mem arg.view f i2 w2 _ (ix2 0 l) rfl 0 (.inl (by show 0 < 2; omega)),
    View.read_writes_cons_unit_of_not_mem arg.view f i1 w1 _ (ix2 0 l) rfl 0 (.inl (by show 0 < 1; omega))]
  refine View.read_writes_cons_unit_of_mem arg.view f i0 w0 [] (ix2 0 l) (ix2 0 l) rfl fun a => ?_
  match a with
  | ⟨0, _⟩ => rfl
  | ⟨1, _⟩ => exact (Nat.zero_add _).symm

end Loads

theorem congr_pay {s s' : Elt F .f32} (hs : s' = s) {c c' : Vec F S1x1024 .f32} (hc : c' = c) {w w' : Vec F S1x1024 .f32} (hw : w' = w) :
    k0_pay2975 s' (k0_pay2973 c') (Scalar.ofBits .f32 0x77F684DF#32) (k0_pay2974 (F := F)) w' = k0_pay2975 s (k0_pay2973 c) (Scalar.ofBits .f32 0x77F684DF#32) (k0_pay2974 (F := F)) w := by
  subst hs hc hw
  rfl

end Cert.FrontIdeal.Gen

end
-- ==== Proof.FrontIdealRun.lean ====
/- The front call's body (FrontIdeal), run whole: the inputs are kept, outputs 21 and 22 hold what the pixel loop leaves, and the other outputs
   and the scratch hold something. -/
module

public import proofs.«01_k».proof.Proof.Gen.FrontIdeal.Frame
public import proofs.«01_k».proof.Proof.FrontIdealLoop
public import proofs.«01_k».proof.Proof.FrontIdealLoop3
public import proofs.«01_k».proof.Proof.FrontIdealLoop4
public import proofs.«01_k».proof.Proof.FrontIdealLoop5
public import proofs.«01_k».proof.Proof.FrontLoads

@[expose] public section

-- membership in a rectangle of production extents (`View.cover_of_tiled`): the elaborator's structural look
-- recurses once per coordinate of the long axes
set_option maxRecDepth 16384

noncomputable section

namespace Cert.FrontIdeal.Gen

open Idealize.ShloMosaic Idealize.ShloMosaic.TcCoe Idealize.ShloMosaic.Tactic Cert.Tail
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 20000000 in
/-- The body's triple: on whole staging memrefs — the inputs' at their contents,
    the FORGOTTEN outputs' (23, 24, 25, 26, 27) at anything, handed back at some contents nothing names —
    the body runs to the continuation holding the inputs' as they were, the scratch at some contents: the printed functions are their skeletons (`Gen.*_eq_skeleton`),
    which `sl_exec` runs (Lib/Exec.lean). -/
theorem kernelRun0_A (c : Dev nD) (arg0 : Memref sig .tc .smem S1 .f32) (harg0 : arg0.IsWhole) (arg1 : Memref sig .tc .smem S4 .f32) (harg1 : arg1.IsWhole) (arg2 : Memref sig .tc .smem S4 .f32) (harg2 : arg2.IsWhole) (arg3 : Memref sig .tc .smem S4 .f32) (harg3 : arg3.IsWhole) (arg4 : Memref sig .tc .vmem S252x8x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S256x1024 .i8) (harg7 : arg7.IsWhole) (arg8 : Memref sig .tc .vmem S1x1024 .f32) (harg8 : arg8.IsWhole) (arg9 : Memref sig .tc .vmem S1x1024 .f32) (harg9 : arg9.IsWhole) (arg10 : Memref sig .tc .vmem S3x3x1024 .i8) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S34x4x1024 .i8) (harg14 : arg14.IsWhole) (arg15 : Memref sig .tc .vmem S4x34 .f32) (harg15 : arg15.IsWhole) (arg16 : Memref sig .tc .vmem S4x32x1024 .i8) (harg16 : arg16.IsWhole) (arg17 : Memref sig .tc .vmem S4x1024 .f32) (harg17 : arg17.IsWhole) (arg18 : Memref sig .tc .vmem S4x1024 .f32) (harg18 : arg18.IsWhole) (arg19 : Memref sig .tc .vmem S4x1024 .f32) (harg19 : arg19.IsWhole) (arg20 : Memref sig .tc .vmem S4x1024 .f32) (harg20 : arg20.IsWhole) (arg21 : Memref sig .tc .vmem S252x8x512 .i8) (harg21 : arg21.IsWhole) (arg22 : Memref sig .tc .vmem S252x8x1024 .i8) (harg22 : arg22.IsWhole) (arg23 : Memref sig .tc .vmem S252x8x1024 .i8) (harg23 : arg23.IsWhole) (arg24 : Memref sig .tc .vmem S4x252x8x32 .i8) (harg24 : arg24.IsWhole) (arg25 : Memref sig .tc .vmem S4x14x8x18 .i8) (harg25 : arg25.IsWhole) (arg26 : Memref sig .tc .vmem S4x14x8x18 .i8) (harg26 : arg26.IsWhole) (arg27 : Memref sig .tc .vmem S252x8x1024 .f32) (harg27 : arg27.IsWhole) (arg28 : Memref sig .tc .vmem S512x1024 .bf16) (harg28 : arg28.IsWhole) (arg29 : Memref sig .tc .vmem S1024x512 .bf16) (harg29 : arg29.IsWhole) (arg30 : Memref sig .tc .vmem S4x128x1024 .bf16) (harg30 : arg30.IsWhole) (arg31 : Memref sig .tc .vmem S9x8x1024 .bf16) (harg31 : arg31.IsWhole) (arg32 : Memref sig .tc .vmem S16x20x8x1024 .bf16) (harg32 : arg32.IsWhole) (arg33 : Memref sig .tc .vmem S252x8x1024 .f32) (harg33 : arg33.IsWhole) (arg34 : Memref sig .tc .vmem S252x8x1024 .f32) (harg34 : arg34.IsWhole) (arg35 : Memref sig .tc .vmem S144x512 .bf16) (harg35 : arg35.IsWhole) (arg36 : Memref sig .tc .vmem S144x1024 .bf16) (harg36 : arg36.IsWhole) (arg37 : Memref sig .tc .vmem S4x252x8x128 .f32) (harg37 : arg37.IsWhole) (arg38 : Memref sig .tc .vmem S2x144x1024 .f32) (harg38 : arg38.IsWhole) (arg39 : Memref sig .tc .vmem S8x1024 .f32) (harg39 : arg39.IsWhole) (arg40 : Memref sig .tc .vmem S8x128 .f32) (harg40 : arg40.IsWhole) (arg41 : Memref sig .tc .vmem S8x1024 .f32) (harg41 : arg41.IsWhole)
    (x0 : Vec F S1 .f32) (x1 : Vec F S4 .f32) (x2 : Vec F S4 .f32) (x3 : Vec F S4 .f32) (x4 : Vec F S252x8x512 .bf16) (x5 : Vec F S1x512 .f32) (x6 : Vec F S1x512 .f32) (x7 : Vec F S256x1024 .i8) (x8 : Vec F S1x1024 .f32) (x9 : Vec F S1x1024 .f32) (x10 : Vec F S3x3x1024 .i8) (x11 : Vec F S1x1024 .f32) (x12 : Vec F S1x1024 .f32) (x13 : Vec F S1x1024 .f32) (x14 : Vec F S34x4x1024 .i8) (x15 : Vec F S4x34 .f32) (x16 : Vec F S4x32x1024 .i8) (x17 : Vec F S4x1024 .f32) (x18 : Vec F S4x1024 .f32) (x19 : Vec F S4x1024 .f32) (x20 : Vec F S4x1024 .f32)
    (A21 : Vec F S252x8x512 .i8) (A22 : Vec F S252x8x1024 .i8)
    (h21 : ∀ (v29 v32 : FVec F S1x512 .f32) (v483 : FVec F S4x1024 .f32) (X28 : BufTy.Contents (Elt F) arg28.view.ty) (X39 : BufTy.Contents (Elt F) arg39.view.ty)
      (G21 : BufTy.Contents (Elt F) arg21.view.ty) (G22 : BufTy.Contents (Elt F) arg22.view.ty) (G32 : BufTy.Contents (Elt F) arg32.view.ty) (G35 : BufTy.Contents (Elt F) arg35.view.ty),
      v29 = k0_pay2971 (x0 (Shape.Idx.first (by decide))) x5 → v32 = k0_pay2972 (x0 (Shape.Idx.first (by decide))) x6 → arg28.view.read (Elt F) X28 = k0_pay2969 x7
      → (∀ l : Fin 1024, arg39.view.read (Elt F) X39 (ix2 0 l) = k0_pay2975 (x0 (Shape.Idx.first (by decide))) (k0_pay2973 x9) (Scalar.ofBits .f32 0x77F684DF#32) (k0_pay2974 (F := F)) x8 (ix2 0 l))
      → arg21.view.read (Elt F) (arg21.view.writes (Elt F) G21 (pb_k0_t1 (F := F) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v29 v32 v483 (harg4.unread x4) X28 X39 G21 G22 G32 G35 k0_t1_loop.trips).1) = A21)
    (h22 : ∀ (v29 v32 : FVec F S1x512 .f32) (v483 : FVec F S4x1024 .f32) (X28 : BufTy.Contents (Elt F) arg28.view.ty) (X39 : BufTy.Contents (Elt F) arg39.view.ty)
      (G21 : BufTy.Contents (Elt F) arg21.view.ty) (G22 : BufTy.Contents (Elt F) arg22.view.ty) (G32 : BufTy.Contents (Elt F) arg32.view.ty) (G35 : BufTy.Contents (Elt F) arg35.view.ty),
      v29 = k0_pay2971 (x0 (Shape.Idx.first (by decide))) x5 → v32 = k0_pay2972 (x0 (Shape.Idx.first (by decide))) x6 → arg28.view.read (Elt F) X28 = k0_pay2969 x7
      → (∀ l : Fin 1024, arg39.view.read (Elt F) X39 (ix2 0 l) = k0_pay2975 (x0 (Shape.Idx.first (by decide))) (k0_pay2973 x9) (Scalar.ofBits .f32 0x77F684DF#32) (k0_pay2974 (F := F)) x8 (ix2 0 l))
      → arg22.view.read (Elt F) (arg22.view.writes (Elt F) G22 (pb_k0_t1 (F := F) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v29 v32 v483 (harg4.unread x4) X28 X39 G21 G22 G32 G35 k0_t1_loop.trips).2.1) = A22) :
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare A21 ∗ owns (c : Thread nD τ) arg22 fullShare A22 ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d)) -∗ K ⟨⟩))
          ⊢ wp frame (wpE (defs₀ (F := F)) Variants.none c none) E (cc0_vss_front arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41) K := by
    intro E K
    simp only [cc0_vss_front_eq_skeleton]; unfold cc0_vss_front_skel
    simp only [k0_part767_eq_skeleton, k0_part768_eq_skeleton, k0_part769_eq_skeleton, k0_part770_eq_skeleton, k0_part771_eq_skeleton, k0_part772_eq_skeleton, k0_part773_eq_skeleton, k0_part774_eq_skeleton, k0_part775_eq_skeleton, k0_part776_eq_skeleton, k0_part777_eq_skeleton, k0_part778_eq_skeleton, k0_part779_eq_skeleton, k0_part780_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, ⟨%ds12, %fs12, -, HS12⟩, ⟨%ds13, %fs13, -, HS13⟩, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    isplitl [H19]
    · iexists _; isplitr; · ipureintro; exact harg19.read_unread _
      iexact H19
    isplitl [H20]
    · iexists _; isplitr; · ipureintro; exact harg20.read_unread _
      iexact H20
    isplitl [H21]
    · iexists _; isplitr; swap; · iexact H21
      ipureintro
      refine h21 _ _ _ _ _ _ _ _ _ ?_ ?_ ?_ ?_
      · exact congrArg₂ (fun a g => k0_pay2971 (F := F) a g) (front_sc harg0 x0 _ _) (front_ld harg5 x5 _ (by decide))
      · exact congrArg₂ (fun a g => k0_pay2972 (F := F) a g) (front_sc harg0 x0 _ _) (front_ld harg6 x6 _ (by decide))
      · exact (front_full arg28 _ _ (by decide) _).trans (congrArg k0_pay2969 (front_ld harg7 x7 _ (by decide)))
      · exact fun l => (front_row arg39 _ _ _ _ _ _ _ _ _ _ _ _ _ l).trans (congrFun (congr_pay (front_sc harg0 x0 _ _) (front_ld harg9 x9 _ (by decide)) (front_ld harg8 x8 _ (by decide))) _)
    isplitl [H22]
    · iexists _; isplitr; swap; · iexact H22
      ipureintro
      refine h22 _ _ _ _ _ _ _ _ _ ?_ ?_ ?_ ?_
      · exact congrArg₂ (fun a g => k0_pay2971 (F := F) a g) (front_sc harg0 x0 _ _) (front_ld harg5 x5 _ (by decide))
      · exact congrArg₂ (fun a g => k0_pay2972 (F := F) a g) (front_sc harg0 x0 _ _) (front_ld harg6 x6 _ (by decide))
      · exact (front_full arg28 _ _ (by decide) _).trans (congrArg k0_pay2969 (front_ld harg7 x7 _ (by decide)))
      · exact fun l => (front_row arg39 _ _ _ _ _ _ _ _ _ _ _ _ _ l).trans (congrFun (congr_pay (front_sc harg0 x0 _ _) (front_ld harg9 x9 _ (by decide)) (front_ld harg8 x8 _ (by decide))) _)
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    isplitl [H26]
    · iexists _, _; isplitr; swap; · iexact H26
      ipureintro; rfl
    isplitl [H27]
    · iexists _, _; isplitr; swap; · iexact H27
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    isplitl [HS10]
    · iexists _, _; isplitr; swap; · iexact HS10
      ipureintro; rfl
    isplitl [HS11]
    · iexists _, _; isplitr; swap; · iexact HS11
      ipureintro; rfl
    isplitl [HS12]
    · iexists _, _; isplitr; swap; · iexact HS12
      ipureintro; rfl
    iexists _, _; isplitr; swap; · iexact HS13
    ipureintro; rfl

end Cert.FrontIdeal.Gen

end
-- ==== Proof.FrontIdealRuns.lean ====
/- What the frame of the front call is stated with: its staging memrefs at a point, its scratch operands as memrefs, and the frame claim from a run
   that forgets some outputs. -/
module

public import proofs.«01_k».proof.Proof.Gen.FrontIdeal.Frame
public import proofs.«01_k».proof.Proof.Gen.FrontIdeal.Launch
public import proofs.«01_k».proof.Proof.Gen.FrontIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.FrontIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame claim's post from the frame run's -/

set_option maxHeartbeats 1680000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post at any `F`. -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      (Pipeline.RDat.FramePost.arr_in h c 7 rfl).trans ((hA c 7).trans (V_main_arg4 m c)),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      (Pipeline.RDat.FramePost.arr_in h c 10 rfl).trans ((hA c 10).trans (V_main_arg7 m c)),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      (Pipeline.RDat.FramePost.arr_in h c 15 rfl).trans ((hA c 15).trans (V_main_arg12 m c)),
      (Pipeline.RDat.FramePost.arr_in h c 1 rfl).trans ((hA c 1).trans (V_main_arg13 m c)),
      (Pipeline.RDat.FramePost.arr_in h c 2 rfl).trans ((hA c 2).trans (V_main_arg14 m c)),
      (Pipeline.RDat.FramePost.arr_in h c 3 rfl).trans ((hA c 3).trans (V_main_arg15 m c)),
      (Pipeline.RDat.FramePost.arr_in h c 16 rfl).trans ((hA c 16).trans (V_main_arg16 m c)),
      (Pipeline.RDat.FramePost.arr_in h c 17 rfl).trans ((hA c 17).trans (V_main_arg17 m c)),
      (Pipeline.RDat.FramePost.arr_in h c 18 rfl).trans ((hA c 18).trans (V_main_arg18 m c)),
      ((h c).2 main_arg19 (Pipeline.mem_restRefs_of main_arg19 (by decide) (by decide))).trans (V_main_arg19 m c),
      (Pipeline.RDat.FramePost.arr_in h c 20 rfl).trans ((hA c 20).trans (V_main_arg20 m c))⟩) h

/-! ## The kernel body on any staging memrefs: a subtype the run finds -/

/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 0
abbrev ms0_1 (t : Fin cfg0.N) : Memref sig .tc .smem S4 .f32 := win0_1.stage (cfg0.slots t 1)
abbrev hs0_1 (t : Fin cfg0.N) : (ms0_1 t).IsWhole := hstage0_1 0
abbrev ms0_2 (t : Fin cfg0.N) : Memref sig .tc .smem S4 .f32 := win0_2.stage (cfg0.slots t 2)
abbrev hs0_2 (t : Fin cfg0.N) : (ms0_2 t).IsWhole := hstage0_2 0
abbrev ms0_3 (t : Fin cfg0.N) : Memref sig .tc .smem S4 .f32 := win0_3.stage (cfg0.slots t 3)
abbrev hs0_3 (t : Fin cfg0.N) : (ms0_3 t).IsWhole := hstage0_3 0
abbrev ms0_4 (t : Fin cfg0.N) : Memref sig .tc .vmem S252x8x512 .bf16 := win0_4.stage (cfg0.slots t 4)
abbrev hs0_4 (t : Fin cfg0.N) : (ms0_4 t).IsWhole := hstage0_4 0
abbrev ms0_5 (t : Fin cfg0.N) : Memref sig .tc .vmem S1x512 .f32 := win0_5.stage (cfg0.slots t 5)
abbrev hs0_5 (t : Fin cfg0.N) : (ms0_5 t).IsWhole := hstage0_5 0
abbrev ms0_6 (t : Fin cfg0.N) : Memref sig .tc .vmem S1x512 .f32 := win0_6.stage (cfg0.slots t 6)
abbrev hs0_6 (t : Fin cfg0.N) : (ms0_6 t).IsWhole := hstage0_6 0
abbrev ms0_7 (t : Fin cfg0.N) : Memref sig .tc .vmem S256x1024 .i8 := win0_7.stage (cfg0.slots t 7)
abbrev hs0_7 (t : Fin cfg0.N) : (ms0_7 t).IsWhole := hstage0_7 0
abbrev ms0_8 (t : Fin cfg0.N) : Memref sig .tc .vmem S1x1024 .f32 := win0_8.stage (cfg0.slots t 8)
abbrev hs0_8 (t : Fin cfg0.N) : (ms0_8 t).IsWhole := hstage0_8 0
abbrev ms0_9 (t : Fin cfg0.N) : Memref sig .tc .vmem S1x1024 .f32 := win0_9.stage (cfg0.slots t 9)
abbrev hs0_9 (t : Fin cfg0.N) : (ms0_9 t).IsWhole := hstage0_9 0
abbrev ms0_10 (t : Fin cfg0.N) : Memref sig .tc .vmem S3x3x1024 .i8 := win0_10.stage (cfg0.slots t 10)
abbrev hs0_10 (t : Fin cfg0.N) : (ms0_10 t).IsWhole := hstage0_10 0
abbrev ms0_11 (t : Fin cfg0.N) : Memref sig .tc .vmem S1x1024 .f32 := win0_11.stage (cfg0.slots t 11)
abbrev hs0_11 (t : Fin cfg0.N) : (ms0_11 t).IsWhole := hstage0_11 0
abbrev ms0_12 (t : Fin cfg0.N) : Memref sig .tc .vmem S1x1024 .f32 := win0_12.stage (cfg0.slots t 12)
abbrev hs0_12 (t : Fin cfg0.N) : (ms0_12 t).IsWhole := hstage0_12 0
abbrev ms0_13 (t : Fin cfg0.N) : Memref sig .tc .vmem S1x1024 .f32 := win0_13.stage (cfg0.slots t 13)
abbrev hs0_13 (t : Fin cfg0.N) : (ms0_13 t).IsWhole := hstage0_13 0
abbrev ms0_14 (t : Fin cfg0.N) : Memref sig .tc .vmem S34x4x1024 .i8 := win0_14.stage (cfg0.slots t 14)
abbrev hs0_14 (t : Fin cfg0.N) : (ms0_14 t).IsWhole := hstage0_14 0
abbrev ms0_15 (t : Fin cfg0.N) : Memref sig .tc .vmem S4x34 .f32 := win0_15.stage (cfg0.slots t 15)
abbrev hs0_15 (t : Fin cfg0.N) : (ms0_15 t).IsWhole := hstage0_15 0
abbrev ms0_16 (t : Fin cfg0.N) : Memref sig .tc .vmem S4x32x1024 .i8 := win0_16.stage (cfg0.slots t 16)
abbrev hs0_16 (t : Fin cfg0.N) : (ms0_16 t).IsWhole := hstage0_16 0
abbrev ms0_17 (t : Fin cfg0.N) : Memref sig .tc .vmem S4x1024 .f32 := win0_17.stage (cfg0.slots t 17)
abbrev hs0_17 (t : Fin cfg0.N) : (ms0_17 t).IsWhole := hstage0_17 0
abbrev ms0_18 (t : Fin cfg0.N) : Memref sig .tc .vmem S4x1024 .f32 := win0_18.stage (cfg0.slots t 18)
abbrev hs0_18 (t : Fin cfg0.N) : (ms0_18 t).IsWhole := hstage0_18 0
abbrev ms0_19 (t : Fin cfg0.N) : Memref sig .tc .vmem S4x1024 .f32 := win0_19.stage (cfg0.slots t 19)
abbrev hs0_19 (t : Fin cfg0.N) : (ms0_19 t).IsWhole := hstage0_19 0
abbrev ms0_20 (t : Fin cfg0.N) : Memref sig .tc .vmem S4x1024 .f32 := win0_20.stage (cfg0.slots t 20)
abbrev hs0_20 (t : Fin cfg0.N) : (ms0_20 t).IsWhole := hstage0_20 0
abbrev ms0_21 (t : Fin cfg0.N) : Memref sig .tc .vmem S252x8x512 .i8 := win0_21.stage (cfg0.slots t 21)
abbrev hs0_21 (t : Fin cfg0.N) : (ms0_21 t).IsWhole := hstage0_21 0
abbrev ms0_22 (t : Fin cfg0.N) : Memref sig .tc .vmem S252x8x1024 .i8 := win0_22.stage (cfg0.slots t 22)
abbrev hs0_22 (t : Fin cfg0.N) : (ms0_22 t).IsWhole := hstage0_22 0
abbrev ms0_23 (t : Fin cfg0.N) : Memref sig .tc .vmem S252x8x1024 .i8 := win0_23.stage (cfg0.slots t 23)
abbrev hs0_23 (t : Fin cfg0.N) : (ms0_23 t).IsWhole := hstage0_23 0
abbrev ms0_24 (t : Fin cfg0.N) : Memref sig .tc .vmem S4x252x8x32 .i8 := win0_24.stage (cfg0.slots t 24)
abbrev hs0_24 (t : Fin cfg0.N) : (ms0_24 t).IsWhole := hstage0_24 0
abbrev ms0_25 (t : Fin cfg0.N) : Memref sig .tc .vmem S4x14x8x18 .i8 := win0_25.stage (cfg0.slots t 25)
abbrev hs0_25 (t : Fin cfg0.N) : (ms0_25 t).IsWhole := hstage0_25 0
abbrev ms0_26 (t : Fin cfg0.N) : Memref sig .tc .vmem S4x14x8x18 .i8 := win0_26.stage (cfg0.slots t 26)
abbrev hs0_26 (t : Fin cfg0.N) : (ms0_26 t).IsWhole := hstage0_26 0
abbrev ms0_27 (t : Fin cfg0.N) : Memref sig .tc .vmem S252x8x1024 .f32 := win0_27.stage (cfg0.slots t 27)
abbrev hs0_27 (t : Fin cfg0.N) : (ms0_27 t).IsWhole := hstage0_27 0
/-- The scratch operands: whole scoped buffers of the kernel's own, passed beside the windows. -/
abbrev scM0_0 : Memref sig .tc .vmem S512x1024 .bf16 := Memref.whole cc0_scratch0
abbrev scM0_1 : Memref sig .tc .vmem S1024x512 .bf16 := Memref.whole cc0_scratch1
abbrev scM0_2 : Memref sig .tc .vmem S4x128x1024 .bf16 := Memref.whole cc0_scratch2
abbrev scM0_3 : Memref sig .tc .vmem S9x8x1024 .bf16 := Memref.whole cc0_scratch3
abbrev scM0_4 : Memref sig .tc .vmem S16x20x8x1024 .bf16 := Memref.whole cc0_scratch4
abbrev scM0_5 : Memref sig .tc .vmem S252x8x1024 .f32 := Memref.whole cc0_scratch5
abbrev scM0_6 : Memref sig .tc .vmem S252x8x1024 .f32 := Memref.whole cc0_scratch6
abbrev scM0_7 : Memref sig .tc .vmem S144x512 .bf16 := Memref.whole cc0_scratch7
abbrev scM0_8 : Memref sig .tc .vmem S144x1024 .bf16 := Memref.whole cc0_scratch8
abbrev scM0_9 : Memref sig .tc .vmem S4x252x8x128 .f32 := Memref.whole cc0_scratch9
abbrev scM0_10 : Memref sig .tc .vmem S2x144x1024 .f32 := Memref.whole cc0_scratch10
abbrev scM0_11 : Memref sig .tc .vmem S8x1024 .f32 := Memref.whole cc0_scratch11
abbrev scM0_12 : Memref sig .tc .vmem S8x128 .f32 := Memref.whole cc0_scratch12
abbrev scM0_13 : Memref sig .tc .vmem S8x1024 .f32 := Memref.whole cc0_scratch13

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d)) ∗ (∃ r, prngReg c r)) := by
  unfold Pipeline.ΦA; rw [scopedRest0_eq]; simp only [scM0_0, scM0_1, scM0_2, scM0_3, scM0_4, scM0_5, scM0_6, scM0_7, scM0_8, scM0_9, scM0_10, scM0_11, scM0_12, scM0_13, owns_whole]; try rfl

end Cert.FrontIdeal.Gen

end
-- ==== Proof.FrontSpec.lean ====
/- What one token of the first call becomes: its normed row quantised, and the quantised input projection of that row. -/
module

public import proofs.«01_k».proof.Proof.Laws

@[expose] public section

noncomputable section

namespace Cert.FrontV

open Idealize.ShloMosaic Cert.Tail
open scoped BigOperators

/-- The input projection's weight: input feature `k` is a nibble of the packed row `k / 2`. -/
def wIn (lo hi : BitVec 8 → EReal) (P : Fin 256 → Fin 1024 → BitVec 8) (k : Fin 512) (l : Fin 1024) : EReal :=
  if k.val % 2 < 1 then lo (P (halfIx 256 k rfl) l) else hi (P (halfIx 256 k rfl) l)

/-- The projection of a quantised row, quantised: the kernel folds the three scales into one factor, the reference
    divides by the last of them. -/
def cvK (acc s w sc : EReal) : BitVec 8 := Ideal.fptosi 8 (quantK (acc * ((s * w) * recipK sc)))
def cvR (acc s w sc : EReal) : BitVec 8 := Ideal.fptosi 8 (quantR (Ideal.div (acc * s * w) sc))

theorem cv_eq (acc s w sc : EReal) (hs : ((1 / 2 ^ 112 : ℝ) : EReal) ≤ max sc (-sc)) : cvK acc s w sc = cvR acc s w sc := by
  obtain ⟨i, h1, h2, -⟩ := recip_spec sc hs
  unfold cvK cvR
  rw [quant_eq, h2, h1]
  simp only [mul_assoc]

theorem wIn_eq (P : Fin 256 → Fin 1024 → BitVec 8) (k : Fin 512) (l : Fin 1024) : wIn loK hiK P k l = wIn loR hiR P k l := by
  unfold wIn; simp only [lo_eq, hi_eq]

end Cert.FrontV

end
-- ==== Proof.FrontRows.lean ====
/- What the first call's straight-line operations leave, read at an index: one pixel's eight tokens for the norm, the 144
   tokens of a row of pixels for the product. -/
module

public import proofs.«01_k».proof.Proof.Gen.FrontIdeal.Skeleton
public import proofs.«01_k».proof.Proof.FrontSpec

@[expose] public section

set_option maxRecDepth 16384

noncomputable section

namespace Cert.FrontV

open Idealize.ShloMosaic Cert.Tail Cert.FrontIdeal Cert.FrontIdeal.Gen
open scoped BigOperators

/-- The contents of an array over the extended reals. -/
local notation "𝕍" => Vec (Idealize.ShloMosaic.Ideal)

section Norm

variable (g b : 𝕍 S1x512 .f32) (X : 𝕍 S1x8x512 .bf16)

theorem pay1_at (r : Fin 8) (d : Fin 512) : k0_pay1 (F := Ideal) g b X (ix2 r d)
    = quantK (normK (Ideal.ofBits .f32 0x3B000000#32) (fun d => X (ix3 0 r d)) d * g (ix2 0 d) + b (ix2 0 d)) := by
  pointwise [k0_pay1]
  rfl

theorem pay2_at (r : Fin 8) (d : Fin 512) : k0_pay2 (F := Ideal) g b X (ix3 0 r d)
    = Ideal.fptosi 8 (k0_pay1 (F := Ideal) g b X (ix2 r d)) := by
  pointwise [k0_pay2]
  rfl

theorem pay5_at (A : 𝕍 S8x512 .f32) (r : Fin 16) (d : Fin 512) : k0_pay5 (F := Ideal) g b A X (ix2 r d)
    = if h : r.val < 8 then A (ix2 ⟨r.val, h⟩ d) else k0_pay1 (F := Ideal) g b X (ix2 ⟨r.val - 8, by omega⟩ d) := by
  have e : k0_pay5 (F := Ideal) g b A X = shapeCast S16x512 (truncf .bf16 (concatenate S16x512 0 [⟨S8x512, A⟩, ⟨S8x512, k0_pay1 (F := Ideal) g b X⟩]
    concatenates_S8x512_S8x512_S16x512_d0) bitsLt_bf16_f32) shapeCasts_S16x512_S16x512 := rfl
  rw [e]
  pointwise []

end Norm

section Product

variable (A : 𝕍 S144x512 .bf16) (W : 𝕍 S512x256 .bf16) (v : 𝕍 S1x256 .f32)

theorem pay64_at (p : Fin 18) (r : Fin 8) (l : Fin 256) : k0_pay64 (F := Ideal) A W v (ix3 p r l)
    = quantK ((∑ k, A (ix2 ⟨p.val * 8 + r.val, by omega⟩ k) * W (ix2 k l)) * v (ix2 0 l)) := by
  pointwise [k0_pay64]
  rfl

theorem pay66_at (p : Fin 18) (r : Fin 8) (l : Fin 256) : k0_pay66 (F := Ideal) A W v (ix3 p r l)
    = Ideal.fptosi 8 (quantK ((∑ k, A (ix2 ⟨p.val * 8 + r.val, by omega⟩ k) * W (ix2 k l)) * v (ix2 0 l))) := by
  pointwise [k0_pay66]
  rw [pay64_at]
  rfl

end Product

theorem pay2970_at (s : Elt Ideal .f32) (d : Fin 512) : k0_pay2970 (F := Ideal) s (ix2 0 d) = recipK s := by
  pointwise [k0_pay2970]
  rfl

theorem pay2971_at (s : Elt Ideal .f32) (g : 𝕍 S1x512 .f32) (d : Fin 512) :
    k0_pay2971 (F := Ideal) s g (ix2 0 d) = g (ix2 0 d) * recipK s := by
  pointwise [k0_pay2971]
  rw [pay2970_at]

theorem pay2972_at (s : Elt Ideal .f32) (g : 𝕍 S1x512 .f32) (d : Fin 512) :
    k0_pay2972 (F := Ideal) s g (ix2 0 d) = g (ix2 0 d) * recipK s := by
  pointwise [k0_pay2972]
  rw [pay2970_at]

/-- The factor of the input projection: the three scales folded together. -/
theorem pay2975_at (s : Elt Ideal .f32) (sc w : 𝕍 S1x1024 .f32) (l : Fin 1024) :
    k0_pay2975 (F := Ideal) s (k0_pay2973 (F := Ideal) sc) (Scalar.ofBits .f32 0x77F684DF#32) (k0_pay2974 (F := Ideal)) w (ix2 0 l)
      = (s * w (ix2 0 l)) * recipK (sc (ix2 0 l)) := by
  pointwise [k0_pay2975, k0_pay2973, k0_pay2974]
  rfl

/-- The unpacked weight, as a function of the packed argument. -/
def WIn (P : 𝕍 S256x1024 .i8) : 𝕍 S512x1024 .bf16 := fun i => wIn loK hiK (fun k l => P (ix2 k l)) (i 0) (i 1)

theorem pay2969_at (P : 𝕍 S256x1024 .i8) (k : Fin 512) (f : Fin 1024) : k0_pay2969 (F := Ideal) P (ix2 k f) = WIn P (ix2 k f) := by
  pointwise [k0_pay2969]
  unfold WIn wIn
  show _ = if k.val % 2 < 1 then _ else _
  split <;> rfl

theorem pay2969_eq (P : 𝕍 S256x1024 .i8) : k0_pay2969 (F := Ideal) P = WIn P :=
  funext fun i => by rw [show i = ix2 (i 0) (i 1) from eq_ix2 i]; exact pay2969_at P _ _

end Cert.FrontV

end
-- ==== Proof.FrontPieces.lean ====
/- The first call's two quantised arrays as functions of its arguments, and what each store of the pixel loop contributes
   to them: every store agrees with its array on the rectangle it writes. -/
module

public import proofs.«01_k».proof.Proof.FrontRows
public import proofs.«01_k».proof.Proof.Pieces

@[expose] public section

set_option maxRecDepth 16384

noncomputable section

namespace Cert.FrontV

open Idealize.ShloMosaic Cert.Tail Cert.FrontIdeal Cert.FrontIdeal.Gen
open scoped BigOperators

/-- The contents of an array over the extended reals. -/
local notation "𝕍" => Vec (Idealize.ShloMosaic.Ideal)

/-- A token's normed row, quantised, the scale folded into the affine coefficients. -/
def vRow (X : 𝕍 S252x8x512 .bf16) (g b : 𝕍 S1x512 .f32) (p : Fin 252) (r : Fin 8) : Row 512 := fun d =>
  quantK (normK (Ideal.ofBits .f32 0x3B000000#32) (fun d => X (ix3 p r d)) d * g (ix2 0 d) + b (ix2 0 d))

/-- The quantised norm's bytes. -/
def a1Arr (X : 𝕍 S252x8x512 .bf16) (g b : 𝕍 S1x512 .f32) : 𝕍 S252x8x512 .i8 := fun i =>
  Ideal.fptosi 8 (vRow X g b (i 0) (i 1) (i 2))

/-- The pixel of token `t` of row `k`, and its place in the pixel. -/
def rowPix (k : Fin 14) (t : Fin 144) : Fin 252 := ⟨18 * k.val + t.val / 8, by omega⟩
def rowLan (t : Fin 144) : Fin 8 := ⟨t.val % 8, by omega⟩

/-- The tokens of a row of pixels, one above the other. -/
def lhsT (X : 𝕍 S252x8x512 .bf16) (g b : 𝕍 S1x512 .f32) (k : Fin 14) : 𝕍 S144x512 .bf16 := fun i =>
  vRow X g b (rowPix k (i 0)) (rowLan (i 0)) (i 1)

/-- The quantised projection's bytes. -/
def cvArr (X : 𝕍 S252x8x512 .bf16) (g b : 𝕍 S1x512 .f32) (W : 𝕍 S512x1024 .bf16) (v : 𝕍 S8x1024 .f32) : 𝕍 S252x8x1024 .i8 :=
  fun i => Ideal.fptosi 8 (quantK ((∑ k, vRow X g b (i 0) (i 1) k * W (ix2 k (i 2))) * v (ix2 0 (i 2))))

section Stores

variable {X : 𝕍 S252x8x512 .bf16} {g b : 𝕍 S1x512 .f32} {Y Z : 𝕍 S1x8x512 .bf16} {off off' : Fin 3 → Nat}

theorem row_at (p : Nat) (hp : p < 252) (ho : off = ![p, 0, 0]) {h}
    (hY : Y = View.ld X (Rect.unit (s := S252x8x512) off S1x8x512.size h)) (r : Fin 8) :
    (fun l : Fin 512 => Y (ix3 0 r l)) = fun l => X (ix3 ⟨p, hp⟩ r l) := by
  subst ho
  funext l
  rw [hY]
  refine (ld3 X h (0 : Fin 1) r l (by simpa using hp) (by omega) (by omega)).trans (congrArg X ?_)
  simp

theorem pay1_row (p : Nat) (hp : p < 252) (ho : off = ![p, 0, 0]) {h}
    (hY : Y = View.ld X (Rect.unit (s := S252x8x512) off S1x8x512.size h)) (r : Fin 8) (d : Fin 512) :
    k0_pay1 (F := Ideal) g b Y (ix2 r d) = vRow X g b ⟨p, hp⟩ r d := by
  rw [pay1_at, row_at p hp ho hY]
  rfl

theorem a1_piece (p : Nat) (hp : p < 252) (ho : off = ![p, 0, 0]) {h}
    (hY : Y = View.ld X (Rect.unit (s := S252x8x512) off S1x8x512.size h)) (hq) (x : S1x8x512.Idx) :
    k0_pay2 (F := Ideal) g b Y x = a1Arr X g b ((Rect.unit (s := S252x8x512) off S1x8x512.size hq).emb x) := by
  obtain ⟨a, r, l, rfl⟩ : ∃ a r l, x = ix3 a r l := ⟨_, _, _, eq_ix3 x⟩
  obtain rfl : a = 0 := Subsingleton.elim _ _
  rw [pay2_at, pay1_row p hp ho hY]
  subst ho
  rw [emb3 hq 0 r l (by simpa using hp) (by omega) (by omega)]
  simp [a1Arr]

theorem lhs_piece (k : Fin 14) (i : Nat) (hi : i < 9) (ho : off = ![18 * k.val + 2 * i, 0, 0])
    (ho' : off' = ![18 * k.val + 2 * i + 1, 0, 0]) {h h'}
    (hY : Y = View.ld X (Rect.unit (s := S252x8x512) off S1x8x512.size h))
    (hZ : Z = View.ld X (Rect.unit (s := S252x8x512) off' S1x8x512.size h')) (hq) (x : S16x512.Idx) :
    k0_pay5 (F := Ideal) g b (k0_pay1 (F := Ideal) g b Y) Z x
      = lhsT X g b k ((Rect.unit (s := S144x512) ![16 * i, 0] S16x512.size hq).emb x) := by
  obtain ⟨a, l, rfl⟩ : ∃ a l, x = ix2 a l := ⟨_, _, eq_ix2 x⟩
  have ha := a.isLt
  have hk := k.isLt
  rw [emb2 hq a l (by omega) (by omega), pay5_at]
  have hl : (⟨0 + l.val, by omega⟩ : Fin 512) = l := Fin.ext (Nat.zero_add _)
  rw [hl]
  show _ = vRow X g b (rowPix k ⟨16 * i + a.val, _⟩) (rowLan ⟨16 * i + a.val, _⟩) l
  split
  · next h =>
    rw [pay1_row (18 * k.val + 2 * i) (by omega) ho hY]
    rw [show rowPix k ⟨16 * i + a.val, by omega⟩ = ⟨18 * k.val + 2 * i, by omega⟩ from Fin.ext (by simp only [rowPix]; omega),
      show rowLan ⟨16 * i + a.val, by omega⟩ = ⟨a.val, h⟩ from Fin.ext (by simp only [rowLan]; omega)]
  · next h =>
    rw [pay1_row (18 * k.val + 2 * i + 1) (by omega) ho' hZ]
    rw [show rowPix k ⟨16 * i + a.val, by omega⟩ = ⟨18 * k.val + 2 * i + 1, by omega⟩ from Fin.ext (by simp only [rowPix]; omega),
      show rowLan ⟨16 * i + a.val, by omega⟩ = ⟨a.val - 8, by omega⟩ from Fin.ext (by simp only [rowLan]; omega)]

theorem cv_piece {W : 𝕍 S512x1024 .bf16} {v : 𝕍 S8x1024 .f32} {A : 𝕍 S144x512 .bf16} {W' : 𝕍 S512x256 .bf16}
    {v' : 𝕍 S1x256 .f32} (k : Fin 14) (o : Nat) (ho : o + 256 ≤ 1024) (hoff : off = ![18 * k.val, 0, o]) {h1 h2}
    (hA : A = lhsT X g b k) (hW : W' = View.ld W (Rect.unit (s := S512x1024) ![0, o] S512x256.size h1))
    (hv : v' = View.ld v (Rect.unit (s := S8x1024) ![0, o] S1x256.size h2)) (hq) (x : S18x8x256.Idx) :
    k0_pay66 (F := Ideal) A W' v' x = cvArr X g b W v ((Rect.unit (s := S252x8x1024) off S18x8x256.size hq).emb x) := by
  obtain ⟨p, r, l, rfl⟩ : ∃ p r l, x = ix3 p r l := ⟨_, _, _, eq_ix3 x⟩
  subst hoff
  have hp := p.isLt
  have hr := r.isLt
  have hl := l.isLt
  have hk := k.isLt
  have e1 : (⟨0 + r.val, by omega⟩ : Fin 8) = r := Fin.ext (Nat.zero_add _)
  have eA : ∀ d, A (ix2 ⟨p.val * 8 + r.val, by omega⟩ d) = vRow X g b ⟨18 * k.val + p.val, by omega⟩ r d := fun d => by
    rw [hA]
    show vRow X g b (rowPix k ⟨p.val * 8 + r.val, _⟩) (rowLan ⟨p.val * 8 + r.val, _⟩) d = _
    rw [show rowPix k ⟨p.val * 8 + r.val, by omega⟩ = ⟨18 * k.val + p.val, by omega⟩ from Fin.ext (by simp only [rowPix]; omega),
      show rowLan ⟨p.val * 8 + r.val, by omega⟩ = r from Fin.ext (by simp only [rowLan]; omega)]
  have eW : ∀ d, W' (ix2 d l) = W (ix2 d ⟨o + l.val, by omega⟩) := fun d => by
    have hd := d.isLt
    rw [hW]
    exact (ld2 W h1 d l (by omega) (by omega)).trans (by simp)
  have ev : v' (ix2 0 l) = v (ix2 0 ⟨o + l.val, by omega⟩) := by
    rw [hv]
    exact (ld2 v h2 (0 : Fin 1) l (by decide) (by omega)).trans (by simp)
  rw [emb3 hq p r l (by omega) (by omega) (by omega), e1, pay66_at, ev]
  refine congrArg (fun t => Ideal.fptosi 8 (quantK (t * _))) (Finset.sum_congr rfl fun d _ => ?_)
  rw [eA, eW]
  rfl

end Stores

/-! ## Where the stores lie -/

theorem mem_row {off : Fin 3 → Nat} (p : Nat) (ho : off = ![p, 0, 0]) {h} (y : S252x8x512.Idx) (hy : (y 0).val = p) :
    y ∈ (Rect.unit (s := S252x8x512) off S1x8x512.size h).set := by
  subst ho
  rw [Rect.mem_set_unit]
  intro a
  have h1 : (y 1).val < 8 := (y 1).isLt
  have h2 : (y 2).val < 512 := (y 2).isLt
  match a with
  | ⟨0, _⟩ => show p ≤ (y 0).val ∧ (y 0).val < p + 1; omega
  | ⟨1, _⟩ => show 0 ≤ (y 1).val ∧ (y 1).val < 0 + 8; omega
  | ⟨2, _⟩ => show 0 ≤ (y 2).val ∧ (y 2).val < 0 + 512; omega

theorem mem_slab {off : Fin 3 → Nat} (p o : Nat) (ho : off = ![p, 0, o]) {h} (y : S252x8x1024.Idx)
    (hy : p ≤ (y 0).val ∧ (y 0).val < p + 18) (hz : o ≤ (y 2).val ∧ (y 2).val < o + 256) :
    y ∈ (Rect.unit (s := S252x8x1024) off S18x8x256.size h).set := by
  subst ho
  rw [Rect.mem_set_unit]
  intro a
  have h1 : (y 1).val < 8 := (y 1).isLt
  match a with
  | ⟨0, _⟩ => show p ≤ (y 0).val ∧ (y 0).val < p + 18; omega
  | ⟨1, _⟩ => show 0 ≤ (y 1).val ∧ (y 1).val < 0 + 8; omega
  | ⟨2, _⟩ => show o ≤ (y 2).val ∧ (y 2).val < o + 256; omega

theorem mem_pair (i : Nat) {h} (y : S144x512.Idx) (hy : 16 * i ≤ (y 0).val ∧ (y 0).val < 16 * i + 16) :
    y ∈ (Rect.unit (s := S144x512) ![16 * i, 0] S16x512.size h).set := by
  rw [Rect.mem_set_unit]
  intro a
  have h1 : (y 1).val < 512 := (y 1).isLt
  match a with
  | ⟨0, _⟩ => show 16 * i ≤ (y 0).val ∧ (y 0).val < 16 * i + 16; omega
  | ⟨1, _⟩ => show 0 ≤ (y 1).val ∧ (y 1).val < 0 + 512; omega

/-! ## The loop's row offsets -/

theorem off1_eq : ∀ (k : Fin k0_t1_loop.trips) (i : Fin 9) (j : Fin 2),
    k0_off1 k (BitVec.ofNat 32 (2 * i.val)) (BitVec.ofNat 32 j.val) = ![18 * k.val + 2 * i.val + j.val, 0, 0] := by
  decide +kernel

theorem off3_eq : ∀ k : Fin k0_t1_loop.trips, k0_off3 k = ![18 * k.val, 0, 0] := by decide +kernel
theorem off5_eq : ∀ k : Fin k0_t1_loop.trips, k0_off5 k = ![18 * k.val, 0, 256] := by decide +kernel
theorem off7_eq : ∀ k : Fin k0_t1_loop.trips, k0_off7 k = ![18 * k.val, 0, 512] := by decide +kernel
theorem off9_eq : ∀ k : Fin k0_t1_loop.trips, k0_off9 k = ![18 * k.val, 0, 768] := by decide +kernel

end Cert.FrontV

end
-- ==== Proof.FrontTrip.lean ====
/- One trip of the pixel loop, and all of them: what the loop leaves in the two byte arrays it writes. -/
module

public import proofs.«01_k».proof.Proof.FrontPieces
public import proofs.«01_k».proof.Proof.Gen.FrontIdeal.Loops

@[expose] public section

set_option maxRecDepth 16384

noncomputable section

namespace Cert.FrontV

open Idealize.ShloMosaic Idealize.ShloMosaic.TcCoe Cert.Tail Cert.FrontIdeal Cert.FrontIdeal.Gen

/-- The contents of an array over the extended reals. -/
local notation "𝕍" => Vec (Idealize.ShloMosaic.Ideal)

theorem cov_ld {sp : Space} {S : Shape} {e : EltTy} (v : View sig .tc sp S e) (L : List (View.Piece (Elt Ideal) S e)) (G : 𝕍 S e) (hG : View.PiecesOf G L)
    (hc : ∀ y, ∃ p ∈ L, y ∈ p.1.set) (r : Rect S) : v.readCov L r.toLoadRect = View.ld G r := by
  rw [View.readCov_eq_canon_ld v L r hc]
  exact congrArg (View.ld · r) (funext fun y => View.canon_apply_of_pieces G L hG.mem y (hc y))

/-- The loop has fourteen trips. -/
theorem trips_lt (k : Fin k0_t1_loop.trips) : k.val < 14 := Nat.lt_of_lt_of_le k.isLt k0_t1_abs.2.1

theorem off1_at (k : Fin k0_t1_loop.trips) (i j : Nat) (hi : i < 9) (hj : j < 2) :
    k0_off1 k (BitVec.ofNat 32 (2 * i)) (BitVec.ofNat 32 j) = ![18 * k.val + 2 * i + j, 0, 0] := off1_eq k ⟨i, hi⟩ ⟨j, hj⟩

theorem inb1 (k : Fin k0_t1_loop.trips) (i j : Nat) (hi : i < 9) (hj : j < 2) :
    ∀ a, k0_off1 k (BitVec.ofNat 32 (2 * i)) (BitVec.ofNat 32 j) a + S1x8x512.size a ≤ S252x8x512.size a := by
  rw [off1_at k i j hi hj]
  have hk := trips_lt k
  intro a
  match a with
  | ⟨0, _⟩ => show 18 * k.val + 2 * i + j + 1 ≤ 252; omega
  | ⟨1, _⟩ => show 0 + 8 ≤ 8; omega
  | ⟨2, _⟩ => show 0 + 512 ≤ 512; omega

section Stores

variable (arg4 : Memref sig .tc .vmem S252x8x512 .bf16) (X : BufTy.Contents (Elt Ideal) arg4.view.ty) (g b : FVec Ideal S1x512 .f32) (k : Fin k0_t1_loop.trips)

/-- A pixel's load. -/
abbrev pix (i j : Nat) (hi : i < 9) (hj : j < 2) : 𝕍 S1x8x512 .bf16 :=
  arg4.view.readAt (Elt Ideal) (Rect.unit (s := S252x8x512) (k0_off1 k (BitVec.ofNat 32 (2 * i)) (BitVec.ofNat 32 j)) S1x8x512.size (inb1 k i j hi hj)).toLoadRect X

theorem a1_store (i j : Nat) (hi : i < 9) (hj : j < 2) (x : S1x8x512.Idx) :
    k0_pay2 (F := Ideal) g b (pix arg4 X k i j hi hj) x = a1Arr (arg4.view.read (Elt Ideal) X) g b
      ((Rect.unit (s := S252x8x512) (k0_off1 k (BitVec.ofNat 32 (2 * i)) (BitVec.ofNat 32 j)) S1x8x512.size (inb1 k i j hi hj)).emb x) :=
  a1_piece (18 * k.val + 2 * i + j) (by have := trips_lt k; omega) (off1_at k i j hi hj) (View.readAt_eq_ld _ _ _) _ x

theorem lhs_store (i : Nat) (hi : i < 9) (hq) (x : S16x512.Idx) :
    k0_pay5 (F := Ideal) g b (k0_pay1 (F := Ideal) g b (pix arg4 X k i 0 hi (by decide))) (pix arg4 X k i 1 hi (by decide)) x
      = lhsT (arg4.view.read (Elt Ideal) X) g b ⟨k.val, trips_lt k⟩ ((Rect.unit (s := S144x512) ![16 * i, 0] S16x512.size hq).emb x) :=
  lhs_piece ⟨k.val, trips_lt k⟩ i hi (off1_at k i 0 hi (by decide)) (off1_at k i 1 hi (by decide)) (View.readAt_eq_ld _ _ _) (View.readAt_eq_ld _ _ _) hq x

end Stores

variable (𝒱 : Variants) (c : Dev nD) (bd : Option 𝒱.V) (arg0 : Memref sig .tc .smem S1 .f32) (harg0 : arg0.IsWhole) (arg1 : Memref sig .tc .smem S4 .f32) (harg1 : arg1.IsWhole) (arg2 : Memref sig .tc .smem S4 .f32) (harg2 : arg2.IsWhole) (arg3 : Memref sig .tc .smem S4 .f32) (harg3 : arg3.IsWhole) (arg4 : Memref sig .tc .vmem S252x8x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S256x1024 .i8) (harg7 : arg7.IsWhole) (arg8 : Memref sig .tc .vmem S1x1024 .f32) (harg8 : arg8.IsWhole) (arg9 : Memref sig .tc .vmem S1x1024 .f32) (harg9 : arg9.IsWhole) (arg10 : Memref sig .tc .vmem S3x3x1024 .i8) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S34x4x1024 .i8) (harg14 : arg14.IsWhole) (arg15 : Memref sig .tc .vmem S4x34 .f32) (harg15 : arg15.IsWhole) (arg16 : Memref sig .tc .vmem S4x32x1024 .i8) (harg16 : arg16.IsWhole) (arg17 : Memref sig .tc .vmem S4x1024 .f32) (harg17 : arg17.IsWhole) (arg18 : Memref sig .tc .vmem S4x1024 .f32) (harg18 : arg18.IsWhole) (arg19 : Memref sig .tc .vmem S4x1024 .f32) (harg19 : arg19.IsWhole) (arg20 : Memref sig .tc .vmem S4x1024 .f32) (harg20 : arg20.IsWhole) (arg21 : Memref sig .tc .vmem S252x8x512 .i8) (harg21 : arg21.IsWhole) (arg22 : Memref sig .tc .vmem S252x8x1024 .i8) (harg22 : arg22.IsWhole) (arg23 : Memref sig .tc .vmem S252x8x1024 .i8) (harg23 : arg23.IsWhole) (arg24 : Memref sig .tc .vmem S4x252x8x32 .i8) (harg24 : arg24.IsWhole) (arg25 : Memref sig .tc .vmem S4x14x8x18 .i8) (harg25 : arg25.IsWhole) (arg26 : Memref sig .tc .vmem S4x14x8x18 .i8) (harg26 : arg26.IsWhole) (arg27 : Memref sig .tc .vmem S252x8x1024 .f32) (harg27 : arg27.IsWhole) (arg28 : Memref sig .tc .vmem S512x1024 .bf16) (harg28 : arg28.IsWhole) (arg29 : Memref sig .tc .vmem S1024x512 .bf16) (harg29 : arg29.IsWhole) (arg30 : Memref sig .tc .vmem S4x128x1024 .bf16) (harg30 : arg30.IsWhole) (arg31 : Memref sig .tc .vmem S9x8x1024 .bf16) (harg31 : arg31.IsWhole) (arg32 : Memref sig .tc .vmem S16x20x8x1024 .bf16) (harg32 : arg32.IsWhole) (arg33 : Memref sig .tc .vmem S252x8x1024 .f32) (harg33 : arg33.IsWhole) (arg34 : Memref sig .tc .vmem S252x8x1024 .f32) (harg34 : arg34.IsWhole) (arg35 : Memref sig .tc .vmem S144x512 .bf16) (harg35 : arg35.IsWhole) (arg36 : Memref sig .tc .vmem S144x1024 .bf16) (harg36 : arg36.IsWhole) (arg37 : Memref sig .tc .vmem S4x252x8x128 .f32) (harg37 : arg37.IsWhole) (arg38 : Memref sig .tc .vmem S2x144x1024 .f32) (harg38 : arg38.IsWhole) (arg39 : Memref sig .tc .vmem S8x1024 .f32) (harg39 : arg39.IsWhole) (arg40 : Memref sig .tc .vmem S8x128 .f32) (harg40 : arg40.IsWhole) (arg41 : Memref sig .tc .vmem S8x1024 .f32) (harg41 : arg41.IsWhole) (v29 : FVec Ideal S1x512 .f32) (v32 : FVec Ideal S1x512 .f32) (v483 : FVec Ideal S4x1024 .f32) (X_arg4 : BufTy.Contents (Elt Ideal) arg4.view.ty) (X_arg28 : BufTy.Contents (Elt Ideal) arg28.view.ty) (X_arg39 : BufTy.Contents (Elt Ideal) arg39.view.ty) (k : Fin k0_t1_loop.trips) (f_arg21 : BufTy.Contents (Elt Ideal) arg21.view.ty) (f_arg22 : BufTy.Contents (Elt Ideal) arg22.view.ty) (f_arg32 : BufTy.Contents (Elt Ideal) arg32.view.ty) (f_arg35 : BufTy.Contents (Elt Ideal) arg35.view.ty)

theorem trip_a1 : View.PiecesOf (a1Arr (arg4.view.read (Elt Ideal) X_arg4) v29 v32) (tripL_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v29 v32 v483 X_arg4 X_arg28 X_arg39 k f_arg21 f_arg22 f_arg32 f_arg35).1 := by
  unfold tripL_k0_t1 trip_k0_t1
  refine ⟨?_, ?_, ?_, ?_, ?_, ?_, ?_, ?_, ?_, ?_, ?_, ?_, ?_, ?_, ?_, ?_, ?_, ?_, trivial⟩
  · have h := a1_store arg4 X_arg4 v29 v32 k 8 1 (by decide) (by decide)
    exact h
  · have h := a1_store arg4 X_arg4 v29 v32 k 8 0 (by decide) (by decide)
    exact h
  · have h := a1_store arg4 X_arg4 v29 v32 k 7 1 (by decide) (by decide)
    exact h
  · have h := a1_store arg4 X_arg4 v29 v32 k 7 0 (by decide) (by decide)
    exact h
  · have h := a1_store arg4 X_arg4 v29 v32 k 6 1 (by decide) (by decide)
    exact h
  · have h := a1_store arg4 X_arg4 v29 v32 k 6 0 (by decide) (by decide)
    exact h
  · have h := a1_store arg4 X_arg4 v29 v32 k 5 1 (by decide) (by decide)
    exact h
  · have h := a1_store arg4 X_arg4 v29 v32 k 5 0 (by decide) (by decide)
    exact h
  · have h := a1_store arg4 X_arg4 v29 v32 k 4 1 (by decide) (by decide)
    exact h
  · have h := a1_store arg4 X_arg4 v29 v32 k 4 0 (by decide) (by decide)
    exact h
  · have h := a1_store arg4 X_arg4 v29 v32 k 3 1 (by decide) (by decide)
    exact h
  · have h := a1_store arg4 X_arg4 v29 v32 k 3 0 (by decide) (by decide)
    exact h
  · have h := a1_store arg4 X_arg4 v29 v32 k 2 1 (by decide) (by decide)
    exact h
  · have h := a1_store arg4 X_arg4 v29 v32 k 2 0 (by decide) (by decide)
    exact h
  · have h := a1_store arg4 X_arg4 v29 v32 k 1 1 (by decide) (by decide)
    exact h
  · have h := a1_store arg4 X_arg4 v29 v32 k 1 0 (by decide) (by decide)
    exact h
  · have h := a1_store arg4 X_arg4 v29 v32 k 0 1 (by decide) (by decide)
    exact h
  · have h := a1_store arg4 X_arg4 v29 v32 k 0 0 (by decide) (by decide)
    exact h

theorem trip_a1_mem (y : S252x8x512.Idx) (hl : 18 * k.val ≤ (y 0).val) (hu : (y 0).val < 18 * k.val + 18) : ∃ p ∈ (tripL_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v29 v32 v483 X_arg4 X_arg28 X_arg39 k f_arg21 f_arg22 f_arg32 f_arg35).1, y ∈ p.1.set := by
  unfold tripL_k0_t1 trip_k0_t1
  obtain h8_1 | h8_0 | h7_1 | h7_0 | h6_1 | h6_0 | h5_1 | h5_0 | h4_1 | h4_0 | h3_1 | h3_0 | h2_1 | h2_0 | h1_1 | h1_0 | h0_1 | h0_0 : (y 0).val = 18 * k.val + 2 * 8 + 1 ∨ (y 0).val = 18 * k.val + 2 * 8 + 0 ∨ (y 0).val = 18 * k.val + 2 * 7 + 1 ∨ (y 0).val = 18 * k.val + 2 * 7 + 0 ∨ (y 0).val = 18 * k.val + 2 * 6 + 1 ∨ (y 0).val = 18 * k.val + 2 * 6 + 0 ∨ (y 0).val = 18 * k.val + 2 * 5 + 1 ∨ (y 0).val = 18 * k.val + 2 * 5 + 0 ∨ (y 0).val = 18 * k.val + 2 * 4 + 1 ∨ (y 0).val = 18 * k.val + 2 * 4 + 0 ∨ (y 0).val = 18 * k.val + 2 * 3 + 1 ∨ (y 0).val = 18 * k.val + 2 * 3 + 0 ∨ (y 0).val = 18 * k.val + 2 * 2 + 1 ∨ (y 0).val = 18 * k.val + 2 * 2 + 0 ∨ (y 0).val = 18 * k.val + 2 * 1 + 1 ∨ (y 0).val = 18 * k.val + 2 * 1 + 0 ∨ (y 0).val = 18 * k.val + 2 * 0 + 1 ∨ (y 0).val = 18 * k.val + 2 * 0 + 0 := by omega
  · refine ⟨_, .head _, ?_⟩
    exact mem_row (h := inb1 k 8 1 (by decide) (by decide)) _ (off1_at k 8 1 (by decide) (by decide)) y h8_1
  · refine ⟨_, .tail _ (.head _), ?_⟩
    exact mem_row (h := inb1 k 8 0 (by decide) (by decide)) _ (off1_at k 8 0 (by decide) (by decide)) y h8_0
  · refine ⟨_, .tail _ (.tail _ (.head _)), ?_⟩
    exact mem_row (h := inb1 k 7 1 (by decide) (by decide)) _ (off1_at k 7 1 (by decide) (by decide)) y h7_1
  · refine ⟨_, .tail _ (.tail _ (.tail _ (.head _))), ?_⟩
    exact mem_row (h := inb1 k 7 0 (by decide) (by decide)) _ (off1_at k 7 0 (by decide) (by decide)) y h7_0
  · refine ⟨_, .tail _ (.tail _ (.tail _ (.tail _ (.head _)))), ?_⟩
    exact mem_row (h := inb1 k 6 1 (by decide) (by decide)) _ (off1_at k 6 1 (by decide) (by decide)) y h6_1
  · refine ⟨_, .tail _ (.tail _ (.tail _ (.tail _ (.tail _ (.head _))))), ?_⟩
    exact mem_row (h := inb1 k 6 0 (by decide) (by decide)) _ (off1_at k 6 0 (by decide) (by decide)) y h6_0
  · refine ⟨_, .tail _ (.tail _ (.tail _ (.tail _ (.tail _ (.tail _ (.head _)))))), ?_⟩
    exact mem_row (h := inb1 k 5 1 (by decide) (by decide)) _ (off1_at k 5 1 (by decide) (by decide)) y h5_1
  · refine ⟨_, .tail _ (.tail _ (.tail _ (.tail _ (.tail _ (.tail _ (.tail _ (.head _))))))), ?_⟩
    exact mem_row (h := inb1 k 5 0 (by decide) (by decide)) _ (off1_at k 5 0 (by decide) (by decide)) y h5_0
  · refine ⟨_, .tail _ (.tail _ (.tail _ (.tail _ (.tail _ (.tail _ (.tail _ (.tail _ (.head _)))))))), ?_⟩
    exact mem_row (h := inb1 k 4 1 (by decide) (by decide)) _ (off1_at k 4 1 (by decide) (by decide)) y h4_1
  · refine ⟨_, .tail _ (.tail _ (.tail _ (.tail _ (.tail _ (.tail _ (.tail _ (.tail _ (.tail _ (.head _))))))))), ?_⟩
    exact mem_row (h := inb1 k 4 0 (by decide) (by decide)) _ (off1_at k 4 0 (by decide) (by decide)) y h4_0
  · refine ⟨_, .tail _ (.tail _ (.tail _ (.tail _ (.tail _ (.tail _ (.tail _ (.tail _ (.tail _ (.tail _ (.head _)))))))))), ?_⟩
    exact mem_row (h := inb1 k 3 1 (by decide) (by decide)) _ (off1_at k 3 1 (by decide) (by decide)) y h3_1
  · refine ⟨_, .tail _ (.tail _ (.tail _ (.tail _ (.tail _ (.tail _ (.tail _ (.tail _ (.tail _ (.tail _ (.tail _ (.head _))))))))))), ?_⟩
    exact mem_row (h := inb1 k 3 0 (by decide) (by decide)) _ (off1_at k 3 0 (by decide) (by decide)) y h3_0
  · refine ⟨_, .tail _ (.tail _ (.tail _ (.tail _ (.tail _ (.tail _ (.tail _ (.tail _ (.tail _ (.tail _ (.tail _ (.tail _ (.head _)))))))))))), ?_⟩
    exact mem_row (h := inb1 k 2 1 (by decide) (by decide)) _ (off1_at k 2 1 (by decide) (by decide)) y h2_1
  · refine ⟨_, .tail _ (.tail _ (.tail _ (.tail _ (.tail _ (.tail _ (.tail _ (.tail _ (.tail _ (.tail _ (.tail _ (.tail _ (.tail _ (.head _))))))))))))), ?_⟩
    exact mem_row (h := inb1 k 2 0 (by decide) (by decide)) _ (off1_at k 2 0 (by decide) (by decide)) y h2_0
  · refine ⟨_, .tail _ (.tail _ (.tail _ (.tail _ (.tail _ (.tail _ (.tail _ (.tail _ (.tail _ (.tail _ (.tail _ (.tail _ (.tail _ (.tail _ (.head _)))))))))))))), ?_⟩
    exact mem_row (h := inb1 k 1 1 (by decide) (by decide)) _ (off1_at k 1 1 (by decide) (by decide)) y h1_1
  · refine ⟨_, .tail _ (.tail _ (.tail _ (.tail _ (.tail _ (.tail _ (.tail _ (.tail _ (.tail _ (.tail _ (.tail _ (.tail _ (.tail _ (.tail _ (.tail _ (.head _))))))))))))))), ?_⟩
    exact mem_row (h := inb1 k 1 0 (by decide) (by decide)) _ (off1_at k 1 0 (by decide) (by decide)) y h1_0
  · refine ⟨_, .tail _ (.tail _ (.tail _ (.tail _ (.tail _ (.tail _ (.tail _ (.tail _ (.tail _ (.tail _ (.tail _ (.tail _ (.tail _ (.tail _ (.tail _ (.tail _ (.head _)))))))))))))))), ?_⟩
    exact mem_row (h := inb1 k 0 1 (by decide) (by decide)) _ (off1_at k 0 1 (by decide) (by decide)) y h0_1
  · refine ⟨_, .tail _ (.tail _ (.tail _ (.tail _ (.tail _ (.tail _ (.tail _ (.tail _ (.tail _ (.tail _ (.tail _ (.tail _ (.tail _ (.tail _ (.tail _ (.tail _ (.tail _ (.head _))))))))))))))))), ?_⟩
    exact mem_row (h := inb1 k 0 0 (by decide) (by decide)) _ (off1_at k 0 0 (by decide) (by decide)) y h0_0

theorem trip_lhs : View.PiecesOf (lhsT (arg4.view.read (Elt Ideal) X_arg4) v29 v32 ⟨k.val, trips_lt k⟩) (tripL_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v29 v32 v483 X_arg4 X_arg28 X_arg39 k f_arg21 f_arg22 f_arg32 f_arg35).2.2.2 := by
  unfold tripL_k0_t1 trip_k0_t1
  refine ⟨?_, ?_, ?_, ?_, ?_, ?_, ?_, ?_, ?_, trivial⟩
  · have h := lhs_store arg4 X_arg4 v29 v32 k 8 (by decide) (by decide)
    exact h
  · have h := lhs_store arg4 X_arg4 v29 v32 k 7 (by decide) (by decide)
    exact h
  · have h := lhs_store arg4 X_arg4 v29 v32 k 6 (by decide) (by decide)
    exact h
  · have h := lhs_store arg4 X_arg4 v29 v32 k 5 (by decide) (by decide)
    exact h
  · have h := lhs_store arg4 X_arg4 v29 v32 k 4 (by decide) (by decide)
    exact h
  · have h := lhs_store arg4 X_arg4 v29 v32 k 3 (by decide) (by decide)
    exact h
  · have h := lhs_store arg4 X_arg4 v29 v32 k 2 (by decide) (by decide)
    exact h
  · have h := lhs_store arg4 X_arg4 v29 v32 k 1 (by decide) (by decide)
    exact h
  · have h := lhs_store arg4 X_arg4 v29 v32 k 0 (by decide) (by decide)
    exact h

theorem trip_lhs_mem (y : S144x512.Idx) : ∃ p ∈ (tripL_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v29 v32 v483 X_arg4 X_arg28 X_arg39 k f_arg21 f_arg22 f_arg32 f_arg35).2.2.2, y ∈ p.1.set := by
  have h0 : (y 0).val < 144 := (y 0).isLt
  unfold tripL_k0_t1 trip_k0_t1
  obtain h8 | h7 | h6 | h5 | h4 | h3 | h2 | h1 | h0 : (16 * 8 ≤ (y 0).val ∧ (y 0).val < 16 * 8 + 16) ∨ (16 * 7 ≤ (y 0).val ∧ (y 0).val < 16 * 7 + 16) ∨ (16 * 6 ≤ (y 0).val ∧ (y 0).val < 16 * 6 + 16) ∨ (16 * 5 ≤ (y 0).val ∧ (y 0).val < 16 * 5 + 16) ∨ (16 * 4 ≤ (y 0).val ∧ (y 0).val < 16 * 4 + 16) ∨ (16 * 3 ≤ (y 0).val ∧ (y 0).val < 16 * 3 + 16) ∨ (16 * 2 ≤ (y 0).val ∧ (y 0).val < 16 * 2 + 16) ∨ (16 * 1 ≤ (y 0).val ∧ (y 0).val < 16 * 1 + 16) ∨ (16 * 0 ≤ (y 0).val ∧ (y 0).val < 16 * 0 + 16) := by omega
  · refine ⟨_, .head _, ?_⟩
    exact mem_pair (h := by decide) 8 y h8
  · refine ⟨_, .tail _ (.head _), ?_⟩
    exact mem_pair (h := by decide) 7 y h7
  · refine ⟨_, .tail _ (.tail _ (.head _)), ?_⟩
    exact mem_pair (h := by decide) 6 y h6
  · refine ⟨_, .tail _ (.tail _ (.tail _ (.head _))), ?_⟩
    exact mem_pair (h := by decide) 5 y h5
  · refine ⟨_, .tail _ (.tail _ (.tail _ (.tail _ (.head _)))), ?_⟩
    exact mem_pair (h := by decide) 4 y h4
  · refine ⟨_, .tail _ (.tail _ (.tail _ (.tail _ (.tail _ (.head _))))), ?_⟩
    exact mem_pair (h := by decide) 3 y h3
  · refine ⟨_, .tail _ (.tail _ (.tail _ (.tail _ (.tail _ (.tail _ (.head _)))))), ?_⟩
    exact mem_pair (h := by decide) 2 y h2
  · refine ⟨_, .tail _ (.tail _ (.tail _ (.tail _ (.tail _ (.tail _ (.tail _ (.head _))))))), ?_⟩
    exact mem_pair (h := by decide) 1 y h1
  · refine ⟨_, .tail _ (.tail _ (.tail _ (.tail _ (.tail _ (.tail _ (.tail _ (.tail _ (.head _)))))))), ?_⟩
    exact mem_pair (h := by decide) 0 y h0

theorem trip_ld : arg35.view.readCov (tripL_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v29 v32 v483 X_arg4 X_arg28 X_arg39 k f_arg21 f_arg22 f_arg32 f_arg35).2.2.2 (Rect.unit (s := S144x512) ![0, 0] S144x512.size (by decide)).toLoadRect
    = lhsT (arg4.view.read (Elt Ideal) X_arg4) v29 v32 ⟨k.val, trips_lt k⟩ :=
  (cov_ld arg35.view _ _ (trip_lhs 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v29 v32 v483 X_arg4 X_arg28 X_arg39 k f_arg21 f_arg22 f_arg32 f_arg35) (trip_lhs_mem 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v29 v32 v483 X_arg4 X_arg28 X_arg39 k f_arg21 f_arg22 f_arg32 f_arg35) _).trans (ld_whole _ _ (by decide))

theorem trip_cv : View.PiecesOf (cvArr (arg4.view.read (Elt Ideal) X_arg4) v29 v32 (arg28.view.read (Elt Ideal) X_arg28) (arg39.view.read (Elt Ideal) X_arg39)) (tripL_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v29 v32 v483 X_arg4 X_arg28 X_arg39 k f_arg21 f_arg22 f_arg32 f_arg35).2.1 := by
  have hA := trip_ld 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v29 v32 v483 X_arg4 X_arg28 X_arg39 k f_arg21 f_arg22 f_arg32 f_arg35
  unfold tripL_k0_t1 at hA ⊢
  unfold trip_k0_t1 at hA ⊢
  refine ⟨?_, ?_, ?_, ?_, trivial⟩
  · have h := cv_piece (X := arg4.view.read (Elt Ideal) X_arg4) (g := v29) (b := v32) (W := arg28.view.read (Elt Ideal) X_arg28) (v := arg39.view.read (Elt Ideal) X_arg39) ⟨k.val, trips_lt k⟩ 768 (by decide) (off9_eq k) hA
      (View.readAt_eq_ld arg28.view X_arg28 (Rect.unit (s := S512x1024) ![0, 768] S512x256.size (by decide))) (View.readAt_eq_ld arg39.view X_arg39 (Rect.unit (s := S8x1024) ![0, 768] S1x256.size (by decide)))
      (k0_off9_inb k)
    exact h
  · have h := cv_piece (X := arg4.view.read (Elt Ideal) X_arg4) (g := v29) (b := v32) (W := arg28.view.read (Elt Ideal) X_arg28) (v := arg39.view.read (Elt Ideal) X_arg39) ⟨k.val, trips_lt k⟩ 512 (by decide) (off7_eq k) hA
      (View.readAt_eq_ld arg28.view X_arg28 (Rect.unit (s := S512x1024) ![0, 512] S512x256.size (by decide))) (View.readAt_eq_ld arg39.view X_arg39 (Rect.unit (s := S8x1024) ![0, 512] S1x256.size (by decide)))
      (k0_off7_inb k)
    exact h
  · have h := cv_piece (X := arg4.view.read (Elt Ideal) X_arg4) (g := v29) (b := v32) (W := arg28.view.read (Elt Ideal) X_arg28) (v := arg39.view.read (Elt Ideal) X_arg39) ⟨k.val, trips_lt k⟩ 256 (by decide) (off5_eq k) hA
      (View.readAt_eq_ld arg28.view X_arg28 (Rect.unit (s := S512x1024) ![0, 256] S512x256.size (by decide))) (View.readAt_eq_ld arg39.view X_arg39 (Rect.unit (s := S8x1024) ![0, 256] S1x256.size (by decide)))
      (k0_off5_inb k)
    exact h
  · have h := cv_piece (X := arg4.view.read (Elt Ideal) X_arg4) (g := v29) (b := v32) (W := arg28.view.read (Elt Ideal) X_arg28) (v := arg39.view.read (Elt Ideal) X_arg39) ⟨k.val, trips_lt k⟩ 0 (by decide) (off3_eq k) hA
      (View.readAt_eq_ld arg28.view X_arg28 (Rect.unit (s := S512x1024) ![0, 0] S512x256.size (by decide))) (View.readAt_eq_ld arg39.view X_arg39 (Rect.unit (s := S8x1024) ![0, 0] S1x256.size (by decide)))
      (k0_off3_inb k)
    exact h

theorem trip_cv_mem (y : S252x8x1024.Idx) (hl : 18 * k.val ≤ (y 0).val) (hu : (y 0).val < 18 * k.val + 18) : ∃ p ∈ (tripL_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v29 v32 v483 X_arg4 X_arg28 X_arg39 k f_arg21 f_arg22 f_arg32 f_arg35).2.1, y ∈ p.1.set := by
  have h2 : (y 2).val < 1024 := (y 2).isLt
  unfold tripL_k0_t1 trip_k0_t1
  obtain h3 | h2 | h1 | h0 : (768 ≤ (y 2).val ∧ (y 2).val < 768 + 256) ∨ (512 ≤ (y 2).val ∧ (y 2).val < 512 + 256) ∨ (256 ≤ (y 2).val ∧ (y 2).val < 256 + 256) ∨ (0 ≤ (y 2).val ∧ (y 2).val < 0 + 256) := by omega
  · refine ⟨_, .head _, ?_⟩
    exact mem_slab (h := k0_off9_inb k) _ 768 (off9_eq k) y ⟨hl, hu⟩ h3
  · refine ⟨_, .tail _ (.head _), ?_⟩
    exact mem_slab (h := k0_off7_inb k) _ 512 (off7_eq k) y ⟨hl, hu⟩ h2
  · refine ⟨_, .tail _ (.tail _ (.head _)), ?_⟩
    exact mem_slab (h := k0_off5_inb k) _ 256 (off5_eq k) y ⟨hl, hu⟩ h1
  · refine ⟨_, .tail _ (.tail _ (.tail _ (.head _))), ?_⟩
    exact mem_slab (h := k0_off3_inb k) _ 0 (off3_eq k) y ⟨hl, hu⟩ h0

end Cert.FrontV

end
-- ==== Proof.FrontAll.lean ====
/- All the trips of the pixel loop: what it leaves in the two byte arrays it writes. -/
module

public import proofs.«01_k».proof.Proof.FrontTrip

@[expose] public section

set_option maxRecDepth 16384

noncomputable section

namespace Cert.FrontV

open Idealize.ShloMosaic Idealize.ShloMosaic.TcCoe Cert.Tail Cert.FrontIdeal Cert.FrontIdeal.Gen

theorem pieces_append {S : Shape} {e : EltTy} {G : Vec Ideal S e} : ∀ {A B : List (View.Piece (Elt Ideal) S e)},
    View.PiecesOf G A → View.PiecesOf G B → View.PiecesOf G (A ++ B)
  | [], _, _, hB => hB
  | _ :: _, _, hA, hB => ⟨hA.1, pieces_append hA.2 hB⟩

variable (𝒱 : Variants) (c : Dev nD) (bd : Option 𝒱.V) (arg0 : Memref sig .tc .smem S1 .f32) (harg0 : arg0.IsWhole) (arg1 : Memref sig .tc .smem S4 .f32) (harg1 : arg1.IsWhole) (arg2 : Memref sig .tc .smem S4 .f32) (harg2 : arg2.IsWhole) (arg3 : Memref sig .tc .smem S4 .f32) (harg3 : arg3.IsWhole) (arg4 : Memref sig .tc .vmem S252x8x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S256x1024 .i8) (harg7 : arg7.IsWhole) (arg8 : Memref sig .tc .vmem S1x1024 .f32) (harg8 : arg8.IsWhole) (arg9 : Memref sig .tc .vmem S1x1024 .f32) (harg9 : arg9.IsWhole) (arg10 : Memref sig .tc .vmem S3x3x1024 .i8) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S34x4x1024 .i8) (harg14 : arg14.IsWhole) (arg15 : Memref sig .tc .vmem S4x34 .f32) (harg15 : arg15.IsWhole) (arg16 : Memref sig .tc .vmem S4x32x1024 .i8) (harg16 : arg16.IsWhole) (arg17 : Memref sig .tc .vmem S4x1024 .f32) (harg17 : arg17.IsWhole) (arg18 : Memref sig .tc .vmem S4x1024 .f32) (harg18 : arg18.IsWhole) (arg19 : Memref sig .tc .vmem S4x1024 .f32) (harg19 : arg19.IsWhole) (arg20 : Memref sig .tc .vmem S4x1024 .f32) (harg20 : arg20.IsWhole) (arg21 : Memref sig .tc .vmem S252x8x512 .i8) (harg21 : arg21.IsWhole) (arg22 : Memref sig .tc .vmem S252x8x1024 .i8) (harg22 : arg22.IsWhole) (arg23 : Memref sig .tc .vmem S252x8x1024 .i8) (harg23 : arg23.IsWhole) (arg24 : Memref sig .tc .vmem S4x252x8x32 .i8) (harg24 : arg24.IsWhole) (arg25 : Memref sig .tc .vmem S4x14x8x18 .i8) (harg25 : arg25.IsWhole) (arg26 : Memref sig .tc .vmem S4x14x8x18 .i8) (harg26 : arg26.IsWhole) (arg27 : Memref sig .tc .vmem S252x8x1024 .f32) (harg27 : arg27.IsWhole) (arg28 : Memref sig .tc .vmem S512x1024 .bf16) (harg28 : arg28.IsWhole) (arg29 : Memref sig .tc .vmem S1024x512 .bf16) (harg29 : arg29.IsWhole) (arg30 : Memref sig .tc .vmem S4x128x1024 .bf16) (harg30 : arg30.IsWhole) (arg31 : Memref sig .tc .vmem S9x8x1024 .bf16) (harg31 : arg31.IsWhole) (arg32 : Memref sig .tc .vmem S16x20x8x1024 .bf16) (harg32 : arg32.IsWhole) (arg33 : Memref sig .tc .vmem S252x8x1024 .f32) (harg33 : arg33.IsWhole) (arg34 : Memref sig .tc .vmem S252x8x1024 .f32) (harg34 : arg34.IsWhole) (arg35 : Memref sig .tc .vmem S144x512 .bf16) (harg35 : arg35.IsWhole) (arg36 : Memref sig .tc .vmem S144x1024 .bf16) (harg36 : arg36.IsWhole) (arg37 : Memref sig .tc .vmem S4x252x8x128 .f32) (harg37 : arg37.IsWhole) (arg38 : Memref sig .tc .vmem S2x144x1024 .f32) (harg38 : arg38.IsWhole) (arg39 : Memref sig .tc .vmem S8x1024 .f32) (harg39 : arg39.IsWhole) (arg40 : Memref sig .tc .vmem S8x128 .f32) (harg40 : arg40.IsWhole) (arg41 : Memref sig .tc .vmem S8x1024 .f32) (harg41 : arg41.IsWhole) (v29 : FVec Ideal S1x512 .f32) (v32 : FVec Ideal S1x512 .f32) (v483 : FVec Ideal S4x1024 .f32) (X_arg4 : BufTy.Contents (Elt Ideal) arg4.view.ty) (X_arg28 : BufTy.Contents (Elt Ideal) arg28.view.ty) (X_arg39 : BufTy.Contents (Elt Ideal) arg39.view.ty) (G_arg21 : BufTy.Contents (Elt Ideal) arg21.view.ty) (G_arg22 : BufTy.Contents (Elt Ideal) arg22.view.ty) (G_arg32 : BufTy.Contents (Elt Ideal) arg32.view.ty) (G_arg35 : BufTy.Contents (Elt Ideal) arg35.view.ty)

theorem all_a1 : ∀ n : Nat, n ≤ k0_t1_loop.trips → View.PiecesOf (a1Arr (arg4.view.read (Elt Ideal) X_arg4) v29 v32) (pb_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v29 v32 v483 X_arg4 X_arg28 X_arg39 G_arg21 G_arg22 G_arg32 G_arg35 n).1
      ∧ ∀ y : S252x8x512.Idx, (y 0).val < 18 * n → ∃ p ∈ (pb_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v29 v32 v483 X_arg4 X_arg28 X_arg39 G_arg21 G_arg22 G_arg32 G_arg35 n).1, y ∈ p.1.set := by
  intro n
  induction n with
  | zero => exact fun _ => ⟨trivial, fun y h => absurd h (by omega)⟩
  | succ n ih =>
    intro hn
    obtain ⟨ihp, ihm⟩ := ih (by omega)
    have e := pb_k0_t1_succ (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v29 v32 v483 X_arg4 X_arg28 X_arg39 G_arg21 G_arg22 G_arg32 G_arg35 ⟨n, hn⟩
    rw [e]
    refine ⟨pieces_append (trip_a1 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v29 v32 v483 X_arg4 X_arg28 X_arg39 ⟨n, hn⟩ _ _ _ _) ihp, fun y h => ?_⟩
    by_cases hy : (y 0).val < 18 * n
    · obtain ⟨p, hp, hm⟩ := ihm y hy
      exact ⟨p, List.mem_append_right _ hp, hm⟩
    · obtain ⟨p, hp, hm⟩ := trip_a1_mem 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v29 v32 v483 X_arg4 X_arg28 X_arg39 ⟨n, hn⟩ (arg21.view.writes (Elt Ideal) G_arg21 (pb_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v29 v32 v483 X_arg4 X_arg28 X_arg39 G_arg21 G_arg22 G_arg32 G_arg35 n).1) (arg22.view.writes (Elt Ideal) G_arg22 (pb_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v29 v32 v483 X_arg4 X_arg28 X_arg39 G_arg21 G_arg22 G_arg32 G_arg35 n).2.1) (arg32.view.writes (Elt Ideal) G_arg32 (pb_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v29 v32 v483 X_arg4 X_arg28 X_arg39 G_arg21 G_arg22 G_arg32 G_arg35 n).2.2.1) (arg35.view.writes (Elt Ideal) G_arg35 (pb_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v29 v32 v483 X_arg4 X_arg28 X_arg39 G_arg21 G_arg22 G_arg32 G_arg35 n).2.2.2) y (by show 18 * n ≤ _; omega) (by show _ < 18 * n + 18; omega)
      exact ⟨p, List.mem_append_left _ hp, hm⟩

theorem left_a1 : arg21.view.read (Elt Ideal) (arg21.view.writes (Elt Ideal) G_arg21 (pb_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v29 v32 v483 X_arg4 X_arg28 X_arg39 G_arg21 G_arg22 G_arg32 G_arg35 k0_t1_loop.trips).1) = (a1Arr (arg4.view.read (Elt Ideal) X_arg4) v29 v32) := by
  obtain ⟨hp, hm⟩ := all_a1 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v29 v32 v483 X_arg4 X_arg28 X_arg39 G_arg21 G_arg22 G_arg32 G_arg35 k0_t1_loop.trips le_rfl
  have hc : ∀ y : S252x8x512.Idx, ∃ p ∈ (pb_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v29 v32 v483 X_arg4 X_arg28 X_arg39 G_arg21 G_arg22 G_arg32 G_arg35 k0_t1_loop.trips).1, y ∈ p.1.set := fun y => hm y (by
    have h : (y 0).val < 252 := (y 0).isLt
    have e : k0_t1_loop.trips = 14 := by decide +kernel
    omega)
  rw [View.read_writes_eq_canon _ _ _ hc]
  exact funext fun y => View.canon_apply_of_pieces _ _ hp.mem y (hc y)

theorem all_cv : ∀ n : Nat, n ≤ k0_t1_loop.trips → View.PiecesOf (cvArr (arg4.view.read (Elt Ideal) X_arg4) v29 v32 (arg28.view.read (Elt Ideal) X_arg28) (arg39.view.read (Elt Ideal) X_arg39)) (pb_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v29 v32 v483 X_arg4 X_arg28 X_arg39 G_arg21 G_arg22 G_arg32 G_arg35 n).2.1
      ∧ ∀ y : S252x8x1024.Idx, (y 0).val < 18 * n → ∃ p ∈ (pb_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v29 v32 v483 X_arg4 X_arg28 X_arg39 G_arg21 G_arg22 G_arg32 G_arg35 n).2.1, y ∈ p.1.set := by
  intro n
  induction n with
  | zero => exact fun _ => ⟨trivial, fun y h => absurd h (by omega)⟩
  | succ n ih =>
    intro hn
    obtain ⟨ihp, ihm⟩ := ih (by omega)
    have e := pb_k0_t1_succ (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v29 v32 v483 X_arg4 X_arg28 X_arg39 G_arg21 G_arg22 G_arg32 G_arg35 ⟨n, hn⟩
    rw [e]
    refine ⟨pieces_append (trip_cv 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v29 v32 v483 X_arg4 X_arg28 X_arg39 ⟨n, hn⟩ _ _ _ _) ihp, fun y h => ?_⟩
    by_cases hy : (y 0).val < 18 * n
    · obtain ⟨p, hp, hm⟩ := ihm y hy
      exact ⟨p, List.mem_append_right _ hp, hm⟩
    · obtain ⟨p, hp, hm⟩ := trip_cv_mem 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v29 v32 v483 X_arg4 X_arg28 X_arg39 ⟨n, hn⟩ (arg21.view.writes (Elt Ideal) G_arg21 (pb_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v29 v32 v483 X_arg4 X_arg28 X_arg39 G_arg21 G_arg22 G_arg32 G_arg35 n).1) (arg22.view.writes (Elt Ideal) G_arg22 (pb_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v29 v32 v483 X_arg4 X_arg28 X_arg39 G_arg21 G_arg22 G_arg32 G_arg35 n).2.1) (arg32.view.writes (Elt Ideal) G_arg32 (pb_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v29 v32 v483 X_arg4 X_arg28 X_arg39 G_arg21 G_arg22 G_arg32 G_arg35 n).2.2.1) (arg35.view.writes (Elt Ideal) G_arg35 (pb_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v29 v32 v483 X_arg4 X_arg28 X_arg39 G_arg21 G_arg22 G_arg32 G_arg35 n).2.2.2) y (by show 18 * n ≤ _; omega) (by show _ < 18 * n + 18; omega)
      exact ⟨p, List.mem_append_left _ hp, hm⟩

theorem left_cv : arg22.view.read (Elt Ideal) (arg22.view.writes (Elt Ideal) G_arg22 (pb_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v29 v32 v483 X_arg4 X_arg28 X_arg39 G_arg21 G_arg22 G_arg32 G_arg35 k0_t1_loop.trips).2.1) = (cvArr (arg4.view.read (Elt Ideal) X_arg4) v29 v32 (arg28.view.read (Elt Ideal) X_arg28) (arg39.view.read (Elt Ideal) X_arg39)) := by
  obtain ⟨hp, hm⟩ := all_cv 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v29 v32 v483 X_arg4 X_arg28 X_arg39 G_arg21 G_arg22 G_arg32 G_arg35 k0_t1_loop.trips le_rfl
  have hc : ∀ y : S252x8x1024.Idx, ∃ p ∈ (pb_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v29 v32 v483 X_arg4 X_arg28 X_arg39 G_arg21 G_arg22 G_arg32 G_arg35 k0_t1_loop.trips).2.1, y ∈ p.1.set := fun y => hm y (by
    have h : (y 0).val < 252 := (y 0).isLt
    have e : k0_t1_loop.trips = 14 := by decide +kernel
    omega)
  rw [View.read_writes_eq_canon _ _ _ hc]
  exact funext fun y => View.canon_apply_of_pieces _ _ hp.mem y (hc y)

end Cert.FrontV

end
-- ==== Proof.FrontIdealFrame.lean ====
/- The front call's frame over the reals: every run ends, with the arguments unchanged, every counter at zero, and the first two outputs at
   what the pixel loop leaves. -/
module

public import proofs.«01_k».proof.Proof.FrontIdealRun
public import proofs.«01_k».proof.Proof.FrontIdealRuns
public import Idealize.ShloMosaic.Lib.Claim
public import proofs.«01_k».proof.Proof.FrontAll

@[expose] public section

-- membership in a rectangle of production extents (`View.cover_of_tiled`): the elaborator's structural look
-- recurses once per coordinate of the long axes
set_option maxRecDepth 16384

noncomputable section

namespace Cert.FrontIdeal.Gen

open Idealize.ShloMosaic Idealize.ShloMosaic.TcCoe Idealize.ShloMosaic.Tactic
open Idealize.SL Idealize.SL.RA Idealize.SL.BI
open scoped Idealize.SL.BI
open Cert.Tail Cert.FrontV
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
/-- The one number an array of one cell holds. -/
abbrev first1 (v : Vec Ideal S1 .f32) : EReal := v (Shape.Idx.first (by decide))

/-- An array of eight rows, each of them the one given: only the first is read. -/
def stack (v : Vec Ideal S1x1024 .f32) : Vec Ideal S8x1024 .f32 := fun i => v (ix2 0 (i 1))

/-- `cvArr` reads only the first row of the scales. -/
theorem cvArr_congr (X : Vec Ideal S252x8x512 .bf16) (g b : Vec Ideal S1x512 .f32) (W : Vec Ideal S512x1024 .bf16) (v : Vec Ideal S8x1024 .f32) (u : Vec Ideal S1x1024 .f32)
    (h : ∀ l : Fin 1024, v (ix2 0 l) = u (ix2 0 l)) : cvArr X g b W v = cvArr X g b W (stack u) := by
  funext i
  exact congrArg (fun z : EReal => Ideal.fptosi 8 (quantK ((∑ k, vRow X g b (i 0) (i 1) k * W (ix2 k (i 2))) * z))) ((h (i 2)).trans rfl)

/-- The first output's block: the quantized rows. -/
def aft21 (c : Dev nD) (t : Fin cfg0.N) : Vec Ideal S252x8x512 .i8 := a1Arr (iblk m c 4 t) (k0_pay2971 (F := Ideal) (first1 (iblk m c 0 t)) (iblk m c 5 t)) (k0_pay2972 (F := Ideal) (first1 (iblk m c 0 t)) (iblk m c 6 t))

/-- The second output's block: the quantized product. -/
def aft22 (c : Dev nD) (t : Fin cfg0.N) : Vec Ideal S252x8x1024 .i8 := cvArr (iblk m c 4 t) (k0_pay2971 (F := Ideal) (first1 (iblk m c 0 t)) (iblk m c 5 t)) (k0_pay2972 (F := Ideal) (first1 (iblk m c 0 t)) (iblk m c 6 t)) (k0_pay2969 (F := Ideal) (iblk m c 7 t)) (stack (k0_pay2975 (F := Ideal) (first1 (iblk m c 0 t)) (k0_pay2973 (iblk m c 9 t)) (Scalar.ofBits .f32 0x77F684DF#32) (k0_pay2974 (F := Ideal)) (iblk m c 8 t)))

/-- What the pixel loop leaves in memref 21, at the blocks of point `t`. -/
theorem run21 (c : Dev nD) (t : Fin cfg0.N) (arg0 : Memref sig .tc .smem S1 .f32) (harg0 : arg0.IsWhole) (arg1 : Memref sig .tc .smem S4 .f32) (harg1 : arg1.IsWhole) (arg2 : Memref sig .tc .smem S4 .f32) (harg2 : arg2.IsWhole) (arg3 : Memref sig .tc .smem S4 .f32) (harg3 : arg3.IsWhole) (arg4 : Memref sig .tc .vmem S252x8x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S256x1024 .i8) (harg7 : arg7.IsWhole) (arg8 : Memref sig .tc .vmem S1x1024 .f32) (harg8 : arg8.IsWhole) (arg9 : Memref sig .tc .vmem S1x1024 .f32) (harg9 : arg9.IsWhole) (arg10 : Memref sig .tc .vmem S3x3x1024 .i8) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S34x4x1024 .i8) (harg14 : arg14.IsWhole) (arg15 : Memref sig .tc .vmem S4x34 .f32) (harg15 : arg15.IsWhole) (arg16 : Memref sig .tc .vmem S4x32x1024 .i8) (harg16 : arg16.IsWhole) (arg17 : Memref sig .tc .vmem S4x1024 .f32) (harg17 : arg17.IsWhole) (arg18 : Memref sig .tc .vmem S4x1024 .f32) (harg18 : arg18.IsWhole) (arg19 : Memref sig .tc .vmem S4x1024 .f32) (harg19 : arg19.IsWhole) (arg20 : Memref sig .tc .vmem S4x1024 .f32) (harg20 : arg20.IsWhole) (arg21 : Memref sig .tc .vmem S252x8x512 .i8) (harg21 : arg21.IsWhole) (arg22 : Memref sig .tc .vmem S252x8x1024 .i8) (harg22 : arg22.IsWhole) (arg23 : Memref sig .tc .vmem S252x8x1024 .i8) (harg23 : arg23.IsWhole) (arg24 : Memref sig .tc .vmem S4x252x8x32 .i8) (harg24 : arg24.IsWhole) (arg25 : Memref sig .tc .vmem S4x14x8x18 .i8) (harg25 : arg25.IsWhole) (arg26 : Memref sig .tc .vmem S4x14x8x18 .i8) (harg26 : arg26.IsWhole) (arg27 : Memref sig .tc .vmem S252x8x1024 .f32) (harg27 : arg27.IsWhole) (arg28 : Memref sig .tc .vmem S512x1024 .bf16) (harg28 : arg28.IsWhole) (arg29 : Memref sig .tc .vmem S1024x512 .bf16) (harg29 : arg29.IsWhole) (arg30 : Memref sig .tc .vmem S4x128x1024 .bf16) (harg30 : arg30.IsWhole) (arg31 : Memref sig .tc .vmem S9x8x1024 .bf16) (harg31 : arg31.IsWhole) (arg32 : Memref sig .tc .vmem S16x20x8x1024 .bf16) (harg32 : arg32.IsWhole) (arg33 : Memref sig .tc .vmem S252x8x1024 .f32) (harg33 : arg33.IsWhole) (arg34 : Memref sig .tc .vmem S252x8x1024 .f32) (harg34 : arg34.IsWhole) (arg35 : Memref sig .tc .vmem S144x512 .bf16) (harg35 : arg35.IsWhole) (arg36 : Memref sig .tc .vmem S144x1024 .bf16) (harg36 : arg36.IsWhole) (arg37 : Memref sig .tc .vmem S4x252x8x128 .f32) (harg37 : arg37.IsWhole) (arg38 : Memref sig .tc .vmem S2x144x1024 .f32) (harg38 : arg38.IsWhole) (arg39 : Memref sig .tc .vmem S8x1024 .f32) (harg39 : arg39.IsWhole) (arg40 : Memref sig .tc .vmem S8x128 .f32) (harg40 : arg40.IsWhole) (arg41 : Memref sig .tc .vmem S8x1024 .f32) (harg41 : arg41.IsWhole) :
    ∀ (v29 v32 : FVec Ideal S1x512 .f32) (v483 : FVec Ideal S4x1024 .f32) (X28 : BufTy.Contents (Elt Ideal) arg28.view.ty) (X39 : BufTy.Contents (Elt Ideal) arg39.view.ty)
      (G21 : BufTy.Contents (Elt Ideal) arg21.view.ty) (G22 : BufTy.Contents (Elt Ideal) arg22.view.ty) (G32 : BufTy.Contents (Elt Ideal) arg32.view.ty) (G35 : BufTy.Contents (Elt Ideal) arg35.view.ty),
      v29 = k0_pay2971 (first1 (iblk m c 0 t)) (iblk m c 5 t) → v32 = k0_pay2972 (first1 (iblk m c 0 t)) (iblk m c 6 t) → arg28.view.read (Elt Ideal) X28 = k0_pay2969 (iblk m c 7 t)
      → (∀ l : Fin 1024, arg39.view.read (Elt Ideal) X39 (ix2 0 l) = k0_pay2975 (first1 (iblk m c 0 t)) (k0_pay2973 (iblk m c 9 t)) (Scalar.ofBits .f32 0x77F684DF#32) (k0_pay2974 (F := Ideal)) (iblk m c 8 t) (ix2 0 l))
      → arg21.view.read (Elt Ideal) (arg21.view.writes (Elt Ideal) G21 (pb_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v29 v32 v483 (harg4.unread (iblk m c 4 t)) X28 X39 G21 G22 G32 G35 k0_t1_loop.trips).1) = aft21 m c t := by
  intro v29 v32 v483 X28 X39 G21 G22 G32 G35 e29 e32 e28 e39
  subst e29 e32
  refine (left_a1 ..).trans ?_
  rw [harg4.read_unread]
  rfl

/-- What the pixel loop leaves in memref 22, at the blocks of point `t`. -/
theorem run22 (c : Dev nD) (t : Fin cfg0.N) (arg0 : Memref sig .tc .smem S1 .f32) (harg0 : arg0.IsWhole) (arg1 : Memref sig .tc .smem S4 .f32) (harg1 : arg1.IsWhole) (arg2 : Memref sig .tc .smem S4 .f32) (harg2 : arg2.IsWhole) (arg3 : Memref sig .tc .smem S4 .f32) (harg3 : arg3.IsWhole) (arg4 : Memref sig .tc .vmem S252x8x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S256x1024 .i8) (harg7 : arg7.IsWhole) (arg8 : Memref sig .tc .vmem S1x1024 .f32) (harg8 : arg8.IsWhole) (arg9 : Memref sig .tc .vmem S1x1024 .f32) (harg9 : arg9.IsWhole) (arg10 : Memref sig .tc .vmem S3x3x1024 .i8) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S34x4x1024 .i8) (harg14 : arg14.IsWhole) (arg15 : Memref sig .tc .vmem S4x34 .f32) (harg15 : arg15.IsWhole) (arg16 : Memref sig .tc .vmem S4x32x1024 .i8) (harg16 : arg16.IsWhole) (arg17 : Memref sig .tc .vmem S4x1024 .f32) (harg17 : arg17.IsWhole) (arg18 : Memref sig .tc .vmem S4x1024 .f32) (harg18 : arg18.IsWhole) (arg19 : Memref sig .tc .vmem S4x1024 .f32) (harg19 : arg19.IsWhole) (arg20 : Memref sig .tc .vmem S4x1024 .f32) (harg20 : arg20.IsWhole) (arg21 : Memref sig .tc .vmem S252x8x512 .i8) (harg21 : arg21.IsWhole) (arg22 : Memref sig .tc .vmem S252x8x1024 .i8) (harg22 : arg22.IsWhole) (arg23 : Memref sig .tc .vmem S252x8x1024 .i8) (harg23 : arg23.IsWhole) (arg24 : Memref sig .tc .vmem S4x252x8x32 .i8) (harg24 : arg24.IsWhole) (arg25 : Memref sig .tc .vmem S4x14x8x18 .i8) (harg25 : arg25.IsWhole) (arg26 : Memref sig .tc .vmem S4x14x8x18 .i8) (harg26 : arg26.IsWhole) (arg27 : Memref sig .tc .vmem S252x8x1024 .f32) (harg27 : arg27.IsWhole) (arg28 : Memref sig .tc .vmem S512x1024 .bf16) (harg28 : arg28.IsWhole) (arg29 : Memref sig .tc .vmem S1024x512 .bf16) (harg29 : arg29.IsWhole) (arg30 : Memref sig .tc .vmem S4x128x1024 .bf16) (harg30 : arg30.IsWhole) (arg31 : Memref sig .tc .vmem S9x8x1024 .bf16) (harg31 : arg31.IsWhole) (arg32 : Memref sig .tc .vmem S16x20x8x1024 .bf16) (harg32 : arg32.IsWhole) (arg33 : Memref sig .tc .vmem S252x8x1024 .f32) (harg33 : arg33.IsWhole) (arg34 : Memref sig .tc .vmem S252x8x1024 .f32) (harg34 : arg34.IsWhole) (arg35 : Memref sig .tc .vmem S144x512 .bf16) (harg35 : arg35.IsWhole) (arg36 : Memref sig .tc .vmem S144x1024 .bf16) (harg36 : arg36.IsWhole) (arg37 : Memref sig .tc .vmem S4x252x8x128 .f32) (harg37 : arg37.IsWhole) (arg38 : Memref sig .tc .vmem S2x144x1024 .f32) (harg38 : arg38.IsWhole) (arg39 : Memref sig .tc .vmem S8x1024 .f32) (harg39 : arg39.IsWhole) (arg40 : Memref sig .tc .vmem S8x128 .f32) (harg40 : arg40.IsWhole) (arg41 : Memref sig .tc .vmem S8x1024 .f32) (harg41 : arg41.IsWhole) :
    ∀ (v29 v32 : FVec Ideal S1x512 .f32) (v483 : FVec Ideal S4x1024 .f32) (X28 : BufTy.Contents (Elt Ideal) arg28.view.ty) (X39 : BufTy.Contents (Elt Ideal) arg39.view.ty)
      (G21 : BufTy.Contents (Elt Ideal) arg21.view.ty) (G22 : BufTy.Contents (Elt Ideal) arg22.view.ty) (G32 : BufTy.Contents (Elt Ideal) arg32.view.ty) (G35 : BufTy.Contents (Elt Ideal) arg35.view.ty),
      v29 = k0_pay2971 (first1 (iblk m c 0 t)) (iblk m c 5 t) → v32 = k0_pay2972 (first1 (iblk m c 0 t)) (iblk m c 6 t) → arg28.view.read (Elt Ideal) X28 = k0_pay2969 (iblk m c 7 t)
      → (∀ l : Fin 1024, arg39.view.read (Elt Ideal) X39 (ix2 0 l) = k0_pay2975 (first1 (iblk m c 0 t)) (k0_pay2973 (iblk m c 9 t)) (Scalar.ofBits .f32 0x77F684DF#32) (k0_pay2974 (F := Ideal)) (iblk m c 8 t) (ix2 0 l))
      → arg22.view.read (Elt Ideal) (arg22.view.writes (Elt Ideal) G22 (pb_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v29 v32 v483 (harg4.unread (iblk m c 4 t)) X28 X39 G21 G22 G32 G35 k0_t1_loop.trips).2.1) = aft22 m c t := by
  intro v29 v32 v483 X28 X39 G21 G22 G32 G35 e29 e32 e28 e39
  subst e29 e32
  refine (left_cv ..).trans ?_
  rw [harg4.read_unread, e28]
  exact cvArr_congr _ _ _ _ _ _ e39

/-! ## The pipeline's proof data -/

/-- The output windows this certificate FORGETS (23, 24, 25, 26, 27): nothing reads what the kernel leaves in them, so nothing
    of it is named (Lib/Pipeline/Dat.lean `Dat.toRForget`). -/
def forgets0 : Fin 28 → Bool := fun w => w.val == 23 || w.val == 24 || w.val == 25 || w.val == 26 || w.val == 27

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => aft21 m c t
    | ⟨22, _⟩ => aft22 m c t
    | ⟨23, h⟩ => Pipeline.Dat.unnamed (cfg := cfg0) ⟨23, h⟩ t
    | ⟨24, h⟩ => Pipeline.Dat.unnamed (cfg := cfg0) ⟨24, h⟩ t
    | ⟨25, h⟩ => Pipeline.Dat.unnamed (cfg := cfg0) ⟨25, h⟩ t
    | ⟨26, h⟩ => Pipeline.Dat.unnamed (cfg := cfg0) ⟨26, h⟩ t
    | ⟨27, h⟩ => Pipeline.Dat.unnamed (cfg := cfg0) ⟨27, h⟩ t
    | ⟨_ + 28, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = aft21 m c t := by dsimp only [dats]
theorem after0_22 (c : Dev nD) (t : Fin cfg0.N) : (dats m 0 c).after 22 t = aft22 m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare d)
    ∗ (∃ d, owns (c : Thread nD τ) (ms0_24 t) fullShare d)
    ∗ (∃ d, owns (c : Thread nD τ) (ms0_25 t) fullShare d)
    ∗ (∃ d, owns (c : Thread nD τ) (ms0_26 t) fullShare d)
    ∗ (∃ d, owns (c : Thread nD τ) (ms0_27 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ (∃ d, owns (c : Thread nD τ) (ms0_23 t) fullShare d)
    ∗ (∃ d, owns (c : Thread nD τ) (ms0_24 t) fullShare d)
    ∗ (∃ d, owns (c : Thread nD τ) (ms0_25 t) fullShare d)
    ∗ (∃ d, owns (c : Thread nD τ) (ms0_26 t) fullShare d)
    ∗ (∃ d, owns (c : Thread nD τ) (ms0_27 t) fullShare d))

set_option maxHeartbeats 4000000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  rw [show (dats m 0 c).Φ t.castSucc = Pipeline.ΦA spec0 c from rfl, PhiA0_eq]
  iintro ⟨⟨⟨HS0, HS1, HS2, HS3, HS4, HS5, HS6, HS7, HS8, HS9, HS10, HS11, HS12, HS13⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply ((kernelRun0_A c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (aft21 m c t) (aft22 m c t) (run21 m c t _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) (run22 m c t _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  iintro ⟨H0, H1, H2, H3, H4, H5, H6, H7, H8, H9, H10, H11, H12, H13, H14, H15, H16, H17, H18, H19, H20, H21, H22, H23, H24, H25, H26, H27, HS0, HS1, HS2, HS3, HS4, HS5, HS6, HS7, HS8, HS9, HS10, HS11, HS12, HS13⟩
  isplitl [HS0 HS1 HS2 HS3 HS4 HS5 HS6 HS7 HS8 HS9 HS10 HS11 HS12 HS13 Hg]
  · isplitl [HS0 HS1 HS2 HS3 HS4 HS5 HS6 HS7 HS8 HS9 HS10 HS11 HS12 HS13]
    · isplitl [HS0]
      · iexact HS0
      isplitl [HS1]
      · iexact HS1
      isplitl [HS2]
      · iexact HS2
      isplitl [HS3]
      · iexact HS3
      isplitl [HS4]
      · iexact HS4
      isplitl [HS5]
      · iexact HS5
      isplitl [HS6]
      · iexact HS6
      isplitl [HS7]
      · iexact HS7
      isplitl [HS8]
      · iexact HS8
      isplitl [HS9]
      · iexact HS9
      isplitl [HS10]
      · iexact HS10
      isplitl [HS11]
      · iexact HS11
      isplitl [HS12]
      · iexact HS12
      iexact HS13
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter at zero at every final state. -/
theorem run_main_quiescent : θ_run defs (onTc (τ := τ) (main (F := Ideal))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 23, 24, 25, 26, 27) (Lib/Pipeline/Frame.lean `RDat.FramePost` over the proof data with those windows
    forgotten, Dat.lean `Dat.toRForget`), and every other unscoped buffer at its region-entry contents. -/
theorem run_main : θ_run defs (onTc (τ := τ) (main (F := Ideal))) (s₀ m ρ) (Pipeline.RDat.FramePost (cfgs 0) (fun c => (dats m 0 c).toRForget forgets0) (V m)) :=
  (θ_run defs _ _).mono (fun _ h => h.1) (run_main_quiescent m ρ)

/-- Window 21's array is named. -/
theorem toRForget_21 (c : Dev nD) (G) : ((dats m 0 c).toRForget forgets0).ArrAt 21 cfg0.N G ↔ G = (dats m 0 c).arrAt 21 cfg0.N :=
  (dats m 0 c).toRForget_arrAt_iff (by rfl) cfg0.N G

/-- Window 22's array is named. -/
theorem toRForget_22 (c : Dev nD) (G) : ((dats m 0 c).toRForget forgets0).ArrAt 22 cfg0.N G ↔ G = (dats m 0 c).arrAt 22 cfg0.N :=
  (dats m 0 c).toRForget_arrAt_iff (by rfl) cfg0.N G

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_of_forget m ρ (fun c => (dats m 0 c).toRForget forgets0) (A_eq m) (run_main m ρ)

/-- The frame of the front call over the reals: every run ends, the arguments are unchanged and every counter is zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.sem = fun _ => 0) :=
  θ_run_and (unchanged m ρ) ((θ_run defs _ _).mono (fun _ h => h.2) (run_main_quiescent m ρ))

end Cert.FrontIdeal.Gen

end
-- ==== Proof.Weights.lean ====
/- The unpacked weights, read at an index: each entry is the low or the high nibble of a packed byte, sign extended. -/
module

public import proofs.«01_k».proof.Proof.Rows

@[expose] public section

set_option maxRecDepth 16384

noncomputable section

namespace Cert.Tail

open Idealize.ShloMosaic Cert.KernelIdeal Cert.KernelIdeal.Gen
open scoped BigOperators

/-- The contents of an array over the extended reals. -/
local notation "𝕍" => Vec (Idealize.ShloMosaic.Ideal)

/-- The three weight scratches, as functions of the packed arguments. -/
def W0 (P : 𝕍 S1024x256 .i8) : 𝕍 S1024x512 .bf16 := fun i => wOut loK hiK (fun k d => P (ix2 k d)) (i 0) (i 1)
def W1 (P : 𝕍 S256x2048 .i8) : 𝕍 S512x2048 .bf16 := fun i => wFc1 loK hiK (fun k f => P (ix2 k f)) (i 0) (i 1)
def W2 (P : 𝕍 S1024x512 .i8) : 𝕍 S2048x512 .bf16 := fun i => wFc2 loK hiK (fun k d => P (ix2 k d)) (i 0) (i 1)

theorem pay2_at (P : 𝕍 S256x2048 .i8) (k : Fin 512) (f : Fin 2048) : k0_pay2 (F := Ideal) P (ix2 k f) = W1 P (ix2 k f) := by
  pointwise [k0_pay2]
  unfold W1 wFc1
  show _ = if k.val % 2 < 1 then _ else _
  split <;> rfl

theorem pay3_at (P : 𝕍 S1024x512 .i8) (k : Fin 2048) (f : Fin 512) : k0_pay3 (F := Ideal) P (ix2 k f) = W2 P (ix2 k f) := by
  pointwise [k0_pay3]
  unfold W2 wFc2
  show _ = if k.val % 2 < 1 then _ else _
  split <;> rfl

/-- A product with a 0/1 permutation matrix picks one column. -/
theorem sel_sum (w : Fin 256 → EReal) (d : Fin 512) (o : Nat) (ho : o < 2) (e : Fin 256 → BitVec 32)
    (he : ∀ x, (e x).toNat = 2 * x.val + o) :
    ∑ x, Scalar.select (IntOp.cmpi .eq (BitVec.ofNat 32 d.val) (e x)) (w x) (0 : EReal)
      = if d.val % 2 = o then w (halfIx 256 d rfl) else 0 := by
  have hd := d.isLt
  have key : ∀ x : Fin 256, (BitVec.ofNat 32 d.val = e x) ↔ (d.val = 2 * x.val + o) := fun x => by
    rw [← BitVec.toNat_inj, he, BitVec.toNat_ofNat, Nat.mod_eq_of_lt (by omega)]
  simp only [select_eq, key]
  split
  · next h =>
    have : ∀ x : Fin 256, (d.val = 2 * x.val + o) ↔ (x = halfIx 256 d rfl) := fun x => by
      rw [Fin.ext_iff]; simp only [halfIx]; omega
    simp only [this, Finset.sum_ite_eq', Finset.mem_univ, if_true]
  · next h =>
    refine Finset.sum_eq_zero fun x _ => if_neg (by omega)

theorem pay5_at (P : 𝕍 S1024x256 .i8) (k : Fin 1024) (d : Fin 512) : k0_pay5 (F := Ideal) (k0_pay4 (F := Ideal) P) (ix2 k d) = W0 P (ix2 k d) := by
  pointwise [k0_pay5, k0_pay4]
  rw [sel_sum _ d 0 (by omega) _ (fun x => ?_), sel_sum _ d 1 (by omega) _ (fun x => ?_)]
  · show _ = if d.val % 2 < 1 then _ else _
    rcases Nat.mod_two_eq_zero_or_one d.val with h | h
    · simp only [h, if_true, zero_lt_one]
      rw [if_neg (by decide), add_zero]
      rfl
    · simp only [h, if_true]
      rw [if_neg (by decide), if_neg (by decide), zero_add]
      rfl
  · have := x.isLt
    simp only [IntOp.addi, IntOp.muli, BitVec.toNat_add, BitVec.toNat_mul, BitVec.toNat_ofNat]
    omega
  · have := x.isLt
    simp only [IntOp.addi, IntOp.muli, BitVec.toNat_add, BitVec.toNat_mul, BitVec.toNat_ofNat]
    omega

theorem pay2_eq (P : 𝕍 S256x2048 .i8) : k0_pay2 (F := Ideal) P = W1 P :=
  funext fun i => by rw [show i = ix2 (i 0) (i 1) from eq_ix2 i]; exact pay2_at P _ _

theorem pay3_eq (P : 𝕍 S1024x512 .i8) : k0_pay3 (F := Ideal) P = W2 P :=
  funext fun i => by rw [show i = ix2 (i 0) (i 1) from eq_ix2 i]; exact pay3_at P _ _

theorem pay5_eq (P : 𝕍 S1024x256 .i8) : k0_pay5 (F := Ideal) (k0_pay4 (F := Ideal) P) = W0 P :=
  funext fun i => by rw [show i = ix2 (i 0) (i 1) from eq_ix2 i]; exact pay5_at P _ _

end Cert.Tail

end
-- ==== Proof.Outcome.lean ====
/- What the whole computation gives, as functions of the argument arrays (the reference's formulas), and that one block of
   the kernel gives its part of it. -/
module

public import proofs.«01_k».proof.Proof.Pieces
public import proofs.«01_k».proof.Proof.Weights

@[expose] public section

noncomputable section

namespace Cert.Tail

open Idealize.ShloMosaic Cert.KernelIdeal Cert.KernelIdeal.Gen
open scoped BigOperators

/-- The contents of an array over the extended reals. -/
local notation "𝕍" => Vec (Idealize.ShloMosaic.Ideal)

/-- The arguments: scalars, rows by pixel and image, parameter rows, packed weights. -/
structure In where
  sa : EReal
  sh : EReal
  z : BitVec 32
  y : Fin 252 → Fin 8 → Row 1024
  x : Fin 252 → Fin 8 → Row 512
  og : Row 1024
  ob : Row 1024
  P0 : Fin 1024 → Fin 256 → BitVec 8
  ws : Row 512
  lg : Row 512
  lb : Row 512
  P1 : Fin 256 → Fin 2048 → BitVec 8
  us : Row 2048
  ub : Row 2048
  P2 : Fin 1024 → Fin 512 → BitVec 8
  vs : Row 512
  vb : Row 512

namespace In

variable (a : In)

/-- The normed row, its bytes and its scale. -/
def o (P : Fin 252) (r : Fin 8) : Row 1024 := oR (a.y P r) a.og a.ob
def on (P : Fin 252) (r : Fin 8) (k : Fin 1024) : BitVec 8 := qR (a.o P r) k
def ons (P : Fin 252) (r : Fin 8) : EReal := scaleR (a.o P r)
/-- The residual stream. -/
def x1 (P : Fin 252) (r : Fin 8) : Row 512 :=
  x1F (fun k => byte (a.on P r k)) (a.ons P r) (wOut loR hiR a.P0) a.ws (a.x P r)
/-- The second norm's bytes. -/
def a2 (P : Fin 252) (r : Fin 8) (d : Fin 512) : BitVec 8 := a2R (a.x1 P r) a.lg a.lb a.sa d
/-- The hidden layer as a word. -/
def hid (P : Fin 252) (r : Fin 8) (f : Fin 2048) : BitVec 32 :=
  hidR (actR (∑ k, byte (a.a2 P r k) * wFc1 loR hiR a.P1 k f) a.sa (a.us f) (a.ub f) a.sh) a.z
/-- The result. -/
def out (P : Fin 252) (r : Fin 8) : Row 512 :=
  yR (a.x1 P r) (fun f => (((IntOp.subi (a.hid P r f) a.z).toInt : ℝ) : EReal)) (wFc2 loR hiR a.P2) a.sh a.vs a.vb

/-- The scales the claim assumes: neither quantiser's scale is tiny, the second's not negative, and the zero point leaves
    room for a byte above it. -/
structure Tame : Prop where
  sa : ((1 / 2 ^ 112 : ℝ) : EReal) ≤ a.sa
  sh : ((1 / 2 ^ 112 : ℝ) : EReal) ≤ max a.sh (-a.sh)
  z : -2147483392 ≤ a.z.toInt

end In

/-- The pixel of row `p` of block `t`. -/
def pixel (t : Fin 7) (p : Fin 36) : Fin 252 := ⟨36 * t.val + p.val, by omega⟩

/-- The blocks a point finds are the arguments' parts. -/
structure Holds (a : In) (t : Fin 7) (x0 x1 : 𝕍 S1 .f32) (x2 : 𝕍 S1 .i32) (x3 : 𝕍 S36x8x1024 .f32) (x4 : 𝕍 S36x8x512 .bf16)
    (x5 x6 : 𝕍 S1x1024 .f32) (x7 : 𝕍 S1024x256 .i8) (x8 x9 x10 : 𝕍 S1x512 .f32) (x11 : 𝕍 S256x2048 .i8) (x12 x13 : 𝕍 S1x2048 .f32)
    (x14 : 𝕍 S1024x512 .i8) (x15 x16 : 𝕍 S1x512 .f32) : Prop where
  h0 : x0 (ix1 0) = a.sa
  h1 : x1 (ix1 0) = a.sh
  h2 : x2 (ix1 0) = a.z
  h3 : ∀ p r k, x3 (ix3 p r k) = a.y (pixel t p) r k
  h4 : ∀ p r k, x4 (ix3 p r k) = a.x (pixel t p) r k
  h5 : ∀ k, x5 (ix2 0 k) = a.og k
  h6 : ∀ k, x6 (ix2 0 k) = a.ob k
  h7 : ∀ k j, x7 (ix2 k j) = a.P0 k j
  h8 : ∀ k, x8 (ix2 0 k) = a.ws k
  h9 : ∀ k, x9 (ix2 0 k) = a.lg k
  h10 : ∀ k, x10 (ix2 0 k) = a.lb k
  h11 : ∀ k j, x11 (ix2 k j) = a.P1 k j
  h12 : ∀ k, x12 (ix2 0 k) = a.us k
  h13 : ∀ k, x13 (ix2 0 k) = a.ub k
  h14 : ∀ k j, x14 (ix2 k j) = a.P2 k j
  h15 : ∀ k, x15 (ix2 0 k) = a.vs k
  h16 : ∀ k, x16 (ix2 0 k) = a.vb k

namespace Holds

variable {a : In} {t : Fin 7} {x0 x1 : 𝕍 S1 .f32} {x2 : 𝕍 S1 .i32} {x3 : 𝕍 S36x8x1024 .f32} {x4 : 𝕍 S36x8x512 .bf16}
  {x5 x6 : 𝕍 S1x1024 .f32} {x7 : 𝕍 S1024x256 .i8} {x8 x9 x10 : 𝕍 S1x512 .f32} {x11 : 𝕍 S256x2048 .i8} {x12 x13 : 𝕍 S1x2048 .f32}
  {x14 : 𝕍 S1024x512 .i8} {x15 x16 : 𝕍 S1x512 .f32}
  (h : Holds a t x0 x1 x2 x3 x4 x5 x6 x7 x8 x9 x10 x11 x12 x13 x14 x15 x16)

include h

theorem o (p : Fin 36) (r : Fin 8) : oB x3 x5 x6 p r = a.o (pixel t p) r := by
  unfold oB In.o
  rw [o_eq]
  simp only [h.h3, h.h5, h.h6]

theorem on (p : Fin 36) (r : Fin 8) (k : Fin 1024) : onOut x3 x5 x6 (ix3 p r k) = a.on (pixel t p) r k := by
  show Ideal.fptosi 8 (qK (oB x3 x5 x6 p r) k) = _
  rw [h.o, on_eq]; rfl

theorem ons (i : Fin 2) (r : Fin 8) (w : Fin 18) :
    onsOut x3 x5 x6 (ix3 i r w) = a.ons (pixel t ⟨18 * i.val + w.val, by omega⟩) r := by
  show scaleK (oB x3 x5 x6 ⟨18 * i.val + w.val, _⟩ r) = _
  rw [h.o, scale_eq]; rfl

theorem w0 : (fun k d => W0 x7 (ix2 k d)) = wOut loR hiR a.P0 := by
  funext k d
  show wOut loK hiK (fun i j => x7 (ix2 i j)) k d = _
  simp only [wOut, lo_eq, hi_eq, h.h7]

theorem w1 (k : Fin 512) (f : Fin 2048) : W1 x11 (ix2 k f) = wFc1 loR hiR a.P1 k f := by
  show wFc1 loK hiK (fun i j => x11 (ix2 i j)) k f = _
  simp only [wFc1, lo_eq, hi_eq, h.h11]

theorem w2 : (fun k d => W2 x14 (ix2 k d)) = wFc2 loR hiR a.P2 := by
  funext k d
  show wFc2 loK hiK (fun i j => x14 (ix2 i j)) k d = _
  simp only [wFc2, lo_eq, hi_eq, h.h14]

theorem resid (p : Fin 36) (r : Fin 8) (d : Fin 512) : x1Arr x3 x5 x6 (W0 x7) x8 x4 (ix3 p r d) = a.x1 (pixel t p) r d := by
  show x1F (qK (oB x3 x5 x6 p r)) (scaleK (oB x3 x5 x6 p r)) (fun k d => W0 x7 (ix2 k d)) (fun d => x8 (ix2 0 d))
    (fun d => x4 (ix3 p r d)) d = _
  unfold In.x1
  rw [h.o, scale_eq, h.w0, show qK (a.o (pixel t p) r) = fun k => byte (a.on (pixel t p) r k) from funext fun k => q_eq _ k]
  simp only [h.h8, h.h4]
  rfl

theorem a2Row (hT : a.Tame) (p : Fin 36) (r : Fin 8) (d : Fin 512) :
    a2Row (x1Arr x3 x5 x6 (W0 x7) x8 x4) x9 x10 x0 p r d = byte (a.a2 (pixel t p) r d) := by
  unfold Tail.a2Row In.a2
  rw [a2_byte _ _ _ _ (by rw [h.h0]; exact hT.sa)]
  simp only [h.resid, h.h9, h.h10, h.h0]

theorem a2 (hT : a.Tame) (p : Fin 36) (r : Fin 8) (d : Fin 512) :
    a2Out (x1Arr x3 x5 x6 (W0 x7) x8 x4) x9 x10 x0 (ix3 p r d) = a.a2 (pixel t p) r d := by
  show Ideal.fptosi 8 (Tail.a2Row _ x9 x10 x0 p r d) = _
  unfold Tail.a2Row In.a2
  rw [a2_eq _ _ _ _ (by rw [h.h0]; exact hT.sa)]
  simp only [h.resid, h.h9, h.h10, h.h0]

/-- The hidden layer's real value before it becomes a word. -/
theorem hB (hT : a.Tame) (p : Fin 36) (r : Fin 8) (f : Fin 2048) :
    hB (lhsA2 (x1Arr x3 x5 x6 (W0 x7) x8 x4) x9 x10 x0) (W1 x11) x12 x13 x0 x1 x2 (tok p r) f
      = hidK (actR (∑ k, byte (a.a2 (pixel t p) r k) * wFc1 loR hiR a.P1 k f) a.sa (a.us f) (a.ub f) a.sh) a.z := by
  unfold Tail.hB
  have e : ∀ k : Fin 512, lhsA2 (x1Arr x3 x5 x6 (W0 x7) x8 x4) x9 x10 x0 (ix2 (tok p r) k) = byte (a.a2 (pixel t p) r k) := fun k => by
    show Tail.a2Row _ x9 x10 x0 (pix (tok p r)) (lan (tok p r)) k = _
    rw [pix_tok, lan_tok, h.a2Row hT]
  simp only [e, h.w1, h.h0, h.h1, h.h2, h.h12, h.h13]
  rw [act_eq _ _ _ _ _ hT.sh]

theorem hq (hT : a.Tame) (p : Fin 36) (r : Fin 8) (f : Fin 2048) :
    hqOut (lhsA2 (x1Arr x3 x5 x6 (W0 x7) x8 x4) x9 x10 x0) (W1 x11) x12 x13 x0 x1 x2 (ix3 p r f)
      = BitVec.setWidth 8 (a.hid (pixel t p) r f) := by
  show BitVec.setWidth 8 (Ideal.fptosi 32 (Tail.hB _ _ _ _ _ _ _ (tok p r) f)) = _
  rw [h.hB hT, hid_word]; rfl

theorem y (hT : a.Tame) (p : Fin 36) (r : Fin 8) (d : Fin 512) :
    yOut (x1Arr x3 x5 x6 (W0 x7) x8 x4) (lhsH (lhsA2 (x1Arr x3 x5 x6 (W0 x7) x8 x4) x9 x10 x0) (W1 x11) x12 x13 x0 x1 x2)
      (W2 x14) x1 x15 x16 (ix3 p r d) = a.out (pixel t p) r d := by
  show yK (fun d => x1Arr x3 x5 x6 (W0 x7) x8 x4 (ix3 p r d))
    (fun k => Tail.hB _ _ _ _ _ _ _ (tok p r) k - (((x2 (ix1 0)).toInt : ℝ) : EReal)) (fun k d => W2 x14 (ix2 k d)) (x1 (ix1 0))
    (fun d => x15 (ix2 0 d)) (fun d => x16 (ix2 0 d)) d = _
  rw [y_eq, h.w2]
  unfold In.out
  simp only [h.hB hT, h.resid, h.h1, h.h2, h.h15, h.h16, hid_sub _ _ hT.z]
  rfl

end Holds

end Cert.Tail

end
-- ==== Proof.Arguments.lean ====
/- The kernel's argument arrays as it finds them, block by block. -/
module

public import proofs.«01_k».proof.Proof.Outcome
public import proofs.«01_k».proof.Proof.Gen.KernelIdeal.Value
public import Idealize.ShloMosaic.Lib.StableHlo.ReadAt

@[expose] public section

noncomputable section

namespace Cert.Tail

open Idealize.ShloMosaic Idealize.ShloMosaic.TcCoe Cert.KernelIdeal Cert.KernelIdeal.Gen

/-- The contents of an array over the extended reals. -/
local notation "𝕍" => Vec (Idealize.ShloMosaic.Ideal)

/-- The arguments as the formulas take them; the image array is read by pixel. -/
def In.of (A0 : 𝕍 S252x8x1024 .f32) (A1 : 𝕍 S8x14x18x512 .bf16) (A2 A3 : 𝕍 S1024 .f32) (A4 : 𝕍 S1024x256 .i8) (A5 A6 A7 : 𝕍 S512 .f32)
    (A8 : 𝕍 S_ .f32) (A9 : 𝕍 S256x2048 .i8) (A10 A11 : 𝕍 S2048 .f32) (A12 : 𝕍 S_ .f32) (A13 : 𝕍 S_ .i32) (A14 : 𝕍 S1024x512 .i8)
    (A15 A16 : 𝕍 S512 .f32) : In where
  sa := A8 ix0
  sh := A12 ix0
  z := A13 ix0
  y P r k := A0 (ix3 P r k)
  x P r d := A1 (ix4 r ⟨P.val / 18, by omega⟩ ⟨P.val % 18, by omega⟩ d)
  og k := A2 (ix1 k)
  ob k := A3 (ix1 k)
  P0 k j := A4 (ix2 k j)
  ws k := A5 (ix1 k)
  lg k := A6 (ix1 k)
  lb k := A7 (ix1 k)
  P1 k j := A9 (ix2 k j)
  us k := A10 (ix1 k)
  ub k := A11 (ix1 k)
  P2 k j := A14 (ix2 k j)
  vs k := A15 (ix1 k)
  vb k := A16 (ix1 k)

variable (m : (ℓ : Loc nD τ sig) → Buf (Elt Ideal) ℓ) (c : Dev nD)

/-- The arguments of this launch. -/
def inK : In :=
  In.of (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))

theorem host_v2 : V m c main_v2 (ix1 0) = m ((c : Thread nD τ).loc main_arg8) ix0 := by
  unfold V
  after_reads_at

theorem host_v3 : V m c main_v3 (ix1 0) = m ((c : Thread nD τ).loc main_arg12) ix0 := by
  unfold V
  after_reads_at

theorem host_v4 : V m c main_v4 (ix1 0) = m ((c : Thread nD τ).loc main_arg13) ix0 := by
  unfold V
  after_reads_at

theorem host_v1 (P : Fin 252) (r : Fin 8) (d : Fin 512) : V m c main_v1 (ix3 P r d)
    = m ((c : Thread nD τ).loc main_arg1) (ix4 r ⟨P.val / 18, by omega⟩ ⟨P.val % 18, by omega⟩ d) := by
  unfold V
  after_reads_at

theorem host_v5 (l : Fin 1024) : V m c main_v5 (ix2 0 l) = m ((c : Thread nD τ).loc main_arg2) (ix1 l) := by
  unfold V
  after_reads_at

theorem host_v6 (l : Fin 1024) : V m c main_v6 (ix2 0 l) = m ((c : Thread nD τ).loc main_arg3) (ix1 l) := by
  unfold V
  after_reads_at

theorem host_v7 (l : Fin 512) : V m c main_v7 (ix2 0 l) = m ((c : Thread nD τ).loc main_arg5) (ix1 l) := by
  unfold V
  after_reads_at

theorem host_v8 (l : Fin 512) : V m c main_v8 (ix2 0 l) = m ((c : Thread nD τ).loc main_arg6) (ix1 l) := by
  unfold V
  after_reads_at

theorem host_v9 (l : Fin 512) : V m c main_v9 (ix2 0 l) = m ((c : Thread nD τ).loc main_arg7) (ix1 l) := by
  unfold V
  after_reads_at

theorem host_v10 (l : Fin 2048) : V m c main_v10 (ix2 0 l) = m ((c : Thread nD τ).loc main_arg10) (ix1 l) := by
  unfold V
  after_reads_at

theorem host_v11 (l : Fin 2048) : V m c main_v11 (ix2 0 l) = m ((c : Thread nD τ).loc main_arg11) (ix1 l) := by
  unfold V
  after_reads_at

theorem host_v12 (l : Fin 512) : V m c main_v12 (ix2 0 l) = m ((c : Thread nD τ).loc main_arg15) (ix1 l) := by
  unfold V
  after_reads_at

theorem host_v13 (l : Fin 512) : V m c main_v13 (ix2 0 l) = m ((c : Thread nD τ).loc main_arg16) (ix1 l) := by
  unfold V
  after_reads_at

theorem blk0 (t : Fin 7) : iblk m c 0 t (ix1 0) = m ((c : Thread nD τ).loc main_arg8) ix0 := by
  have e : iblk m c 0 t (ix1 0) = V m c main_v2 (((cfg0.win 0).blk t).view.emb (ix1 0)) := rfl
  have e' : ((cfg0.win 0).blk t).view.emb (ix1 0) = ix1 0 := by
    funext a
    match a with
    | ⟨0, _⟩ => rfl
  rw [e, e', host_v2]

theorem blk1 (t : Fin 7) : iblk m c 1 t (ix1 0) = m ((c : Thread nD τ).loc main_arg12) ix0 := by
  have e : iblk m c 1 t (ix1 0) = V m c main_v3 (((cfg0.win 1).blk t).view.emb (ix1 0)) := rfl
  have e' : ((cfg0.win 1).blk t).view.emb (ix1 0) = ix1 0 := by
    funext a
    match a with
    | ⟨0, _⟩ => rfl
  rw [e, e', host_v3]

theorem blk2 (t : Fin 7) : iblk m c 2 t (ix1 0) = m ((c : Thread nD τ).loc main_arg13) ix0 := by
  have e : iblk m c 2 t (ix1 0) = V m c main_v4 (((cfg0.win 2).blk t).view.emb (ix1 0)) := rfl
  have e' : ((cfg0.win 2).blk t).view.emb (ix1 0) = ix1 0 := by
    funext a
    match a with
    | ⟨0, _⟩ => rfl
  rw [e, e', host_v4]

theorem blk3 (t : Fin 7) (p : Fin 36) (r : Fin 8) (k : Fin 1024) :
    iblk m c 3 t (ix3 p r k) = V m c main_arg0 (ix3 (pixel t p) r k) := by
  have i : win0_3.index t 0 = t.val ∧ win0_3.index t 1 = 0 ∧ win0_3.index t 2 = 0 := by revert t; decide +kernel
  have e : iblk m c 3 t (ix3 p r k) = V m c main_arg0 (((cfg0.win 3).blk t).view.emb (ix3 p r k)) := rfl
  rw [e]
  congr 1
  funext a
  apply Fin.ext
  match a with
  | ⟨0, _⟩ => show win0_3.index t 0 * 36 + 1 * p.val = 36 * t.val + p.val; rw [i.1]; omega
  | ⟨1, _⟩ => show win0_3.index t 1 * 8 + 1 * r.val = r.val; rw [i.2.1]; omega
  | ⟨2, _⟩ => show win0_3.index t 2 * 1024 + 1 * k.val = k.val; rw [i.2.2]; omega

theorem blk4 (t : Fin 7) (p : Fin 36) (r : Fin 8) (k : Fin 512) :
    iblk m c 4 t (ix3 p r k) = V m c main_v1 (ix3 (pixel t p) r k) := by
  have i : win0_4.index t 0 = t.val ∧ win0_4.index t 1 = 0 ∧ win0_4.index t 2 = 0 := by revert t; decide +kernel
  have e : iblk m c 4 t (ix3 p r k) = V m c main_v1 (((cfg0.win 4).blk t).view.emb (ix3 p r k)) := rfl
  rw [e]
  congr 1
  funext a
  apply Fin.ext
  match a with
  | ⟨0, _⟩ => show win0_4.index t 0 * 36 + 1 * p.val = 36 * t.val + p.val; rw [i.1]; omega
  | ⟨1, _⟩ => show win0_4.index t 1 * 8 + 1 * r.val = r.val; rw [i.2.1]; omega
  | ⟨2, _⟩ => show win0_4.index t 2 * 512 + 1 * k.val = k.val; rw [i.2.2]; omega

theorem blk5 (t : Fin 7) (l : Fin 1024) : iblk m c 5 t (ix2 0 l) = m ((c : Thread nD τ).loc main_arg2) (ix1 l) := by
  have e : iblk m c 5 t (ix2 0 l) = V m c main_v5 (((cfg0.win 5).blk t).view.emb (ix2 0 l)) := rfl
  have e' : ((cfg0.win 5).blk t).view.emb (ix2 0 l) = ix2 0 l := by
    funext a
    apply Fin.ext
    match a with
    | ⟨0, _⟩ => rfl
    | ⟨1, _⟩ => show 0 * _ + 1 * l.val = l.val; omega
  rw [e, e', host_v5]

theorem blk6 (t : Fin 7) (l : Fin 1024) : iblk m c 6 t (ix2 0 l) = m ((c : Thread nD τ).loc main_arg3) (ix1 l) := by
  have e : iblk m c 6 t (ix2 0 l) = V m c main_v6 (((cfg0.win 6).blk t).view.emb (ix2 0 l)) := rfl
  have e' : ((cfg0.win 6).blk t).view.emb (ix2 0 l) = ix2 0 l := by
    funext a
    apply Fin.ext
    match a with
    | ⟨0, _⟩ => rfl
    | ⟨1, _⟩ => show 0 * _ + 1 * l.val = l.val; omega
  rw [e, e', host_v6]

theorem blk7 (t : Fin 7) : iblk m c 7 t = m ((c : Thread nD τ).loc main_arg4) := by
  funext y
  have e : iblk m c 7 t y = V m c main_arg4 (((cfg0.win 7).blk t).view.emb y) := rfl
  have e' : ((cfg0.win 7).blk t).view.emb y = y := by
    funext a
    apply Fin.ext
    match a with
    | ⟨0, _⟩ => show 0 * _ + 1 * (y 0).val = (y 0).val; omega
    | ⟨1, _⟩ => show 0 * _ + 1 * (y 1).val = (y 1).val; omega
  rw [e, e', V_main_arg4]

theorem blk8 (t : Fin 7) (l : Fin 512) : iblk m c 8 t (ix2 0 l) = m ((c : Thread nD τ).loc main_arg5) (ix1 l) := by
  have e : iblk m c 8 t (ix2 0 l) = V m c main_v7 (((cfg0.win 8).blk t).view.emb (ix2 0 l)) := rfl
  have e' : ((cfg0.win 8).blk t).view.emb (ix2 0 l) = ix2 0 l := by
    funext a
    apply Fin.ext
    match a with
    | ⟨0, _⟩ => rfl
    | ⟨1, _⟩ => show 0 * _ + 1 * l.val = l.val; omega
  rw [e, e', host_v7]

theorem blk9 (t : Fin 7) (l : Fin 512) : iblk m c 9 t (ix2 0 l) = m ((c : Thread nD τ).loc main_arg6) (ix1 l) := by
  have e : iblk m c 9 t (ix2 0 l) = V m c main_v8 (((cfg0.win 9).blk t).view.emb (ix2 0 l)) := rfl
  have e' : ((cfg0.win 9).blk t).view.emb (ix2 0 l) = ix2 0 l := by
    funext a
    apply Fin.ext
    match a with
    | ⟨0, _⟩ => rfl
    | ⟨1, _⟩ => show 0 * _ + 1 * l.val = l.val; omega
  rw [e, e', host_v8]

theorem blk10 (t : Fin 7) (l : Fin 512) : iblk m c 10 t (ix2 0 l) = m ((c : Thread nD τ).loc main_arg7) (ix1 l) := by
  have e : iblk m c 10 t (ix2 0 l) = V m c main_v9 (((cfg0.win 10).blk t).view.emb (ix2 0 l)) := rfl
  have e' : ((cfg0.win 10).blk t).view.emb (ix2 0 l) = ix2 0 l := by
    funext a
    apply Fin.ext
    match a with
    | ⟨0, _⟩ => rfl
    | ⟨1, _⟩ => show 0 * _ + 1 * l.val = l.val; omega
  rw [e, e', host_v9]

theorem blk11 (t : Fin 7) : iblk m c 11 t = m ((c : Thread nD τ).loc main_arg9) := by
  funext y
  have e : iblk m c 11 t y = V m c main_arg9 (((cfg0.win 11).blk t).view.emb y) := rfl
  have e' : ((cfg0.win 11).blk t).view.emb y = y := by
    funext a
    apply Fin.ext
    match a with
    | ⟨0, _⟩ => show 0 * _ + 1 * (y 0).val = (y 0).val; omega
    | ⟨1, _⟩ => show 0 * _ + 1 * (y 1).val = (y 1).val; omega
  rw [e, e', V_main_arg9]

theorem blk12 (t : Fin 7) (l : Fin 2048) : iblk m c 12 t (ix2 0 l) = m ((c : Thread nD τ).loc main_arg10) (ix1 l) := by
  have e : iblk m c 12 t (ix2 0 l) = V m c main_v10 (((cfg0.win 12).blk t).view.emb (ix2 0 l)) := rfl
  have e' : ((cfg0.win 12).blk t).view.emb (ix2 0 l) = ix2 0 l := by
    funext a
    apply Fin.ext
    match a with
    | ⟨0, _⟩ => rfl
    | ⟨1, _⟩ => show 0 * _ + 1 * l.val = l.val; omega
  rw [e, e', host_v10]

theorem blk13 (t : Fin 7) (l : Fin 2048) : iblk m c 13 t (ix2 0 l) = m ((c : Thread nD τ).loc main_arg11) (ix1 l) := by
  have e : iblk m c 13 t (ix2 0 l) = V m c main_v11 (((cfg0.win 13).blk t).view.emb (ix2 0 l)) := rfl
  have e' : ((cfg0.win 13).blk t).view.emb (ix2 0 l) = ix2 0 l := by
    funext a
    apply Fin.ext
    match a with
    | ⟨0, _⟩ => rfl
    | ⟨1, _⟩ => show 0 * _ + 1 * l.val = l.val; omega
  rw [e, e', host_v11]

theorem blk14 (t : Fin 7) : iblk m c 14 t = m ((c : Thread nD τ).loc main_arg14) := by
  funext y
  have e : iblk m c 14 t y = V m c main_arg14 (((cfg0.win 14).blk t).view.emb y) := rfl
  have e' : ((cfg0.win 14).blk t).view.emb y = y := by
    funext a
    apply Fin.ext
    match a with
    | ⟨0, _⟩ => show 0 * _ + 1 * (y 0).val = (y 0).val; omega
    | ⟨1, _⟩ => show 0 * _ + 1 * (y 1).val = (y 1).val; omega
  rw [e, e', V_main_arg14]

theorem blk15 (t : Fin 7) (l : Fin 512) : iblk m c 15 t (ix2 0 l) = m ((c : Thread nD τ).loc main_arg15) (ix1 l) := by
  have e : iblk m c 15 t (ix2 0 l) = V m c main_v12 (((cfg0.win 15).blk t).view.emb (ix2 0 l)) := rfl
  have e' : ((cfg0.win 15).blk t).view.emb (ix2 0 l) = ix2 0 l := by
    funext a
    apply Fin.ext
    match a with
    | ⟨0, _⟩ => rfl
    | ⟨1, _⟩ => show 0 * _ + 1 * l.val = l.val; omega
  rw [e, e', host_v12]

theorem blk16 (t : Fin 7) (l : Fin 512) : iblk m c 16 t (ix2 0 l) = m ((c : Thread nD τ).loc main_arg16) (ix1 l) := by
  have e : iblk m c 16 t (ix2 0 l) = V m c main_v13 (((cfg0.win 16).blk t).view.emb (ix2 0 l)) := rfl
  have e' : ((cfg0.win 16).blk t).view.emb (ix2 0 l) = ix2 0 l := by
    funext a
    apply Fin.ext
    match a with
    | ⟨0, _⟩ => rfl
    | ⟨1, _⟩ => show 0 * _ + 1 * l.val = l.val; omega
  rw [e, e', host_v13]

/-- The blocks of point `t` are the arguments' parts. -/
theorem holds (t : Fin 7) : Holds (inK m c) t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) :=
  ⟨blk0 m c t,
   blk1 m c t,
   blk2 m c t,
   fun p r k => by rw [blk3, V_main_arg0]; rfl,
   fun p r k => by rw [blk4, host_v1]; rfl,
   blk5 m c t,
   blk6 m c t,
   fun k j => by rw [blk7]; rfl,
   blk8 m c t,
   blk9 m c t,
   blk10 m c t,
   fun k j => by rw [blk11]; rfl,
   blk12 m c t,
   blk13 m c t,
   fun k j => by rw [blk14]; rfl,
   blk15 m c t,
   blk16 m c t⟩

end Cert.Tail

end
-- ==== Proof.CaseA.lean ====
/- One block's results at a point that unpacks the weights first: each buffer the body fills, store by store, then the five
   arrays it hands back. -/
module

public import proofs.«01_k».proof.Proof.Pieces
public import proofs.«01_k».proof.Proof.Weights

@[expose] public section

set_option maxRecDepth 16384

noncomputable section

namespace Cert.Tail.CaseA

open Idealize.ShloMosaic Cert.KernelIdeal Cert.KernelIdeal.Gen Idealize.ShloMosaic.Tactic

/-- The contents of an array over the extended reals. -/
local notation "𝕍" => Vec (Idealize.ShloMosaic.Ideal)

variable (c : Dev nD) (i : grid0.Coords)
  (arg1 : Memref sig .tc .smem S1 .f32) (harg1 : arg1.IsWhole)
  (arg2 : Memref sig .tc .smem S1 .f32) (harg2 : arg2.IsWhole)
  (arg3 : Memref sig .tc .smem S1 .i32) (harg3 : arg3.IsWhole)
  (arg4 : Memref sig .tc .vmem S36x8x1024 .f32) (harg4 : arg4.IsWhole)
  (arg5 : Memref sig .tc .vmem S36x8x512 .bf16) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S1024x256 .i8) (harg8 : arg8.IsWhole)
  (arg9 : Memref sig .tc .vmem S1x512 .f32) (harg9 : arg9.IsWhole)
  (arg10 : Memref sig .tc .vmem S1x512 .f32) (harg10 : arg10.IsWhole)
  (arg11 : Memref sig .tc .vmem S1x512 .f32) (harg11 : arg11.IsWhole)
  (arg12 : Memref sig .tc .vmem S256x2048 .i8) (harg12 : arg12.IsWhole)
  (arg13 : Memref sig .tc .vmem S1x2048 .f32) (harg13 : arg13.IsWhole)
  (arg14 : Memref sig .tc .vmem S1x2048 .f32) (harg14 : arg14.IsWhole)
  (arg15 : Memref sig .tc .vmem S1024x512 .i8) (harg15 : arg15.IsWhole)
  (arg16 : Memref sig .tc .vmem S1x512 .f32) (harg16 : arg16.IsWhole)
  (arg17 : Memref sig .tc .vmem S1x512 .f32) (harg17 : arg17.IsWhole)
  (arg18 : Memref sig .tc .vmem S36x8x512 .bf16) (harg18 : arg18.IsWhole)
  (arg19 : Memref sig .tc .vmem S36x8x1024 .i8) (harg19 : arg19.IsWhole)
  (arg20 : Memref sig .tc .vmem S2x8x18 .f32) (harg20 : arg20.IsWhole)
  (arg21 : Memref sig .tc .vmem S36x8x512 .i8) (harg21 : arg21.IsWhole)
  (arg22 : Memref sig .tc .vmem S36x8x2048 .i8) (harg22 : arg22.IsWhole)
  (arg23 : Memref sig .tc .vmem S1024x512 .bf16) (harg23 : arg23.IsWhole)
  (arg24 : Memref sig .tc .vmem S512x2048 .bf16) (harg24 : arg24.IsWhole)
  (arg25 : Memref sig .tc .vmem S2048x512 .bf16) (harg25 : arg25.IsWhole)
  (arg26 : Memref sig .tc .vmem S288x1024 .bf16) (harg26 : arg26.IsWhole)
  (arg27 : Memref sig .tc .vmem S288x512 .bf16) (harg27 : arg27.IsWhole)
  (arg28 : Memref sig .tc .vmem S288x2048 .bf16) (harg28 : arg28.IsWhole)
  (arg29 : Memref sig .tc .vmem S36x8x512 .f32) (harg29 : arg29.IsWhole)
  (arg30 : Memref sig .tc .vmem S288x128 .f32) (harg30 : arg30.IsWhole)
  (hc0 : cond0_0 i)
  (x0 : 𝕍 S1 .f32)
  (x1 : 𝕍 S1 .f32)
  (x2 : 𝕍 S1 .i32)
  (x3 : 𝕍 S36x8x1024 .f32)
  (x4 : 𝕍 S36x8x512 .bf16)
  (x5 : 𝕍 S1x1024 .f32)
  (x6 : 𝕍 S1x1024 .f32)
  (x7 : 𝕍 S1024x256 .i8)
  (x8 : 𝕍 S1x512 .f32)
  (x9 : 𝕍 S1x512 .f32)
  (x10 : 𝕍 S1x512 .f32)
  (x11 : 𝕍 S256x2048 .i8)
  (x12 : 𝕍 S1x2048 .f32)
  (x13 : 𝕍 S1x2048 .f32)
  (x14 : 𝕍 S1024x512 .i8)
  (x15 : 𝕍 S1x512 .f32)
  (x16 : 𝕍 S1x512 .f32)

/-! What a load of a whole operand reads, and of a part of one. -/

theorem r6 : arg6.view.readAt (Elt Ideal) (Rect.unit (s := S1x1024) ![0, 0] S1x1024.size (by decide)).toLoadRect (harg6.unread x5) = x5 :=
  (read_ld harg6 x5 _).trans (ld_whole _ _ (by decide))

theorem r7 : arg7.view.readAt (Elt Ideal) (Rect.unit (s := S1x1024) ![0, 0] S1x1024.size (by decide)).toLoadRect (harg7.unread x6) = x6 :=
  (read_ld harg7 x6 _).trans (ld_whole _ _ (by decide))

theorem r10 : arg10.view.readAt (Elt Ideal) (Rect.unit (s := S1x512) ![0, 0] S1x512.size (by decide)).toLoadRect (harg10.unread x9) = x9 :=
  (read_ld harg10 x9 _).trans (ld_whole _ _ (by decide))

theorem r11 : arg11.view.readAt (Elt Ideal) (Rect.unit (s := S1x512) ![0, 0] S1x512.size (by decide)).toLoadRect (harg11.unread x10) = x10 :=
  (read_ld harg11 x10 _).trans (ld_whole _ _ (by decide))

theorem r13 : arg13.view.readAt (Elt Ideal) (Rect.unit (s := S1x2048) ![0, 0] S1x2048.size (by decide)).toLoadRect (harg13.unread x12) = x12 :=
  (read_ld harg13 x12 _).trans (ld_whole _ _ (by decide))

theorem r14 : arg14.view.readAt (Elt Ideal) (Rect.unit (s := S1x2048) ![0, 0] S1x2048.size (by decide)).toLoadRect (harg14.unread x13) = x13 :=
  (read_ld harg14 x13 _).trans (ld_whole _ _ (by decide))

theorem p4 (o : Fin 3 → Nat) (inb : ∀ a, o a + S1x8x1024.size a ≤ S36x8x1024.size a) :
    arg4.view.readAt (Elt Ideal) (Rect.unit (s := S36x8x1024) o S1x8x1024.size inb).toLoadRect (harg4.unread x3) = View.ld x3 (Rect.unit (s := S36x8x1024) o S1x8x1024.size inb) :=
  read_ld harg4 x3 _

theorem w0_piece {P P' : 𝕍 S1024x256 .i8} (hP : P' = P) (hq) (x : S1024x512.Idx) :
    k0_pay5 (F := Ideal) (k0_pay4 (F := Ideal) P') x = W0 P ((Rect.unit (s := S1024x512) ![0, 0] S1024x512.size hq).emb x) := by
  subst hP
  rw [pay5_eq]
  exact (congrFun (ld_whole (off := ![0, 0]) (by decide) (W0 P') (by decide)) x).symm

theorem w0 : View.PiecesOf (W0 x7) (kernelRun0_A.sl.HS0_1 (F := Ideal) c arg8 harg8 x7) := by
  refine ⟨?_, trivial⟩
  have h := w0_piece (P := x7) ((read_ld harg8 x7 (Rect.unit (s := S1024x256) ![0, 0] S1024x256.size (by decide))).trans (ld_whole _ _ (by decide))) (by decide)
  exact h

theorem w1_piece {P P' : 𝕍 S256x2048 .i8} (hP : P' = P) (hq) (x : S512x2048.Idx) :
    k0_pay2 (F := Ideal) P' x = W1 P ((Rect.unit (s := S512x2048) ![0, 0] S512x2048.size hq).emb x) := by
  subst hP
  rw [pay2_eq]
  exact (congrFun (ld_whole (off := ![0, 0]) (by decide) (W1 P') (by decide)) x).symm

theorem w1 : View.PiecesOf (W1 x11) (kernelRun0_A.sl.HS1_1 (F := Ideal) c arg12 harg12 x11) := by
  refine ⟨?_, trivial⟩
  have h := w1_piece (P := x11) ((read_ld harg12 x11 (Rect.unit (s := S256x2048) ![0, 0] S256x2048.size (by decide))).trans (ld_whole _ _ (by decide))) (by decide)
  exact h

theorem w2_piece {P P' : 𝕍 S1024x512 .i8} (hP : P' = P) (hq) (x : S2048x512.Idx) :
    k0_pay3 (F := Ideal) P' x = W2 P ((Rect.unit (s := S2048x512) ![0, 0] S2048x512.size hq).emb x) := by
  subst hP
  rw [pay3_eq]
  exact (congrFun (ld_whole (off := ![0, 0]) (by decide) (W2 P') (by decide)) x).symm

theorem w2 : View.PiecesOf (W2 x14) (kernelRun0_A.sl.HS2_1 (F := Ideal) c arg15 harg15 x14) := by
  refine ⟨?_, trivial⟩
  have h := w2_piece (P := x14) ((read_ld harg15 x14 (Rect.unit (s := S1024x512) ![0, 0] S1024x512.size (by decide))).trans (ld_whole _ _ (by decide))) (by decide)
  exact h

set_option maxHeartbeats 4000000 in
theorem on_pieces : View.PiecesOf (lhsOn x3 x5 x6) (kernelRun0_A.sl.HS3_18 (F := Ideal) c arg4 harg4 arg6 harg6 arg7 harg7 x3 x5 x6) := by
  refine ⟨?_, ?_, ?_, ?_, ?_, ?_, ?_, ?_, ?_, ?_, ?_, ?_, ?_, ?_, ?_, ?_, ?_, ?_, trivial⟩
  · have h := on_piece (X := x3) 17 (by decide) (p4 _ harg4 x3 ![34, 0, 0] (by decide)) (p4 _ harg4 x3 ![35, 0, 0] (by decide)) (r6 _ harg6 x5) (r7 _ harg7 x6) (by decide)
    exact h
  · have h := on_piece (X := x3) 16 (by decide) (p4 _ harg4 x3 ![32, 0, 0] (by decide)) (p4 _ harg4 x3 ![33, 0, 0] (by decide)) (r6 _ harg6 x5) (r7 _ harg7 x6) (by decide)
    exact h
  · have h := on_piece (X := x3) 15 (by decide) (p4 _ harg4 x3 ![30, 0, 0] (by decide)) (p4 _ harg4 x3 ![31, 0, 0] (by decide)) (r6 _ harg6 x5) (r7 _ harg7 x6) (by decide)
    exact h
  · have h := on_piece (X := x3) 14 (by decide) (p4 _ harg4 x3 ![28, 0, 0] (by decide)) (p4 _ harg4 x3 ![29, 0, 0] (by decide)) (r6 _ harg6 x5) (r7 _ harg7 x6) (by decide)
    exact h
  · have h := on_piece (X := x3) 13 (by decide) (p4 _ harg4 x3 ![26, 0, 0] (by decide)) (p4 _ harg4 x3 ![27, 0, 0] (by decide)) (r6 _ harg6 x5) (r7 _ harg7 x6) (by decide)
    exact h
  · have h := on_piece (X := x3) 12 (by decide) (p4 _ harg4 x3 ![24, 0, 0] (by decide)) (p4 _ harg4 x3 ![25, 0, 0] (by decide)) (r6 _ harg6 x5) (r7 _ harg7 x6) (by decide)
    exact h
  · have h := on_piece (X := x3) 11 (by decide) (p4 _ harg4 x3 ![22, 0, 0] (by decide)) (p4 _ harg4 x3 ![23, 0, 0] (by decide)) (r6 _ harg6 x5) (r7 _ harg7 x6) (by decide)
    exact h
  · have h := on_piece (X := x3) 10 (by decide) (p4 _ harg4 x3 ![20, 0, 0] (by decide)) (p4 _ harg4 x3 ![21, 0, 0] (by decide)) (r6 _ harg6 x5) (r7 _ harg7 x6) (by decide)
    exact h
  · have h := on_piece (X := x3) 9 (by decide) (p4 _ harg4 x3 ![18, 0, 0] (by decide)) (p4 _ harg4 x3 ![19, 0, 0] (by decide)) (r6 _ harg6 x5) (r7 _ harg7 x6) (by decide)
    exact h
  · have h := on_piece (X := x3) 8 (by decide) (p4 _ harg4 x3 ![16, 0, 0] (by decide)) (p4 _ harg4 x3 ![17, 0, 0] (by decide)) (r6 _ harg6 x5) (r7 _ harg7 x6) (by decide)
    exact h
  · have h := on_piece (X := x3) 7 (by decide) (p4 _ harg4 x3 ![14, 0, 0] (by decide)) (p4 _ harg4 x3 ![15, 0, 0] (by decide)) (r6 _ harg6 x5) (r7 _ harg7 x6) (by decide)
    exact h
  · have h := on_piece (X := x3) 6 (by decide) (p4 _ harg4 x3 ![12, 0, 0] (by decide)) (p4 _ harg4 x3 ![13, 0, 0] (by decide)) (r6 _ harg6 x5) (r7 _ harg7 x6) (by decide)
    exact h
  · have h := on_piece (X := x3) 5 (by decide) (p4 _ harg4 x3 ![10, 0, 0] (by decide)) (p4 _ harg4 x3 ![11, 0, 0] (by decide)) (r6 _ harg6 x5) (r7 _ harg7 x6) (by decide)
    exact h
  · have h := on_piece (X := x3) 4 (by decide) (p4 _ harg4 x3 ![8, 0, 0] (by decide)) (p4 _ harg4 x3 ![9, 0, 0] (by decide)) (r6 _ harg6 x5) (r7 _ harg7 x6) (by decide)
    exact h
  · have h := on_piece (X := x3) 3 (by decide) (p4 _ harg4 x3 ![6, 0, 0] (by decide)) (p4 _ harg4 x3 ![7, 0, 0] (by decide)) (r6 _ harg6 x5) (r7 _ harg7 x6) (by decide)
    exact h
  · have h := on_piece (X := x3) 2 (by decide) (p4 _ harg4 x3 ![4, 0, 0] (by decide)) (p4 _ harg4 x3 ![5, 0, 0] (by decide)) (r6 _ harg6 x5) (r7 _ harg7 x6) (by decide)
    exact h
  · have h := on_piece (X := x3) 1 (by decide) (p4 _ harg4 x3 ![2, 0, 0] (by decide)) (p4 _ harg4 x3 ![3, 0, 0] (by decide)) (r6 _ harg6 x5) (r7 _ harg7 x6) (by decide)
    exact h
  · have h := on_piece (X := x3) 0 (by decide) (p4 _ harg4 x3 ![0, 0, 0] (by decide)) (p4 _ harg4 x3 ![1, 0, 0] (by decide)) (r6 _ harg6 x5) (r7 _ harg7 x6) (by decide)
    exact h

set_option maxHeartbeats 4000000 in
theorem scl_pieces : View.PiecesOf (sclArr x3 x5 x6) (kernelRun0_A.sl.HS7_36 (F := Ideal) c arg4 harg4 arg6 harg6 arg7 harg7 x3 x5 x6) := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  · have h := scl_piece (X := x3) 35 (by decide) (p4 _ harg4 x3 ![35, 0, 0] (by decide)) (r6 _ harg6 x5) (r7 _ harg7 x6) (by decide)
    exact h
  · have h := scl_piece (X := x3) 34 (by decide) (p4 _ harg4 x3 ![34, 0, 0] (by decide)) (r6 _ harg6 x5) (r7 _ harg7 x6) (by decide)
    exact h
  · have h := scl_piece (X := x3) 33 (by decide) (p4 _ harg4 x3 ![33, 0, 0] (by decide)) (r6 _ harg6 x5) (r7 _ harg7 x6) (by decide)
    exact h
  · have h := scl_piece (X := x3) 32 (by decide) (p4 _ harg4 x3 ![32, 0, 0] (by decide)) (r6 _ harg6 x5) (r7 _ harg7 x6) (by decide)
    exact h
  · have h := scl_piece (X := x3) 31 (by decide) (p4 _ harg4 x3 ![31, 0, 0] (by decide)) (r6 _ harg6 x5) (r7 _ harg7 x6) (by decide)
    exact h
  · have h := scl_piece (X := x3) 30 (by decide) (p4 _ harg4 x3 ![30, 0, 0] (by decide)) (r6 _ harg6 x5) (r7 _ harg7 x6) (by decide)
    exact h
  · have h := scl_piece (X := x3) 29 (by decide) (p4 _ harg4 x3 ![29, 0, 0] (by decide)) (r6 _ harg6 x5) (r7 _ harg7 x6) (by decide)
    exact h
  · have h := scl_piece (X := x3) 28 (by decide) (p4 _ harg4 x3 ![28, 0, 0] (by decide)) (r6 _ harg6 x5) (r7 _ harg7 x6) (by decide)
    exact h
  · have h := scl_piece (X := x3) 27 (by decide) (p4 _ harg4 x3 ![27, 0, 0] (by decide)) (r6 _ harg6 x5) (r7 _ harg7 x6) (by decide)
    exact h
  · have h := scl_piece (X := x3) 26 (by decide) (p4 _ harg4 x3 ![26, 0, 0] (by decide)) (r6 _ harg6 x5) (r7 _ harg7 x6) (by decide)
    exact h
  · have h := scl_piece (X := x3) 25 (by decide) (p4 _ harg4 x3 ![25, 0, 0] (by decide)) (r6 _ harg6 x5) (r7 _ harg7 x6) (by decide)
    exact h
  · have h := scl_piece (X := x3) 24 (by decide) (p4 _ harg4 x3 ![24, 0, 0] (by decide)) (r6 _ harg6 x5) (r7 _ harg7 x6) (by decide)
    exact h
  · have h := scl_piece (X := x3) 23 (by decide) (p4 _ harg4 x3 ![23, 0, 0] (by decide)) (r6 _ harg6 x5) (r7 _ harg7 x6) (by decide)
    exact h
  · have h := scl_piece (X := x3) 22 (by decide) (p4 _ harg4 x3 ![22, 0, 0] (by decide)) (r6 _ harg6 x5) (r7 _ harg7 x6) (by decide)
    exact h
  · have h := scl_piece (X := x3) 21 (by decide) (p4 _ harg4 x3 ![21, 0, 0] (by decide)) (r6 _ harg6 x5) (r7 _ harg7 x6) (by decide)
    exact h
  · have h := scl_piece (X := x3) 20 (by decide) (p4 _ harg4 x3 ![20, 0, 0] (by decide)) (r6 _ harg6 x5) (r7 _ harg7 x6) (by decide)
    exact h
  · have h := scl_piece (X := x3) 19 (by decide) (p4 _ harg4 x3 ![19, 0, 0] (by decide)) (r6 _ harg6 x5) (r7 _ harg7 x6) (by decide)
    exact h
  · have h := scl_piece (X := x3) 18 (by decide) (p4 _ harg4 x3 ![18, 0, 0] (by decide)) (r6 _ harg6 x5) (r7 _ harg7 x6) (by decide)
    exact h
  · have h := scl_piece (X := x3) 17 (by decide) (p4 _ harg4 x3 ![17, 0, 0] (by decide)) (r6 _ harg6 x5) (r7 _ harg7 x6) (by decide)
    exact h
  · have h := scl_piece (X := x3) 16 (by decide) (p4 _ harg4 x3 ![16, 0, 0] (by decide)) (r6 _ harg6 x5) (r7 _ harg7 x6) (by decide)
    exact h
  · have h := scl_piece (X := x3) 15 (by decide) (p4 _ harg4 x3 ![15, 0, 0] (by decide)) (r6 _ harg6 x5) (r7 _ harg7 x6) (by decide)
    exact h
  · have h := scl_piece (X := x3) 14 (by decide) (p4 _ harg4 x3 ![14, 0, 0] (by decide)) (r6 _ harg6 x5) (r7 _ harg7 x6) (by decide)
    exact h
  · have h := scl_piece (X := x3) 13 (by decide) (p4 _ harg4 x3 ![13, 0, 0] (by decide)) (r6 _ harg6 x5) (r7 _ harg7 x6) (by decide)
    exact h
  · have h := scl_piece (X := x3) 12 (by decide) (p4 _ harg4 x3 ![12, 0, 0] (by decide)) (r6 _ harg6 x5) (r7 _ harg7 x6) (by decide)
    exact h
  · have h := scl_piece (X := x3) 11 (by decide) (p4 _ harg4 x3 ![11, 0, 0] (by decide)) (r6 _ harg6 x5) (r7 _ harg7 x6) (by decide)
    exact h
  · have h := scl_piece (X := x3) 10 (by decide) (p4 _ harg4 x3 ![10, 0, 0] (by decide)) (r6 _ harg6 x5) (r7 _ harg7 x6) (by decide)
    exact h
  · have h := scl_piece (X := x3) 9 (by decide) (p4 _ harg4 x3 ![9, 0, 0] (by decide)) (r6 _ harg6 x5) (r7 _ harg7 x6) (by decide)
    exact h
  · have h := scl_piece (X := x3) 8 (by decide) (p4 _ harg4 x3 ![8, 0, 0] (by decide)) (r6 _ harg6 x5) (r7 _ harg7 x6) (by decide)
    exact h
  · have h := scl_piece (X := x3) 7 (by decide) (p4 _ harg4 x3 ![7, 0, 0] (by decide)) (r6 _ harg6 x5) (r7 _ harg7 x6) (by decide)
    exact h
  · have h := scl_piece (X := x3) 6 (by decide) (p4 _ harg4 x3 ![6, 0, 0] (by decide)) (r6 _ harg6 x5) (r7 _ harg7 x6) (by decide)
    exact h
  · have h := scl_piece (X := x3) 5 (by decide) (p4 _ harg4 x3 ![5, 0, 0] (by decide)) (r6 _ harg6 x5) (r7 _ harg7 x6) (by decide)
    exact h
  · have h := scl_piece (X := x3) 4 (by decide) (p4 _ harg4 x3 ![4, 0, 0] (by decide)) (r6 _ harg6 x5) (r7 _ harg7 x6) (by decide)
    exact h
  · have h := scl_piece (X := x3) 3 (by decide) (p4 _ harg4 x3 ![3, 0, 0] (by decide)) (r6 _ harg6 x5) (r7 _ harg7 x6) (by decide)
    exact h
  · have h := scl_piece (X := x3) 2 (by decide) (p4 _ harg4 x3 ![2, 0, 0] (by decide)) (r6 _ harg6 x5) (r7 _ harg7 x6) (by decide)
    exact h
  · have h := scl_piece (X := x3) 1 (by decide) (p4 _ harg4 x3 ![1, 0, 0] (by decide)) (r6 _ harg6 x5) (r7 _ harg7 x6) (by decide)
    exact h
  · have h := scl_piece (X := x3) 0 (by decide) (p4 _ harg4 x3 ![0, 0, 0] (by decide)) (r6 _ harg6 x5) (r7 _ harg7 x6) (by decide)
    exact h

set_option maxHeartbeats 4000000 in
theorem x1_pieces : View.PiecesOf (x1Arr x3 x5 x6 (W0 x7) x8 x4) (kernelRun0_A.sl.HS6_2 (F := Ideal) c arg4 harg4 arg5 harg5 arg6 harg6 arg7 harg7 arg8 harg8 arg9 harg9 arg23 arg26 arg30 x3 x4 x5 x6 x7 x8) := by
  refine ⟨?_, ?_, trivial⟩
  · have h := x1_piece 256 (by decide) ((cov_ld arg26.view _ _ (on_pieces c arg4 harg4 arg6 harg6 arg7 harg7 x3 x5 x6) (View.cover_of_tiledL _ S16x1024.size (by sl_kernel_rfl)) (Rect.unit (s := S288x1024) ![0, 0] S288x1024.size (by decide))).trans (ld_whole _ _ (by decide))) ((cov_ld arg30.view _ _ (scl_pieces c arg4 harg4 arg6 harg6 arg7 harg7 x3 x5 x6) (View.cover_of_tiledL _ S8x128.size (by sl_kernel_rfl)) (Rect.unit (s := S288x128) ![0, 0] S288x128.size (by decide))).trans (ld_whole _ _ (by decide)))
      (cov_ld arg23.view _ (W0 x7) (w0 c arg8 harg8 x7) (View.cover_of_tiledL _ S1024x512.size (by sl_kernel_rfl)) (Rect.unit (s := S1024x512) ![0, 256] S1024x256.size (by decide))) (read_ld harg9 x8 (Rect.unit (s := S1x512) ![0, 256] S1x256.size (by decide))) (read_ld harg5 x4 (Rect.unit (s := S36x8x512) ![0, 0, 256] S36x8x256.size (by decide))) (by decide)
    exact h
  · have h := x1_piece 0 (by decide) ((cov_ld arg26.view _ _ (on_pieces c arg4 harg4 arg6 harg6 arg7 harg7 x3 x5 x6) (View.cover_of_tiledL _ S16x1024.size (by sl_kernel_rfl)) (Rect.unit (s := S288x1024) ![0, 0] S288x1024.size (by decide))).trans (ld_whole _ _ (by decide))) ((cov_ld arg30.view _ _ (scl_pieces c arg4 harg4 arg6 harg6 arg7 harg7 x3 x5 x6) (View.cover_of_tiledL _ S8x128.size (by sl_kernel_rfl)) (Rect.unit (s := S288x128) ![0, 0] S288x128.size (by decide))).trans (ld_whole _ _ (by decide)))
      (cov_ld arg23.view _ (W0 x7) (w0 c arg8 harg8 x7) (View.cover_of_tiledL _ S1024x512.size (by sl_kernel_rfl)) (Rect.unit (s := S1024x512) ![0, 0] S1024x256.size (by decide))) (read_ld harg9 x8 (Rect.unit (s := S1x512) ![0, 0] S1x256.size (by decide))) (read_ld harg5 x4 (Rect.unit (s := S36x8x512) ![0, 0, 0] S36x8x256.size (by decide))) (by decide)
    exact h

set_option maxHeartbeats 4000000 in
theorem a2_pieces : View.PiecesOf (lhsA2 (x1Arr x3 x5 x6 (W0 x7) x8 x4) x9 x10 x0) (kernelRun0_A.sl.HS4_18 (F := Ideal) c arg1 harg1 arg4 harg4 arg5 harg5 arg6 harg6 arg7 harg7 arg8 harg8 arg9 harg9 arg10 harg10 arg11 harg11 arg23 arg26 arg29 arg30 x0 x3 x4 x5 x6 x7 x8 x9 x10) := by
  have hx1 := x1_pieces c arg4 harg4 arg5 harg5 arg6 harg6 arg7 harg7 arg8 harg8 arg9 harg9 arg23 arg26 arg30 x3 x4 x5 x6 x7 x8
  have hcx := View.cover_of_tiledL (kernelRun0_A.sl.HS6_2 (F := Ideal) c arg4 harg4 arg5 harg5 arg6 harg6 arg7 harg7 arg8 harg8 arg9 harg9 arg23 arg26 arg30 x3 x4 x5 x6 x7 x8) S36x8x256.size (by sl_kernel_rfl)
  have cx := fun (o : Fin 3 → Nat) (h : ∀ a, o a + S1x8x512.size a ≤ S36x8x512.size a) => cov_ld arg29.view _ _ hx1 hcx (Rect.unit (s := S36x8x512) o S1x8x512.size h)
  refine ⟨?_, ?_, ?_, ?_, ?_, ?_, ?_, ?_, ?_, ?_, ?_, ?_, ?_, ?_, ?_, ?_, ?_, ?_, trivial⟩
  · have h := a2_piece 17 (by decide) (cx ![34, 0, 0] (by decide)) (cx ![35, 0, 0] (by decide)) (read_sc harg1 x0 (by decide) (by decide)) (r10 _ harg10 x9) (r11 _ harg11 x10) (by decide)
    exact h
  · have h := a2_piece 16 (by decide) (cx ![32, 0, 0] (by decide)) (cx ![33, 0, 0] (by decide)) (read_sc harg1 x0 (by decide) (by decide)) (r10 _ harg10 x9) (r11 _ harg11 x10) (by decide)
    exact h
  · have h := a2_piece 15 (by decide) (cx ![30, 0, 0] (by decide)) (cx ![31, 0, 0] (by decide)) (read_sc harg1 x0 (by decide) (by decide)) (r10 _ harg10 x9) (r11 _ harg11 x10) (by decide)
    exact h
  · have h := a2_piece 14 (by decide) (cx ![28, 0, 0] (by decide)) (cx ![29, 0, 0] (by decide)) (read_sc harg1 x0 (by decide) (by decide)) (r10 _ harg10 x9) (r11 _ harg11 x10) (by decide)
    exact h
  · have h := a2_piece 13 (by decide) (cx ![26, 0, 0] (by decide)) (cx ![27, 0, 0] (by decide)) (read_sc harg1 x0 (by decide) (by decide)) (r10 _ harg10 x9) (r11 _ harg11 x10) (by decide)
    exact h
  · have h := a2_piece 12 (by decide) (cx ![24, 0, 0] (by decide)) (cx ![25, 0, 0] (by decide)) (read_sc harg1 x0 (by decide) (by decide)) (r10 _ harg10 x9) (r11 _ harg11 x10) (by decide)
    exact h
  · have h := a2_piece 11 (by decide) (cx ![22, 0, 0] (by decide)) (cx ![23, 0, 0] (by decide)) (read_sc harg1 x0 (by decide) (by decide)) (r10 _ harg10 x9) (r11 _ harg11 x10) (by decide)
    exact h
  · have h := a2_piece 10 (by decide) (cx ![20, 0, 0] (by decide)) (cx ![21, 0, 0] (by decide)) (read_sc harg1 x0 (by decide) (by decide)) (r10 _ harg10 x9) (r11 _ harg11 x10) (by decide)
    exact h
  · have h := a2_piece 9 (by decide) (cx ![18, 0, 0] (by decide)) (cx ![19, 0, 0] (by decide)) (read_sc harg1 x0 (by decide) (by decide)) (r10 _ harg10 x9) (r11 _ harg11 x10) (by decide)
    exact h
  · have h := a2_piece 8 (by decide) (cx ![16, 0, 0] (by decide)) (cx ![17, 0, 0] (by decide)) (read_sc harg1 x0 (by decide) (by decide)) (r10 _ harg10 x9) (r11 _ harg11 x10) (by decide)
    exact h
  · have h := a2_piece 7 (by decide) (cx ![14, 0, 0] (by decide)) (cx ![15, 0, 0] (by decide)) (read_sc harg1 x0 (by decide) (by decide)) (r10 _ harg10 x9) (r11 _ harg11 x10) (by decide)
    exact h
  · have h := a2_piece 6 (by decide) (cx ![12, 0, 0] (by decide)) (cx ![13, 0, 0] (by decide)) (read_sc harg1 x0 (by decide) (by decide)) (r10 _ harg10 x9) (r11 _ harg11 x10) (by decide)
    exact h
  · have h := a2_piece 5 (by decide) (cx ![10, 0, 0] (by decide)) (cx ![11, 0, 0] (by decide)) (read_sc harg1 x0 (by decide) (by decide)) (r10 _ harg10 x9) (r11 _ harg11 x10) (by decide)
    exact h
  · have h := a2_piece 4 (by decide) (cx ![8, 0, 0] (by decide)) (cx ![9, 0, 0] (by decide)) (read_sc harg1 x0 (by decide) (by decide)) (r10 _ harg10 x9) (r11 _ harg11 x10) (by decide)
    exact h
  · have h := a2_piece 3 (by decide) (cx ![6, 0, 0] (by decide)) (cx ![7, 0, 0] (by decide)) (read_sc harg1 x0 (by decide) (by decide)) (r10 _ harg10 x9) (r11 _ harg11 x10) (by decide)
    exact h
  · have h := a2_piece 2 (by decide) (cx ![4, 0, 0] (by decide)) (cx ![5, 0, 0] (by decide)) (read_sc harg1 x0 (by decide) (by decide)) (r10 _ harg10 x9) (r11 _ harg11 x10) (by decide)
    exact h
  · have h := a2_piece 1 (by decide) (cx ![2, 0, 0] (by decide)) (cx ![3, 0, 0] (by decide)) (read_sc harg1 x0 (by decide) (by decide)) (r10 _ harg10 x9) (r11 _ harg11 x10) (by decide)
    exact h
  · have h := a2_piece 0 (by decide) (cx ![0, 0, 0] (by decide)) (cx ![1, 0, 0] (by decide)) (read_sc harg1 x0 (by decide) (by decide)) (r10 _ harg10 x9) (r11 _ harg11 x10) (by decide)
    exact h

set_option maxHeartbeats 4000000 in
theorem h_pieces : View.PiecesOf (lhsH (lhsA2 (x1Arr x3 x5 x6 (W0 x7) x8 x4) x9 x10 x0) (W1 x11) x12 x13 x0 x1 x2) (kernelRun0_A.sl.HS5_8 (F := Ideal) c arg1 harg1 arg2 harg2 arg3 harg3 arg4 harg4 arg5 harg5 arg6 harg6 arg7 harg7 arg8 harg8 arg9 harg9 arg10 harg10 arg11 harg11 arg12 harg12 arg13 harg13 arg14 harg14 arg23 arg24 arg26 arg27 arg29 arg30 x0 x1 x2 x3 x4 x5 x6 x7 x8 x9 x10 x11 x12 x13) := by
  have hA := (cov_ld arg27.view _ _ (a2_pieces c arg1 harg1 arg4 harg4 arg5 harg5 arg6 harg6 arg7 harg7 arg8 harg8 arg9 harg9 arg10 harg10 arg11 harg11 arg23 arg26 arg29 arg30 x0 x3 x4 x5 x6 x7 x8 x9 x10) (View.cover_of_tiledL _ S16x512.size (by sl_kernel_rfl)) (Rect.unit (s := S288x512) ![0, 0] S288x512.size (by decide))).trans (ld_whole _ _ (by decide))
  refine ⟨?_, ?_, ?_, ?_, ?_, ?_, ?_, ?_, trivial⟩
  · have h := h_piece 1792 slices_S1x2048_o0_1792_S1x256 (by decide) hA (cov_ld arg24.view _ (W1 x11) (w1 c arg12 harg12 x11) (View.cover_of_tiledL _ S512x2048.size (by sl_kernel_rfl)) (Rect.unit (s := S512x2048) ![0, 1792] S512x256.size (by decide))) (r13 _ harg13 x12) (r14 _ harg14 x13) (read_sc harg1 x0 (by decide) (by decide)) (read_sc harg2 x1 (by decide) (by decide)) (read_sc harg3 x2 (by decide) (by decide)) (by decide)
    exact h
  · have h := h_piece 1536 slices_S1x2048_o0_1536_S1x256 (by decide) hA (cov_ld arg24.view _ (W1 x11) (w1 c arg12 harg12 x11) (View.cover_of_tiledL _ S512x2048.size (by sl_kernel_rfl)) (Rect.unit (s := S512x2048) ![0, 1536] S512x256.size (by decide))) (r13 _ harg13 x12) (r14 _ harg14 x13) (read_sc harg1 x0 (by decide) (by decide)) (read_sc harg2 x1 (by decide) (by decide)) (read_sc harg3 x2 (by decide) (by decide)) (by decide)
    exact h
  · have h := h_piece 1280 slices_S1x2048_o0_1280_S1x256 (by decide) hA (cov_ld arg24.view _ (W1 x11) (w1 c arg12 harg12 x11) (View.cover_of_tiledL _ S512x2048.size (by sl_kernel_rfl)) (Rect.unit (s := S512x2048) ![0, 1280] S512x256.size (by decide))) (r13 _ harg13 x12) (r14 _ harg14 x13) (read_sc harg1 x0 (by decide) (by decide)) (read_sc harg2 x1 (by decide) (by decide)) (read_sc harg3 x2 (by decide) (by decide)) (by decide)
    exact h
  · have h := h_piece 1024 slices_S1x2048_o0_1024_S1x256 (by decide) hA (cov_ld arg24.view _ (W1 x11) (w1 c arg12 harg12 x11) (View.cover_of_tiledL _ S512x2048.size (by sl_kernel_rfl)) (Rect.unit (s := S512x2048) ![0, 1024] S512x256.size (by decide))) (r13 _ harg13 x12) (r14 _ harg14 x13) (read_sc harg1 x0 (by decide) (by decide)) (read_sc harg2 x1 (by decide) (by decide)) (read_sc harg3 x2 (by decide) (by decide)) (by decide)
    exact h
  · have h := h_piece 768 slices_S1x2048_o0_768_S1x256 (by decide) hA (cov_ld arg24.view _ (W1 x11) (w1 c arg12 harg12 x11) (View.cover_of_tiledL _ S512x2048.size (by sl_kernel_rfl)) (Rect.unit (s := S512x2048) ![0, 768] S512x256.size (by decide))) (r13 _ harg13 x12) (r14 _ harg14 x13) (read_sc harg1 x0 (by decide) (by decide)) (read_sc harg2 x1 (by decide) (by decide)) (read_sc harg3 x2 (by decide) (by decide)) (by decide)
    exact h
  · have h := h_piece 512 slices_S1x2048_o0_512_S1x256 (by decide) hA (cov_ld arg24.view _ (W1 x11) (w1 c arg12 harg12 x11) (View.cover_of_tiledL _ S512x2048.size (by sl_kernel_rfl)) (Rect.unit (s := S512x2048) ![0, 512] S512x256.size (by decide))) (r13 _ harg13 x12) (r14 _ harg14 x13) (read_sc harg1 x0 (by decide) (by decide)) (read_sc harg2 x1 (by decide) (by decide)) (read_sc harg3 x2 (by decide) (by decide)) (by decide)
    exact h
  · have h := h_piece 256 slices_S1x2048_o0_256_S1x256 (by decide) hA (cov_ld arg24.view _ (W1 x11) (w1 c arg12 harg12 x11) (View.cover_of_tiledL _ S512x2048.size (by sl_kernel_rfl)) (Rect.unit (s := S512x2048) ![0, 256] S512x256.size (by decide))) (r13 _ harg13 x12) (r14 _ harg14 x13) (read_sc harg1 x0 (by decide) (by decide)) (read_sc harg2 x1 (by decide) (by decide)) (read_sc harg3 x2 (by decide) (by decide)) (by decide)
    exact h
  · have h := h_piece 0 slices_S1x2048_o0_0_S1x256 (by decide) hA (cov_ld arg24.view _ (W1 x11) (w1 c arg12 harg12 x11) (View.cover_of_tiledL _ S512x2048.size (by sl_kernel_rfl)) (Rect.unit (s := S512x2048) ![0, 0] S512x256.size (by decide))) (r13 _ harg13 x12) (r14 _ harg14 x13) (read_sc harg1 x0 (by decide) (by decide)) (read_sc harg2 x1 (by decide) (by decide)) (read_sc harg3 x2 (by decide) (by decide)) (by decide)
    exact h

set_option maxHeartbeats 4000000 in
theorem pieces_18 : View.PiecesOf (onOut x3 x5 x6) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16).2.1 := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  · have h := oni_piece (X := x3) 35 (by decide) (p4 _ harg4 x3 ![35, 0, 0] (by decide)) (r6 _ harg6 x5) (r7 _ harg7 x6) (by decide)
    exact h
  · have h := oni_piece (X := x3) 34 (by decide) (p4 _ harg4 x3 ![34, 0, 0] (by decide)) (r6 _ harg6 x5) (r7 _ harg7 x6) (by decide)
    exact h
  · have h := oni_piece (X := x3) 33 (by decide) (p4 _ harg4 x3 ![33, 0, 0] (by decide)) (r6 _ harg6 x5) (r7 _ harg7 x6) (by decide)
    exact h
  · have h := oni_piece (X := x3) 32 (by decide) (p4 _ harg4 x3 ![32, 0, 0] (by decide)) (r6 _ harg6 x5) (r7 _ harg7 x6) (by decide)
    exact h
  · have h := oni_piece (X := x3) 31 (by decide) (p4 _ harg4 x3 ![31, 0, 0] (by decide)) (r6 _ harg6 x5) (r7 _ harg7 x6) (by decide)
    exact h
  · have h := oni_piece (X := x3) 30 (by decide) (p4 _ harg4 x3 ![30, 0, 0] (by decide)) (r6 _ harg6 x5) (r7 _ harg7 x6) (by decide)
    exact h
  · have h := oni_piece (X := x3) 29 (by decide) (p4 _ harg4 x3 ![29, 0, 0] (by decide)) (r6 _ harg6 x5) (r7 _ harg7 x6) (by decide)
    exact h
  · have h := oni_piece (X := x3) 28 (by decide) (p4 _ harg4 x3 ![28, 0, 0] (by decide)) (r6 _ harg6 x5) (r7 _ harg7 x6) (by decide)
    exact h
  · have h := oni_piece (X := x3) 27 (by decide) (p4 _ harg4 x3 ![27, 0, 0] (by decide)) (r6 _ harg6 x5) (r7 _ harg7 x6) (by decide)
    exact h
  · have h := oni_piece (X := x3) 26 (by decide) (p4 _ harg4 x3 ![26, 0, 0] (by decide)) (r6 _ harg6 x5) (r7 _ harg7 x6) (by decide)
    exact h
  · have h := oni_piece (X := x3) 25 (by decide) (p4 _ harg4 x3 ![25, 0, 0] (by decide)) (r6 _ harg6 x5) (r7 _ harg7 x6) (by decide)
    exact h
  · have h := oni_piece (X := x3) 24 (by decide) (p4 _ harg4 x3 ![24, 0, 0] (by decide)) (r6 _ harg6 x5) (r7 _ harg7 x6) (by decide)
    exact h
  · have h := oni_piece (X := x3) 23 (by decide) (p4 _ harg4 x3 ![23, 0, 0] (by decide)) (r6 _ harg6 x5) (r7 _ harg7 x6) (by decide)
    exact h
  · have h := oni_piece (X := x3) 22 (by decide) (p4 _ harg4 x3 ![22, 0, 0] (by decide)) (r6 _ harg6 x5) (r7 _ harg7 x6) (by decide)
    exact h
  · have h := oni_piece (X := x3) 21 (by decide) (p4 _ harg4 x3 ![21, 0, 0] (by decide)) (r6 _ harg6 x5) (r7 _ harg7 x6) (by decide)
    exact h
  · have h := oni_piece (X := x3) 20 (by decide) (p4 _ harg4 x3 ![20, 0, 0] (by decide)) (r6 _ harg6 x5) (r7 _ harg7 x6) (by decide)
    exact h
  · have h := oni_piece (X := x3) 19 (by decide) (p4 _ harg4 x3 ![19, 0, 0] (by decide)) (r6 _ harg6 x5) (r7 _ harg7 x6) (by decide)
    exact h
  · have h := oni_piece (X := x3) 18 (by decide) (p4 _ harg4 x3 ![18, 0, 0] (by decide)) (r6 _ harg6 x5) (r7 _ harg7 x6) (by decide)
    exact h
  · have h := oni_piece (X := x3) 17 (by decide) (p4 _ harg4 x3 ![17, 0, 0] (by decide)) (r6 _ harg6 x5) (r7 _ harg7 x6) (by decide)
    exact h
  · have h := oni_piece (X := x3) 16 (by decide) (p4 _ harg4 x3 ![16, 0, 0] (by decide)) (r6 _ harg6 x5) (r7 _ harg7 x6) (by decide)
    exact h
  · have h := oni_piece (X := x3) 15 (by decide) (p4 _ harg4 x3 ![15, 0, 0] (by decide)) (r6 _ harg6 x5) (r7 _ harg7 x6) (by decide)
    exact h
  · have h := oni_piece (X := x3) 14 (by decide) (p4 _ harg4 x3 ![14, 0, 0] (by decide)) (r6 _ harg6 x5) (r7 _ harg7 x6) (by decide)
    exact h
  · have h := oni_piece (X := x3) 13 (by decide) (p4 _ harg4 x3 ![13, 0, 0] (by decide)) (r6 _ harg6 x5) (r7 _ harg7 x6) (by decide)
    exact h
  · have h := oni_piece (X := x3) 12 (by decide) (p4 _ harg4 x3 ![12, 0, 0] (by decide)) (r6 _ harg6 x5) (r7 _ harg7 x6) (by decide)
    exact h
  · have h := oni_piece (X := x3) 11 (by decide) (p4 _ harg4 x3 ![11, 0, 0] (by decide)) (r6 _ harg6 x5) (r7 _ harg7 x6) (by decide)
    exact h
  · have h := oni_piece (X := x3) 10 (by decide) (p4 _ harg4 x3 ![10, 0, 0] (by decide)) (r6 _ harg6 x5) (r7 _ harg7 x6) (by decide)
    exact h
  · have h := oni_piece (X := x3) 9 (by decide) (p4 _ harg4 x3 ![9, 0, 0] (by decide)) (r6 _ harg6 x5) (r7 _ harg7 x6) (by decide)
    exact h
  · have h := oni_piece (X := x3) 8 (by decide) (p4 _ harg4 x3 ![8, 0, 0] (by decide)) (r6 _ harg6 x5) (r7 _ harg7 x6) (by decide)
    exact h
  · have h := oni_piece (X := x3) 7 (by decide) (p4 _ harg4 x3 ![7, 0, 0] (by decide)) (r6 _ harg6 x5) (r7 _ harg7 x6) (by decide)
    exact h
  · have h := oni_piece (X := x3) 6 (by decide) (p4 _ harg4 x3 ![6, 0, 0] (by decide)) (r6 _ harg6 x5) (r7 _ harg7 x6) (by decide)
    exact h
  · have h := oni_piece (X := x3) 5 (by decide) (p4 _ harg4 x3 ![5, 0, 0] (by decide)) (r6 _ harg6 x5) (r7 _ harg7 x6) (by decide)
    exact h
  · have h := oni_piece (X := x3) 4 (by decide) (p4 _ harg4 x3 ![4, 0, 0] (by decide)) (r6 _ harg6 x5) (r7 _ harg7 x6) (by decide)
    exact h
  · have h := oni_piece (X := x3) 3 (by decide) (p4 _ harg4 x3 ![3, 0, 0] (by decide)) (r6 _ harg6 x5) (r7 _ harg7 x6) (by decide)
    exact h
  · have h := oni_piece (X := x3) 2 (by decide) (p4 _ harg4 x3 ![2, 0, 0] (by decide)) (r6 _ harg6 x5) (r7 _ harg7 x6) (by decide)
    exact h
  · have h := oni_piece (X := x3) 1 (by decide) (p4 _ harg4 x3 ![1, 0, 0] (by decide)) (r6 _ harg6 x5) (r7 _ harg7 x6) (by decide)
    exact h
  · have h := oni_piece (X := x3) 0 (by decide) (p4 _ harg4 x3 ![0, 0, 0] (by decide)) (r6 _ harg6 x5) (r7 _ harg7 x6) (by decide)
    exact h

theorem out_18 : out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 = (onOut x3 x5 x6) := by
  unfold out0_A_18
  rw [View.read_writes_eq_canon _ _ _ (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16)]
  exact funext fun y => View.canon_apply_of_pieces _ _ (pieces_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16).mem y (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 y)

theorem px_in (n : Nat) : ∀ a, ![n % 36, 0, 0] a + S1x8x1024.size a ≤ S36x8x1024.size a := fun a => by
  have h : n % 36 < 36 := Nat.mod_lt _ (by decide)
  match a with
  | ⟨0, _⟩ => show n % 36 + 1 ≤ 36; omega
  | ⟨1, _⟩ => show 0 + 8 ≤ 8; omega
  | ⟨2, _⟩ => show 0 + 1024 ≤ 1024; omega

set_option maxHeartbeats 4000000 in
theorem pieces_19 : View.PiecesOf (onsOut x3 x5 x6) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16).2.2.1 := by
  refine ⟨?_, ?_, trivial⟩
  · have h := ons_piece (X := x3) 1 (by decide) (fun n => arg4.view.readAt (Elt Ideal) (Rect.unit (s := S36x8x1024) ![(18 * 1 + n) % 36, 0, 0] S1x8x1024.size (px_in _)).toLoadRect (harg4.unread x3)) px_in
      (fun n => read_ld harg4 x3 _) (r6 _ harg6 x5) (r7 _ harg7 x6) (by decide)
    exact h
  · have h := ons_piece (X := x3) 0 (by decide) (fun n => arg4.view.readAt (Elt Ideal) (Rect.unit (s := S36x8x1024) ![(18 * 0 + n) % 36, 0, 0] S1x8x1024.size (px_in _)).toLoadRect (harg4.unread x3)) px_in
      (fun n => read_ld harg4 x3 _) (r6 _ harg6 x5) (r7 _ harg7 x6) (by decide)
    exact h

theorem out_19 : out0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 = (onsOut x3 x5 x6) := by
  unfold out0_A_19
  rw [View.read_writes_eq_canon _ _ _ (cover0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16)]
  exact funext fun y => View.canon_apply_of_pieces _ _ (pieces_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16).mem y (cover0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 y)

set_option maxHeartbeats 4000000 in
theorem pieces_17 : View.PiecesOf (yOut (x1Arr x3 x5 x6 (W0 x7) x8 x4) (lhsH (lhsA2 (x1Arr x3 x5 x6 (W0 x7) x8 x4) x9 x10 x0) (W1 x11) x12 x13 x0 x1 x2) (W2 x14) x1 x15 x16) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16).1 := by
  have hx1 := x1_pieces c arg4 harg4 arg5 harg5 arg6 harg6 arg7 harg7 arg8 harg8 arg9 harg9 arg23 arg26 arg30 x3 x4 x5 x6 x7 x8
  have hcx := View.cover_of_tiledL (kernelRun0_A.sl.HS6_2 (F := Ideal) c arg4 harg4 arg5 harg5 arg6 harg6 arg7 harg7 arg8 harg8 arg9 harg9 arg23 arg26 arg30 x3 x4 x5 x6 x7 x8) S36x8x256.size (by sl_kernel_rfl)
  have hH := (cov_ld arg28.view _ _ (h_pieces c arg1 harg1 arg2 harg2 arg3 harg3 arg4 harg4 arg5 harg5 arg6 harg6 arg7 harg7 arg8 harg8 arg9 harg9 arg10 harg10 arg11 harg11 arg12 harg12 arg13 harg13 arg14 harg14 arg23 arg24 arg26 arg27 arg29 arg30 x0 x1 x2 x3 x4 x5 x6 x7 x8 x9 x10 x11 x12 x13) (View.cover_of_tiledL _ S288x256.size (by sl_kernel_rfl)) (Rect.unit (s := S288x2048) ![0, 0] S288x2048.size (by decide))).trans (ld_whole _ _ (by decide))
  refine ⟨?_, ?_, trivial⟩
  · have h := y_piece 256 (by decide) hH (cov_ld arg25.view _ (W2 x14) (w2 c arg15 harg15 x14) (View.cover_of_tiledL _ S2048x512.size (by sl_kernel_rfl)) (Rect.unit (s := S2048x512) ![0, 256] S2048x256.size (by decide))) (read_sc harg2 x1 (by decide) (by decide)) (read_ld harg16 x15 (Rect.unit (s := S1x512) ![0, 256] S1x256.size (by decide))) (read_ld harg17 x16 (Rect.unit (s := S1x512) ![0, 256] S1x256.size (by decide))) (cov_ld arg29.view _ _ hx1 hcx (Rect.unit (s := S36x8x512) ![0, 0, 256] S36x8x256.size (by decide))) (by decide)
    exact h
  · have h := y_piece 0 (by decide) hH (cov_ld arg25.view _ (W2 x14) (w2 c arg15 harg15 x14) (View.cover_of_tiledL _ S2048x512.size (by sl_kernel_rfl)) (Rect.unit (s := S2048x512) ![0, 0] S2048x256.size (by decide))) (read_sc harg2 x1 (by decide) (by decide)) (read_ld harg16 x15 (Rect.unit (s := S1x512) ![0, 0] S1x256.size (by decide))) (read_ld harg17 x16 (Rect.unit (s := S1x512) ![0, 0] S1x256.size (by decide))) (cov_ld arg29.view _ _ hx1 hcx (Rect.unit (s := S36x8x512) ![0, 0, 0] S36x8x256.size (by decide))) (by decide)
    exact h

theorem out_17 : out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 = (yOut (x1Arr x3 x5 x6 (W0 x7) x8 x4) (lhsH (lhsA2 (x1Arr x3 x5 x6 (W0 x7) x8 x4) x9 x10 x0) (W1 x11) x12 x13 x0 x1 x2) (W2 x14) x1 x15 x16) := by
  unfold out0_A_17
  rw [View.read_writes_eq_canon _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16)]
  exact funext fun y => View.canon_apply_of_pieces _ _ (pieces_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16).mem y (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 y)

set_option maxHeartbeats 4000000 in
theorem pieces_20 : View.PiecesOf (a2Out (x1Arr x3 x5 x6 (W0 x7) x8 x4) x9 x10 x0) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16).2.2.2.1 := by
  have hx1 := x1_pieces c arg4 harg4 arg5 harg5 arg6 harg6 arg7 harg7 arg8 harg8 arg9 harg9 arg23 arg26 arg30 x3 x4 x5 x6 x7 x8
  have hcx := View.cover_of_tiledL (kernelRun0_A.sl.HS6_2 (F := Ideal) c arg4 harg4 arg5 harg5 arg6 harg6 arg7 harg7 arg8 harg8 arg9 harg9 arg23 arg26 arg30 x3 x4 x5 x6 x7 x8) S36x8x256.size (by sl_kernel_rfl)
  have cx := fun (o : Fin 3 → Nat) (h : ∀ a, o a + S1x8x512.size a ≤ S36x8x512.size a) => cov_ld arg29.view _ _ hx1 hcx (Rect.unit (s := S36x8x512) o S1x8x512.size h)
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  · have h := a2o_piece 35 (by decide) (cx ![35, 0, 0] (by decide)) (read_sc harg1 x0 (by decide) (by decide)) (r10 _ harg10 x9) (r11 _ harg11 x10) (by decide)
    exact h
  · have h := a2o_piece 34 (by decide) (cx ![34, 0, 0] (by decide)) (read_sc harg1 x0 (by decide) (by decide)) (r10 _ harg10 x9) (r11 _ harg11 x10) (by decide)
    exact h
  · have h := a2o_piece 33 (by decide) (cx ![33, 0, 0] (by decide)) (read_sc harg1 x0 (by decide) (by decide)) (r10 _ harg10 x9) (r11 _ harg11 x10) (by decide)
    exact h
  · have h := a2o_piece 32 (by decide) (cx ![32, 0, 0] (by decide)) (read_sc harg1 x0 (by decide) (by decide)) (r10 _ harg10 x9) (r11 _ harg11 x10) (by decide)
    exact h
  · have h := a2o_piece 31 (by decide) (cx ![31, 0, 0] (by decide)) (read_sc harg1 x0 (by decide) (by decide)) (r10 _ harg10 x9) (r11 _ harg11 x10) (by decide)
    exact h
  · have h := a2o_piece 30 (by decide) (cx ![30, 0, 0] (by decide)) (read_sc harg1 x0 (by decide) (by decide)) (r10 _ harg10 x9) (r11 _ harg11 x10) (by decide)
    exact h
  · have h := a2o_piece 29 (by decide) (cx ![29, 0, 0] (by decide)) (read_sc harg1 x0 (by decide) (by decide)) (r10 _ harg10 x9) (r11 _ harg11 x10) (by decide)
    exact h
  · have h := a2o_piece 28 (by decide) (cx ![28, 0, 0] (by decide)) (read_sc harg1 x0 (by decide) (by decide)) (r10 _ harg10 x9) (r11 _ harg11 x10) (by decide)
    exact h
  · have h := a2o_piece 27 (by decide) (cx ![27, 0, 0] (by decide)) (read_sc harg1 x0 (by decide) (by decide)) (r10 _ harg10 x9) (r11 _ harg11 x10) (by decide)
    exact h
  · have h := a2o_piece 26 (by decide) (cx ![26, 0, 0] (by decide)) (read_sc harg1 x0 (by decide) (by decide)) (r10 _ harg10 x9) (r11 _ harg11 x10) (by decide)
    exact h
  · have h := a2o_piece 25 (by decide) (cx ![25, 0, 0] (by decide)) (read_sc harg1 x0 (by decide) (by decide)) (r10 _ harg10 x9) (r11 _ harg11 x10) (by decide)
    exact h
  · have h := a2o_piece 24 (by decide) (cx ![24, 0, 0] (by decide)) (read_sc harg1 x0 (by decide) (by decide)) (r10 _ harg10 x9) (r11 _ harg11 x10) (by decide)
    exact h
  · have h := a2o_piece 23 (by decide) (cx ![23, 0, 0] (by decide)) (read_sc harg1 x0 (by decide) (by decide)) (r10 _ harg10 x9) (r11 _ harg11 x10) (by decide)
    exact h
  · have h := a2o_piece 22 (by decide) (cx ![22, 0, 0] (by decide)) (read_sc harg1 x0 (by decide) (by decide)) (r10 _ harg10 x9) (r11 _ harg11 x10) (by decide)
    exact h
  · have h := a2o_piece 21 (by decide) (cx ![21, 0, 0] (by decide)) (read_sc harg1 x0 (by decide) (by decide)) (r10 _ harg10 x9) (r11 _ harg11 x10) (by decide)
    exact h
  · have h := a2o_piece 20 (by decide) (cx ![20, 0, 0] (by decide)) (read_sc harg1 x0 (by decide) (by decide)) (r10 _ harg10 x9) (r11 _ harg11 x10) (by decide)
    exact h
  · have h := a2o_piece 19 (by decide) (cx ![19, 0, 0] (by decide)) (read_sc harg1 x0 (by decide) (by decide)) (r10 _ harg10 x9) (r11 _ harg11 x10) (by decide)
    exact h
  · have h := a2o_piece 18 (by decide) (cx ![18, 0, 0] (by decide)) (read_sc harg1 x0 (by decide) (by decide)) (r10 _ harg10 x9) (r11 _ harg11 x10) (by decide)
    exact h
  · have h := a2o_piece 17 (by decide) (cx ![17, 0, 0] (by decide)) (read_sc harg1 x0 (by decide) (by decide)) (r10 _ harg10 x9) (r11 _ harg11 x10) (by decide)
    exact h
  · have h := a2o_piece 16 (by decide) (cx ![16, 0, 0] (by decide)) (read_sc harg1 x0 (by decide) (by decide)) (r10 _ harg10 x9) (r11 _ harg11 x10) (by decide)
    exact h
  · have h := a2o_piece 15 (by decide) (cx ![15, 0, 0] (by decide)) (read_sc harg1 x0 (by decide) (by decide)) (r10 _ harg10 x9) (r11 _ harg11 x10) (by decide)
    exact h
  · have h := a2o_piece 14 (by decide) (cx ![14, 0, 0] (by decide)) (read_sc harg1 x0 (by decide) (by decide)) (r10 _ harg10 x9) (r11 _ harg11 x10) (by decide)
    exact h
  · have h := a2o_piece 13 (by decide) (cx ![13, 0, 0] (by decide)) (read_sc harg1 x0 (by decide) (by decide)) (r10 _ harg10 x9) (r11 _ harg11 x10) (by decide)
    exact h
  · have h := a2o_piece 12 (by decide) (cx ![12, 0, 0] (by decide)) (read_sc harg1 x0 (by decide) (by decide)) (r10 _ harg10 x9) (r11 _ harg11 x10) (by decide)
    exact h
  · have h := a2o_piece 11 (by decide) (cx ![11, 0, 0] (by decide)) (read_sc harg1 x0 (by decide) (by decide)) (r10 _ harg10 x9) (r11 _ harg11 x10) (by decide)
    exact h
  · have h := a2o_piece 10 (by decide) (cx ![10, 0, 0] (by decide)) (read_sc harg1 x0 (by decide) (by decide)) (r10 _ harg10 x9) (r11 _ harg11 x10) (by decide)
    exact h
  · have h := a2o_piece 9 (by decide) (cx ![9, 0, 0] (by decide)) (read_sc harg1 x0 (by decide) (by decide)) (r10 _ harg10 x9) (r11 _ harg11 x10) (by decide)
    exact h
  · have h := a2o_piece 8 (by decide) (cx ![8, 0, 0] (by decide)) (read_sc harg1 x0 (by decide) (by decide)) (r10 _ harg10 x9) (r11 _ harg11 x10) (by decide)
    exact h
  · have h := a2o_piece 7 (by decide) (cx ![7, 0, 0] (by decide)) (read_sc harg1 x0 (by decide) (by decide)) (r10 _ harg10 x9) (r11 _ harg11 x10) (by decide)
    exact h
  · have h := a2o_piece 6 (by decide) (cx ![6, 0, 0] (by decide)) (read_sc harg1 x0 (by decide) (by decide)) (r10 _ harg10 x9) (r11 _ harg11 x10) (by decide)
    exact h
  · have h := a2o_piece 5 (by decide) (cx ![5, 0, 0] (by decide)) (read_sc harg1 x0 (by decide) (by decide)) (r10 _ harg10 x9) (r11 _ harg11 x10) (by decide)
    exact h
  · have h := a2o_piece 4 (by decide) (cx ![4, 0, 0] (by decide)) (read_sc harg1 x0 (by decide) (by decide)) (r10 _ harg10 x9) (r11 _ harg11 x10) (by decide)
    exact h
  · have h := a2o_piece 3 (by decide) (cx ![3, 0, 0] (by decide)) (read_sc harg1 x0 (by decide) (by decide)) (r10 _ harg10 x9) (r11 _ harg11 x10) (by decide)
    exact h
  · have h := a2o_piece 2 (by decide) (cx ![2, 0, 0] (by decide)) (read_sc harg1 x0 (by decide) (by decide)) (r10 _ harg10 x9) (r11 _ harg11 x10) (by decide)
    exact h
  · have h := a2o_piece 1 (by decide) (cx ![1, 0, 0] (by decide)) (read_sc harg1 x0 (by decide) (by decide)) (r10 _ harg10 x9) (r11 _ harg11 x10) (by decide)
    exact h
  · have h := a2o_piece 0 (by decide) (cx ![0, 0, 0] (by decide)) (read_sc harg1 x0 (by decide) (by decide)) (r10 _ harg10 x9) (r11 _ harg11 x10) (by decide)
    exact h

theorem out_20 : out0_A_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 = (a2Out (x1Arr x3 x5 x6 (W0 x7) x8 x4) x9 x10 x0) := by
  unfold out0_A_20
  rw [View.read_writes_eq_canon _ _ _ (cover0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16)]
  exact funext fun y => View.canon_apply_of_pieces _ _ (pieces_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16).mem y (cover0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 y)

set_option maxHeartbeats 4000000 in
theorem pieces_21 : View.PiecesOf (hqOut (lhsA2 (x1Arr x3 x5 x6 (W0 x7) x8 x4) x9 x10 x0) (W1 x11) x12 x13 x0 x1 x2) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16).2.2.2.2.1 := by
  have hA := (cov_ld arg27.view _ _ (a2_pieces c arg1 harg1 arg4 harg4 arg5 harg5 arg6 harg6 arg7 harg7 arg8 harg8 arg9 harg9 arg10 harg10 arg11 harg11 arg23 arg26 arg29 arg30 x0 x3 x4 x5 x6 x7 x8 x9 x10) (View.cover_of_tiledL _ S16x512.size (by sl_kernel_rfl)) (Rect.unit (s := S288x512) ![0, 0] S288x512.size (by decide))).trans (ld_whole _ _ (by decide))
  refine ⟨?_, ?_, ?_, ?_, ?_, ?_, ?_, ?_, trivial⟩
  · have h := hq_piece 1792 slices_S1x2048_o0_1792_S1x256 (by decide) hA (cov_ld arg24.view _ (W1 x11) (w1 c arg12 harg12 x11) (View.cover_of_tiledL _ S512x2048.size (by sl_kernel_rfl)) (Rect.unit (s := S512x2048) ![0, 1792] S512x256.size (by decide))) (r13 _ harg13 x12) (r14 _ harg14 x13) (read_sc harg1 x0 (by decide) (by decide)) (read_sc harg2 x1 (by decide) (by decide)) (read_sc harg3 x2 (by decide) (by decide)) (by decide)
    exact h
  · have h := hq_piece 1536 slices_S1x2048_o0_1536_S1x256 (by decide) hA (cov_ld arg24.view _ (W1 x11) (w1 c arg12 harg12 x11) (View.cover_of_tiledL _ S512x2048.size (by sl_kernel_rfl)) (Rect.unit (s := S512x2048) ![0, 1536] S512x256.size (by decide))) (r13 _ harg13 x12) (r14 _ harg14 x13) (read_sc harg1 x0 (by decide) (by decide)) (read_sc harg2 x1 (by decide) (by decide)) (read_sc harg3 x2 (by decide) (by decide)) (by decide)
    exact h
  · have h := hq_piece 1280 slices_S1x2048_o0_1280_S1x256 (by decide) hA (cov_ld arg24.view _ (W1 x11) (w1 c arg12 harg12 x11) (View.cover_of_tiledL _ S512x2048.size (by sl_kernel_rfl)) (Rect.unit (s := S512x2048) ![0, 1280] S512x256.size (by decide))) (r13 _ harg13 x12) (r14 _ harg14 x13) (read_sc harg1 x0 (by decide) (by decide)) (read_sc harg2 x1 (by decide) (by decide)) (read_sc harg3 x2 (by decide) (by decide)) (by decide)
    exact h
  · have h := hq_piece 1024 slices_S1x2048_o0_1024_S1x256 (by decide) hA (cov_ld arg24.view _ (W1 x11) (w1 c arg12 harg12 x11) (View.cover_of_tiledL _ S512x2048.size (by sl_kernel_rfl)) (Rect.unit (s := S512x2048) ![0, 1024] S512x256.size (by decide))) (r13 _ harg13 x12) (r14 _ harg14 x13) (read_sc harg1 x0 (by decide) (by decide)) (read_sc harg2 x1 (by decide) (by decide)) (read_sc harg3 x2 (by decide) (by decide)) (by decide)
    exact h
  · have h := hq_piece 768 slices_S1x2048_o0_768_S1x256 (by decide) hA (cov_ld arg24.view _ (W1 x11) (w1 c arg12 harg12 x11) (View.cover_of_tiledL _ S512x2048.size (by sl_kernel_rfl)) (Rect.unit (s := S512x2048) ![0, 768] S512x256.size (by decide))) (r13 _ harg13 x12) (r14 _ harg14 x13) (read_sc harg1 x0 (by decide) (by decide)) (read_sc harg2 x1 (by decide) (by decide)) (read_sc harg3 x2 (by decide) (by decide)) (by decide)
    exact h
  · have h := hq_piece 512 slices_S1x2048_o0_512_S1x256 (by decide) hA (cov_ld arg24.view _ (W1 x11) (w1 c arg12 harg12 x11) (View.cover_of_tiledL _ S512x2048.size (by sl_kernel_rfl)) (Rect.unit (s := S512x2048) ![0, 512] S512x256.size (by decide))) (r13 _ harg13 x12) (r14 _ harg14 x13) (read_sc harg1 x0 (by decide) (by decide)) (read_sc harg2 x1 (by decide) (by decide)) (read_sc harg3 x2 (by decide) (by decide)) (by decide)
    exact h
  · have h := hq_piece 256 slices_S1x2048_o0_256_S1x256 (by decide) hA (cov_ld arg24.view _ (W1 x11) (w1 c arg12 harg12 x11) (View.cover_of_tiledL _ S512x2048.size (by sl_kernel_rfl)) (Rect.unit (s := S512x2048) ![0, 256] S512x256.size (by decide))) (r13 _ harg13 x12) (r14 _ harg14 x13) (read_sc harg1 x0 (by decide) (by decide)) (read_sc harg2 x1 (by decide) (by decide)) (read_sc harg3 x2 (by decide) (by decide)) (by decide)
    exact h
  · have h := hq_piece 0 slices_S1x2048_o0_0_S1x256 (by decide) hA (cov_ld arg24.view _ (W1 x11) (w1 c arg12 harg12 x11) (View.cover_of_tiledL _ S512x2048.size (by sl_kernel_rfl)) (Rect.unit (s := S512x2048) ![0, 0] S512x256.size (by decide))) (r13 _ harg13 x12) (r14 _ harg14 x13) (read_sc harg1 x0 (by decide) (by decide)) (read_sc harg2 x1 (by decide) (by decide)) (read_sc harg3 x2 (by decide) (by decide)) (by decide)
    exact h

theorem out_21 : out0_A_21 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 = (hqOut (lhsA2 (x1Arr x3 x5 x6 (W0 x7) x8 x4) x9 x10 x0) (W1 x11) x12 x13 x0 x1 x2) := by
  unfold out0_A_21
  rw [View.read_writes_eq_canon _ _ _ (cover0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16)]
  exact funext fun y => View.canon_apply_of_pieces _ _ (pieces_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16).mem y (cover0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 y)

theorem w_0 : sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 = (W0 x7) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16)]
  exact funext fun y => View.canon_apply_of_pieces _ _ (w0 c arg8 harg8 x7).mem y (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 y)

theorem w_1 : sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 = (W1 x11) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16)]
  exact funext fun y => View.canon_apply_of_pieces _ _ (w1 c arg12 harg12 x11).mem y (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 y)

theorem w_2 : sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 = (W2 x14) := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16)]
  exact funext fun y => View.canon_apply_of_pieces _ _ (w2 c arg15 harg15 x14).mem y (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 y)

end Cert.Tail.CaseA

end
-- ==== Proof.CaseB.lean ====
/- One block's results at a point that finds the weights unpacked: each buffer the body fills, store by store, then the five
   arrays it hands back. -/
module

public import proofs.«01_k».proof.Proof.Pieces
public import proofs.«01_k».proof.Proof.Weights

@[expose] public section

set_option maxRecDepth 16384

noncomputable section

namespace Cert.Tail.CaseB

open Idealize.ShloMosaic Cert.KernelIdeal Cert.KernelIdeal.Gen Idealize.ShloMosaic.Tactic

/-- The contents of an array over the extended reals. -/
local notation "𝕍" => Vec (Idealize.ShloMosaic.Ideal)

variable (c : Dev nD) (i : grid0.Coords)
  (arg1 : Memref sig .tc .smem S1 .f32) (harg1 : arg1.IsWhole)
  (arg2 : Memref sig .tc .smem S1 .f32) (harg2 : arg2.IsWhole)
  (arg3 : Memref sig .tc .smem S1 .i32) (harg3 : arg3.IsWhole)
  (arg4 : Memref sig .tc .vmem S36x8x1024 .f32) (harg4 : arg4.IsWhole)
  (arg5 : Memref sig .tc .vmem S36x8x512 .bf16) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S1024x256 .i8) (harg8 : arg8.IsWhole)
  (arg9 : Memref sig .tc .vmem S1x512 .f32) (harg9 : arg9.IsWhole)
  (arg10 : Memref sig .tc .vmem S1x512 .f32) (harg10 : arg10.IsWhole)
  (arg11 : Memref sig .tc .vmem S1x512 .f32) (harg11 : arg11.IsWhole)
  (arg12 : Memref sig .tc .vmem S256x2048 .i8) (harg12 : arg12.IsWhole)
  (arg13 : Memref sig .tc .vmem S1x2048 .f32) (harg13 : arg13.IsWhole)
  (arg14 : Memref sig .tc .vmem S1x2048 .f32) (harg14 : arg14.IsWhole)
  (arg15 : Memref sig .tc .vmem S1024x512 .i8) (harg15 : arg15.IsWhole)
  (arg16 : Memref sig .tc .vmem S1x512 .f32) (harg16 : arg16.IsWhole)
  (arg17 : Memref sig .tc .vmem S1x512 .f32) (harg17 : arg17.IsWhole)
  (arg18 : Memref sig .tc .vmem S36x8x512 .bf16) (harg18 : arg18.IsWhole)
  (arg19 : Memref sig .tc .vmem S36x8x1024 .i8) (harg19 : arg19.IsWhole)
  (arg20 : Memref sig .tc .vmem S2x8x18 .f32) (harg20 : arg20.IsWhole)
  (arg21 : Memref sig .tc .vmem S36x8x512 .i8) (harg21 : arg21.IsWhole)
  (arg22 : Memref sig .tc .vmem S36x8x2048 .i8) (harg22 : arg22.IsWhole)
  (arg23 : Memref sig .tc .vmem S1024x512 .bf16) (harg23 : arg23.IsWhole)
  (arg24 : Memref sig .tc .vmem S512x2048 .bf16) (harg24 : arg24.IsWhole)
  (arg25 : Memref sig .tc .vmem S2048x512 .bf16) (harg25 : arg25.IsWhole)
  (arg26 : Memref sig .tc .vmem S288x1024 .bf16) (harg26 : arg26.IsWhole)
  (arg27 : Memref sig .tc .vmem S288x512 .bf16) (harg27 : arg27.IsWhole)
  (arg28 : Memref sig .tc .vmem S288x2048 .bf16) (harg28 : arg28.IsWhole)
  (arg29 : Memref sig .tc .vmem S36x8x512 .f32) (harg29 : arg29.IsWhole)
  (arg30 : Memref sig .tc .vmem S288x128 .f32) (harg30 : arg30.IsWhole)
  (hc0 : ¬cond0_0 i)
  (x0 : 𝕍 S1 .f32)
  (x1 : 𝕍 S1 .f32)
  (x2 : 𝕍 S1 .i32)
  (x3 : 𝕍 S36x8x1024 .f32)
  (x4 : 𝕍 S36x8x512 .bf16)
  (x5 : 𝕍 S1x1024 .f32)
  (x6 : 𝕍 S1x1024 .f32)
  (x7 : 𝕍 S1024x256 .i8)
  (x8 : 𝕍 S1x512 .f32)
  (x9 : 𝕍 S1x512 .f32)
  (x10 : 𝕍 S1x512 .f32)
  (x11 : 𝕍 S256x2048 .i8)
  (x12 : 𝕍 S1x2048 .f32)
  (x13 : 𝕍 S1x2048 .f32)
  (x14 : 𝕍 S1024x512 .i8)
  (x15 : 𝕍 S1x512 .f32)
  (x16 : 𝕍 S1x512 .f32)
  (xs0 : 𝕍 S1024x512 .bf16)
  (xs1 : 𝕍 S512x2048 .bf16)
  (xs2 : 𝕍 S2048x512 .bf16)

/-! What a load of a whole operand reads, and of a part of one. -/

theorem r6 : arg6.view.readAt (Elt Ideal) (Rect.unit (s := S1x1024) ![0, 0] S1x1024.size (by decide)).toLoadRect (harg6.unread x5) = x5 :=
  (read_ld harg6 x5 _).trans (ld_whole _ _ (by decide))

theorem r7 : arg7.view.readAt (Elt Ideal) (Rect.unit (s := S1x1024) ![0, 0] S1x1024.size (by decide)).toLoadRect (harg7.unread x6) = x6 :=
  (read_ld harg7 x6 _).trans (ld_whole _ _ (by decide))

theorem r10 : arg10.view.readAt (Elt Ideal) (Rect.unit (s := S1x512) ![0, 0] S1x512.size (by decide)).toLoadRect (harg10.unread x9) = x9 :=
  (read_ld harg10 x9 _).trans (ld_whole _ _ (by decide))

theorem r11 : arg11.view.readAt (Elt Ideal) (Rect.unit (s := S1x512) ![0, 0] S1x512.size (by decide)).toLoadRect (harg11.unread x10) = x10 :=
  (read_ld harg11 x10 _).trans (ld_whole _ _ (by decide))

theorem r13 : arg13.view.readAt (Elt Ideal) (Rect.unit (s := S1x2048) ![0, 0] S1x2048.size (by decide)).toLoadRect (harg13.unread x12) = x12 :=
  (read_ld harg13 x12 _).trans (ld_whole _ _ (by decide))

theorem r14 : arg14.view.readAt (Elt Ideal) (Rect.unit (s := S1x2048) ![0, 0] S1x2048.size (by decide)).toLoadRect (harg14.unread x13) = x13 :=
  (read_ld harg14 x13 _).trans (ld_whole _ _ (by decide))

theorem p4 (o : Fin 3 → Nat) (inb : ∀ a, o a + S1x8x1024.size a ≤ S36x8x1024.size a) :
    arg4.view.readAt (Elt Ideal) (Rect.unit (s := S36x8x1024) o S1x8x1024.size inb).toLoadRect (harg4.unread x3) = View.ld x3 (Rect.unit (s := S36x8x1024) o S1x8x1024.size inb) :=
  read_ld harg4 x3 _

theorem p24 (o : Fin 2 → Nat) (inb : ∀ a, o a + S512x256.size a ≤ S512x2048.size a) :
    arg24.view.readAt (Elt Ideal) (Rect.unit (s := S512x2048) o S512x256.size inb).toLoadRect (harg24.unread xs1) = View.ld xs1 (Rect.unit (s := S512x2048) o S512x256.size inb) :=
  read_ld harg24 xs1 _

set_option maxHeartbeats 4000000 in
theorem on_pieces : View.PiecesOf (lhsOn x3 x5 x6) (kernelRun0_B.sl.HS3_18 (F := Ideal) c arg4 harg4 arg6 harg6 arg7 harg7 x3 x5 x6) := by
  refine ⟨?_, ?_, ?_, ?_, ?_, ?_, ?_, ?_, ?_, ?_, ?_, ?_, ?_, ?_, ?_, ?_, ?_, ?_, trivial⟩
  · have h := on_piece (X := x3) 17 (by decide) (p4 _ harg4 x3 ![34, 0, 0] (by decide)) (p4 _ harg4 x3 ![35, 0, 0] (by decide)) (r6 _ harg6 x5) (r7 _ harg7 x6) (by decide)
    exact h
  · have h := on_piece (X := x3) 16 (by decide) (p4 _ harg4 x3 ![32, 0, 0] (by decide)) (p4 _ harg4 x3 ![33, 0, 0] (by decide)) (r6 _ harg6 x5) (r7 _ harg7 x6) (by decide)
    exact h
  · have h := on_piece (X := x3) 15 (by decide) (p4 _ harg4 x3 ![30, 0, 0] (by decide)) (p4 _ harg4 x3 ![31, 0, 0] (by decide)) (r6 _ harg6 x5) (r7 _ harg7 x6) (by decide)
    exact h
  · have h := on_piece (X := x3) 14 (by decide) (p4 _ harg4 x3 ![28, 0, 0] (by decide)) (p4 _ harg4 x3 ![29, 0, 0] (by decide)) (r6 _ harg6 x5) (r7 _ harg7 x6) (by decide)
    exact h
  · have h := on_piece (X := x3) 13 (by decide) (p4 _ harg4 x3 ![26, 0, 0] (by decide)) (p4 _ harg4 x3 ![27, 0, 0] (by decide)) (r6 _ harg6 x5) (r7 _ harg7 x6) (by decide)
    exact h
  · have h := on_piece (X := x3) 12 (by decide) (p4 _ harg4 x3 ![24, 0, 0] (by decide)) (p4 _ harg4 x3 ![25, 0, 0] (by decide)) (r6 _ harg6 x5) (r7 _ harg7 x6) (by decide)
    exact h
  · have h := on_piece (X := x3) 11 (by decide) (p4 _ harg4 x3 ![22, 0, 0] (by decide)) (p4 _ harg4 x3 ![23, 0, 0] (by decide)) (r6 _ harg6 x5) (r7 _ harg7 x6) (by decide)
    exact h
  · have h := on_piece (X := x3) 10 (by decide) (p4 _ harg4 x3 ![20, 0, 0] (by decide)) (p4 _ harg4 x3 ![21, 0, 0] (by decide)) (r6 _ harg6 x5) (r7 _ harg7 x6) (by decide)
    exact h
  · have h := on_piece (X := x3) 9 (by decide) (p4 _ harg4 x3 ![18, 0, 0] (by decide)) (p4 _ harg4 x3 ![19, 0, 0] (by decide)) (r6 _ harg6 x5) (r7 _ harg7 x6) (by decide)
    exact h
  · have h := on_piece (X := x3) 8 (by decide) (p4 _ harg4 x3 ![16, 0, 0] (by decide)) (p4 _ harg4 x3 ![17, 0, 0] (by decide)) (r6 _ harg6 x5) (r7 _ harg7 x6) (by decide)
    exact h
  · have h := on_piece (X := x3) 7 (by decide) (p4 _ harg4 x3 ![14, 0, 0] (by decide)) (p4 _ harg4 x3 ![15, 0, 0] (by decide)) (r6 _ harg6 x5) (r7 _ harg7 x6) (by decide)
    exact h
  · have h := on_piece (X := x3) 6 (by decide) (p4 _ harg4 x3 ![12, 0, 0] (by decide)) (p4 _ harg4 x3 ![13, 0, 0] (by decide)) (r6 _ harg6 x5) (r7 _ harg7 x6) (by decide)
    exact h
  · have h := on_piece (X := x3) 5 (by decide) (p4 _ harg4 x3 ![10, 0, 0] (by decide)) (p4 _ harg4 x3 ![11, 0, 0] (by decide)) (r6 _ harg6 x5) (r7 _ harg7 x6) (by decide)
    exact h
  · have h := on_piece (X := x3) 4 (by decide) (p4 _ harg4 x3 ![8, 0, 0] (by decide)) (p4 _ harg4 x3 ![9, 0, 0] (by decide)) (r6 _ harg6 x5) (r7 _ harg7 x6) (by decide)
    exact h
  · have h := on_piece (X := x3) 3 (by decide) (p4 _ harg4 x3 ![6, 0, 0] (by decide)) (p4 _ harg4 x3 ![7, 0, 0] (by decide)) (r6 _ harg6 x5) (r7 _ harg7 x6) (by decide)
    exact h
  · have h := on_piece (X := x3) 2 (by decide) (p4 _ harg4 x3 ![4, 0, 0] (by decide)) (p4 _ harg4 x3 ![5, 0, 0] (by decide)) (r6 _ harg6 x5) (r7 _ harg7 x6) (by decide)
    exact h
  · have h := on_piece (X := x3) 1 (by decide) (p4 _ harg4 x3 ![2, 0, 0] (by decide)) (p4 _ harg4 x3 ![3, 0, 0] (by decide)) (r6 _ harg6 x5) (r7 _ harg7 x6) (by decide)
    exact h
  · have h := on_piece (X := x3) 0 (by decide) (p4 _ harg4 x3 ![0, 0, 0] (by decide)) (p4 _ harg4 x3 ![1, 0, 0] (by decide)) (r6 _ harg6 x5) (r7 _ harg7 x6) (by decide)
    exact h

set_option maxHeartbeats 4000000 in
theorem scl_pieces : View.PiecesOf (sclArr x3 x5 x6) (kernelRun0_B.sl.HS7_36 (F := Ideal) c arg4 harg4 arg6 harg6 arg7 harg7 x3 x5 x6) := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  · have h := scl_piece (X := x3) 35 (by decide) (p4 _ harg4 x3 ![35, 0, 0] (by decide)) (r6 _ harg6 x5) (r7 _ harg7 x6) (by decide)
    exact h
  · have h := scl_piece (X := x3) 34 (by decide) (p4 _ harg4 x3 ![34, 0, 0] (by decide)) (r6 _ harg6 x5) (r7 _ harg7 x6) (by decide)
    exact h
  · have h := scl_piece (X := x3) 33 (by decide) (p4 _ harg4 x3 ![33, 0, 0] (by decide)) (r6 _ harg6 x5) (r7 _ harg7 x6) (by decide)
    exact h
  · have h := scl_piece (X := x3) 32 (by decide) (p4 _ harg4 x3 ![32, 0, 0] (by decide)) (r6 _ harg6 x5) (r7 _ harg7 x6) (by decide)
    exact h
  · have h := scl_piece (X := x3) 31 (by decide) (p4 _ harg4 x3 ![31, 0, 0] (by decide)) (r6 _ harg6 x5) (r7 _ harg7 x6) (by decide)
    exact h
  · have h := scl_piece (X := x3) 30 (by decide) (p4 _ harg4 x3 ![30, 0, 0] (by decide)) (r6 _ harg6 x5) (r7 _ harg7 x6) (by decide)
    exact h
  · have h := scl_piece (X := x3) 29 (by decide) (p4 _ harg4 x3 ![29, 0, 0] (by decide)) (r6 _ harg6 x5) (r7 _ harg7 x6) (by decide)
    exact h
  · have h := scl_piece (X := x3) 28 (by decide) (p4 _ harg4 x3 ![28, 0, 0] (by decide)) (r6 _ harg6 x5) (r7 _ harg7 x6) (by decide)
    exact h
  · have h := scl_piece (X := x3) 27 (by decide) (p4 _ harg4 x3 ![27, 0, 0] (by decide)) (r6 _ harg6 x5) (r7 _ harg7 x6) (by decide)
    exact h
  · have h := scl_piece (X := x3) 26 (by decide) (p4 _ harg4 x3 ![26, 0, 0] (by decide)) (r6 _ harg6 x5) (r7 _ harg7 x6) (by decide)
    exact h
  · have h := scl_piece (X := x3) 25 (by decide) (p4 _ harg4 x3 ![25, 0, 0] (by decide)) (r6 _ harg6 x5) (r7 _ harg7 x6) (by decide)
    exact h
  · have h := scl_piece (X := x3) 24 (by decide) (p4 _ harg4 x3 ![24, 0, 0] (by decide)) (r6 _ harg6 x5) (r7 _ harg7 x6) (by decide)
    exact h
  · have h := scl_piece (X := x3) 23 (by decide) (p4 _ harg4 x3 ![23, 0, 0] (by decide)) (r6 _ harg6 x5) (r7 _ harg7 x6) (by decide)
    exact h
  · have h := scl_piece (X := x3) 22 (by decide) (p4 _ harg4 x3 ![22, 0, 0] (by decide)) (r6 _ harg6 x5) (r7 _ harg7 x6) (by decide)
    exact h
  · have h := scl_piece (X := x3) 21 (by decide) (p4 _ harg4 x3 ![21, 0, 0] (by decide)) (r6 _ harg6 x5) (r7 _ harg7 x6) (by decide)
    exact h
  · have h := scl_piece (X := x3) 20 (by decide) (p4 _ harg4 x3 ![20, 0, 0] (by decide)) (r6 _ harg6 x5) (r7 _ harg7 x6) (by decide)
    exact h
  · have h := scl_piece (X := x3) 19 (by decide) (p4 _ harg4 x3 ![19, 0, 0] (by decide)) (r6 _ harg6 x5) (r7 _ harg7 x6) (by decide)
    exact h
  · have h := scl_piece (X := x3) 18 (by decide) (p4 _ harg4 x3 ![18, 0, 0] (by decide)) (r6 _ harg6 x5) (r7 _ harg7 x6) (by decide)
    exact h
  · have h := scl_piece (X := x3) 17 (by decide) (p4 _ harg4 x3 ![17, 0, 0] (by decide)) (r6 _ harg6 x5) (r7 _ harg7 x6) (by decide)
    exact h
  · have h := scl_piece (X := x3) 16 (by decide) (p4 _ harg4 x3 ![16, 0, 0] (by decide)) (r6 _ harg6 x5) (r7 _ harg7 x6) (by decide)
    exact h
  · have h := scl_piece (X := x3) 15 (by decide) (p4 _ harg4 x3 ![15, 0, 0] (by decide)) (r6 _ harg6 x5) (r7 _ harg7 x6) (by decide)
    exact h
  · have h := scl_piece (X := x3) 14 (by decide) (p4 _ harg4 x3 ![14, 0, 0] (by decide)) (r6 _ harg6 x5) (r7 _ harg7 x6) (by decide)
    exact h
  · have h := scl_piece (X := x3) 13 (by decide) (p4 _ harg4 x3 ![13, 0, 0] (by decide)) (r6 _ harg6 x5) (r7 _ harg7 x6) (by decide)
    exact h
  · have h := scl_piece (X := x3) 12 (by decide) (p4 _ harg4 x3 ![12, 0, 0] (by decide)) (r6 _ harg6 x5) (r7 _ harg7 x6) (by decide)
    exact h
  · have h := scl_piece (X := x3) 11 (by decide) (p4 _ harg4 x3 ![11, 0, 0] (by decide)) (r6 _ harg6 x5) (r7 _ harg7 x6) (by decide)
    exact h
  · have h := scl_piece (X := x3) 10 (by decide) (p4 _ harg4 x3 ![10, 0, 0] (by decide)) (r6 _ harg6 x5) (r7 _ harg7 x6) (by decide)
    exact h
  · have h := scl_piece (X := x3) 9 (by decide) (p4 _ harg4 x3 ![9, 0, 0] (by decide)) (r6 _ harg6 x5) (r7 _ harg7 x6) (by decide)
    exact h
  · have h := scl_piece (X := x3) 8 (by decide) (p4 _ harg4 x3 ![8, 0, 0] (by decide)) (r6 _ harg6 x5) (r7 _ harg7 x6) (by decide)
    exact h
  · have h := scl_piece (X := x3) 7 (by decide) (p4 _ harg4 x3 ![7, 0, 0] (by decide)) (r6 _ harg6 x5) (r7 _ harg7 x6) (by decide)
    exact h
  · have h := scl_piece (X := x3) 6 (by decide) (p4 _ harg4 x3 ![6, 0, 0] (by decide)) (r6 _ harg6 x5) (r7 _ harg7 x6) (by decide)
    exact h
  · have h := scl_piece (X := x3) 5 (by decide) (p4 _ harg4 x3 ![5, 0, 0] (by decide)) (r6 _ harg6 x5) (r7 _ harg7 x6) (by decide)
    exact h
  · have h := scl_piece (X := x3) 4 (by decide) (p4 _ harg4 x3 ![4, 0, 0] (by decide)) (r6 _ harg6 x5) (r7 _ harg7 x6) (by decide)
    exact h
  · have h := scl_piece (X := x3) 3 (by decide) (p4 _ harg4 x3 ![3, 0, 0] (by decide)) (r6 _ harg6 x5) (r7 _ harg7 x6) (by decide)
    exact h
  · have h := scl_piece (X := x3) 2 (by decide) (p4 _ harg4 x3 ![2, 0, 0] (by decide)) (r6 _ harg6 x5) (r7 _ harg7 x6) (by decide)
    exact h
  · have h := scl_piece (X := x3) 1 (by decide) (p4 _ harg4 x3 ![1, 0, 0] (by decide)) (r6 _ harg6 x5) (r7 _ harg7 x6) (by decide)
    exact h
  · have h := scl_piece (X := x3) 0 (by decide) (p4 _ harg4 x3 ![0, 0, 0] (by decide)) (r6 _ harg6 x5) (r7 _ harg7 x6) (by decide)
    exact h

set_option maxHeartbeats 4000000 in
theorem x1_pieces : View.PiecesOf (x1Arr x3 x5 x6 xs0 x8 x4) (kernelRun0_B.sl.HS6_2 (F := Ideal) c arg4 harg4 arg5 harg5 arg6 harg6 arg7 harg7 arg9 harg9 arg23 harg23 arg26 arg30 x3 x4 x5 x6 x8 xs0) := by
  refine ⟨?_, ?_, trivial⟩
  · have h := x1_piece 256 (by decide) ((cov_ld arg26.view _ _ (on_pieces c arg4 harg4 arg6 harg6 arg7 harg7 x3 x5 x6) (View.cover_of_tiledL _ S16x1024.size (by sl_kernel_rfl)) (Rect.unit (s := S288x1024) ![0, 0] S288x1024.size (by decide))).trans (ld_whole _ _ (by decide))) ((cov_ld arg30.view _ _ (scl_pieces c arg4 harg4 arg6 harg6 arg7 harg7 x3 x5 x6) (View.cover_of_tiledL _ S8x128.size (by sl_kernel_rfl)) (Rect.unit (s := S288x128) ![0, 0] S288x128.size (by decide))).trans (ld_whole _ _ (by decide)))
      (read_ld harg23 xs0 (Rect.unit (s := S1024x512) ![0, 256] S1024x256.size (by decide))) (read_ld harg9 x8 (Rect.unit (s := S1x512) ![0, 256] S1x256.size (by decide))) (read_ld harg5 x4 (Rect.unit (s := S36x8x512) ![0, 0, 256] S36x8x256.size (by decide))) (by decide)
    exact h
  · have h := x1_piece 0 (by decide) ((cov_ld arg26.view _ _ (on_pieces c arg4 harg4 arg6 harg6 arg7 harg7 x3 x5 x6) (View.cover_of_tiledL _ S16x1024.size (by sl_kernel_rfl)) (Rect.unit (s := S288x1024) ![0, 0] S288x1024.size (by decide))).trans (ld_whole _ _ (by decide))) ((cov_ld arg30.view _ _ (scl_pieces c arg4 harg4 arg6 harg6 arg7 harg7 x3 x5 x6) (View.cover_of_tiledL _ S8x128.size (by sl_kernel_rfl)) (Rect.unit (s := S288x128) ![0, 0] S288x128.size (by decide))).trans (ld_whole _ _ (by decide)))
      (read_ld harg23 xs0 (Rect.unit (s := S1024x512) ![0, 0] S1024x256.size (by decide))) (read_ld harg9 x8 (Rect.unit (s := S1x512) ![0, 0] S1x256.size (by decide))) (read_ld harg5 x4 (Rect.unit (s := S36x8x512) ![0, 0, 0] S36x8x256.size (by decide))) (by decide)
    exact h

set_option maxHeartbeats 4000000 in
theorem a2_pieces : View.PiecesOf (lhsA2 (x1Arr x3 x5 x6 xs0 x8 x4) x9 x10 x0) (kernelRun0_B.sl.HS4_18 (F := Ideal) c arg1 harg1 arg4 harg4 arg5 harg5 arg6 harg6 arg7 harg7 arg9 harg9 arg10 harg10 arg11 harg11 arg23 harg23 arg26 arg29 arg30 x0 x3 x4 x5 x6 x8 x9 x10 xs0) := by
  have hx1 := x1_pieces c arg4 harg4 arg5 harg5 arg6 harg6 arg7 harg7 arg9 harg9 arg23 harg23 arg26 arg30 x3 x4 x5 x6 x8 xs0
  have hcx := View.cover_of_tiledL (kernelRun0_B.sl.HS6_2 (F := Ideal) c arg4 harg4 arg5 harg5 arg6 harg6 arg7 harg7 arg9 harg9 arg23 harg23 arg26 arg30 x3 x4 x5 x6 x8 xs0) S36x8x256.size (by sl_kernel_rfl)
  have cx := fun (o : Fin 3 → Nat) (h : ∀ a, o a + S1x8x512.size a ≤ S36x8x512.size a) => cov_ld arg29.view _ _ hx1 hcx (Rect.unit (s := S36x8x512) o S1x8x512.size h)
  refine ⟨?_, ?_, ?_, ?_, ?_, ?_, ?_, ?_, ?_, ?_, ?_, ?_, ?_, ?_, ?_, ?_, ?_, ?_, trivial⟩
  · have h := a2_piece 17 (by decide) (cx ![34, 0, 0] (by decide)) (cx ![35, 0, 0] (by decide)) (read_sc harg1 x0 (by decide) (by decide)) (r10 _ harg10 x9) (r11 _ harg11 x10) (by decide)
    exact h
  · have h := a2_piece 16 (by decide) (cx ![32, 0, 0] (by decide)) (cx ![33, 0, 0] (by decide)) (read_sc harg1 x0 (by decide) (by decide)) (r10 _ harg10 x9) (r11 _ harg11 x10) (by decide)
    exact h
  · have h := a2_piece 15 (by decide) (cx ![30, 0, 0] (by decide)) (cx ![31, 0, 0] (by decide)) (read_sc harg1 x0 (by decide) (by decide)) (r10 _ harg10 x9) (r11 _ harg11 x10) (by decide)
    exact h
  · have h := a2_piece 14 (by decide) (cx ![28, 0, 0] (by decide)) (cx ![29, 0, 0] (by decide)) (read_sc harg1 x0 (by decide) (by decide)) (r10 _ harg10 x9) (r11 _ harg11 x10) (by decide)
    exact h
  · have h := a2_piece 13 (by decide) (cx ![26, 0, 0] (by decide)) (cx ![27, 0, 0] (by decide)) (read_sc harg1 x0 (by decide) (by decide)) (r10 _ harg10 x9) (r11 _ harg11 x10) (by decide)
    exact h
  · have h := a2_piece 12 (by decide) (cx ![24, 0, 0] (by decide)) (cx ![25, 0, 0] (by decide)) (read_sc harg1 x0 (by decide) (by decide)) (r10 _ harg10 x9) (r11 _ harg11 x10) (by decide)
    exact h
  · have h := a2_piece 11 (by decide) (cx ![22, 0, 0] (by decide)) (cx ![23, 0, 0] (by decide)) (read_sc harg1 x0 (by decide) (by decide)) (r10 _ harg10 x9) (r11 _ harg11 x10) (by decide)
    exact h
  · have h := a2_piece 10 (by decide) (cx ![20, 0, 0] (by decide)) (cx ![21, 0, 0] (by decide)) (read_sc harg1 x0 (by decide) (by decide)) (r10 _ harg10 x9) (r11 _ harg11 x10) (by decide)
    exact h
  · have h := a2_piece 9 (by decide) (cx ![18, 0, 0] (by decide)) (cx ![19, 0, 0] (by decide)) (read_sc harg1 x0 (by decide) (by decide)) (r10 _ harg10 x9) (r11 _ harg11 x10) (by decide)
    exact h
  · have h := a2_piece 8 (by decide) (cx ![16, 0, 0] (by decide)) (cx ![17, 0, 0] (by decide)) (read_sc harg1 x0 (by decide) (by decide)) (r10 _ harg10 x9) (r11 _ harg11 x10) (by decide)
    exact h
  · have h := a2_piece 7 (by decide) (cx ![14, 0, 0] (by decide)) (cx ![15, 0, 0] (by decide)) (read_sc harg1 x0 (by decide) (by decide)) (r10 _ harg10 x9) (r11 _ harg11 x10) (by decide)
    exact h
  · have h := a2_piece 6 (by decide) (cx ![12, 0, 0] (by decide)) (cx ![13, 0, 0] (by decide)) (read_sc harg1 x0 (by decide) (by decide)) (r10 _ harg10 x9) (r11 _ harg11 x10) (by decide)
    exact h
  · have h := a2_piece 5 (by decide) (cx ![10, 0, 0] (by decide)) (cx ![11, 0, 0] (by decide)) (read_sc harg1 x0 (by decide) (by decide)) (r10 _ harg10 x9) (r11 _ harg11 x10) (by decide)
    exact h
  · have h := a2_piece 4 (by decide) (cx ![8, 0, 0] (by decide)) (cx ![9, 0, 0] (by decide)) (read_sc harg1 x0 (by decide) (by decide)) (r10 _ harg10 x9) (r11 _ harg11 x10) (by decide)
    exact h
  · have h := a2_piece 3 (by decide) (cx ![6, 0, 0] (by decide)) (cx ![7, 0, 0] (by decide)) (read_sc harg1 x0 (by decide) (by decide)) (r10 _ harg10 x9) (r11 _ harg11 x10) (by decide)
    exact h
  · have h := a2_piece 2 (by decide) (cx ![4, 0, 0] (by decide)) (cx ![5, 0, 0] (by decide)) (read_sc harg1 x0 (by decide) (by decide)) (r10 _ harg10 x9) (r11 _ harg11 x10) (by decide)
    exact h
  · have h := a2_piece 1 (by decide) (cx ![2, 0, 0] (by decide)) (cx ![3, 0, 0] (by decide)) (read_sc harg1 x0 (by decide) (by decide)) (r10 _ harg10 x9) (r11 _ harg11 x10) (by decide)
    exact h
  · have h := a2_piece 0 (by decide) (cx ![0, 0, 0] (by decide)) (cx ![1, 0, 0] (by decide)) (read_sc harg1 x0 (by decide) (by decide)) (r10 _ harg10 x9) (r11 _ harg11 x10) (by decide)
    exact h

set_option maxHeartbeats 4000000 in
theorem h_pieces : View.PiecesOf (lhsH (lhsA2 (x1Arr x3 x5 x6 xs0 x8 x4) x9 x10 x0) xs1 x12 x13 x0 x1 x2) (kernelRun0_B.sl.HS5_8 (F := Ideal) c arg1 harg1 arg2 harg2 arg3 harg3 arg4 harg4 arg5 harg5 arg6 harg6 arg7 harg7 arg9 harg9 arg10 harg10 arg11 harg11 arg13 harg13 arg14 harg14 arg23 harg23 arg24 harg24 arg26 arg27 arg29 arg30 x0 x1 x2 x3 x4 x5 x6 x8 x9 x10 x12 x13 xs0 xs1) := by
  have hA := (cov_ld arg27.view _ _ (a2_pieces c arg1 harg1 arg4 harg4 arg5 harg5 arg6 harg6 arg7 harg7 arg9 harg9 arg10 harg10 arg11 harg11 arg23 harg23 arg26 arg29 arg30 x0 x3 x4 x5 x6 x8 x9 x10 xs0) (View.cover_of_tiledL _ S16x512.size (by sl_kernel_rfl)) (Rect.unit (s := S288x512) ![0, 0] S288x512.size (by decide))).trans (ld_whole _ _ (by decide))
  refine ⟨?_, ?_, ?_, ?_, ?_, ?_, ?_, ?_, trivial⟩
  · have h := h_piece 1792 slices_S1x2048_o0_1792_S1x256 (by decide) hA (p24 _ harg24 xs1 ![0, 1792] (by decide)) (r13 _ harg13 x12) (r14 _ harg14 x13) (read_sc harg1 x0 (by decide) (by decide)) (read_sc harg2 x1 (by decide) (by decide)) (read_sc harg3 x2 (by decide) (by decide)) (by decide)
    exact h
  · have h := h_piece 1536 slices_S1x2048_o0_1536_S1x256 (by decide) hA (p24 _ harg24 xs1 ![0, 1536] (by decide)) (r13 _ harg13 x12) (r14 _ harg14 x13) (read_sc harg1 x0 (by decide) (by decide)) (read_sc harg2 x1 (by decide) (by decide)) (read_sc harg3 x2 (by decide) (by decide)) (by decide)
    exact h
  · have h := h_piece 1280 slices_S1x2048_o0_1280_S1x256 (by decide) hA (p24 _ harg24 xs1 ![0, 1280] (by decide)) (r13 _ harg13 x12) (r14 _ harg14 x13) (read_sc harg1 x0 (by decide) (by decide)) (read_sc harg2 x1 (by decide) (by decide)) (read_sc harg3 x2 (by decide) (by decide)) (by decide)
    exact h
  · have h := h_piece 1024 slices_S1x2048_o0_1024_S1x256 (by decide) hA (p24 _ harg24 xs1 ![0, 1024] (by decide)) (r13 _ harg13 x12) (r14 _ harg14 x13) (read_sc harg1 x0 (by decide) (by decide)) (read_sc harg2 x1 (by decide) (by decide)) (read_sc harg3 x2 (by decide) (by decide)) (by decide)
    exact h
  · have h := h_piece 768 slices_S1x2048_o0_768_S1x256 (by decide) hA (p24 _ harg24 xs1 ![0, 768] (by decide)) (r13 _ harg13 x12) (r14 _ harg14 x13) (read_sc harg1 x0 (by decide) (by decide)) (read_sc harg2 x1 (by decide) (by decide)) (read_sc harg3 x2 (by decide) (by decide)) (by decide)
    exact h
  · have h := h_piece 512 slices_S1x2048_o0_512_S1x256 (by decide) hA (p24 _ harg24 xs1 ![0, 512] (by decide)) (r13 _ harg13 x12) (r14 _ harg14 x13) (read_sc harg1 x0 (by decide) (by decide)) (read_sc harg2 x1 (by decide) (by decide)) (read_sc harg3 x2 (by decide) (by decide)) (by decide)
    exact h
  · have h := h_piece 256 slices_S1x2048_o0_256_S1x256 (by decide) hA (p24 _ harg24 xs1 ![0, 256] (by decide)) (r13 _ harg13 x12) (r14 _ harg14 x13) (read_sc harg1 x0 (by decide) (by decide)) (read_sc harg2 x1 (by decide) (by decide)) (read_sc harg3 x2 (by decide) (by decide)) (by decide)
    exact h
  · have h := h_piece 0 slices_S1x2048_o0_0_S1x256 (by decide) hA (p24 _ harg24 xs1 ![0, 0] (by decide)) (r13 _ harg13 x12) (r14 _ harg14 x13) (read_sc harg1 x0 (by decide) (by decide)) (read_sc harg2 x1 (by decide) (by decide)) (read_sc harg3 x2 (by decide) (by decide)) (by decide)
    exact h

set_option maxHeartbeats 4000000 in
theorem pieces_18 : View.PiecesOf (onOut x3 x5 x6) (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 xs0 xs1 xs2).2.1 := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  · have h := oni_piece (X := x3) 35 (by decide) (p4 _ harg4 x3 ![35, 0, 0] (by decide)) (r6 _ harg6 x5) (r7 _ harg7 x6) (by decide)
    exact h
  · have h := oni_piece (X := x3) 34 (by decide) (p4 _ harg4 x3 ![34, 0, 0] (by decide)) (r6 _ harg6 x5) (r7 _ harg7 x6) (by decide)
    exact h
  · have h := oni_piece (X := x3) 33 (by decide) (p4 _ harg4 x3 ![33, 0, 0] (by decide)) (r6 _ harg6 x5) (r7 _ harg7 x6) (by decide)
    exact h
  · have h := oni_piece (X := x3) 32 (by decide) (p4 _ harg4 x3 ![32, 0, 0] (by decide)) (r6 _ harg6 x5) (r7 _ harg7 x6) (by decide)
    exact h
  · have h := oni_piece (X := x3) 31 (by decide) (p4 _ harg4 x3 ![31, 0, 0] (by decide)) (r6 _ harg6 x5) (r7 _ harg7 x6) (by decide)
    exact h
  · have h := oni_piece (X := x3) 30 (by decide) (p4 _ harg4 x3 ![30, 0, 0] (by decide)) (r6 _ harg6 x5) (r7 _ harg7 x6) (by decide)
    exact h
  · have h := oni_piece (X := x3) 29 (by decide) (p4 _ harg4 x3 ![29, 0, 0] (by decide)) (r6 _ harg6 x5) (r7 _ harg7 x6) (by decide)
    exact h
  · have h := oni_piece (X := x3) 28 (by decide) (p4 _ harg4 x3 ![28, 0, 0] (by decide)) (r6 _ harg6 x5) (r7 _ harg7 x6) (by decide)
    exact h
  · have h := oni_piece (X := x3) 27 (by decide) (p4 _ harg4 x3 ![27, 0, 0] (by decide)) (r6 _ harg6 x5) (r7 _ harg7 x6) (by decide)
    exact h
  · have h := oni_piece (X := x3) 26 (by decide) (p4 _ harg4 x3 ![26, 0, 0] (by decide)) (r6 _ harg6 x5) (r7 _ harg7 x6) (by decide)
    exact h
  · have h := oni_piece (X := x3) 25 (by decide) (p4 _ harg4 x3 ![25, 0, 0] (by decide)) (r6 _ harg6 x5) (r7 _ harg7 x6) (by decide)
    exact h
  · have h := oni_piece (X := x3) 24 (by decide) (p4 _ harg4 x3 ![24, 0, 0] (by decide)) (r6 _ harg6 x5) (r7 _ harg7 x6) (by decide)
    exact h
  · have h := oni_piece (X := x3) 23 (by decide) (p4 _ harg4 x3 ![23, 0, 0] (by decide)) (r6 _ harg6 x5) (r7 _ harg7 x6) (by decide)
    exact h
  · have h := oni_piece (X := x3) 22 (by decide) (p4 _ harg4 x3 ![22, 0, 0] (by decide)) (r6 _ harg6 x5) (r7 _ harg7 x6) (by decide)
    exact h
  · have h := oni_piece (X := x3) 21 (by decide) (p4 _ harg4 x3 ![21, 0, 0] (by decide)) (r6 _ harg6 x5) (r7 _ harg7 x6) (by decide)
    exact h
  · have h := oni_piece (X := x3) 20 (by decide) (p4 _ harg4 x3 ![20, 0, 0] (by decide)) (r6 _ harg6 x5) (r7 _ harg7 x6) (by decide)
    exact h
  · have h := oni_piece (X := x3) 19 (by decide) (p4 _ harg4 x3 ![19, 0, 0] (by decide)) (r6 _ harg6 x5) (r7 _ harg7 x6) (by decide)
    exact h
  · have h := oni_piece (X := x3) 18 (by decide) (p4 _ harg4 x3 ![18, 0, 0] (by decide)) (r6 _ harg6 x5) (r7 _ harg7 x6) (by decide)
    exact h
  · have h := oni_piece (X := x3) 17 (by decide) (p4 _ harg4 x3 ![17, 0, 0] (by decide)) (r6 _ harg6 x5) (r7 _ harg7 x6) (by decide)
    exact h
  · have h := oni_piece (X := x3) 16 (by decide) (p4 _ harg4 x3 ![16, 0, 0] (by decide)) (r6 _ harg6 x5) (r7 _ harg7 x6) (by decide)
    exact h
  · have h := oni_piece (X := x3) 15 (by decide) (p4 _ harg4 x3 ![15, 0, 0] (by decide)) (r6 _ harg6 x5) (r7 _ harg7 x6) (by decide)
    exact h
  · have h := oni_piece (X := x3) 14 (by decide) (p4 _ harg4 x3 ![14, 0, 0] (by decide)) (r6 _ harg6 x5) (r7 _ harg7 x6) (by decide)
    exact h
  · have h := oni_piece (X := x3) 13 (by decide) (p4 _ harg4 x3 ![13, 0, 0] (by decide)) (r6 _ harg6 x5) (r7 _ harg7 x6) (by decide)
    exact h
  · have h := oni_piece (X := x3) 12 (by decide) (p4 _ harg4 x3 ![12, 0, 0] (by decide)) (r6 _ harg6 x5) (r7 _ harg7 x6) (by decide)
    exact h
  · have h := oni_piece (X := x3) 11 (by decide) (p4 _ harg4 x3 ![11, 0, 0] (by decide)) (r6 _ harg6 x5) (r7 _ harg7 x6) (by decide)
    exact h
  · have h := oni_piece (X := x3) 10 (by decide) (p4 _ harg4 x3 ![10, 0, 0] (by decide)) (r6 _ harg6 x5) (r7 _ harg7 x6) (by decide)
    exact h
  · have h := oni_piece (X := x3) 9 (by decide) (p4 _ harg4 x3 ![9, 0, 0] (by decide)) (r6 _ harg6 x5) (r7 _ harg7 x6) (by decide)
    exact h
  · have h := oni_piece (X := x3) 8 (by decide) (p4 _ harg4 x3 ![8, 0, 0] (by decide)) (r6 _ harg6 x5) (r7 _ harg7 x6) (by decide)
    exact h
  · have h := oni_piece (X := x3) 7 (by decide) (p4 _ harg4 x3 ![7, 0, 0] (by decide)) (r6 _ harg6 x5) (r7 _ harg7 x6) (by decide)
    exact h
  · have h := oni_piece (X := x3) 6 (by decide) (p4 _ harg4 x3 ![6, 0, 0] (by decide)) (r6 _ harg6 x5) (r7 _ harg7 x6) (by decide)
    exact h
  · have h := oni_piece (X := x3) 5 (by decide) (p4 _ harg4 x3 ![5, 0, 0] (by decide)) (r6 _ harg6 x5) (r7 _ harg7 x6) (by decide)
    exact h
  · have h := oni_piece (X := x3) 4 (by decide) (p4 _ harg4 x3 ![4, 0, 0] (by decide)) (r6 _ harg6 x5) (r7 _ harg7 x6) (by decide)
    exact h
  · have h := oni_piece (X := x3) 3 (by decide) (p4 _ harg4 x3 ![3, 0, 0] (by decide)) (r6 _ harg6 x5) (r7 _ harg7 x6) (by decide)
    exact h
  · have h := oni_piece (X := x3) 2 (by decide) (p4 _ harg4 x3 ![2, 0, 0] (by decide)) (r6 _ harg6 x5) (r7 _ harg7 x6) (by decide)
    exact h
  · have h := oni_piece (X := x3) 1 (by decide) (p4 _ harg4 x3 ![1, 0, 0] (by decide)) (r6 _ harg6 x5) (r7 _ harg7 x6) (by decide)
    exact h
  · have h := oni_piece (X := x3) 0 (by decide) (p4 _ harg4 x3 ![0, 0, 0] (by decide)) (r6 _ harg6 x5) (r7 _ harg7 x6) (by decide)
    exact h

theorem out_18 : out0_B_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 xs0 xs1 xs2 = (onOut x3 x5 x6) := by
  unfold out0_B_18
  rw [View.read_writes_eq_canon _ _ _ (cover0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 xs0 xs1 xs2)]
  exact funext fun y => View.canon_apply_of_pieces _ _ (pieces_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 xs0 xs1 xs2).mem y (cover0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 xs0 xs1 xs2 y)

theorem px_in (n : Nat) : ∀ a, ![n % 36, 0, 0] a + S1x8x1024.size a ≤ S36x8x1024.size a := fun a => by
  have h : n % 36 < 36 := Nat.mod_lt _ (by decide)
  match a with
  | ⟨0, _⟩ => show n % 36 + 1 ≤ 36; omega
  | ⟨1, _⟩ => show 0 + 8 ≤ 8; omega
  | ⟨2, _⟩ => show 0 + 1024 ≤ 1024; omega

set_option maxHeartbeats 4000000 in
theorem pieces_19 : View.PiecesOf (onsOut x3 x5 x6) (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 xs0 xs1 xs2).2.2.1 := by
  refine ⟨?_, ?_, trivial⟩
  · have h := ons_piece (X := x3) 1 (by decide) (fun n => arg4.view.readAt (Elt Ideal) (Rect.unit (s := S36x8x1024) ![(18 * 1 + n) % 36, 0, 0] S1x8x1024.size (px_in _)).toLoadRect (harg4.unread x3)) px_in
      (fun n => read_ld harg4 x3 _) (r6 _ harg6 x5) (r7 _ harg7 x6) (by decide)
    exact h
  · have h := ons_piece (X := x3) 0 (by decide) (fun n => arg4.view.readAt (Elt Ideal) (Rect.unit (s := S36x8x1024) ![(18 * 0 + n) % 36, 0, 0] S1x8x1024.size (px_in _)).toLoadRect (harg4.unread x3)) px_in
      (fun n => read_ld harg4 x3 _) (r6 _ harg6 x5) (r7 _ harg7 x6) (by decide)
    exact h

theorem out_19 : out0_B_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 xs0 xs1 xs2 = (onsOut x3 x5 x6) := by
  unfold out0_B_19
  rw [View.read_writes_eq_canon _ _ _ (cover0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 xs0 xs1 xs2)]
  exact funext fun y => View.canon_apply_of_pieces _ _ (pieces_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 xs0 xs1 xs2).mem y (cover0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 xs0 xs1 xs2 y)

set_option maxHeartbeats 4000000 in
theorem pieces_17 : View.PiecesOf (yOut (x1Arr x3 x5 x6 xs0 x8 x4) (lhsH (lhsA2 (x1Arr x3 x5 x6 xs0 x8 x4) x9 x10 x0) xs1 x12 x13 x0 x1 x2) xs2 x1 x15 x16) (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 xs0 xs1 xs2).1 := by
  have hx1 := x1_pieces c arg4 harg4 arg5 harg5 arg6 harg6 arg7 harg7 arg9 harg9 arg23 harg23 arg26 arg30 x3 x4 x5 x6 x8 xs0
  have hcx := View.cover_of_tiledL (kernelRun0_B.sl.HS6_2 (F := Ideal) c arg4 harg4 arg5 harg5 arg6 harg6 arg7 harg7 arg9 harg9 arg23 harg23 arg26 arg30 x3 x4 x5 x6 x8 xs0) S36x8x256.size (by sl_kernel_rfl)
  have hH := (cov_ld arg28.view _ _ (h_pieces c arg1 harg1 arg2 harg2 arg3 harg3 arg4 harg4 arg5 harg5 arg6 harg6 arg7 harg7 arg9 harg9 arg10 harg10 arg11 harg11 arg13 harg13 arg14 harg14 arg23 harg23 arg24 harg24 arg26 arg27 arg29 arg30 x0 x1 x2 x3 x4 x5 x6 x8 x9 x10 x12 x13 xs0 xs1) (View.cover_of_tiledL _ S288x256.size (by sl_kernel_rfl)) (Rect.unit (s := S288x2048) ![0, 0] S288x2048.size (by decide))).trans (ld_whole _ _ (by decide))
  refine ⟨?_, ?_, trivial⟩
  · have h := y_piece 256 (by decide) hH (read_ld harg25 xs2 (Rect.unit (s := S2048x512) ![0, 256] S2048x256.size (by decide))) (read_sc harg2 x1 (by decide) (by decide)) (read_ld harg16 x15 (Rect.unit (s := S1x512) ![0, 256] S1x256.size (by decide))) (read_ld harg17 x16 (Rect.unit (s := S1x512) ![0, 256] S1x256.size (by decide))) (cov_ld arg29.view _ _ hx1 hcx (Rect.unit (s := S36x8x512) ![0, 0, 256] S36x8x256.size (by decide))) (by decide)
    exact h
  · have h := y_piece 0 (by decide) hH (read_ld harg25 xs2 (Rect.unit (s := S2048x512) ![0, 0] S2048x256.size (by decide))) (read_sc harg2 x1 (by decide) (by decide)) (read_ld harg16 x15 (Rect.unit (s := S1x512) ![0, 0] S1x256.size (by decide))) (read_ld harg17 x16 (Rect.unit (s := S1x512) ![0, 0] S1x256.size (by decide))) (cov_ld arg29.view _ _ hx1 hcx (Rect.unit (s := S36x8x512) ![0, 0, 0] S36x8x256.size (by decide))) (by decide)
    exact h

theorem out_17 : out0_B_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 xs0 xs1 xs2 = (yOut (x1Arr x3 x5 x6 xs0 x8 x4) (lhsH (lhsA2 (x1Arr x3 x5 x6 xs0 x8 x4) x9 x10 x0) xs1 x12 x13 x0 x1 x2) xs2 x1 x15 x16) := by
  unfold out0_B_17
  rw [View.read_writes_eq_canon _ _ _ (cover0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 xs0 xs1 xs2)]
  exact funext fun y => View.canon_apply_of_pieces _ _ (pieces_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 xs0 xs1 xs2).mem y (cover0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 xs0 xs1 xs2 y)

set_option maxHeartbeats 4000000 in
theorem pieces_20 : View.PiecesOf (a2Out (x1Arr x3 x5 x6 xs0 x8 x4) x9 x10 x0) (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 xs0 xs1 xs2).2.2.2.1 := by
  have hx1 := x1_pieces c arg4 harg4 arg5 harg5 arg6 harg6 arg7 harg7 arg9 harg9 arg23 harg23 arg26 arg30 x3 x4 x5 x6 x8 xs0
  have hcx := View.cover_of_tiledL (kernelRun0_B.sl.HS6_2 (F := Ideal) c arg4 harg4 arg5 harg5 arg6 harg6 arg7 harg7 arg9 harg9 arg23 harg23 arg26 arg30 x3 x4 x5 x6 x8 xs0) S36x8x256.size (by sl_kernel_rfl)
  have cx := fun (o : Fin 3 → Nat) (h : ∀ a, o a + S1x8x512.size a ≤ S36x8x512.size a) => cov_ld arg29.view _ _ hx1 hcx (Rect.unit (s := S36x8x512) o S1x8x512.size h)
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  · have h := a2o_piece 35 (by decide) (cx ![35, 0, 0] (by decide)) (read_sc harg1 x0 (by decide) (by decide)) (r10 _ harg10 x9) (r11 _ harg11 x10) (by decide)
    exact h
  · have h := a2o_piece 34 (by decide) (cx ![34, 0, 0] (by decide)) (read_sc harg1 x0 (by decide) (by decide)) (r10 _ harg10 x9) (r11 _ harg11 x10) (by decide)
    exact h
  · have h := a2o_piece 33 (by decide) (cx ![33, 0, 0] (by decide)) (read_sc harg1 x0 (by decide) (by decide)) (r10 _ harg10 x9) (r11 _ harg11 x10) (by decide)
    exact h
  · have h := a2o_piece 32 (by decide) (cx ![32, 0, 0] (by decide)) (read_sc harg1 x0 (by decide) (by decide)) (r10 _ harg10 x9) (r11 _ harg11 x10) (by decide)
    exact h
  · have h := a2o_piece 31 (by decide) (cx ![31, 0, 0] (by decide)) (read_sc harg1 x0 (by decide) (by decide)) (r10 _ harg10 x9) (r11 _ harg11 x10) (by decide)
    exact h
  · have h := a2o_piece 30 (by decide) (cx ![30, 0, 0] (by decide)) (read_sc harg1 x0 (by decide) (by decide)) (r10 _ harg10 x9) (r11 _ harg11 x10) (by decide)
    exact h
  · have h := a2o_piece 29 (by decide) (cx ![29, 0, 0] (by decide)) (read_sc harg1 x0 (by decide) (by decide)) (r10 _ harg10 x9) (r11 _ harg11 x10) (by decide)
    exact h
  · have h := a2o_piece 28 (by decide) (cx ![28, 0, 0] (by decide)) (read_sc harg1 x0 (by decide) (by decide)) (r10 _ harg10 x9) (r11 _ harg11 x10) (by decide)
    exact h
  · have h := a2o_piece 27 (by decide) (cx ![27, 0, 0] (by decide)) (read_sc harg1 x0 (by decide) (by decide)) (r10 _ harg10 x9) (r11 _ harg11 x10) (by decide)
    exact h
  · have h := a2o_piece 26 (by decide) (cx ![26, 0, 0] (by decide)) (read_sc harg1 x0 (by decide) (by decide)) (r10 _ harg10 x9) (r11 _ harg11 x10) (by decide)
    exact h
  · have h := a2o_piece 25 (by decide) (cx ![25, 0, 0] (by decide)) (read_sc harg1 x0 (by decide) (by decide)) (r10 _ harg10 x9) (r11 _ harg11 x10) (by decide)
    exact h
  · have h := a2o_piece 24 (by decide) (cx ![24, 0, 0] (by decide)) (read_sc harg1 x0 (by decide) (by decide)) (r10 _ harg10 x9) (r11 _ harg11 x10) (by decide)
    exact h
  · have h := a2o_piece 23 (by decide) (cx ![23, 0, 0] (by decide)) (read_sc harg1 x0 (by decide) (by decide)) (r10 _ harg10 x9) (r11 _ harg11 x10) (by decide)
    exact h
  · have h := a2o_piece 22 (by decide) (cx ![22, 0, 0] (by decide)) (read_sc harg1 x0 (by decide) (by decide)) (r10 _ harg10 x9) (r11 _ harg11 x10) (by decide)
    exact h
  · have h := a2o_piece 21 (by decide) (cx ![21, 0, 0] (by decide)) (read_sc harg1 x0 (by decide) (by decide)) (r10 _ harg10 x9) (r11 _ harg11 x10) (by decide)
    exact h
  · have h := a2o_piece 20 (by decide) (cx ![20, 0, 0] (by decide)) (read_sc harg1 x0 (by decide) (by decide)) (r10 _ harg10 x9) (r11 _ harg11 x10) (by decide)
    exact h
  · have h := a2o_piece 19 (by decide) (cx ![19, 0, 0] (by decide)) (read_sc harg1 x0 (by decide) (by decide)) (r10 _ harg10 x9) (r11 _ harg11 x10) (by decide)
    exact h
  · have h := a2o_piece 18 (by decide) (cx ![18, 0, 0] (by decide)) (read_sc harg1 x0 (by decide) (by decide)) (r10 _ harg10 x9) (r11 _ harg11 x10) (by decide)
    exact h
  · have h := a2o_piece 17 (by decide) (cx ![17, 0, 0] (by decide)) (read_sc harg1 x0 (by decide) (by decide)) (r10 _ harg10 x9) (r11 _ harg11 x10) (by decide)
    exact h
  · have h := a2o_piece 16 (by decide) (cx ![16, 0, 0] (by decide)) (read_sc harg1 x0 (by decide) (by decide)) (r10 _ harg10 x9) (r11 _ harg11 x10) (by decide)
    exact h
  · have h := a2o_piece 15 (by decide) (cx ![15, 0, 0] (by decide)) (read_sc harg1 x0 (by decide) (by decide)) (r10 _ harg10 x9) (r11 _ harg11 x10) (by decide)
    exact h
  · have h := a2o_piece 14 (by decide) (cx ![14, 0, 0] (by decide)) (read_sc harg1 x0 (by decide) (by decide)) (r10 _ harg10 x9) (r11 _ harg11 x10) (by decide)
    exact h
  · have h := a2o_piece 13 (by decide) (cx ![13, 0, 0] (by decide)) (read_sc harg1 x0 (by decide) (by decide)) (r10 _ harg10 x9) (r11 _ harg11 x10) (by decide)
    exact h
  · have h := a2o_piece 12 (by decide) (cx ![12, 0, 0] (by decide)) (read_sc harg1 x0 (by decide) (by decide)) (r10 _ harg10 x9) (r11 _ harg11 x10) (by decide)
    exact h
  · have h := a2o_piece 11 (by decide) (cx ![11, 0, 0] (by decide)) (read_sc harg1 x0 (by decide) (by decide)) (r10 _ harg10 x9) (r11 _ harg11 x10) (by decide)
    exact h
  · have h := a2o_piece 10 (by decide) (cx ![10, 0, 0] (by decide)) (read_sc harg1 x0 (by decide) (by decide)) (r10 _ harg10 x9) (r11 _ harg11 x10) (by decide)
    exact h
  · have h := a2o_piece 9 (by decide) (cx ![9, 0, 0] (by decide)) (read_sc harg1 x0 (by decide) (by decide)) (r10 _ harg10 x9) (r11 _ harg11 x10) (by decide)
    exact h
  · have h := a2o_piece 8 (by decide) (cx ![8, 0, 0] (by decide)) (read_sc harg1 x0 (by decide) (by decide)) (r10 _ harg10 x9) (r11 _ harg11 x10) (by decide)
    exact h
  · have h := a2o_piece 7 (by decide) (cx ![7, 0, 0] (by decide)) (read_sc harg1 x0 (by decide) (by decide)) (r10 _ harg10 x9) (r11 _ harg11 x10) (by decide)
    exact h
  · have h := a2o_piece 6 (by decide) (cx ![6, 0, 0] (by decide)) (read_sc harg1 x0 (by decide) (by decide)) (r10 _ harg10 x9) (r11 _ harg11 x10) (by decide)
    exact h
  · have h := a2o_piece 5 (by decide) (cx ![5, 0, 0] (by decide)) (read_sc harg1 x0 (by decide) (by decide)) (r10 _ harg10 x9) (r11 _ harg11 x10) (by decide)
    exact h
  · have h := a2o_piece 4 (by decide) (cx ![4, 0, 0] (by decide)) (read_sc harg1 x0 (by decide) (by decide)) (r10 _ harg10 x9) (r11 _ harg11 x10) (by decide)
    exact h
  · have h := a2o_piece 3 (by decide) (cx ![3, 0, 0] (by decide)) (read_sc harg1 x0 (by decide) (by decide)) (r10 _ harg10 x9) (r11 _ harg11 x10) (by decide)
    exact h
  · have h := a2o_piece 2 (by decide) (cx ![2, 0, 0] (by decide)) (read_sc harg1 x0 (by decide) (by decide)) (r10 _ harg10 x9) (r11 _ harg11 x10) (by decide)
    exact h
  · have h := a2o_piece 1 (by decide) (cx ![1, 0, 0] (by decide)) (read_sc harg1 x0 (by decide) (by decide)) (r10 _ harg10 x9) (r11 _ harg11 x10) (by decide)
    exact h
  · have h := a2o_piece 0 (by decide) (cx ![0, 0, 0] (by decide)) (read_sc harg1 x0 (by decide) (by decide)) (r10 _ harg10 x9) (r11 _ harg11 x10) (by decide)
    exact h

theorem out_20 : out0_B_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 xs0 xs1 xs2 = (a2Out (x1Arr x3 x5 x6 xs0 x8 x4) x9 x10 x0) := by
  unfold out0_B_20
  rw [View.read_writes_eq_canon _ _ _ (cover0_B_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 xs0 xs1 xs2)]
  exact funext fun y => View.canon_apply_of_pieces _ _ (pieces_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 xs0 xs1 xs2).mem y (cover0_B_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 xs0 xs1 xs2 y)

set_option maxHeartbeats 4000000 in
theorem pieces_21 : View.PiecesOf (hqOut (lhsA2 (x1Arr x3 x5 x6 xs0 x8 x4) x9 x10 x0) xs1 x12 x13 x0 x1 x2) (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 xs0 xs1 xs2).2.2.2.2.1 := by
  have hA := (cov_ld arg27.view _ _ (a2_pieces c arg1 harg1 arg4 harg4 arg5 harg5 arg6 harg6 arg7 harg7 arg9 harg9 arg10 harg10 arg11 harg11 arg23 harg23 arg26 arg29 arg30 x0 x3 x4 x5 x6 x8 x9 x10 xs0) (View.cover_of_tiledL _ S16x512.size (by sl_kernel_rfl)) (Rect.unit (s := S288x512) ![0, 0] S288x512.size (by decide))).trans (ld_whole _ _ (by decide))
  refine ⟨?_, ?_, ?_, ?_, ?_, ?_, ?_, ?_, trivial⟩
  · have h := hq_piece 1792 slices_S1x2048_o0_1792_S1x256 (by decide) hA (p24 _ harg24 xs1 ![0, 1792] (by decide)) (r13 _ harg13 x12) (r14 _ harg14 x13) (read_sc harg1 x0 (by decide) (by decide)) (read_sc harg2 x1 (by decide) (by decide)) (read_sc harg3 x2 (by decide) (by decide)) (by decide)
    exact h
  · have h := hq_piece 1536 slices_S1x2048_o0_1536_S1x256 (by decide) hA (p24 _ harg24 xs1 ![0, 1536] (by decide)) (r13 _ harg13 x12) (r14 _ harg14 x13) (read_sc harg1 x0 (by decide) (by decide)) (read_sc harg2 x1 (by decide) (by decide)) (read_sc harg3 x2 (by decide) (by decide)) (by decide)
    exact h
  · have h := hq_piece 1280 slices_S1x2048_o0_1280_S1x256 (by decide) hA (p24 _ harg24 xs1 ![0, 1280] (by decide)) (r13 _ harg13 x12) (r14 _ harg14 x13) (read_sc harg1 x0 (by decide) (by decide)) (read_sc harg2 x1 (by decide) (by decide)) (read_sc harg3 x2 (by decide) (by decide)) (by decide)
    exact h
  · have h := hq_piece 1024 slices_S1x2048_o0_1024_S1x256 (by decide) hA (p24 _ harg24 xs1 ![0, 1024] (by decide)) (r13 _ harg13 x12) (r14 _ harg14 x13) (read_sc harg1 x0 (by decide) (by decide)) (read_sc harg2 x1 (by decide) (by decide)) (read_sc harg3 x2 (by decide) (by decide)) (by decide)
    exact h
  · have h := hq_piece 768 slices_S1x2048_o0_768_S1x256 (by decide) hA (p24 _ harg24 xs1 ![0, 768] (by decide)) (r13 _ harg13 x12) (r14 _ harg14 x13) (read_sc harg1 x0 (by decide) (by decide)) (read_sc harg2 x1 (by decide) (by decide)) (read_sc harg3 x2 (by decide) (by decide)) (by decide)
    exact h
  · have h := hq_piece 512 slices_S1x2048_o0_512_S1x256 (by decide) hA (p24 _ harg24 xs1 ![0, 512] (by decide)) (r13 _ harg13 x12) (r14 _ harg14 x13) (read_sc harg1 x0 (by decide) (by decide)) (read_sc harg2 x1 (by decide) (by decide)) (read_sc harg3 x2 (by decide) (by decide)) (by decide)
    exact h
  · have h := hq_piece 256 slices_S1x2048_o0_256_S1x256 (by decide) hA (p24 _ harg24 xs1 ![0, 256] (by decide)) (r13 _ harg13 x12) (r14 _ harg14 x13) (read_sc harg1 x0 (by decide) (by decide)) (read_sc harg2 x1 (by decide) (by decide)) (read_sc harg3 x2 (by decide) (by decide)) (by decide)
    exact h
  · have h := hq_piece 0 slices_S1x2048_o0_0_S1x256 (by decide) hA (p24 _ harg24 xs1 ![0, 0] (by decide)) (r13 _ harg13 x12) (r14 _ harg14 x13) (read_sc harg1 x0 (by decide) (by decide)) (read_sc harg2 x1 (by decide) (by decide)) (read_sc harg3 x2 (by decide) (by decide)) (by decide)
    exact h

theorem out_21 : out0_B_21 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 xs0 xs1 xs2 = (hqOut (lhsA2 (x1Arr x3 x5 x6 xs0 x8 x4) x9 x10 x0) xs1 x12 x13 x0 x1 x2) := by
  unfold out0_B_21
  rw [View.read_writes_eq_canon _ _ _ (cover0_B_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 xs0 xs1 xs2)]
  exact funext fun y => View.canon_apply_of_pieces _ _ (pieces_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 xs0 xs1 xs2).mem y (cover0_B_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 hc0 x0 x1 x2 x3 x4 x5 x6 x7 x8 x9 x10 x11 x12 x13 x14 x15 x16 xs0 xs1 xs2 y)

end Cert.Tail.CaseB

end
-- ==== Proof.Arrays.lean ====
/- The five arrays the kernel leaves: every point's weights are the unpacked ones, every block its part of the formulas. -/
module

public import proofs.«01_k».proof.Proof.Arguments
public import proofs.«01_k».proof.Proof.CaseA
public import proofs.«01_k».proof.Proof.CaseB

@[expose] public section

noncomputable section

namespace Cert.Tail

open Idealize.ShloMosaic Idealize.ShloMosaic.TcCoe Cert.KernelIdeal Cert.KernelIdeal.Gen Cert.KernelIdeal.Value

/-- The contents of an array over the extended reals. -/
local notation "𝕍" => Vec (Idealize.ShloMosaic.Ideal)

variable (m : (ℓ : Loc nD τ sig) → Buf (Elt Ideal) ℓ) (c : Dev nD)

theorem lt7 {n : Nat} (h : n < cfg0.N) : n < 7 := lt_of_lt_of_eq h N_0

/-- After every point the scratch holds the unpacked weights: the first point unpacks them, the others keep them. -/
theorem carried : ∀ (n : Nat) (hn : n < cfg0.N),
    (outsAt0 m c n hn).2.2.2.2.2.1 = (W0 (m ((c : Thread nD τ).loc main_arg4)))
    ∧ (outsAt0 m c n hn).2.2.2.2.2.2.1 = (W1 (m ((c : Thread nD τ).loc main_arg9)))
    ∧ (outsAt0 m c n hn).2.2.2.2.2.2.2 = (W2 (m ((c : Thread nD τ).loc main_arg14)))
  | 0, hn => by
    rw [outsAt0_A m c ⟨0, hn⟩ rfl]
    dsimp only
    rw [← blk7 m c ⟨0, lt7 hn⟩, ← blk11 m c ⟨0, lt7 hn⟩, ← blk14 m c ⟨0, lt7 hn⟩]
    exact ⟨CaseA.w_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩), CaseA.w_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩), CaseA.w_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩)⟩
  | n + 1, hn => by
    have h7 := lt7 hn
    rw [outsAt0_B m c ⟨n + 1, hn⟩ (by show ¬ (n + 1) % 7 = 0; omega)]
    exact carried n (Nat.lt_of_succ_lt hn)

theorem point17 (t : Fin cfg0.N) : (outsAt0 m c t.val t.isLt).1
    = yOut (x1Arr (iblk m c 3 t) (iblk m c 5 t) (iblk m c 6 t) (W0 (iblk m c 7 t)) (iblk m c 8 t) (iblk m c 4 t)) (lhsH (lhsA2 (x1Arr (iblk m c 3 t) (iblk m c 5 t) (iblk m c 6 t) (W0 (iblk m c 7 t)) (iblk m c 8 t) (iblk m c 4 t)) (iblk m c 9 t) (iblk m c 10 t) (iblk m c 0 t)) (W1 (iblk m c 11 t)) (iblk m c 12 t) (iblk m c 13 t) (iblk m c 0 t) (iblk m c 1 t) (iblk m c 2 t)) (W2 (iblk m c 14 t)) (iblk m c 1 t) (iblk m c 15 t) (iblk m c 16 t) := by
  by_cases h0 : t.val % 7 = 0
  · have f := congrArg (fun o => o.1) (outsAt0_A m c t h0)
    dsimp only at f
    rw [f]
    rw [CaseA.out_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)]
  · have f := congrArg (fun o => o.1) (outsAt0_B m c t h0)
    dsimp only at f
    rw [f]
    rw [CaseB.out_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2]
    obtain ⟨s0, s1, s2⟩ := carried m c (t.val - 1) (Nat.lt_of_le_of_lt (Nat.sub_le _ _) t.isLt)
    rw [s0, s1, s2, ← blk7 m c t, ← blk11 m c t, ← blk14 m c t]

theorem point18 (t : Fin cfg0.N) : (outsAt0 m c t.val t.isLt).2.1
    = onOut (iblk m c 3 t) (iblk m c 5 t) (iblk m c 6 t) := by
  by_cases h0 : t.val % 7 = 0
  · have f := congrArg (fun o => o.2.1) (outsAt0_A m c t h0)
    dsimp only at f
    rw [f]
    rw [CaseA.out_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)]
  · have f := congrArg (fun o => o.2.1) (outsAt0_B m c t h0)
    dsimp only at f
    rw [f]
    rw [CaseB.out_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2]

theorem point19 (t : Fin cfg0.N) : (outsAt0 m c t.val t.isLt).2.2.1
    = onsOut (iblk m c 3 t) (iblk m c 5 t) (iblk m c 6 t) := by
  by_cases h0 : t.val % 7 = 0
  · have f := congrArg (fun o => o.2.2.1) (outsAt0_A m c t h0)
    dsimp only at f
    rw [f]
    rw [CaseA.out_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)]
  · have f := congrArg (fun o => o.2.2.1) (outsAt0_B m c t h0)
    dsimp only at f
    rw [f]
    rw [CaseB.out_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2]

theorem point20 (t : Fin cfg0.N) : (outsAt0 m c t.val t.isLt).2.2.2.1
    = a2Out (x1Arr (iblk m c 3 t) (iblk m c 5 t) (iblk m c 6 t) (W0 (iblk m c 7 t)) (iblk m c 8 t) (iblk m c 4 t)) (iblk m c 9 t) (iblk m c 10 t) (iblk m c 0 t) := by
  by_cases h0 : t.val % 7 = 0
  · have f := congrArg (fun o => o.2.2.2.1) (outsAt0_A m c t h0)
    dsimp only at f
    rw [f]
    rw [CaseA.out_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)]
  · have f := congrArg (fun o => o.2.2.2.1) (outsAt0_B m c t h0)
    dsimp only at f
    rw [f]
    rw [CaseB.out_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2]
    obtain ⟨s0, s1, s2⟩ := carried m c (t.val - 1) (Nat.lt_of_le_of_lt (Nat.sub_le _ _) t.isLt)
    rw [s0, ← blk7 m c t]

theorem point21 (t : Fin cfg0.N) : (outsAt0 m c t.val t.isLt).2.2.2.2.1
    = hqOut (lhsA2 (x1Arr (iblk m c 3 t) (iblk m c 5 t) (iblk m c 6 t) (W0 (iblk m c 7 t)) (iblk m c 8 t) (iblk m c 4 t)) (iblk m c 9 t) (iblk m c 10 t) (iblk m c 0 t)) (W1 (iblk m c 11 t)) (iblk m c 12 t) (iblk m c 13 t) (iblk m c 0 t) (iblk m c 1 t) (iblk m c 2 t) := by
  by_cases h0 : t.val % 7 = 0
  · have f := congrArg (fun o => o.2.2.2.2.1) (outsAt0_A m c t h0)
    dsimp only at f
    rw [f]
    rw [CaseA.out_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)]
  · have f := congrArg (fun o => o.2.2.2.2.1) (outsAt0_B m c t h0)
    dsimp only at f
    rw [f]
    rw [CaseB.out_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2]
    obtain ⟨s0, s1, s2⟩ := carried m c (t.val - 1) (Nat.lt_of_le_of_lt (Nat.sub_le _ _) t.isLt)
    rw [s0, s1, ← blk7 m c t, ← blk11 m c t]

theorem arr17 (hT : (inK m c).Tame) : G17 m c = fun i : S252x8x512.Idx => (inK m c).out (i 0) (i 1) (i 2) := by
  funext i
  have h0 : (i 0).val < 252 := (i 0).isLt
  have h1 : (i 1).val < 8 := (i 1).isLt
  have h2 : (i 2).val < 512 := (i 2).isLt
  have hp : pt17Of i = (i 0).val / 36 := by
    show 1 * ((i 0).val / 36 - 0) + 1 * ((i 1).val / 8 - 0) + 1 * ((i 2).val / 512 - 0) = _
    omega
  have h7 : pt17Of i < 7 := by omega
  unfold G17
  rw [dif_pos (show pt17Of i < cfg0.N from h7), ← outsAt0_sweep m c (pt17Of i) h7, point17 m c ⟨pt17Of i, h7⟩]
  have hl : loc17Of i = ix3 (⟨(i 0).val % 36, Nat.mod_lt _ (by decide)⟩ : Fin 36) (i 1) (i 2) := by
    funext a
    apply Fin.ext
    match a with
    | ⟨0, _⟩ => rfl
    | ⟨1, _⟩ => exact Nat.mod_eq_of_lt h1
    | ⟨2, _⟩ => exact Nat.mod_eq_of_lt h2
  rw [hl]
  refine ((holds m c ⟨pt17Of i, h7⟩).y hT _ _ _).trans ?_
  have hP : pixel ⟨pt17Of i, h7⟩ ⟨(i 0).val % 36, Nat.mod_lt _ (by decide)⟩ = i 0 := Fin.ext (by
    show 36 * pt17Of i + (i 0).val % 36 = (i 0).val
    omega)
  rw [hP]

theorem arr18 : G18 m c = fun i : S252x8x1024.Idx => (inK m c).on (i 0) (i 1) (i 2) := by
  funext i
  have h0 : (i 0).val < 252 := (i 0).isLt
  have h1 : (i 1).val < 8 := (i 1).isLt
  have h2 : (i 2).val < 1024 := (i 2).isLt
  have hp : pt18Of i = (i 0).val / 36 := by
    show 1 * ((i 0).val / 36 - 0) + 1 * ((i 1).val / 8 - 0) + 1 * ((i 2).val / 1024 - 0) = _
    omega
  have h7 : pt18Of i < 7 := by omega
  unfold G18
  rw [dif_pos (show pt18Of i < cfg0.N from h7), ← outsAt0_sweep m c (pt18Of i) h7, point18 m c ⟨pt18Of i, h7⟩]
  have hl : loc18Of i = ix3 (⟨(i 0).val % 36, Nat.mod_lt _ (by decide)⟩ : Fin 36) (i 1) (i 2) := by
    funext a
    apply Fin.ext
    match a with
    | ⟨0, _⟩ => rfl
    | ⟨1, _⟩ => exact Nat.mod_eq_of_lt h1
    | ⟨2, _⟩ => exact Nat.mod_eq_of_lt h2
  rw [hl]
  refine ((holds m c ⟨pt18Of i, h7⟩).on _ _ _).trans ?_
  have hP : pixel ⟨pt18Of i, h7⟩ ⟨(i 0).val % 36, Nat.mod_lt _ (by decide)⟩ = i 0 := Fin.ext (by
    show 36 * pt18Of i + (i 0).val % 36 = (i 0).val
    omega)
  rw [hP]

theorem arr20 (hT : (inK m c).Tame) : G20 m c = fun i : S252x8x512.Idx => (inK m c).a2 (i 0) (i 1) (i 2) := by
  funext i
  have h0 : (i 0).val < 252 := (i 0).isLt
  have h1 : (i 1).val < 8 := (i 1).isLt
  have h2 : (i 2).val < 512 := (i 2).isLt
  have hp : pt20Of i = (i 0).val / 36 := by
    show 1 * ((i 0).val / 36 - 0) + 1 * ((i 1).val / 8 - 0) + 1 * ((i 2).val / 512 - 0) = _
    omega
  have h7 : pt20Of i < 7 := by omega
  unfold G20
  rw [dif_pos (show pt20Of i < cfg0.N from h7), ← outsAt0_sweep m c (pt20Of i) h7, point20 m c ⟨pt20Of i, h7⟩]
  have hl : loc20Of i = ix3 (⟨(i 0).val % 36, Nat.mod_lt _ (by decide)⟩ : Fin 36) (i 1) (i 2) := by
    funext a
    apply Fin.ext
    match a with
    | ⟨0, _⟩ => rfl
    | ⟨1, _⟩ => exact Nat.mod_eq_of_lt h1
    | ⟨2, _⟩ => exact Nat.mod_eq_of_lt h2
  rw [hl]
  refine ((holds m c ⟨pt20Of i, h7⟩).a2 hT _ _ _).trans ?_
  have hP : pixel ⟨pt20Of i, h7⟩ ⟨(i 0).val % 36, Nat.mod_lt _ (by decide)⟩ = i 0 := Fin.ext (by
    show 36 * pt20Of i + (i 0).val % 36 = (i 0).val
    omega)
  rw [hP]

theorem arr21 (hT : (inK m c).Tame) : G21 m c = fun i : S252x8x2048.Idx => BitVec.setWidth 8 ((inK m c).hid (i 0) (i 1) (i 2)) := by
  funext i
  have h0 : (i 0).val < 252 := (i 0).isLt
  have h1 : (i 1).val < 8 := (i 1).isLt
  have h2 : (i 2).val < 2048 := (i 2).isLt
  have hp : pt21Of i = (i 0).val / 36 := by
    show 1 * ((i 0).val / 36 - 0) + 1 * ((i 1).val / 8 - 0) + 1 * ((i 2).val / 2048 - 0) = _
    omega
  have h7 : pt21Of i < 7 := by omega
  unfold G21
  rw [dif_pos (show pt21Of i < cfg0.N from h7), ← outsAt0_sweep m c (pt21Of i) h7, point21 m c ⟨pt21Of i, h7⟩]
  have hl : loc21Of i = ix3 (⟨(i 0).val % 36, Nat.mod_lt _ (by decide)⟩ : Fin 36) (i 1) (i 2) := by
    funext a
    apply Fin.ext
    match a with
    | ⟨0, _⟩ => rfl
    | ⟨1, _⟩ => exact Nat.mod_eq_of_lt h1
    | ⟨2, _⟩ => exact Nat.mod_eq_of_lt h2
  rw [hl]
  refine ((holds m c ⟨pt21Of i, h7⟩).hq hT _ _ _).trans ?_
  have hP : pixel ⟨pt21Of i, h7⟩ ⟨(i 0).val % 36, Nat.mod_lt _ (by decide)⟩ = i 0 := Fin.ext (by
    show 36 * pt21Of i + (i 0).val % 36 = (i 0).val
    omega)
  rw [hP]

/-- The scales, by row of pixels. -/
theorem arr19 : G19 m c = fun i : S14x8x18.Idx => (inK m c).ons ⟨18 * (i 0).val + (i 2).val, by
    have h0 : (i 0).val < 14 := (i 0).isLt
    have h2 : (i 2).val < 18 := (i 2).isLt
    omega⟩ (i 1) := by
  funext i
  have h0 : (i 0).val < 14 := (i 0).isLt
  have h1 : (i 1).val < 8 := (i 1).isLt
  have h2 : (i 2).val < 18 := (i 2).isLt
  have hp : pt19Of i = (i 0).val / 2 := by
    show 1 * ((i 0).val / 2 - 0) + 1 * ((i 1).val / 8 - 0) + 1 * ((i 2).val / 18 - 0) = _
    omega
  have h7 : pt19Of i < 7 := by omega
  unfold G19
  rw [dif_pos (show pt19Of i < cfg0.N from h7), ← outsAt0_sweep m c (pt19Of i) h7, point19 m c ⟨pt19Of i, h7⟩]
  have hl : loc19Of i = ix3 (⟨(i 0).val % 2, Nat.mod_lt _ (by decide)⟩ : Fin 2) (i 1) (i 2) := by
    funext a
    apply Fin.ext
    match a with
    | ⟨0, _⟩ => rfl
    | ⟨1, _⟩ => exact Nat.mod_eq_of_lt h1
    | ⟨2, _⟩ => exact Nat.mod_eq_of_lt h2
  rw [hl]
  refine ((holds m c ⟨pt19Of i, h7⟩).ons _ _ _).trans ?_
  congr 1
  apply Fin.ext
  show 36 * pt19Of i + (18 * ((i 0).val % 2) + (i 2).val) = 18 * (i 0).val + (i 2).val
  omega

end Cert.Tail

end
-- ==== Proof.RefRows.lean ====
/- What the reference's operations leave, read at an index: every token's row is the plain formula. -/
module

public import proofs.«01_k».proof.Proof.Gen.ReferenceIdeal.Frame
public import proofs.«01_k».proof.Proof.Laws

@[expose] public section

set_option maxRecDepth 16384

noncomputable section

namespace Cert.TailRef

open Idealize.ShloMosaic Cert.Tail Cert.ReferenceIdeal Cert.ReferenceIdeal.Gen
open scoped BigOperators

/-- The contents of an array over the extended reals. -/
local notation "𝕍" => Vec (Idealize.ShloMosaic.Ideal)

/-- Rounding and clipping an array to bytes. -/
def clip {s : Shape} (lo hi : BitVec 32) (X : 𝕍 s .f32) : 𝕍 s .i8 :=
  fptosi (F := Ideal) (φ := .f32) 8 (minimumf (broadcast s (Scalar.sitofp .f32 hi)) (maximumf (broadcast s (Scalar.sitofp .f32 lo)) (roundeven X)))

theorem clip_at {s : Shape} (lo hi : BitVec 32) (X : 𝕍 s .f32) (i : s.Idx) : clip lo hi X i
    = Ideal.fptosi 8 (min (((hi.toInt : ℝ)) : EReal) (max (((lo.toInt : ℝ)) : EReal) (Ideal.liftRound Ideal.roundHalfEven (X i)))) := rfl

section Norm

variable (Y : 𝕍 S252x8x1024 .f32) (g b : 𝕍 S1024 .f32) (P : Fin 252) (r : Fin 8)

theorem pay2_at (l : Fin 1024) : k0_pay2 (F := Ideal) Y g b (ix3 P r l)
    = oR (fun l => Y (ix3 P r l)) (fun l => g (ix1 l)) (fun l => b (ix1 l)) l := by
  pointwise [k0_pay2]
  rfl

theorem pay3_at : k0_pay3 (F := Ideal) Y g b (ix3 P r 0)
    = scaleR (oR (fun l => Y (ix3 P r l)) (fun l => g (ix1 l)) (fun l => b (ix1 l))) := by
  pointwise [k0_pay3]
  simp only [pay2_at]
  rfl

theorem pay4_at (l : Fin 1024) : k0_pay4 (F := Ideal) Y g b (ix3 P r l)
    = qR (oR (fun l => Y (ix3 P r l)) (fun l => g (ix1 l)) (fun l => b (ix1 l))) l := by
  have h : divf (F := Ideal) (φ := .f32) (k0_pay2 (F := Ideal) Y g b)
      (broadcastTo S252x8x1024 (k0_pay3 (F := Ideal) Y g b) broadcasts_S252x8x1_S252x8x1024) (ix3 P r l)
      = Ideal.div (k0_pay2 (F := Ideal) Y g b (ix3 P r l)) (k0_pay3 (F := Ideal) Y g b (ix3 P r 0)) := by
    pointwise []
  have e : k0_pay4 (F := Ideal) Y g b = clip 4294967169#32 127#32 (divf (F := Ideal) (φ := .f32) (k0_pay2 (F := Ideal) Y g b)
      (broadcastTo S252x8x1024 (k0_pay3 (F := Ideal) Y g b) broadcasts_S252x8x1_S252x8x1024)) := rfl
  rw [e, clip_at, h, pay2_at, pay3_at]
  unfold qR quantR
  rfl

end Norm

theorem pay5_at (s : 𝕍 S252x8x1 .f32) (h : Fin 14) (r : Fin 8) (w : Fin 18) : k0_pay5 (F := Ideal) s (ix3 h r w)
    = s (ix3 ⟨h.val * 18 + w.val, by omega⟩ r 0) := by
  pointwise [k0_pay5]

theorem pay6_at (X : 𝕍 S252x8x512 .bf16) (P : Fin 252) (r : Fin 8) (d : Fin 512) :
    k0_pay6 (F := Ideal) X (ix3 P r d) = X (ix3 P r d) := by
  pointwise [k0_pay6]

theorem pay7_at (Q : 𝕍 S252x8x1024 .i8) (W : 𝕍 S1024x256 .i8) (t : Fin 2016) (d : Fin 512) :
    k0_pay7 (F := Ideal) Q W (ix2 t d)
    = ∑ k, byte (Q (ix3 ⟨t.val / 8, by omega⟩ ⟨t.val % 8, by omega⟩ k)) * wOut loR hiR (fun k j => W (ix2 k j)) k d := by
  pointwise [k0_pay7]
  rfl

theorem pay8_at (s : 𝕍 S252x8x1 .f32) (x : 𝕍 S252x8x512 .f32) (acc : 𝕍 S2016x512 .f32) (w : 𝕍 S512 .f32)
    (P : Fin 252) (r : Fin 8) (d : Fin 512) : k0_pay8 (F := Ideal) s x acc w (ix3 P r d)
    = x (ix3 P r d) + acc (ix2 ⟨P.val * 8 + r.val, by omega⟩ d) * s (ix3 P r 0) * w (ix1 d) := by
  pointwise [k0_pay8]

/-- The second norm over its scale. -/
def second (v33 : 𝕍 S252x8x1 .f32) (v77 : 𝕍 S252x8x512 .f32) (v81 : 𝕍 S2016x512 .f32) (v85 v90 v91 : 𝕍 S512 .f32) (v114 : Elt Ideal .f32) : 𝕍 S252x8x512 .f32 :=
  have v92 : FVec Ideal S252x8 .f32 := multiReduction .add [2] S252x8 (k0_pay8 (F := Ideal) v33 v77 v81 v85) 0x00000000#32 reduces_S252x8x512_S252x8 (.inl rfl) rfl
  have v93 : FVec Ideal S252x8x1 .f32 := shapeCast S252x8x1 v92 shapeCasts_S252x8_S252x8x1
  have cst_31 : Ideal .f32 := Scalar.ofBits .f32 0x44000000#32
  have v94 : FVec Ideal S252x8x1 .f32 := broadcast S252x8x1 cst_31
  have v95 : FVec Ideal S252x8x1 .f32 := divf v93 v94
  have v96 : FVec Ideal S252x8x512 .f32 := broadcastTo S252x8x512 v95 broadcasts_S252x8x1_S252x8x512
  have v97 : FVec Ideal S252x8x512 .f32 := subf (k0_pay8 (F := Ideal) v33 v77 v81 v85) v96
  have v98 : FVec Ideal S252x8x512 .f32 := mulf v97 v97
  have v99 : FVec Ideal S252x8 .f32 := multiReduction .add [2] S252x8 v98 0x00000000#32 reduces_S252x8x512_S252x8 (.inl rfl) rfl
  have v100 : FVec Ideal S252x8x1 .f32 := shapeCast S252x8x1 v99 shapeCasts_S252x8_S252x8x1
  have cst_33 : Ideal .f32 := Scalar.ofBits .f32 0x44000000#32
  have v101 : FVec Ideal S252x8x1 .f32 := broadcast S252x8x1 cst_33
  have v102 : FVec Ideal S252x8x1 .f32 := divf v100 v101
  have cst_34 : Ideal .f32 := Scalar.ofBits .f32 0x3727C5AC#32
  have v103 : FVec Ideal S252x8x1 .f32 := broadcast S252x8x1 cst_34
  have v104 : FVec Ideal S252x8x1 .f32 := addf v102 v103
  have v105 : FVec Ideal S252x8x1 .f32 := sqrt v104
  have v106 : FVec Ideal S252x8x512 .f32 := broadcastTo S252x8x512 v105 broadcasts_S252x8x1_S252x8x512
  have v107 : FVec Ideal S252x8x512 .f32 := divf v97 v106
  have v108 : FVec Ideal S1x1x512 .f32 := shapeCast S1x1x512 v90 shapeCasts_S512_S1x1x512
  have v109 : FVec Ideal S252x8x512 .f32 := broadcastTo S252x8x512 v108 broadcasts_S1x1x512_S252x8x512
  have v110 : FVec Ideal S252x8x512 .f32 := mulf v107 v109
  have v111 : FVec Ideal S1x1x512 .f32 := shapeCast S1x1x512 v91 shapeCasts_S512_S1x1x512
  have v112 : FVec Ideal S252x8x512 .f32 := broadcastTo S252x8x512 v111 broadcasts_S1x1x512_S252x8x512
  have v113 : FVec Ideal S252x8x512 .f32 := addf v110 v112
  have v115 : FVec Ideal S252x8x512 .f32 := broadcast S252x8x512 v114
  have v116 : FVec Ideal S252x8x512 .f32 := divf v113 v115
  v116

theorem second_at (s : 𝕍 S252x8x1 .f32) (x : 𝕍 S252x8x512 .f32) (acc : 𝕍 S2016x512 .f32) (w g b : 𝕍 S512 .f32) (sa : Elt Ideal .f32)
    (P : Fin 252) (r : Fin 8) (d : Fin 512) : second s x acc w g b sa (ix3 P r d)
    = Ideal.div (normR (Ideal.ofBits .f32 0x44000000#32) (fun d => k0_pay8 (F := Ideal) s x acc w (ix3 P r d)) d * g (ix1 d) + b (ix1 d)) sa := by
  pointwise [second]
  rfl

theorem pay9_at (s : 𝕍 S252x8x1 .f32) (x : 𝕍 S252x8x512 .f32) (acc : 𝕍 S2016x512 .f32) (w g b : 𝕍 S512 .f32) (sa : Elt Ideal .f32)
    (P : Fin 252) (r : Fin 8) (d : Fin 512) : k0_pay9 (F := Ideal) s x acc w g b sa (ix3 P r d)
    = a2R (fun d => k0_pay8 (F := Ideal) s x acc w (ix3 P r d)) (fun d => g (ix1 d)) (fun d => b (ix1 d)) sa d := by
  have e : k0_pay9 (F := Ideal) s x acc w g b sa = clip 4294967169#32 127#32 (second s x acc w g b sa) := rfl
  rw [e, clip_at, second_at]
  unfold a2R quantR
  rfl

theorem pay10_at (A : 𝕍 S252x8x512 .i8) (W : 𝕍 S256x2048 .i8) (s : Elt Ideal .f32) (w b : 𝕍 S2048 .f32)
    (P : Fin 252) (r : Fin 8) (f : Fin 2048) : k0_pay10 (F := Ideal) A W s w b (ix3 P r f)
    = (∑ k, byte (A (ix3 P r k)) * wFc1 loR hiR (fun k j => W (ix2 k j)) k f) * s * w (ix1 f) + b (ix1 f) := by
  pointwise [k0_pay10]
  rfl

theorem pay11_at (A : 𝕍 S252x8x512 .i8) (W : 𝕍 S256x2048 .i8) (s : Elt Ideal .f32) (w b : 𝕍 S2048 .f32)
    (P : Fin 252) (r : Fin 8) (f : Fin 2048) : k0_pay11 (F := Ideal) A W s w b (ix3 P r f)
    = Ideal.ofBits .f32 0x3F000000#32 * k0_pay10 (F := Ideal) A W s w b (ix3 P r f) := by
  pointwise [k0_pay11]

theorem pay12_at (P : Fin 252) (r : Fin 8) (f : Fin 2048) : k0_pay12 (F := Ideal) (ix3 P r f) = rs2 := by
  pointwise [k0_pay12]
  rfl

theorem pay13_at (v h e : 𝕍 S252x8x2048 .f32) (s : Elt Ideal .f32) (z : BitVec 32) (P : Fin 252) (r : Fin 8) (f : Fin 2048) :
    k0_pay13 (F := Ideal) v h e s z (ix3 P r f)
    = hidR (Ideal.div (h (ix3 P r f) * (1 + Ideal.erf (v (ix3 P r f) * e (ix3 P r f)))) s) z := by
  pointwise [k0_pay13]
  rfl

theorem pay14_at (v h e : 𝕍 S252x8x2048 .f32) (s : Elt Ideal .f32) (z : BitVec 32) (P : Fin 252) (r : Fin 8) (f : Fin 2048) :
    k0_pay14 (F := Ideal) v h e s z (ix3 P r f) = BitVec.setWidth 8 (k0_pay13 (F := Ideal) v h e s z (ix3 P r f)) := by
  pointwise [k0_pay14]

theorem pay15_at (v h e : 𝕍 S252x8x2048 .f32) (s : Elt Ideal .f32) (z u : BitVec 32) (P : Fin 252) (r : Fin 8) (f : Fin 2048) :
    k0_pay15 (F := Ideal) v h e s z u (ix3 P r f) = IntOp.subi (k0_pay13 (F := Ideal) v h e s z (ix3 P r f)) u := by
  pointwise [k0_pay15]

theorem pay1_at (x : 𝕍 S252x8x512 .f32) (H : 𝕍 S252x8x2048 .i32) (W : 𝕍 S1024x512 .i8) (s : Elt Ideal .f32) (w b : 𝕍 S512 .f32)
    (P : Fin 252) (r : Fin 8) (d : Fin 512) :
    k0_pay1 (F := Ideal) x H (k0_pay17 W) (k0_pay18 (F := Ideal) W) (k0_pay19 (F := Ideal) W) 16#32 s w b (ix3 P r d)
    = yR (fun d => x (ix3 P r d)) (fun f => (((H (ix3 P r f)).toInt : ℝ) : EReal)) (wFc2 loR hiR (fun k j => W (ix2 k j))) s
        (fun d => w (ix1 d)) (fun d => b (ix1 d)) d := by
  pointwise [k0_pay1, k0_pay17, k0_pay18, k0_pay19, k0_pay16]
  rfl

end Cert.TailRef

end
-- ==== Proof.RefCase.lean ====
/- What the reference's one block leaves: each output is one whole store of the plain formulas. -/
module

public import proofs.«01_k».proof.Proof.RefRows
public import proofs.«01_k».proof.Proof.Pieces

@[expose] public section

set_option maxRecDepth 16384

noncomputable section

namespace Cert.TailRef

open Idealize.ShloMosaic Cert.Tail Cert.ReferenceIdeal Cert.ReferenceIdeal.Gen

/-- The contents of an array over the extended reals. -/
local notation "𝕍" => Vec (Idealize.ShloMosaic.Ideal)

section Loads

variable {sp : Space} {S : Shape} {e : EltTy}

theorem read_ld {arg : Memref sig .tc sp S e} (h : arg.IsWhole) (X : 𝕍 S e) (r : Rect S) :
    arg.view.readAt (Elt Ideal) r.toLoadRect (h.unread X) = View.ld X r := by
  rw [View.readAt_eq_ld, h.read_unread]

theorem read_sc {arg : Memref sig .tc sp S1 e} (h : arg.IsWhole) (x : 𝕍 S1 e) (hin) (hf) :
    arg.view.readAt (Elt Ideal) (Rect.unit (s := S1) ![0] S1.size hin).toLoadRect (h.unread x) (Shape.Idx.first hf) = x (ix1 0) := by
  rw [TailRef.read_ld, ld_whole _ _ (by decide)]
  refine congrArg x ?_
  rw [eq_ix1 (Shape.Idx.first hf)]
  exact congrArg ix1 (Subsingleton.elim _ _)

end Loads

def on (x3 : 𝕍 S252x8x1024 .f32) (x5 : 𝕍 S1024 .f32) (x6 : 𝕍 S1024 .f32) : 𝕍 S252x8x1024 .i8 := k0_pay4 (F := Ideal) x3 x5 x6
def ons (x3 : 𝕍 S252x8x1024 .f32) (x5 : 𝕍 S1024 .f32) (x6 : 𝕍 S1024 .f32) : 𝕍 S14x8x18 .f32 := k0_pay5 (F := Ideal) (k0_pay3 (F := Ideal) x3 x5 x6)
def acc (x3 : 𝕍 S252x8x1024 .f32) (x5 x6 : 𝕍 S1024 .f32) (x7 : 𝕍 S1024x256 .i8) : 𝕍 S2016x512 .f32 := k0_pay7 (F := Ideal) (on x3 x5 x6) x7
def res (x3 : 𝕍 S252x8x1024 .f32) (x4 : 𝕍 S252x8x512 .bf16) (x5 x6 : 𝕍 S1024 .f32) (x7 : 𝕍 S1024x256 .i8) (x8 : 𝕍 S512 .f32) : 𝕍 S252x8x512 .f32 :=
  k0_pay8 (F := Ideal) (k0_pay3 (F := Ideal) x3 x5 x6) (k0_pay6 (F := Ideal) x4) (acc x3 x5 x6 x7) x8
def a2 (s0 : Elt Ideal .f32) (x3 : 𝕍 S252x8x1024 .f32) (x4 : 𝕍 S252x8x512 .bf16) (x5 : 𝕍 S1024 .f32) (x6 : 𝕍 S1024 .f32) (x7 : 𝕍 S1024x256 .i8) (x8 : 𝕍 S512 .f32) (x9 : 𝕍 S512 .f32) (x10 : 𝕍 S512 .f32) : 𝕍 S252x8x512 .i8 :=
  k0_pay9 (F := Ideal) (k0_pay3 (F := Ideal) x3 x5 x6) (k0_pay6 (F := Ideal) x4) (acc x3 x5 x6 x7) x8 x9 x10 s0
/-- The hidden layer as words. -/
def hid (s0 : Elt Ideal .f32) (s1 : Elt Ideal .f32) (s2 : Elt Ideal .i32) (x3 : 𝕍 S252x8x1024 .f32) (x4 : 𝕍 S252x8x512 .bf16) (x5 : 𝕍 S1024 .f32) (x6 : 𝕍 S1024 .f32) (x7 : 𝕍 S1024x256 .i8) (x8 : 𝕍 S512 .f32) (x9 : 𝕍 S512 .f32) (x10 : 𝕍 S512 .f32) (x11 : 𝕍 S256x2048 .i8) (x12 : 𝕍 S2048 .f32) (x13 : 𝕍 S2048 .f32) : 𝕍 S252x8x2048 .i32 :=
  k0_pay13 (F := Ideal) (k0_pay10 (F := Ideal) (a2 s0 x3 x4 x5 x6 x7 x8 x9 x10) x11 s0 x12 x13) (k0_pay11 (F := Ideal) (a2 s0 x3 x4 x5 x6 x7 x8 x9 x10) x11 s0 x12 x13)
    (k0_pay12 (F := Ideal)) s1 s2
def hq (s0 : Elt Ideal .f32) (s1 : Elt Ideal .f32) (s2 : Elt Ideal .i32) (x3 : 𝕍 S252x8x1024 .f32) (x4 : 𝕍 S252x8x512 .bf16) (x5 : 𝕍 S1024 .f32) (x6 : 𝕍 S1024 .f32) (x7 : 𝕍 S1024x256 .i8) (x8 : 𝕍 S512 .f32) (x9 : 𝕍 S512 .f32) (x10 : 𝕍 S512 .f32) (x11 : 𝕍 S256x2048 .i8) (x12 : 𝕍 S2048 .f32) (x13 : 𝕍 S2048 .f32) : 𝕍 S252x8x2048 .i8 :=
  k0_pay14 (F := Ideal) (k0_pay10 (F := Ideal) (a2 s0 x3 x4 x5 x6 x7 x8 x9 x10) x11 s0 x12 x13) (k0_pay11 (F := Ideal) (a2 s0 x3 x4 x5 x6 x7 x8 x9 x10) x11 s0 x12 x13)
    (k0_pay12 (F := Ideal)) s1 s2
def y (s0 : Elt Ideal .f32) (s1 : Elt Ideal .f32) (s2 : Elt Ideal .i32) (x3 : 𝕍 S252x8x1024 .f32) (x4 : 𝕍 S252x8x512 .bf16) (x5 : 𝕍 S1024 .f32) (x6 : 𝕍 S1024 .f32) (x7 : 𝕍 S1024x256 .i8) (x8 : 𝕍 S512 .f32) (x9 : 𝕍 S512 .f32) (x10 : 𝕍 S512 .f32) (x11 : 𝕍 S256x2048 .i8) (x12 : 𝕍 S2048 .f32) (x13 : 𝕍 S2048 .f32) (x14 : 𝕍 S1024x512 .i8) (x15 : 𝕍 S512 .f32) (x16 : 𝕍 S512 .f32) : 𝕍 S252x8x512 .bf16 :=
  k0_pay1 (F := Ideal) (res x3 x4 x5 x6 x7 x8)
    (k0_pay15 (F := Ideal) (k0_pay10 (F := Ideal) (a2 s0 x3 x4 x5 x6 x7 x8 x9 x10) x11 s0 x12 x13) (k0_pay11 (F := Ideal) (a2 s0 x3 x4 x5 x6 x7 x8 x9 x10) x11 s0 x12 x13)
      (k0_pay12 (F := Ideal)) s1 s2 s2)
    (k0_pay17 (F := Ideal) x14) (k0_pay18 (F := Ideal) x14) (k0_pay19 (F := Ideal) x14) 16#32 s1 x15 x16

theorem y_piece {s0 s0' : Elt Ideal .f32} (hs0 : s0' = s0) {s1 s1' : Elt Ideal .f32} (hs1 : s1' = s1) {s2 s2' : Elt Ideal .i32} (hs2 : s2' = s2) {x3 x3' : 𝕍 S252x8x1024 .f32} (h3 : x3' = x3) {x4 x4' : 𝕍 S252x8x512 .bf16} (h4 : x4' = x4) {x5 x5' : 𝕍 S1024 .f32} (h5 : x5' = x5) {x6 x6' : 𝕍 S1024 .f32} (h6 : x6' = x6) {x7 x7' : 𝕍 S1024x256 .i8} (h7 : x7' = x7) {x8 x8' : 𝕍 S512 .f32} (h8 : x8' = x8) {x9 x9' : 𝕍 S512 .f32} (h9 : x9' = x9) {x10 x10' : 𝕍 S512 .f32} (h10 : x10' = x10) {x11 x11' : 𝕍 S256x2048 .i8} (h11 : x11' = x11) {x12 x12' : 𝕍 S2048 .f32} (h12 : x12' = x12) {x13 x13' : 𝕍 S2048 .f32} (h13 : x13' = x13) {x14 x14' : 𝕍 S1024x512 .i8} (h14 : x14' = x14) {x15 x15' : 𝕍 S512 .f32} (h15 : x15' = x15) {x16 x16' : 𝕍 S512 .f32} (h16 : x16' = x16) (hin) (x : S252x8x512.Idx) :
    y s0' s1' s2' x3' x4' x5' x6' x7' x8' x9' x10' x11' x12' x13' x14' x15' x16' x = y s0 s1 s2 x3 x4 x5 x6 x7 x8 x9 x10 x11 x12 x13 x14 x15 x16 ((Rect.unit (s := S252x8x512) ![0, 0, 0] S252x8x512.size hin).emb x) := by
  subst hs0 hs1 hs2 h3 h4 h5 h6 h7 h8 h9 h10 h11 h12 h13 h14 h15 h16
  exact (congrFun (ld_whole hin (y s0' s1' s2' x3' x4' x5' x6' x7' x8' x9' x10' x11' x12' x13' x14' x15' x16') (by decide)) x).symm

theorem on_piece {x3 x3' : 𝕍 S252x8x1024 .f32} (h3 : x3' = x3) {x5 x5' : 𝕍 S1024 .f32} (h5 : x5' = x5) {x6 x6' : 𝕍 S1024 .f32} (h6 : x6' = x6) (hin) (x : S252x8x1024.Idx) :
    k0_pay4 (F := Ideal) x3' x5' x6' x = on x3 x5 x6 ((Rect.unit (s := S252x8x1024) ![0, 0, 0] S252x8x1024.size hin).emb x) := by
  subst h3 h5 h6
  exact (congrFun (ld_whole hin (on x3' x5' x6') (by decide)) x).symm

theorem ons_piece {x3 x3' : 𝕍 S252x8x1024 .f32} (h3 : x3' = x3) {x5 x5' : 𝕍 S1024 .f32} (h5 : x5' = x5) {x6 x6' : 𝕍 S1024 .f32} (h6 : x6' = x6) (hin) (x : S14x8x18.Idx) :
    ons x3' x5' x6' x = ons x3 x5 x6 ((Rect.unit (s := S14x8x18) ![0, 0, 0] S14x8x18.size hin).emb x) := by
  subst h3 h5 h6
  exact (congrFun (ld_whole hin (ons x3' x5' x6') (by decide)) x).symm

theorem a2_piece {s0 s0' : Elt Ideal .f32} (hs0 : s0' = s0) {x3 x3' : 𝕍 S252x8x1024 .f32} (h3 : x3' = x3) {x4 x4' : 𝕍 S252x8x512 .bf16} (h4 : x4' = x4) {x5 x5' : 𝕍 S1024 .f32} (h5 : x5' = x5) {x6 x6' : 𝕍 S1024 .f32} (h6 : x6' = x6) {x7 x7' : 𝕍 S1024x256 .i8} (h7 : x7' = x7) {x8 x8' : 𝕍 S512 .f32} (h8 : x8' = x8) {x9 x9' : 𝕍 S512 .f32} (h9 : x9' = x9) {x10 x10' : 𝕍 S512 .f32} (h10 : x10' = x10) (hin) (x : S252x8x512.Idx) :
    a2 s0' x3' x4' x5' x6' x7' x8' x9' x10' x = a2 s0 x3 x4 x5 x6 x7 x8 x9 x10 ((Rect.unit (s := S252x8x512) ![0, 0, 0] S252x8x512.size hin).emb x) := by
  subst hs0 h3 h4 h5 h6 h7 h8 h9 h10
  exact (congrFun (ld_whole hin (a2 s0' x3' x4' x5' x6' x7' x8' x9' x10') (by decide)) x).symm

theorem hq_piece {s0 s0' : Elt Ideal .f32} (hs0 : s0' = s0) {s1 s1' : Elt Ideal .f32} (hs1 : s1' = s1) {s2 s2' : Elt Ideal .i32} (hs2 : s2' = s2) {x3 x3' : 𝕍 S252x8x1024 .f32} (h3 : x3' = x3) {x4 x4' : 𝕍 S252x8x512 .bf16} (h4 : x4' = x4) {x5 x5' : 𝕍 S1024 .f32} (h5 : x5' = x5) {x6 x6' : 𝕍 S1024 .f32} (h6 : x6' = x6) {x7 x7' : 𝕍 S1024x256 .i8} (h7 : x7' = x7) {x8 x8' : 𝕍 S512 .f32} (h8 : x8' = x8) {x9 x9' : 𝕍 S512 .f32} (h9 : x9' = x9) {x10 x10' : 𝕍 S512 .f32} (h10 : x10' = x10) {x11 x11' : 𝕍 S256x2048 .i8} (h11 : x11' = x11) {x12 x12' : 𝕍 S2048 .f32} (h12 : x12' = x12) {x13 x13' : 𝕍 S2048 .f32} (h13 : x13' = x13) (hin) (x : S252x8x2048.Idx) :
    hq s0' s1' s2' x3' x4' x5' x6' x7' x8' x9' x10' x11' x12' x13' x = hq s0 s1 s2 x3 x4 x5 x6 x7 x8 x9 x10 x11 x12 x13 ((Rect.unit (s := S252x8x2048) ![0, 0, 0] S252x8x2048.size hin).emb x) := by
  subst hs0 hs1 hs2 h3 h4 h5 h6 h7 h8 h9 h10 h11 h12 h13
  exact (congrFun (ld_whole hin (hq s0' s1' s2' x3' x4' x5' x6' x7' x8' x9' x10' x11' x12' x13') (by decide)) x).symm

variable (c : Dev nD) (arg0 : Memref sig .tc .smem S1 .f32) (harg0 : arg0.IsWhole) (arg1 : Memref sig .tc .smem S1 .f32) (harg1 : arg1.IsWhole) (arg2 : Memref sig .tc .smem S1 .i32) (harg2 : arg2.IsWhole) (arg3 : Memref sig .tc .vmem S252x8x1024 .f32) (harg3 : arg3.IsWhole) (arg4 : Memref sig .tc .vmem S252x8x512 .bf16) (harg4 : arg4.IsWhole) (arg5 : Memref sig .tc .vmem S1024 .f32) (harg5 : arg5.IsWhole) (arg6 : Memref sig .tc .vmem S1024 .f32) (harg6 : arg6.IsWhole) (arg7 : Memref sig .tc .vmem S1024x256 .i8) (harg7 : arg7.IsWhole) (arg8 : Memref sig .tc .vmem S512 .f32) (harg8 : arg8.IsWhole) (arg9 : Memref sig .tc .vmem S512 .f32) (harg9 : arg9.IsWhole) (arg10 : Memref sig .tc .vmem S512 .f32) (harg10 : arg10.IsWhole) (arg11 : Memref sig .tc .vmem S256x2048 .i8) (harg11 : arg11.IsWhole) (arg12 : Memref sig .tc .vmem S2048 .f32) (harg12 : arg12.IsWhole) (arg13 : Memref sig .tc .vmem S2048 .f32) (harg13 : arg13.IsWhole) (arg14 : Memref sig .tc .vmem S1024x512 .i8) (harg14 : arg14.IsWhole) (arg15 : Memref sig .tc .vmem S512 .f32) (harg15 : arg15.IsWhole) (arg16 : Memref sig .tc .vmem S512 .f32) (harg16 : arg16.IsWhole) (arg17 : Memref sig .tc .vmem S252x8x512 .bf16) (harg17 : arg17.IsWhole) (arg18 : Memref sig .tc .vmem S252x8x1024 .i8) (harg18 : arg18.IsWhole) (arg19 : Memref sig .tc .vmem S14x8x18 .f32) (harg19 : arg19.IsWhole) (arg20 : Memref sig .tc .vmem S252x8x512 .i8) (harg20 : arg20.IsWhole) (arg21 : Memref sig .tc .vmem S252x8x2048 .i8) (harg21 : arg21.IsWhole)
  (x0 : 𝕍 S1 .f32) (x1 : 𝕍 S1 .f32) (x2 : 𝕍 S1 .i32) (x3 : 𝕍 S252x8x1024 .f32) (x4 : 𝕍 S252x8x512 .bf16) (x5 : 𝕍 S1024 .f32) (x6 : 𝕍 S1024 .f32) (x7 : 𝕍 S1024x256 .i8) (x8 : 𝕍 S512 .f32) (x9 : 𝕍 S512 .f32) (x10 : 𝕍 S512 .f32) (x11 : 𝕍 S256x2048 .i8) (x12 : 𝕍 S2048 .f32) (x13 : 𝕍 S2048 .f32) (x14 : 𝕍 S1024x512 .i8) (x15 : 𝕍 S512 .f32) (x16 : 𝕍 S512 .f32)

theorem pieces_17 : View.PiecesOf (y (x0 (ix1 0)) (x1 (ix1 0)) (x2 (ix1 0)) x3 x4 x5 x6 x7 x8 x9 x10 x11 x12 x13 x14 x15 x16) (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16).1 := by
  refine ⟨?_, trivial⟩
  have h := y_piece (TailRef.read_sc harg0 x0 (by decide) (by decide)) (TailRef.read_sc harg1 x1 (by decide) (by decide)) (TailRef.read_sc harg2 x2 (by decide) (by decide)) ((TailRef.read_ld harg3 x3 (Rect.unit (s := S252x8x1024) ![0, 0, 0] S252x8x1024.size (by decide))).trans (ld_whole _ _ (by decide))) ((TailRef.read_ld harg4 x4 (Rect.unit (s := S252x8x512) ![0, 0, 0] S252x8x512.size (by decide))).trans (ld_whole _ _ (by decide))) ((TailRef.read_ld harg5 x5 (Rect.unit (s := S1024) ![0] S1024.size (by decide))).trans (ld_whole _ _ (by decide))) ((TailRef.read_ld harg6 x6 (Rect.unit (s := S1024) ![0] S1024.size (by decide))).trans (ld_whole _ _ (by decide))) ((TailRef.read_ld harg7 x7 (Rect.unit (s := S1024x256) ![0, 0] S1024x256.size (by decide))).trans (ld_whole _ _ (by decide))) ((TailRef.read_ld harg8 x8 (Rect.unit (s := S512) ![0] S512.size (by decide))).trans (ld_whole _ _ (by decide))) ((TailRef.read_ld harg9 x9 (Rect.unit (s := S512) ![0] S512.size (by decide))).trans (ld_whole _ _ (by decide))) ((TailRef.read_ld harg10 x10 (Rect.unit (s := S512) ![0] S512.size (by decide))).trans (ld_whole _ _ (by decide))) ((TailRef.read_ld harg11 x11 (Rect.unit (s := S256x2048) ![0, 0] S256x2048.size (by decide))).trans (ld_whole _ _ (by decide))) ((TailRef.read_ld harg12 x12 (Rect.unit (s := S2048) ![0] S2048.size (by decide))).trans (ld_whole _ _ (by decide))) ((TailRef.read_ld harg13 x13 (Rect.unit (s := S2048) ![0] S2048.size (by decide))).trans (ld_whole _ _ (by decide))) ((TailRef.read_ld harg14 x14 (Rect.unit (s := S1024x512) ![0, 0] S1024x512.size (by decide))).trans (ld_whole _ _ (by decide))) ((TailRef.read_ld harg15 x15 (Rect.unit (s := S512) ![0] S512.size (by decide))).trans (ld_whole _ _ (by decide))) ((TailRef.read_ld harg16 x16 (Rect.unit (s := S512) ![0] S512.size (by decide))).trans (ld_whole _ _ (by decide))) (by decide)
  exact h

theorem out_17 : out0_A_17 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 = y (x0 (ix1 0)) (x1 (ix1 0)) (x2 (ix1 0)) x3 x4 x5 x6 x7 x8 x9 x10 x11 x12 x13 x14 x15 x16 := by
  unfold out0_A_17
  rw [View.read_writes_eq_canon _ _ _ (cover0_A_17 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16)]
  exact funext fun y => View.canon_apply_of_pieces _ _ (pieces_17 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16).mem y (cover0_A_17 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 y)

theorem pieces_18 : View.PiecesOf (on x3 x5 x6) (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16).2.1 := by
  refine ⟨?_, trivial⟩
  have h := on_piece ((TailRef.read_ld harg3 x3 (Rect.unit (s := S252x8x1024) ![0, 0, 0] S252x8x1024.size (by decide))).trans (ld_whole _ _ (by decide))) ((TailRef.read_ld harg5 x5 (Rect.unit (s := S1024) ![0] S1024.size (by decide))).trans (ld_whole _ _ (by decide))) ((TailRef.read_ld harg6 x6 (Rect.unit (s := S1024) ![0] S1024.size (by decide))).trans (ld_whole _ _ (by decide))) (by decide)
  exact h

theorem out_18 : out0_A_18 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 = on x3 x5 x6 := by
  unfold out0_A_18
  rw [View.read_writes_eq_canon _ _ _ (cover0_A_18 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16)]
  exact funext fun y => View.canon_apply_of_pieces _ _ (pieces_18 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16).mem y (cover0_A_18 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 y)

theorem pieces_19 : View.PiecesOf (ons x3 x5 x6) (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16).2.2.1 := by
  refine ⟨?_, trivial⟩
  have h := ons_piece ((TailRef.read_ld harg3 x3 (Rect.unit (s := S252x8x1024) ![0, 0, 0] S252x8x1024.size (by decide))).trans (ld_whole _ _ (by decide))) ((TailRef.read_ld harg5 x5 (Rect.unit (s := S1024) ![0] S1024.size (by decide))).trans (ld_whole _ _ (by decide))) ((TailRef.read_ld harg6 x6 (Rect.unit (s := S1024) ![0] S1024.size (by decide))).trans (ld_whole _ _ (by decide))) (by decide)
  intro x
  refine Eq.trans ?_ (h x)
  dsimp only
  unfold ons
  refine congrArg (fun q => k0_pay5 (F := Ideal) q x) ?_
  rfl

theorem out_19 : out0_A_19 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 = ons x3 x5 x6 := by
  unfold out0_A_19
  rw [View.read_writes_eq_canon _ _ _ (cover0_A_19 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16)]
  exact funext fun y => View.canon_apply_of_pieces _ _ (pieces_19 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16).mem y (cover0_A_19 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 y)

theorem pieces_20 : View.PiecesOf (a2 (x0 (ix1 0)) x3 x4 x5 x6 x7 x8 x9 x10) (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16).2.2.2.1 := by
  refine ⟨?_, trivial⟩
  have h := a2_piece (TailRef.read_sc harg0 x0 (by decide) (by decide)) ((TailRef.read_ld harg3 x3 (Rect.unit (s := S252x8x1024) ![0, 0, 0] S252x8x1024.size (by decide))).trans (ld_whole _ _ (by decide))) ((TailRef.read_ld harg4 x4 (Rect.unit (s := S252x8x512) ![0, 0, 0] S252x8x512.size (by decide))).trans (ld_whole _ _ (by decide))) ((TailRef.read_ld harg5 x5 (Rect.unit (s := S1024) ![0] S1024.size (by decide))).trans (ld_whole _ _ (by decide))) ((TailRef.read_ld harg6 x6 (Rect.unit (s := S1024) ![0] S1024.size (by decide))).trans (ld_whole _ _ (by decide))) ((TailRef.read_ld harg7 x7 (Rect.unit (s := S1024x256) ![0, 0] S1024x256.size (by decide))).trans (ld_whole _ _ (by decide))) ((TailRef.read_ld harg8 x8 (Rect.unit (s := S512) ![0] S512.size (by decide))).trans (ld_whole _ _ (by decide))) ((TailRef.read_ld harg9 x9 (Rect.unit (s := S512) ![0] S512.size (by decide))).trans (ld_whole _ _ (by decide))) ((TailRef.read_ld harg10 x10 (Rect.unit (s := S512) ![0] S512.size (by decide))).trans (ld_whole _ _ (by decide))) (by decide)
  exact h

theorem out_20 : out0_A_20 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 = a2 (x0 (ix1 0)) x3 x4 x5 x6 x7 x8 x9 x10 := by
  unfold out0_A_20
  rw [View.read_writes_eq_canon _ _ _ (cover0_A_20 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16)]
  exact funext fun y => View.canon_apply_of_pieces _ _ (pieces_20 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16).mem y (cover0_A_20 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 y)

theorem pieces_21 : View.PiecesOf (hq (x0 (ix1 0)) (x1 (ix1 0)) (x2 (ix1 0)) x3 x4 x5 x6 x7 x8 x9 x10 x11 x12 x13) (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16).2.2.2.2.1 := by
  refine ⟨?_, trivial⟩
  have h := hq_piece (TailRef.read_sc harg0 x0 (by decide) (by decide)) (TailRef.read_sc harg1 x1 (by decide) (by decide)) (TailRef.read_sc harg2 x2 (by decide) (by decide)) ((TailRef.read_ld harg3 x3 (Rect.unit (s := S252x8x1024) ![0, 0, 0] S252x8x1024.size (by decide))).trans (ld_whole _ _ (by decide))) ((TailRef.read_ld harg4 x4 (Rect.unit (s := S252x8x512) ![0, 0, 0] S252x8x512.size (by decide))).trans (ld_whole _ _ (by decide))) ((TailRef.read_ld harg5 x5 (Rect.unit (s := S1024) ![0] S1024.size (by decide))).trans (ld_whole _ _ (by decide))) ((TailRef.read_ld harg6 x6 (Rect.unit (s := S1024) ![0] S1024.size (by decide))).trans (ld_whole _ _ (by decide))) ((TailRef.read_ld harg7 x7 (Rect.unit (s := S1024x256) ![0, 0] S1024x256.size (by decide))).trans (ld_whole _ _ (by decide))) ((TailRef.read_ld harg8 x8 (Rect.unit (s := S512) ![0] S512.size (by decide))).trans (ld_whole _ _ (by decide))) ((TailRef.read_ld harg9 x9 (Rect.unit (s := S512) ![0] S512.size (by decide))).trans (ld_whole _ _ (by decide))) ((TailRef.read_ld harg10 x10 (Rect.unit (s := S512) ![0] S512.size (by decide))).trans (ld_whole _ _ (by decide))) ((TailRef.read_ld harg11 x11 (Rect.unit (s := S256x2048) ![0, 0] S256x2048.size (by decide))).trans (ld_whole _ _ (by decide))) ((TailRef.read_ld harg12 x12 (Rect.unit (s := S2048) ![0] S2048.size (by decide))).trans (ld_whole _ _ (by decide))) ((TailRef.read_ld harg13 x13 (Rect.unit (s := S2048) ![0] S2048.size (by decide))).trans (ld_whole _ _ (by decide))) (by decide)
  exact h

theorem out_21 : out0_A_21 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 = hq (x0 (ix1 0)) (x1 (ix1 0)) (x2 (ix1 0)) x3 x4 x5 x6 x7 x8 x9 x10 x11 x12 x13 := by
  unfold out0_A_21
  rw [View.read_writes_eq_canon _ _ _ (cover0_A_21 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16)]
  exact funext fun y => View.canon_apply_of_pieces _ _ (pieces_21 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16).mem y (cover0_A_21 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 y)

end Cert.TailRef

end
-- ==== Proof.RefOutcome.lean ====
/- The reference's composed formulas at an index, in the words of `In`. -/
module

public import proofs.«01_k».proof.Proof.RefCase
public import proofs.«01_k».proof.Proof.Outcome

@[expose] public section

set_option maxRecDepth 16384

noncomputable section

namespace Cert.TailRef

open Idealize.ShloMosaic Cert.Tail Cert.ReferenceIdeal Cert.ReferenceIdeal.Gen
open scoped BigOperators

/-- The contents of an array over the extended reals. -/
local notation "𝕍" => Vec (Idealize.ShloMosaic.Ideal)

variable (s0 s1 : EReal) (s2 : BitVec 32) (x3 : 𝕍 S252x8x1024 .f32) (x4 : 𝕍 S252x8x512 .bf16) (x5 : 𝕍 S1024 .f32) (x6 : 𝕍 S1024 .f32) (x7 : 𝕍 S1024x256 .i8) (x8 : 𝕍 S512 .f32) (x9 : 𝕍 S512 .f32) (x10 : 𝕍 S512 .f32) (x11 : 𝕍 S256x2048 .i8) (x12 : 𝕍 S2048 .f32) (x13 : 𝕍 S2048 .f32) (x14 : 𝕍 S1024x512 .i8) (x15 : 𝕍 S512 .f32) (x16 : 𝕍 S512 .f32)

/-- The arguments as the reference's body finds them. -/
def inX : In where
  sa := s0
  sh := s1
  z := s2
  y P r k := x3 (ix3 P r k)
  x P r d := x4 (ix3 P r d)
  og k := x5 (ix1 k)
  ob k := x6 (ix1 k)
  P0 k j := x7 (ix2 k j)
  ws k := x8 (ix1 k)
  lg k := x9 (ix1 k)
  lb k := x10 (ix1 k)
  P1 k j := x11 (ix2 k j)
  us k := x12 (ix1 k)
  ub k := x13 (ix1 k)
  P2 k j := x14 (ix2 k j)
  vs k := x15 (ix1 k)
  vb k := x16 (ix1 k)

variable (P : Fin 252) (r : Fin 8)

theorem on_at (k : Fin 1024) : on x3 x5 x6 (ix3 P r k) = (inX s0 s1 s2 x3 x4 x5 x6 x7 x8 x9 x10 x11 x12 x13 x14 x15 x16).on P r k :=
  pay4_at x3 x5 x6 P r k

theorem ons_at (h : Fin 14) (w : Fin 18) : ons x3 x5 x6 (ix3 h r w)
    = (inX s0 s1 s2 x3 x4 x5 x6 x7 x8 x9 x10 x11 x12 x13 x14 x15 x16).ons ⟨18 * h.val + w.val, by omega⟩ r := by
  have e : (⟨h.val * 18 + w.val, by omega⟩ : Fin 252) = ⟨18 * h.val + w.val, by omega⟩ := Fin.ext (by
    show h.val * 18 + w.val = 18 * h.val + w.val
    omega)
  unfold ons
  rw [pay5_at, e, pay3_at]
  rfl

theorem res_at (d : Fin 512) : res x3 x4 x5 x6 x7 x8 (ix3 P r d) = (inX s0 s1 s2 x3 x4 x5 x6 x7 x8 x9 x10 x11 x12 x13 x14 x15 x16).x1 P r d := by
  have e0 : (⟨(P.val * 8 + r.val) / 8, by omega⟩ : Fin 252) = P := Fin.ext (by
    show (P.val * 8 + r.val) / 8 = P.val
    omega)
  have e1 : (⟨(P.val * 8 + r.val) % 8, by omega⟩ : Fin 8) = r := Fin.ext (by
    show (P.val * 8 + r.val) % 8 = r.val
    omega)
  unfold res acc
  rw [pay8_at, pay7_at, pay6_at, pay3_at]
  simp only [e0, e1, on_at s0 s1 s2 x3 x4 x5 x6 x7 x8 x9 x10 x11 x12 x13 x14 x15 x16]
  rfl

theorem a2_at (d : Fin 512) : a2 s0 x3 x4 x5 x6 x7 x8 x9 x10 (ix3 P r d) = (inX s0 s1 s2 x3 x4 x5 x6 x7 x8 x9 x10 x11 x12 x13 x14 x15 x16).a2 P r d := by
  have h := pay9_at (k0_pay3 (F := Ideal) x3 x5 x6) (k0_pay6 (F := Ideal) x4) (acc x3 x5 x6 x7) x8 x9 x10 s0 P r d
  refine h.trans ?_
  have e : (fun d => k0_pay8 (F := Ideal) (k0_pay3 (F := Ideal) x3 x5 x6) (k0_pay6 (F := Ideal) x4) (acc x3 x5 x6 x7) x8 (ix3 P r d))
      = (inX s0 s1 s2 x3 x4 x5 x6 x7 x8 x9 x10 x11 x12 x13 x14 x15 x16).x1 P r := funext fun d => res_at s0 s1 s2 x3 x4 x5 x6 x7 x8 x9 x10 x11 x12 x13 x14 x15 x16 P r d
  rw [e]
  rfl

theorem hid_at (f : Fin 2048) : hid s0 s1 s2 x3 x4 x5 x6 x7 x8 x9 x10 x11 x12 x13 (ix3 P r f) = (inX s0 s1 s2 x3 x4 x5 x6 x7 x8 x9 x10 x11 x12 x13 x14 x15 x16).hid P r f := by
  unfold hid
  rw [pay13_at, pay11_at, pay12_at, pay10_at]
  simp only [a2_at s0 s1 s2 x3 x4 x5 x6 x7 x8 x9 x10 x11 x12 x13 x14 x15 x16]
  rfl

theorem hq_at (f : Fin 2048) : hq s0 s1 s2 x3 x4 x5 x6 x7 x8 x9 x10 x11 x12 x13 (ix3 P r f)
    = BitVec.setWidth 8 ((inX s0 s1 s2 x3 x4 x5 x6 x7 x8 x9 x10 x11 x12 x13 x14 x15 x16).hid P r f) := by
  unfold hq
  rw [pay14_at]
  exact congrArg (BitVec.setWidth 8) (hid_at s0 s1 s2 x3 x4 x5 x6 x7 x8 x9 x10 x11 x12 x13 x14 x15 x16 P r f)

theorem y_at (d : Fin 512) : y s0 s1 s2 x3 x4 x5 x6 x7 x8 x9 x10 x11 x12 x13 x14 x15 x16 (ix3 P r d) = (inX s0 s1 s2 x3 x4 x5 x6 x7 x8 x9 x10 x11 x12 x13 x14 x15 x16).out P r d := by
  unfold y
  rw [pay1_at]
  have e : (fun d => res x3 x4 x5 x6 x7 x8 (ix3 P r d)) = (inX s0 s1 s2 x3 x4 x5 x6 x7 x8 x9 x10 x11 x12 x13 x14 x15 x16).x1 P r := funext fun d => res_at s0 s1 s2 x3 x4 x5 x6 x7 x8 x9 x10 x11 x12 x13 x14 x15 x16 P r d
  rw [e]
  simp only [pay15_at]
  have g : ∀ f : Fin 2048, k0_pay13 (F := Ideal) (k0_pay10 (F := Ideal) (a2 s0 x3 x4 x5 x6 x7 x8 x9 x10) x11 s0 x12 x13)
      (k0_pay11 (F := Ideal) (a2 s0 x3 x4 x5 x6 x7 x8 x9 x10) x11 s0 x12 x13) (k0_pay12 (F := Ideal)) s1 s2 (ix3 P r f)
      = (inX s0 s1 s2 x3 x4 x5 x6 x7 x8 x9 x10 x11 x12 x13 x14 x15 x16).hid P r f := fun f => hid_at s0 s1 s2 x3 x4 x5 x6 x7 x8 x9 x10 x11 x12 x13 x14 x15 x16 P r f
  simp only [g]
  rfl

end Cert.TailRef

end
-- ==== Proof.RefArrays.lean ====
/- The five arrays the reference leaves, as functions of its arguments. -/
module

public import proofs.«01_k».proof.Proof.RefOutcome
public import proofs.«01_k».proof.Proof.Arguments
public import proofs.«01_k».proof.Proof.Gen.ReferenceIdeal.Value
public import Idealize.ShloMosaic.Lib.StableHlo.ReadAt

@[expose] public section

noncomputable section

namespace Cert.TailRef

open Idealize.ShloMosaic Idealize.ShloMosaic.TcCoe Cert.Tail Cert.ReferenceIdeal Cert.ReferenceIdeal.Gen Cert.ReferenceIdeal.Value

variable (m : (ℓ : Loc nD τ sig) → Buf (Elt Ideal) ℓ) (c : Dev nD)

/-- The arguments of this launch. -/
def inR : In :=
  In.of (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))

theorem host_v1 (P : Fin 252) (r : Fin 8) (d : Fin 512) : V m c main_v1 (ix3 P r d)
    = m ((c : Thread nD τ).loc main_arg1) (ix4 r ⟨P.val / 18, by omega⟩ ⟨P.val % 18, by omega⟩ d) := by
  unfold V
  after_reads_at

theorem host_v2 : V m c main_v2 (ix1 0) = m ((c : Thread nD τ).loc main_arg8) ix0 := by
  unfold V
  after_reads_at

theorem host_v3 : V m c main_v3 (ix1 0) = m ((c : Thread nD τ).loc main_arg12) ix0 := by
  unfold V
  after_reads_at

theorem host_v4 : V m c main_v4 (ix1 0) = m ((c : Thread nD τ).loc main_arg13) ix0 := by
  unfold V
  after_reads_at

theorem blk0 (t : Fin cfg0.N) : iblk m c 0 t (ix1 0) = m ((c : Thread nD τ).loc main_arg8) ix0 := by
  have e : iblk m c 0 t (ix1 0) = V m c main_v2 (((cfg0.win 0).blk t).view.emb (ix1 0)) := rfl
  have e' : ((cfg0.win 0).blk t).view.emb (ix1 0) = ix1 0 := by
    funext a
    match a with
    | ⟨0, _⟩ => rfl
  rw [e, e', host_v2]

theorem blk1 (t : Fin cfg0.N) : iblk m c 1 t (ix1 0) = m ((c : Thread nD τ).loc main_arg12) ix0 := by
  have e : iblk m c 1 t (ix1 0) = V m c main_v3 (((cfg0.win 1).blk t).view.emb (ix1 0)) := rfl
  have e' : ((cfg0.win 1).blk t).view.emb (ix1 0) = ix1 0 := by
    funext a
    match a with
    | ⟨0, _⟩ => rfl
  rw [e, e', host_v3]

theorem blk2 (t : Fin cfg0.N) : iblk m c 2 t (ix1 0) = m ((c : Thread nD τ).loc main_arg13) ix0 := by
  have e : iblk m c 2 t (ix1 0) = V m c main_v4 (((cfg0.win 2).blk t).view.emb (ix1 0)) := rfl
  have e' : ((cfg0.win 2).blk t).view.emb (ix1 0) = ix1 0 := by
    funext a
    match a with
    | ⟨0, _⟩ => rfl
  rw [e, e', host_v4]

theorem blk3 (t : Fin cfg0.N) : iblk m c 3 t = m ((c : Thread nD τ).loc main_arg0) := by
  funext y
  have e : iblk m c 3 t y = V m c main_arg0 (((cfg0.win 3).blk t).view.emb y) := rfl
  have e' : ((cfg0.win 3).blk t).view.emb y = y := by
    funext a
    apply Fin.ext
    match a with
    | ⟨0, _⟩ => show 0 * _ + 1 * (y 0).val = (y 0).val; omega
    | ⟨1, _⟩ => show 0 * _ + 1 * (y 1).val = (y 1).val; omega
    | ⟨2, _⟩ => show 0 * _ + 1 * (y 2).val = (y 2).val; omega
  rw [e, e', V_main_arg0]

theorem blk4 (t : Fin cfg0.N) : iblk m c 4 t = V m c main_v1 := by
  funext y
  have e : iblk m c 4 t y = V m c main_v1 (((cfg0.win 4).blk t).view.emb y) := rfl
  have e' : ((cfg0.win 4).blk t).view.emb y = y := by
    funext a
    apply Fin.ext
    match a with
    | ⟨0, _⟩ => show 0 * _ + 1 * (y 0).val = (y 0).val; omega
    | ⟨1, _⟩ => show 0 * _ + 1 * (y 1).val = (y 1).val; omega
    | ⟨2, _⟩ => show 0 * _ + 1 * (y 2).val = (y 2).val; omega
  rw [e, e']

theorem blk5 (t : Fin cfg0.N) : iblk m c 5 t = m ((c : Thread nD τ).loc main_arg2) := by
  funext y
  have e : iblk m c 5 t y = V m c main_arg2 (((cfg0.win 5).blk t).view.emb y) := rfl
  have e' : ((cfg0.win 5).blk t).view.emb y = y := by
    funext a
    apply Fin.ext
    match a with
    | ⟨0, _⟩ => show 0 * _ + 1 * (y 0).val = (y 0).val; omega
  rw [e, e', V_main_arg2]

theorem blk6 (t : Fin cfg0.N) : iblk m c 6 t = m ((c : Thread nD τ).loc main_arg3) := by
  funext y
  have e : iblk m c 6 t y = V m c main_arg3 (((cfg0.win 6).blk t).view.emb y) := rfl
  have e' : ((cfg0.win 6).blk t).view.emb y = y := by
    funext a
    apply Fin.ext
    match a with
    | ⟨0, _⟩ => show 0 * _ + 1 * (y 0).val = (y 0).val; omega
  rw [e, e', V_main_arg3]

theorem blk7 (t : Fin cfg0.N) : iblk m c 7 t = m ((c : Thread nD τ).loc main_arg4) := by
  funext y
  have e : iblk m c 7 t y = V m c main_arg4 (((cfg0.win 7).blk t).view.emb y) := rfl
  have e' : ((cfg0.win 7).blk t).view.emb y = y := by
    funext a
    apply Fin.ext
    match a with
    | ⟨0, _⟩ => show 0 * _ + 1 * (y 0).val = (y 0).val; omega
    | ⟨1, _⟩ => show 0 * _ + 1 * (y 1).val = (y 1).val; omega
  rw [e, e', V_main_arg4]

theorem blk8 (t : Fin cfg0.N) : iblk m c 8 t = m ((c : Thread nD τ).loc main_arg5) := by
  funext y
  have e : iblk m c 8 t y = V m c main_arg5 (((cfg0.win 8).blk t).view.emb y) := rfl
  have e' : ((cfg0.win 8).blk t).view.emb y = y := by
    funext a
    apply Fin.ext
    match a with
    | ⟨0, _⟩ => show 0 * _ + 1 * (y 0).val = (y 0).val; omega
  rw [e, e', V_main_arg5]

theorem blk9 (t : Fin cfg0.N) : iblk m c 9 t = m ((c : Thread nD τ).loc main_arg6) := by
  funext y
  have e : iblk m c 9 t y = V m c main_arg6 (((cfg0.win 9).blk t).view.emb y) := rfl
  have e' : ((cfg0.win 9).blk t).view.emb y = y := by
    funext a
    apply Fin.ext
    match a with
    | ⟨0, _⟩ => show 0 * _ + 1 * (y 0).val = (y 0).val; omega
  rw [e, e', V_main_arg6]

theorem blk10 (t : Fin cfg0.N) : iblk m c 10 t = m ((c : Thread nD τ).loc main_arg7) := by
  funext y
  have e : iblk m c 10 t y = V m c main_arg7 (((cfg0.win 10).blk t).view.emb y) := rfl
  have e' : ((cfg0.win 10).blk t).view.emb y = y := by
    funext a
    apply Fin.ext
    match a with
    | ⟨0, _⟩ => show 0 * _ + 1 * (y 0).val = (y 0).val; omega
  rw [e, e', V_main_arg7]

theorem blk11 (t : Fin cfg0.N) : iblk m c 11 t = m ((c : Thread nD τ).loc main_arg9) := by
  funext y
  have e : iblk m c 11 t y = V m c main_arg9 (((cfg0.win 11).blk t).view.emb y) := rfl
  have e' : ((cfg0.win 11).blk t).view.emb y = y := by
    funext a
    apply Fin.ext
    match a with
    | ⟨0, _⟩ => show 0 * _ + 1 * (y 0).val = (y 0).val; omega
    | ⟨1, _⟩ => show 0 * _ + 1 * (y 1).val = (y 1).val; omega
  rw [e, e', V_main_arg9]

theorem blk12 (t : Fin cfg0.N) : iblk m c 12 t = m ((c : Thread nD τ).loc main_arg10) := by
  funext y
  have e : iblk m c 12 t y = V m c main_arg10 (((cfg0.win 12).blk t).view.emb y) := rfl
  have e' : ((cfg0.win 12).blk t).view.emb y = y := by
    funext a
    apply Fin.ext
    match a with
    | ⟨0, _⟩ => show 0 * _ + 1 * (y 0).val = (y 0).val; omega
  rw [e, e', V_main_arg10]

theorem blk13 (t : Fin cfg0.N) : iblk m c 13 t = m ((c : Thread nD τ).loc main_arg11) := by
  funext y
  have e : iblk m c 13 t y = V m c main_arg11 (((cfg0.win 13).blk t).view.emb y) := rfl
  have e' : ((cfg0.win 13).blk t).view.emb y = y := by
    funext a
    apply Fin.ext
    match a with
    | ⟨0, _⟩ => show 0 * _ + 1 * (y 0).val = (y 0).val; omega
  rw [e, e', V_main_arg11]

theorem blk14 (t : Fin cfg0.N) : iblk m c 14 t = m ((c : Thread nD τ).loc main_arg14) := by
  funext y
  have e : iblk m c 14 t y = V m c main_arg14 (((cfg0.win 14).blk t).view.emb y) := rfl
  have e' : ((cfg0.win 14).blk t).view.emb y = y := by
    funext a
    apply Fin.ext
    match a with
    | ⟨0, _⟩ => show 0 * _ + 1 * (y 0).val = (y 0).val; omega
    | ⟨1, _⟩ => show 0 * _ + 1 * (y 1).val = (y 1).val; omega
  rw [e, e', V_main_arg14]

theorem blk15 (t : Fin cfg0.N) : iblk m c 15 t = m ((c : Thread nD τ).loc main_arg15) := by
  funext y
  have e : iblk m c 15 t y = V m c main_arg15 (((cfg0.win 15).blk t).view.emb y) := rfl
  have e' : ((cfg0.win 15).blk t).view.emb y = y := by
    funext a
    apply Fin.ext
    match a with
    | ⟨0, _⟩ => show 0 * _ + 1 * (y 0).val = (y 0).val; omega
  rw [e, e', V_main_arg15]

theorem blk16 (t : Fin cfg0.N) : iblk m c 16 t = m ((c : Thread nD τ).loc main_arg16) := by
  funext y
  have e : iblk m c 16 t y = V m c main_arg16 (((cfg0.win 16).blk t).view.emb y) := rfl
  have e' : ((cfg0.win 16).blk t).view.emb y = y := by
    funext a
    apply Fin.ext
    match a with
    | ⟨0, _⟩ => show 0 * _ + 1 * (y 0).val = (y 0).val; omega
  rw [e, e', V_main_arg16]

theorem inX_eq (t : Fin cfg0.N) : inX (iblk m c 0 t (ix1 0)) (iblk m c 1 t (ix1 0)) (iblk m c 2 t (ix1 0)) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) = inR m c := by
  rw [blk0, blk1, blk2, blk3, blk4, blk5, blk6, blk7, blk8, blk9, blk10, blk11, blk12, blk13, blk14, blk15, blk16]
  have h : (fun (P : Fin 252) (r : Fin 8) (d : Fin 512) => V m c main_v1 (ix3 P r d))
      = fun P r d => m ((c : Thread nD τ).loc main_arg1) (ix4 r ⟨P.val / 18, by omega⟩ ⟨P.val % 18, by omega⟩ d) :=
    funext fun P => funext fun r => funext fun d => host_v1 m c P r d
  unfold inX inR In.of
  rw [h]

theorem arr17 : (dats m 0 c).arrAt 17 cfg0.N = fun i : S252x8x512.Idx => (inR m c).out (i 0) (i 1) (i 2) := by
  have t : Fin cfg0.N := ⟨0, by decide⟩
  funext i
  have e' : ((cfg0.win 17).blk t).view.emb i = i := by
    funext a
    apply Fin.ext
    match a with
    | ⟨0, _⟩ => show 0 * _ + 1 * (i 0).val = (i 0).val; omega
    | ⟨1, _⟩ => show 0 * _ + 1 * (i 1).val = (i 1).val; omega
    | ⟨2, _⟩ => show 0 * _ + 1 * (i 2).val = (i 2).val; omega
  have hb := congrFun (blocks17 m c t ((by decide : ∀ t : Fin grid0.N, (cfg0.win 17).flush t = true) t)) i
  have hr : ((cfg0.win 17).blk t).view.read (Elt Ideal) ((dats m 0 c).arrAt 17 cfg0.N) i
      = (dats m 0 c).arrAt 17 cfg0.N (((cfg0.win 17).blk t).view.emb i) := rfl
  rw [hr, e'] at hb
  rw [hb, flushed17_A m c t, out_17 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), ← inX_eq m c t]
  refine Eq.trans ?_ (y_at (iblk m c 0 t (ix1 0)) (iblk m c 1 t (ix1 0)) (iblk m c 2 t (ix1 0)) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (i 0) (i 1) (i 2))
  rw [← eq_ix3 i]

theorem arr18 : (dats m 0 c).arrAt 18 cfg0.N = fun i : S252x8x1024.Idx => (inR m c).on (i 0) (i 1) (i 2) := by
  have t : Fin cfg0.N := ⟨0, by decide⟩
  funext i
  have e' : ((cfg0.win 18).blk t).view.emb i = i := by
    funext a
    apply Fin.ext
    match a with
    | ⟨0, _⟩ => show 0 * _ + 1 * (i 0).val = (i 0).val; omega
    | ⟨1, _⟩ => show 0 * _ + 1 * (i 1).val = (i 1).val; omega
    | ⟨2, _⟩ => show 0 * _ + 1 * (i 2).val = (i 2).val; omega
  have hb := congrFun (blocks18 m c t ((by decide : ∀ t : Fin grid0.N, (cfg0.win 18).flush t = true) t)) i
  have hr : ((cfg0.win 18).blk t).view.read (Elt Ideal) ((dats m 0 c).arrAt 18 cfg0.N) i
      = (dats m 0 c).arrAt 18 cfg0.N (((cfg0.win 18).blk t).view.emb i) := rfl
  rw [hr, e'] at hb
  rw [hb, flushed18_A m c t, out_18 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), ← inX_eq m c t]
  refine Eq.trans ?_ (on_at (iblk m c 0 t (ix1 0)) (iblk m c 1 t (ix1 0)) (iblk m c 2 t (ix1 0)) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (i 0) (i 1) (i 2))
  rw [← eq_ix3 i]

theorem arr19 : (dats m 0 c).arrAt 19 cfg0.N = fun i : S14x8x18.Idx => (inR m c).ons ⟨18 * (i 0).val + (i 2).val, by
    have h0 : (i 0).val < 14 := (i 0).isLt
    have h2 : (i 2).val < 18 := (i 2).isLt
    omega⟩ (i 1) := by
  have t : Fin cfg0.N := ⟨0, by decide⟩
  funext i
  have e' : ((cfg0.win 19).blk t).view.emb i = i := by
    funext a
    apply Fin.ext
    match a with
    | ⟨0, _⟩ => show 0 * _ + 1 * (i 0).val = (i 0).val; omega
    | ⟨1, _⟩ => show 0 * _ + 1 * (i 1).val = (i 1).val; omega
    | ⟨2, _⟩ => show 0 * _ + 1 * (i 2).val = (i 2).val; omega
  have hb := congrFun (blocks19 m c t ((by decide : ∀ t : Fin grid0.N, (cfg0.win 19).flush t = true) t)) i
  have hr : ((cfg0.win 19).blk t).view.read (Elt Ideal) ((dats m 0 c).arrAt 19 cfg0.N) i
      = (dats m 0 c).arrAt 19 cfg0.N (((cfg0.win 19).blk t).view.emb i) := rfl
  rw [hr, e'] at hb
  rw [hb, flushed19_A m c t, out_19 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), ← inX_eq m c t]
  refine Eq.trans ?_ (ons_at (iblk m c 0 t (ix1 0)) (iblk m c 1 t (ix1 0)) (iblk m c 2 t (ix1 0)) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (i 1) (i 0) (i 2))
  rw [← eq_ix3 i]

theorem arr20 : (dats m 0 c).arrAt 20 cfg0.N = fun i : S252x8x512.Idx => (inR m c).a2 (i 0) (i 1) (i 2) := by
  have t : Fin cfg0.N := ⟨0, by decide⟩
  funext i
  have e' : ((cfg0.win 20).blk t).view.emb i = i := by
    funext a
    apply Fin.ext
    match a with
    | ⟨0, _⟩ => show 0 * _ + 1 * (i 0).val = (i 0).val; omega
    | ⟨1, _⟩ => show 0 * _ + 1 * (i 1).val = (i 1).val; omega
    | ⟨2, _⟩ => show 0 * _ + 1 * (i 2).val = (i 2).val; omega
  have hb := congrFun (blocks20 m c t ((by decide : ∀ t : Fin grid0.N, (cfg0.win 20).flush t = true) t)) i
  have hr : ((cfg0.win 20).blk t).view.read (Elt Ideal) ((dats m 0 c).arrAt 20 cfg0.N) i
      = (dats m 0 c).arrAt 20 cfg0.N (((cfg0.win 20).blk t).view.emb i) := rfl
  rw [hr, e'] at hb
  rw [hb, flushed20_A m c t, out_20 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), ← inX_eq m c t]
  refine Eq.trans ?_ (a2_at (iblk m c 0 t (ix1 0)) (iblk m c 1 t (ix1 0)) (iblk m c 2 t (ix1 0)) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (i 0) (i 1) (i 2))
  rw [← eq_ix3 i]

theorem arr21 : (dats m 0 c).arrAt 21 cfg0.N = fun i : S252x8x2048.Idx => BitVec.setWidth 8 ((inR m c).hid (i 0) (i 1) (i 2)) := by
  have t : Fin cfg0.N := ⟨0, by decide⟩
  funext i
  have e' : ((cfg0.win 21).blk t).view.emb i = i := by
    funext a
    apply Fin.ext
    match a with
    | ⟨0, _⟩ => show 0 * _ + 1 * (i 0).val = (i 0).val; omega
    | ⟨1, _⟩ => show 0 * _ + 1 * (i 1).val = (i 1).val; omega
    | ⟨2, _⟩ => show 0 * _ + 1 * (i 2).val = (i 2).val; omega
  have hb := congrFun (blocks21 m c t ((by decide : ∀ t : Fin grid0.N, (cfg0.win 21).flush t = true) t)) i
  have hr : ((cfg0.win 21).blk t).view.read (Elt Ideal) ((dats m 0 c).arrAt 21 cfg0.N) i
      = (dats m 0 c).arrAt 21 cfg0.N (((cfg0.win 21).blk t).view.emb i) := rfl
  rw [hr, e'] at hb
  rw [hb, flushed21_A m c t, out_21 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t), ← inX_eq m c t]
  refine Eq.trans ?_ (hq_at (iblk m c 0 t (ix1 0)) (iblk m c 1 t (ix1 0)) (iblk m c 2 t (ix1 0)) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (i 0) (i 1) (i 2))
  rw [← eq_ix3 i]

end Cert.TailRef

end
-- ==== Proof.Equation.lean ====
/- The kernel and the reference leave equal arrays: the same functions of the same arguments. -/
module

public import proofs.«01_k».proof.Defs
public import proofs.«01_k».proof.Proof.Gen.Pre_scales_tame
public import proofs.«01_k».proof.Proof.Arrays
public import proofs.«01_k».proof.Proof.RefArrays

@[expose] public section

noncomputable section

namespace Cert.Tail

open Idealize.ShloMosaic Idealize.ShloMosaic.TcCoe Idealize.SL.Sem

/-- A decided bit that is one was decided true. -/
theorem of_ofBool {p : Prop} [Decidable p] (h : BitVec.ofBool (decide p) = 1#1) : p := by
  by_contra hp
  rw [decide_eq_false hp] at h
  exact absurd h (by decide)

section Tame

variable [Cert.Pre_scales_tame.Facts]
  (m : (ℓ : Loc Cert.KernelIdeal.nD Cert.KernelIdeal.τ Cert.KernelIdeal.sig) → Buf (Elt Ideal) ℓ)

/-- The precondition, said of the extended reals. -/
theorem tame (h : Cert.Pre_KernelIdeal_scales_tame m) (c : Dev Cert.KernelIdeal.nD) : (inK m c).Tame := by
  obtain ⟨h0, h1, h2⟩ := h c
  have g0 := congrFun h0 ix0
  have g1 := congrFun h1 ix0
  have g2 := congrFun h2 ix0
  pointwise [Cert.Pre_scales_tame.fn] at g0
  pointwise [Cert.Pre_scales_tame.fn] at g1
  pointwise [Cert.Pre_scales_tame.fn] at g2
  refine ⟨?_, ?_, ?_⟩
  · rw [← bits_tiny]
    exact of_ofBool g0
  · rw [← bits_tiny]
    exact of_ofBool g1
  · have g3 : (2147483904#32).sle (m ((c.tc : Thread Cert.KernelIdeal.nD Cert.KernelIdeal.τ).loc Cert.KernelIdeal.main_arg13) ix0) = true := by
      have hb : ∀ b : Bool, BitVec.ofBool b = 1#1 → b = true := by decide
      exact hb _ g2
    have g4 := BitVec.sle_iff_toInt_le.1 g3
    have k : (2147483904#32).toInt = -2147483392 := by decide
    rw [k] at g4
    exact g4

end Tame

/-- Memories that agree on the arguments give the two programs the same arguments. -/
theorem inR_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0) ∧
      m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1) ∧
      m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2) ∧
      m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3) ∧
      m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4) ∧
      m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5) ∧
      m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6) ∧
      m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7) ∧
      m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8) ∧
      m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9) ∧
      m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10) ∧
      m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11) ∧
      m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12) ∧
      m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13) ∧
      m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14) ∧
      m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15) ∧
      m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    Cert.TailRef.inR m' c = inK m c := by
  obtain ⟨h0, h1, h2, h3, h4, h5, h6, h7, h8, h9, h10, h11, h12, h13, h14, h15, h16⟩ := h
  unfold Cert.TailRef.inR inK
  rw [h0, h1, h2, h3, h4, h5, h6, h7, h8, h9, h10, h11, h12, h13, h14, h15, h16]

/-- **The kernel and the reference end with equal results**, both started from memories that agree on the arguments. -/
theorem algebraic : @Cert.algebraic_KernelIdeal_ReferenceIdeal_pre_scales_tame Cert.KernelIdeal.Gen.facts
    Cert.ReferenceIdeal.Gen.facts Cert.Pre_scales_tame.Gen.facts := by
  intro m g m' g' hP hA
  refine ⟨fun c => Cert.KernelIdeal.Value.G17 m c, fun c => Cert.KernelIdeal.Value.G18 m c,
    fun c => Cert.KernelIdeal.Value.G19 m c, fun c => Cert.KernelIdeal.Value.G20 m c,
    fun c => Cert.KernelIdeal.Value.G21 m c, Cert.KernelIdeal.Value.run m g,
    (θ_run _ _ _).mono (fun r h c => ?_) (Cert.ReferenceIdeal.Value.run_blocks m' g')⟩
  have hT := @tame Cert.Pre_scales_tame.Gen.facts m hP c
  have hI := inR_eq m m' c (hA c)
  have e17 := Cert.TailRef.arr17 m' c
  have e18 := Cert.TailRef.arr18 m' c
  have e19 := Cert.TailRef.arr19 m' c
  have e20 := Cert.TailRef.arr20 m' c
  have e21 := Cert.TailRef.arr21 m' c
  rw [hI] at e17 e18 e19 e20 e21
  exact ⟨(h c).1.trans (e17.trans (arr17 m c hT).symm), (h c).2.1.trans (e18.trans (arr18 m c).symm),
    (h c).2.2.1.trans (e19.trans (arr19 m c).symm), (h c).2.2.2.1.trans (e20.trans (arr20 m c hT).symm),
    (h c).2.2.2.2.1.trans (e21.trans (arr21 m c hT).symm), (h c).2.2.2.2.2⟩

end Cert.Tail

end
-- ==== Proof.FrontOutcome.lean ====
/- The first call's two byte arrays as plain functions of its arguments. -/
module

public import proofs.«01_k».proof.Proof.FrontSpec

@[expose] public section

noncomputable section

namespace Cert.FrontV

open Idealize.ShloMosaic Cert.Tail
open scoped BigOperators

/-- The normalised tokens as bytes. -/
def a1Out (x : Fin 252 → Fin 8 → Fin 512 → EReal) (g b : Fin 512 → EReal) (s : EReal) (P : Fin 252) (r : Fin 8) (d : Fin 512) : BitVec 8 :=
  a2R (fun d => x P r d) g b s d

/-- The projected tokens as bytes. -/
def cvOut (x : Fin 252 → Fin 8 → Fin 512 → EReal) (g b : Fin 512 → EReal) (s : EReal) (W : Fin 256 → Fin 1024 → BitVec 8) (w sc : Fin 1024 → EReal)
    (P : Fin 252) (r : Fin 8) (l : Fin 1024) : BitVec 8 :=
  cvR (∑ k : Fin 512, byte (a1Out x g b s P r k) * wIn loR hiR W k l) s (w l) (sc l)

end Cert.FrontV

end
-- ==== Proof.FrontArrays.lean ====
/- The two byte arrays the first call leaves, as functions of its arguments. -/
module

public import proofs.«01_k».proof.Proof.FrontIdealFrame
public import proofs.«01_k».proof.Proof.FrontOutcome
public import Idealize.ShloMosaic.Lib.StableHlo.ReadAt

@[expose] public section

noncomputable section

namespace Cert.FrontV

open Idealize.ShloMosaic Idealize.ShloMosaic.TcCoe Cert.Tail Cert.FrontIdeal Cert.FrontIdeal.Gen
open scoped BigOperators

variable (m : (ℓ : Loc nD τ sig) → Buf (Elt Ideal) ℓ) (c : Dev nD)

theorem host_v1 (P : Fin 252) (r : Fin 8) (d : Fin 512) : V m c main_v1 (ix3 P r d)
    = m ((c : Thread nD τ).loc main_arg0) (ix4 r ⟨P.val / 18, by omega⟩ ⟨P.val % 18, by omega⟩ d) := by
  unfold V
  after_reads_at

theorem host_v2 : V m c main_v2 (ix1 0) = m ((c : Thread nD τ).loc main_arg3) ix0 := by
  unfold V
  after_reads_at

theorem host_v3 (l : Fin 512) : V m c main_v3 (ix2 0 l) = m ((c : Thread nD τ).loc main_arg1) (ix1 l) := by
  unfold V
  after_reads_at

theorem host_v4 (l : Fin 512) : V m c main_v4 (ix2 0 l) = m ((c : Thread nD τ).loc main_arg2) (ix1 l) := by
  unfold V
  after_reads_at

theorem host_v5 (l : Fin 1024) : V m c main_v5 (ix2 0 l) = m ((c : Thread nD τ).loc main_arg5) (ix1 l) := by
  unfold V
  after_reads_at

theorem host_v6 (l : Fin 1024) : V m c main_v6 (ix2 0 l) = m ((c : Thread nD τ).loc main_arg6) (ix1 l) := by
  unfold V
  after_reads_at

theorem blk0 (t : Fin cfg0.N) (y : S1.Idx) : iblk m c 0 t y = m ((c : Thread nD τ).loc main_arg3) ix0 := by
  have e : iblk m c 0 t y = V m c main_v2 (((cfg0.win 0).blk t).view.emb y) := rfl
  have e' : ((cfg0.win 0).blk t).view.emb y = ix1 0 := by
    funext a
    match a with
    | ⟨0, _⟩ => exact Fin.ext (Nat.lt_one_iff.1 (Fin.isLt _))
  rw [e, e', host_v2]

theorem blk0' (t : Fin cfg0.N) : first1 (iblk m c 0 t) = m ((c : Thread nD τ).loc main_arg3) ix0 := blk0 m c t _

theorem blk4 (t : Fin cfg0.N) : iblk m c 4 t = V m c main_v1 := by
  funext y
  have e : iblk m c 4 t y = V m c main_v1 (((cfg0.win 4).blk t).view.emb y) := rfl
  have e' : ((cfg0.win 4).blk t).view.emb y = y := by
    funext a
    apply Fin.ext
    match a with
    | ⟨0, _⟩ => show 0 * _ + 1 * (y 0).val = (y 0).val; omega
    | ⟨1, _⟩ => show 0 * _ + 1 * (y 1).val = (y 1).val; omega
    | ⟨2, _⟩ => show 0 * _ + 1 * (y 2).val = (y 2).val; omega
  rw [e, e']

theorem blk5 (t : Fin cfg0.N) : iblk m c 5 t = V m c main_v3 := by
  funext y
  have e : iblk m c 5 t y = V m c main_v3 (((cfg0.win 5).blk t).view.emb y) := rfl
  have e' : ((cfg0.win 5).blk t).view.emb y = y := by
    funext a
    apply Fin.ext
    match a with
    | ⟨0, _⟩ => show 0 * _ + 1 * (y 0).val = (y 0).val; omega
    | ⟨1, _⟩ => show 0 * _ + 1 * (y 1).val = (y 1).val; omega
  rw [e, e']

theorem blk6 (t : Fin cfg0.N) : iblk m c 6 t = V m c main_v4 := by
  funext y
  have e : iblk m c 6 t y = V m c main_v4 (((cfg0.win 6).blk t).view.emb y) := rfl
  have e' : ((cfg0.win 6).blk t).view.emb y = y := by
    funext a
    apply Fin.ext
    match a with
    | ⟨0, _⟩ => show 0 * _ + 1 * (y 0).val = (y 0).val; omega
    | ⟨1, _⟩ => show 0 * _ + 1 * (y 1).val = (y 1).val; omega
  rw [e, e']

theorem blk7 (t : Fin cfg0.N) : iblk m c 7 t = V m c main_arg4 := by
  funext y
  have e : iblk m c 7 t y = V m c main_arg4 (((cfg0.win 7).blk t).view.emb y) := rfl
  have e' : ((cfg0.win 7).blk t).view.emb y = y := by
    funext a
    apply Fin.ext
    match a with
    | ⟨0, _⟩ => show 0 * _ + 1 * (y 0).val = (y 0).val; omega
    | ⟨1, _⟩ => show 0 * _ + 1 * (y 1).val = (y 1).val; omega
  rw [e, e']

theorem blk8 (t : Fin cfg0.N) : iblk m c 8 t = V m c main_v5 := by
  funext y
  have e : iblk m c 8 t y = V m c main_v5 (((cfg0.win 8).blk t).view.emb y) := rfl
  have e' : ((cfg0.win 8).blk t).view.emb y = y := by
    funext a
    apply Fin.ext
    match a with
    | ⟨0, _⟩ => show 0 * _ + 1 * (y 0).val = (y 0).val; omega
    | ⟨1, _⟩ => show 0 * _ + 1 * (y 1).val = (y 1).val; omega
  rw [e, e']

theorem blk9 (t : Fin cfg0.N) : iblk m c 9 t = V m c main_v6 := by
  funext y
  have e : iblk m c 9 t y = V m c main_v6 (((cfg0.win 9).blk t).view.emb y) := rfl
  have e' : ((cfg0.win 9).blk t).view.emb y = y := by
    funext a
    apply Fin.ext
    match a with
    | ⟨0, _⟩ => show 0 * _ + 1 * (y 0).val = (y 0).val; omega
    | ⟨1, _⟩ => show 0 * _ + 1 * (y 1).val = (y 1).val; omega
  rw [e, e']

/-- A token's row as the kernel quantizes it, in the arguments. -/
theorem vRow_eq (t : Fin cfg0.N) (P : Fin 252) (r : Fin 8) (d : Fin 512) :
    vRow (iblk m c 4 t) (k0_pay2971 (F := Ideal) (first1 (iblk m c 0 t)) (iblk m c 5 t))
      (k0_pay2972 (F := Ideal) (first1 (iblk m c 0 t)) (iblk m c 6 t)) P r d
      = a2K (fun d => m ((c : Thread nD τ).loc main_arg0) (ix4 r ⟨P.val / 18, by omega⟩ ⟨P.val % 18, by omega⟩ d))
        (fun d => m ((c : Thread nD τ).loc main_arg1) (ix1 d)) (fun d => m ((c : Thread nD τ).loc main_arg2) (ix1 d)) (m ((c : Thread nD τ).loc main_arg3) ix0) d := by
  unfold vRow a2K
  rw [pay2971_at, pay2972_at, blk0', blk4, blk5, blk6, host_v3, host_v4]
  exact congrArg (fun w : Fin 512 → EReal => quantK (normK _ w d * _ + _)) (funext fun d => host_v1 m c P r d)

/-- The first output, written whole at the one point. -/
theorem aft21_eq (hs : ((1 / 2 ^ 112 : ℝ) : EReal) ≤ (m ((c : Thread nD τ).loc main_arg3) ix0)) (t : Fin cfg0.N) : aft21 m c t = fun i : S252x8x512.Idx => a1Out (fun P r d => m ((c : Thread nD τ).loc main_arg0) (ix4 r ⟨P.val / 18, by omega⟩ ⟨P.val % 18, by omega⟩ d)) (fun d => m ((c : Thread nD τ).loc main_arg1) (ix1 d)) (fun d => m ((c : Thread nD τ).loc main_arg2) (ix1 d)) (m ((c : Thread nD τ).loc main_arg3) ix0) (i 0) (i 1) (i 2) := by
  funext i
  unfold aft21 a1Arr a1Out
  exact (congrArg (Ideal.fptosi 8) (vRow_eq m c t (i 0) (i 1) (i 2))).trans (a2_eq _ _ _ _ hs _)

/-- The factor on the second product's column, in the arguments. -/
theorem vec0_eq (t : Fin cfg0.N) (l : Fin 1024) :
    k0_pay2975 (F := Ideal) (first1 (iblk m c 0 t)) (k0_pay2973 (iblk m c 9 t)) (Scalar.ofBits .f32 0x77F684DF#32) (k0_pay2974 (F := Ideal)) (iblk m c 8 t) (ix2 0 l)
      = (fun x y z : EReal => (x * y) * recipK z) (m ((c : Thread nD τ).loc main_arg3) ix0) (m ((c : Thread nD τ).loc main_arg5) (ix1 l)) (m ((c : Thread nD τ).loc main_arg6) (ix1 l)) := by
  rw [pay2975_at, blk0', blk8, blk9, host_v5, host_v6]

/-- The second output, written whole at the one point. -/
theorem aft22_eq (hs : ((1 / 2 ^ 112 : ℝ) : EReal) ≤ (m ((c : Thread nD τ).loc main_arg3) ix0))
    (hc : ∀ l : Fin 1024, ((1 / 2 ^ 112 : ℝ) : EReal) ≤ (fun x : EReal => max x (-x)) (m ((c : Thread nD τ).loc main_arg6) (ix1 l)))
    (t : Fin cfg0.N) : aft22 m c t = fun i : S252x8x1024.Idx => cvOut (fun P r d => m ((c : Thread nD τ).loc main_arg0) (ix4 r ⟨P.val / 18, by omega⟩ ⟨P.val % 18, by omega⟩ d)) (fun d => m ((c : Thread nD τ).loc main_arg1) (ix1 d)) (fun d => m ((c : Thread nD τ).loc main_arg2) (ix1 d)) (m ((c : Thread nD τ).loc main_arg3) ix0) (fun k j => m ((c : Thread nD τ).loc main_arg4) (ix2 k j)) (fun l => m ((c : Thread nD τ).loc main_arg5) (ix1 l)) (fun l => m ((c : Thread nD τ).loc main_arg6) (ix1 l)) (i 0) (i 1) (i 2) := by
  funext i
  unfold aft22 cvArr cvOut stack
  rw [pay2969_eq]
  have hv := vec0_eq m c t (i 2)
  refine Eq.trans ?_ (cv_eq _ _ _ _ (hc (i 2)))
  unfold cvK
  refine congrArg (fun a => Ideal.fptosi 8 (quantK a)) (congrArg₂ (fun p q : EReal => p * q) (Finset.sum_congr rfl fun k _ => ?_) hv)
  exact congrArg₂ (fun p q : EReal => p * q) ((vRow_eq m c t (i 0) (i 1) k).trans (a2_byte _ _ _ _ hs _))
    ((congrFun (congrArg WIn ((blk7 m c t).trans (V_main_arg4 m c))) _).trans (wIn_eq _ k (i 2)))

theorem idx_inj21 : ∀ t t' : Fin cfg0.N, win0_21.index t = win0_21.index t' → t = t' :=
  (by decide +kernel : ∀ t t' : Fin grid0.N, win0_21.index t = win0_21.index t' → t = t')

theorem disjoint21 : ∀ t t' : Fin cfg0.N, (cfg0.win 21).flush t = true → (cfg0.win 21).flush t' = true → t ≠ t' →
    Disjoint ((cfg0.win 21).blk t).view.set ((cfg0.win 21).blk t').view.set :=
  fun t t' _ _ hne => (cfg0.win 21).disjoint_blk fun h => hne (idx_inj21 t t' h)

/-- The array after the call. -/
theorem arr21 (t : Fin cfg0.N) : (dats m 0 c).arrAt 21 cfg0.N = aft21 m c t := by
  funext i
  have e' : ((cfg0.win 21).blk t).view.emb i = i := by
    funext a
    apply Fin.ext
    match a with
    | ⟨0, _⟩ => show 0 * _ + 1 * (i 0).val = (i 0).val; omega
    | ⟨1, _⟩ => show 0 * _ + 1 * (i 1).val = (i 1).val; omega
    | ⟨2, _⟩ => show 0 * _ + 1 * (i 2).val = (i 2).val; omega
  have hb := congrFun ((dats m 0 c).read_blk_arrAt_eq_flushed 21 disjoint21 cfg0.N t t.isLt (flush0_21 t)) i
  have hr : ((cfg0.win 21).blk t).view.read (Elt Ideal) ((dats m 0 c).arrAt 21 cfg0.N) i
      = (dats m 0 c).arrAt 21 cfg0.N (((cfg0.win 21).blk t).view.emb i) := rfl
  rw [hr, e'] at hb
  have hf : (dats m 0 c).flushed 21 t = (cfg0.win 21).cut (grid0.coords t) (aft21 m c t) := by
    show (cfg0.win 21).cut (grid0.coords t) ((dats m 0 c).after 21 t) = _
    rw [after0_21]
  rw [hb, hf]

theorem idx_inj22 : ∀ t t' : Fin cfg0.N, win0_22.index t = win0_22.index t' → t = t' :=
  (by decide +kernel : ∀ t t' : Fin grid0.N, win0_22.index t = win0_22.index t' → t = t')

theorem disjoint22 : ∀ t t' : Fin cfg0.N, (cfg0.win 22).flush t = true → (cfg0.win 22).flush t' = true → t ≠ t' →
    Disjoint ((cfg0.win 22).blk t).view.set ((cfg0.win 22).blk t').view.set :=
  fun t t' _ _ hne => (cfg0.win 22).disjoint_blk fun h => hne (idx_inj22 t t' h)

/-- The array after the call. -/
theorem arr22 (t : Fin cfg0.N) : (dats m 0 c).arrAt 22 cfg0.N = aft22 m c t := by
  funext i
  have e' : ((cfg0.win 22).blk t).view.emb i = i := by
    funext a
    apply Fin.ext
    match a with
    | ⟨0, _⟩ => show 0 * _ + 1 * (i 0).val = (i 0).val; omega
    | ⟨1, _⟩ => show 0 * _ + 1 * (i 1).val = (i 1).val; omega
    | ⟨2, _⟩ => show 0 * _ + 1 * (i 2).val = (i 2).val; omega
  have hb := congrFun ((dats m 0 c).read_blk_arrAt_eq_flushed 22 disjoint22 cfg0.N t t.isLt (flush0_22 t)) i
  have hr : ((cfg0.win 22).blk t).view.read (Elt Ideal) ((dats m 0 c).arrAt 22 cfg0.N) i
      = (dats m 0 c).arrAt 22 cfg0.N (((cfg0.win 22).blk t).view.emb i) := rfl
  rw [hr, e'] at hb
  have hf : (dats m 0 c).flushed 22 t = (cfg0.win 22).cut (grid0.coords t) (aft22 m c t) := by
    show (cfg0.win 22).cut (grid0.coords t) ((dats m 0 c).after 22 t) = _
    rw [after0_22]
  rw [hb, hf]

end Cert.FrontV

end
-- ==== Proof.FrontRefRows.lean ====
/- What the first call's reference leaves, read at an index: every token's row is the plain formula. -/
module

public import proofs.«01_k».proof.Proof.Gen.FrontReferenceIdeal.Frame
public import proofs.«01_k».proof.Proof.FrontSpec

@[expose] public section

set_option maxRecDepth 16384

noncomputable section

namespace Cert.FrontRef

open Idealize.ShloMosaic Cert.Tail Cert.FrontV Cert.FrontReferenceIdeal Cert.FrontReferenceIdeal.Gen
open scoped BigOperators

/-- The contents of an array over the extended reals. -/
local notation "𝕍" => Vec (Idealize.ShloMosaic.Ideal)

/-- Rounding and clipping an array to bytes. -/
def clip {s : Shape} (lo hi : BitVec 32) (X : 𝕍 s .f32) : 𝕍 s .i8 :=
  fptosi (F := Ideal) (φ := .f32) 8 (minimumf (broadcast s (Scalar.sitofp .f32 hi)) (maximumf (broadcast s (Scalar.sitofp .f32 lo)) (roundeven X)))

theorem clip_at {s : Shape} (lo hi : BitVec 32) (X : 𝕍 s .f32) (i : s.Idx) : clip lo hi X i
    = Ideal.fptosi 8 (min (((hi.toInt : ℝ)) : EReal) (max (((lo.toInt : ℝ)) : EReal) (Ideal.liftRound Ideal.roundHalfEven (X i)))) := rfl

/-- The norm over its scale. -/
def normed (v0 : 𝕍 S252x8x512 .bf16) (v3 v4 : 𝕍 S512 .f32) (v27 : Elt Ideal .f32) : 𝕍 S252x8x512 .f32 :=
  have v1 : FVec Ideal S252x8x512 .bf16 := shapeCast S252x8x512 v0 shapeCasts_S252x8x512_S252x8x512
  have v2 : FVec Ideal S252x8x512 .f32 := extf .f32 v1 bitsLt_bf16_f32
  have v5 : FVec Ideal S252x8 .f32 := multiReduction .add [2] S252x8 v2 0x00000000#32 reduces_S252x8x512_S252x8 (.inl rfl) rfl
  have v6 : FVec Ideal S252x8x1 .f32 := shapeCast S252x8x1 v5 shapeCasts_S252x8_S252x8x1
  have cst_4 : Ideal .f32 := Scalar.ofBits .f32 0x44000000#32
  have v7 : FVec Ideal S252x8x1 .f32 := broadcast S252x8x1 cst_4
  have v8 : FVec Ideal S252x8x1 .f32 := divf v6 v7
  have v9 : FVec Ideal S252x8x512 .f32 := broadcastTo S252x8x512 v8 broadcasts_S252x8x1_S252x8x512
  have v10 : FVec Ideal S252x8x512 .f32 := subf v2 v9
  have v11 : FVec Ideal S252x8x512 .f32 := mulf v10 v10
  have v12 : FVec Ideal S252x8 .f32 := multiReduction .add [2] S252x8 v11 0x00000000#32 reduces_S252x8x512_S252x8 (.inl rfl) rfl
  have v13 : FVec Ideal S252x8x1 .f32 := shapeCast S252x8x1 v12 shapeCasts_S252x8_S252x8x1
  have cst_6 : Ideal .f32 := Scalar.ofBits .f32 0x44000000#32
  have v14 : FVec Ideal S252x8x1 .f32 := broadcast S252x8x1 cst_6
  have v15 : FVec Ideal S252x8x1 .f32 := divf v13 v14
  have cst_7 : Ideal .f32 := Scalar.ofBits .f32 0x3727C5AC#32
  have v16 : FVec Ideal S252x8x1 .f32 := broadcast S252x8x1 cst_7
  have v17 : FVec Ideal S252x8x1 .f32 := addf v15 v16
  have v18 : FVec Ideal S252x8x1 .f32 := sqrt v17
  have v19 : FVec Ideal S252x8x512 .f32 := broadcastTo S252x8x512 v18 broadcasts_S252x8x1_S252x8x512
  have v20 : FVec Ideal S252x8x512 .f32 := divf v10 v19
  have v21 : FVec Ideal S1x1x512 .f32 := shapeCast S1x1x512 v3 shapeCasts_S512_S1x1x512
  have v22 : FVec Ideal S252x8x512 .f32 := broadcastTo S252x8x512 v21 broadcasts_S1x1x512_S252x8x512
  have v23 : FVec Ideal S252x8x512 .f32 := mulf v20 v22
  have v24 : FVec Ideal S1x1x512 .f32 := shapeCast S1x1x512 v4 shapeCasts_S512_S1x1x512
  have v25 : FVec Ideal S252x8x512 .f32 := broadcastTo S252x8x512 v24 broadcasts_S1x1x512_S252x8x512
  have v26 : FVec Ideal S252x8x512 .f32 := addf v23 v25
  have v28 : FVec Ideal S252x8x512 .f32 := broadcast S252x8x512 v27
  have v29 : FVec Ideal S252x8x512 .f32 := divf v26 v28
  v29

theorem normed_at (x : 𝕍 S252x8x512 .bf16) (g b : 𝕍 S512 .f32) (sa : Elt Ideal .f32) (P : Fin 252) (r : Fin 8) (d : Fin 512) :
    normed x g b sa (ix3 P r d)
    = Ideal.div (normR (Ideal.ofBits .f32 0x44000000#32) (fun d => x (ix3 P r d)) d * g (ix1 d) + b (ix1 d)) sa := by
  pointwise [normed]
  rfl

theorem pay2_at (x : 𝕍 S252x8x512 .bf16) (g b : 𝕍 S512 .f32) (sa : Elt Ideal .f32) (P : Fin 252) (r : Fin 8) (d : Fin 512) :
    k0_pay2 (F := Ideal) x g b sa (ix3 P r d)
    = a2R (fun d => x (ix3 P r d)) (fun d => g (ix1 d)) (fun d => b (ix1 d)) sa d := by
  have e : k0_pay2 (F := Ideal) x g b sa = clip 4294967169#32 127#32 (normed x g b sa) := rfl
  rw [e, clip_at, normed_at]
  unfold a2R quantR
  rfl

/-- The projection over its scale. -/
def proj (v37 : 𝕍 S252x8x512 .i8) (v40 : 𝕍 S256x1024 .i32) (v70 : Elt Ideal .f32) (v73 v77 : 𝕍 S1024 .f32) : 𝕍 S252x8x1024 .f32 :=
  have v41 : IVec S256x1024 32 := broadcast S256x1024 15#32
  have v42 : IVec S256x1024 32 := andi v40 v41
  have v43 : IVec S256x1024 32 := broadcast S256x1024 8#32
  have v44 : IVec S256x1024 1 := cmpi .sge v42 v43
  have v45 : IVec S256x1024 32 := broadcast S256x1024 16#32
  have v46 : IVec S256x1024 32 := broadcast S256x1024 0#32
  have v47 : IVec S256x1024 32 := select v44 v45 v46
  have v48 : IVec S256x1024 32 := subi v42 v47
  have v49 : FVec Ideal S256x1024 .f32 := sitofp .f32 v48
  have v50 : FVec Ideal S256x1024 .bf16 := truncf .bf16 v49 bitsLt_bf16_f32
  have v51 : IVec S256x1024 32 := broadcast S256x1024 4#32
  have v52 : IVec S256x1024 32 := shrsi v40 v51
  have v53 : IVec S256x1024 32 := broadcast S256x1024 8#32
  have v54 : IVec S256x1024 1 := cmpi .sge v52 v53
  have v55 : IVec S256x1024 32 := broadcast S256x1024 16#32
  have v56 : IVec S256x1024 32 := broadcast S256x1024 0#32
  have v57 : IVec S256x1024 32 := select v54 v55 v56
  have v58 : IVec S256x1024 32 := subi v52 v57
  have v59 : FVec Ideal S256x1024 .f32 := sitofp .f32 v58
  have v60 : FVec Ideal S256x1024 .bf16 := truncf .bf16 v59 bitsLt_bf16_f32
  have v61 : FVec Ideal S256x1x1024 .bf16 := shapeCast S256x1x1024 v50 shapeCasts_S256x1024_S256x1x1024
  have v62 : FVec Ideal S256x1x1024 .bf16 := shapeCast S256x1x1024 v60 shapeCasts_S256x1024_S256x1x1024
  have v63 : FVec Ideal S256x2x1024 .bf16 := concatenate S256x2x1024 1 [⟨S256x1x1024, v61⟩, ⟨S256x1x1024, v62⟩] concatenates_S256x1x1024_S256x1x1024_S256x2x1024_d1
  have v64 : FVec Ideal S512x1024 .bf16 := shapeCast S512x1024 v63 shapeCasts_S256x2x1024_S512x1024
  have v65 : FVec Ideal S252x8x512 .f32 := sitofp .f32 v37
  have v66 : FVec Ideal S252x8x512 .bf16 := truncf .bf16 v65 bitsLt_bf16_f32
  have v67 : FVec Ideal S2016x512 .bf16 := shapeCast S2016x512 v66 shapeCasts_S252x8x512_S2016x512
  have cst_17 : FVec Ideal S2016x1024 .f32 := constant S2016x1024 .f32 0x00000000#32
  have v68 : FVec Ideal S2016x1024 .f32 := matmul dot_S2016x512_S512x1024_S2016x1024_1_0_0_1_n_n none v67 v64 cst_17
  have v69 : FVec Ideal S252x8x1024 .f32 := shapeCast S252x8x1024 v68 shapeCasts_S2016x1024_S252x8x1024
  have v71 : FVec Ideal S252x8x1024 .f32 := broadcast S252x8x1024 v70
  have v72 : FVec Ideal S252x8x1024 .f32 := mulf v69 v71
  have v74 : FVec Ideal S1x1x1024 .f32 := shapeCast S1x1x1024 v73 shapeCasts_S1024_S1x1x1024
  have v75 : FVec Ideal S252x8x1024 .f32 := broadcastTo S252x8x1024 v74 broadcasts_S1x1x1024_S252x8x1024
  have v76 : FVec Ideal S252x8x1024 .f32 := mulf v72 v75
  have v78 : FVec Ideal S1x1x1024 .f32 := shapeCast S1x1x1024 v77 shapeCasts_S1024_S1x1x1024
  have v79 : FVec Ideal S252x8x1024 .f32 := broadcastTo S252x8x1024 v78 broadcasts_S1x1x1024_S252x8x1024
  have v80 : FVec Ideal S252x8x1024 .f32 := divf v76 v79
  v80

theorem proj_at (A : 𝕍 S252x8x512 .i8) (W : 𝕍 S256x1024 .i8) (s : Elt Ideal .f32) (w sc : 𝕍 S1024 .f32) (P : Fin 252) (r : Fin 8)
    (l : Fin 1024) : proj A (k0_pay3 W) s w sc (ix3 P r l)
    = Ideal.div ((∑ k, byte (A (ix3 P r k)) * wIn loR hiR (fun k j => W (ix2 k j)) k l) * s * w (ix1 l)) (sc (ix1 l)) := by
  pointwise [proj, k0_pay3]
  rfl

theorem pay4_at (A : 𝕍 S252x8x512 .i8) (W : 𝕍 S256x1024 .i8) (s : Elt Ideal .f32) (w sc : 𝕍 S1024 .f32) (P : Fin 252) (r : Fin 8)
    (l : Fin 1024) : k0_pay1 (F := Ideal) (k0_pay4 (F := Ideal) A (k0_pay3 W) s w sc) (k0_pay5 (F := Ideal)) (ix3 P r l)
    = cvR (∑ k, byte (A (ix3 P r k)) * wIn loR hiR (fun k j => W (ix2 k j)) k l) s (w (ix1 l)) (sc (ix1 l)) := by
  have e : k0_pay1 (F := Ideal) (k0_pay4 (F := Ideal) A (k0_pay3 W) s w sc) (k0_pay5 (F := Ideal))
    = clip 4294967169#32 127#32 (proj A (k0_pay3 W) s w sc) := rfl
  rw [e, clip_at, proj_at]
  unfold cvR quantR
  rfl

end Cert.FrontRef

end
-- ==== Proof.FrontRefCase.lean ====
/- What the first call's reference block leaves: each output is one whole store of the plain formulas. -/
module

public import proofs.«01_k».proof.Proof.FrontRefRows
public import proofs.«01_k».proof.Proof.FrontOutcome
public import proofs.«01_k».proof.Proof.Pieces

@[expose] public section

set_option maxRecDepth 16384

noncomputable section

namespace Cert.FrontRef

open Idealize.ShloMosaic Cert.Tail Cert.FrontV Cert.FrontReferenceIdeal Cert.FrontReferenceIdeal.Gen

/-- The contents of an array over the extended reals. -/
local notation "𝕍" => Vec (Idealize.ShloMosaic.Ideal)

section Loads

variable {sp : Space} {S : Shape} {e : EltTy}

theorem read_ld {arg : Memref sig .tc sp S e} (h : arg.IsWhole) (X : 𝕍 S e) (r : Rect S) :
    arg.view.readAt (Elt Ideal) r.toLoadRect (h.unread X) = View.ld X r := by
  rw [View.readAt_eq_ld, h.read_unread]

theorem read_sc {arg : Memref sig .tc sp S1 e} (h : arg.IsWhole) (x : 𝕍 S1 e) (hin) (hf) :
    arg.view.readAt (Elt Ideal) (Rect.unit (s := S1) ![0] S1.size hin).toLoadRect (h.unread x) (Shape.Idx.first hf) = x (ix1 0) := by
  rw [FrontRef.read_ld, ld_whole _ _ (by decide)]
  refine congrArg x ?_
  rw [eq_ix1 (Shape.Idx.first hf)]
  exact congrArg ix1 (Subsingleton.elim _ _)

end Loads

/-- The normalised tokens. -/
def a1 (s : Elt Ideal .f32) (x : 𝕍 S252x8x512 .bf16) (g b : 𝕍 S512 .f32) : 𝕍 S252x8x512 .i8 := k0_pay2 (F := Ideal) x g b s

/-- The projected tokens. -/
def cv (s : Elt Ideal .f32) (x : 𝕍 S252x8x512 .bf16) (g b : 𝕍 S512 .f32) (W : 𝕍 S256x1024 .i8) (w sc : 𝕍 S1024 .f32) : 𝕍 S252x8x1024 .i8 :=
  k0_pay1 (F := Ideal) (k0_pay4 (F := Ideal) (a1 s x g b) (k0_pay3 (F := Ideal) W) s w sc) (k0_pay5 (F := Ideal))

theorem a1_eq (s : Elt Ideal .f32) (x : 𝕍 S252x8x512 .bf16) (g b : 𝕍 S512 .f32) (i : S252x8x512.Idx) :
    a1 s x g b i = a1Out (fun P r d => x (ix3 P r d)) (fun d => g (ix1 d)) (fun d => b (ix1 d)) s (i 0) (i 1) (i 2) := by
  rw [eq_ix3 i]
  exact pay2_at x g b s (i 0) (i 1) (i 2)

theorem cv_eq' (s : Elt Ideal .f32) (x : 𝕍 S252x8x512 .bf16) (g b : 𝕍 S512 .f32) (W : 𝕍 S256x1024 .i8) (w sc : 𝕍 S1024 .f32) (i : S252x8x1024.Idx) :
    cv s x g b W w sc i = cvOut (fun P r d => x (ix3 P r d)) (fun d => g (ix1 d)) (fun d => b (ix1 d)) s (fun k j => W (ix2 k j)) (fun l => w (ix1 l))
      (fun l => sc (ix1 l)) (i 0) (i 1) (i 2) := by
  rw [eq_ix3 i]
  refine (pay4_at (a1 s x g b) W s w sc (i 0) (i 1) (i 2)).trans ?_
  unfold cvOut
  refine congrArg (fun a => cvR a s _ _) (Finset.sum_congr rfl fun k _ => ?_)
  rw [a1_eq]
  rfl

theorem a1_piece {s s' : Elt Ideal .f32} (hs : s' = s) {x x' : 𝕍 S252x8x512 .bf16} (hx : x' = x) {g g' : 𝕍 S512 .f32} (hg : g' = g) {b b' : 𝕍 S512 .f32} (hb : b' = b)
    (hin) (i : S252x8x512.Idx) : a1 s' x' g' b' i = a1 s x g b ((Rect.unit (s := S252x8x512) ![0, 0, 0] S252x8x512.size hin).emb i) := by
  subst hs hx hg hb
  exact (congrFun (ld_whole hin (a1 s' x' g' b') (by decide)) i).symm

theorem cv_piece {s s' : Elt Ideal .f32} (hs : s' = s) {x x' : 𝕍 S252x8x512 .bf16} (hx : x' = x) {g g' : 𝕍 S512 .f32} (hg : g' = g) {b b' : 𝕍 S512 .f32} (hb : b' = b)
    {W W' : 𝕍 S256x1024 .i8} (hW : W' = W) {w w' : 𝕍 S1024 .f32} (hw : w' = w) {sc sc' : 𝕍 S1024 .f32} (hc : sc' = sc) (hin) (i : S252x8x1024.Idx) :
    cv s' x' g' b' W' w' sc' i = cv s x g b W w sc ((Rect.unit (s := S252x8x1024) ![0, 0, 0] S252x8x1024.size hin).emb i) := by
  subst hs hx hg hb hW hw hc
  exact (congrFun (ld_whole hin (cv s' x' g' b' W' w' sc') (by decide)) i).symm

variable (c : Dev nD) (arg0 : Memref sig .tc .smem S1 .f32) (harg0 : arg0.IsWhole) (arg1 : Memref sig .tc .vmem S252x8x512 .bf16) (harg1 : arg1.IsWhole) (arg2 : Memref sig .tc .vmem S512 .f32) (harg2 : arg2.IsWhole) (arg3 : Memref sig .tc .vmem S512 .f32) (harg3 : arg3.IsWhole) (arg4 : Memref sig .tc .vmem S256x1024 .i8) (harg4 : arg4.IsWhole) (arg5 : Memref sig .tc .vmem S1024 .f32) (harg5 : arg5.IsWhole) (arg6 : Memref sig .tc .vmem S1024 .f32) (harg6 : arg6.IsWhole) (arg7 : Memref sig .tc .vmem S252x8x512 .i8) (harg7 : arg7.IsWhole) (arg8 : Memref sig .tc .vmem S252x8x1024 .i8) (harg8 : arg8.IsWhole)
  (x0 : 𝕍 S1 .f32) (x1 : 𝕍 S252x8x512 .bf16) (x2 : 𝕍 S512 .f32) (x3 : 𝕍 S512 .f32) (x4 : 𝕍 S256x1024 .i8) (x5 : 𝕍 S1024 .f32) (x6 : 𝕍 S1024 .f32)

theorem pieces_7 : View.PiecesOf (a1 (x0 (ix1 0)) x1 x2 x3) (kernelRun0_A (F := Ideal) c arg0 harg0 arg1 harg1 arg2 harg2 arg3 harg3 arg4 harg4 arg5 harg5 arg6 harg6 arg7 harg7 arg8 harg8 x0 x1 x2 x3 x4 x5 x6).1 := by
  refine ⟨?_, trivial⟩
  have h := a1_piece (read_sc harg0 x0 (by decide) (by decide)) ((read_ld harg1 x1 (Rect.unit (s := S252x8x512) ![0, 0, 0] S252x8x512.size (by decide))).trans (ld_whole _ _ (by decide))) ((read_ld harg2 x2 (Rect.unit (s := S512) ![0] S512.size (by decide))).trans (ld_whole _ _ (by decide))) ((read_ld harg3 x3 (Rect.unit (s := S512) ![0] S512.size (by decide))).trans (ld_whole _ _ (by decide))) (by decide)
  exact h

theorem out_7 : out0_A_7 (F := Ideal) c arg0 harg0 arg1 harg1 arg2 harg2 arg3 harg3 arg4 harg4 arg5 harg5 arg6 harg6 arg7 harg7 arg8 harg8 x0 x1 x2 x3 x4 x5 x6 = a1 (x0 (ix1 0)) x1 x2 x3 := by
  unfold out0_A_7
  rw [View.read_writes_eq_canon _ _ _ (cover0_A_7 c arg0 harg0 arg1 harg1 arg2 harg2 arg3 harg3 arg4 harg4 arg5 harg5 arg6 harg6 arg7 harg7 arg8 harg8 x0 x1 x2 x3 x4 x5 x6)]
  exact funext fun y => View.canon_apply_of_pieces _ _ (pieces_7 c arg0 harg0 arg1 harg1 arg2 harg2 arg3 harg3 arg4 harg4 arg5 harg5 arg6 harg6 arg7 harg7 arg8 harg8 x0 x1 x2 x3 x4 x5 x6).mem y (cover0_A_7 c arg0 harg0 arg1 harg1 arg2 harg2 arg3 harg3 arg4 harg4 arg5 harg5 arg6 harg6 arg7 harg7 arg8 harg8 x0 x1 x2 x3 x4 x5 x6 y)

theorem pieces_8 : View.PiecesOf (cv (x0 (ix1 0)) x1 x2 x3 x4 x5 x6) (kernelRun0_A (F := Ideal) c arg0 harg0 arg1 harg1 arg2 harg2 arg3 harg3 arg4 harg4 arg5 harg5 arg6 harg6 arg7 harg7 arg8 harg8 x0 x1 x2 x3 x4 x5 x6).2.1 := by
  refine ⟨?_, trivial⟩
  have h := cv_piece (read_sc harg0 x0 (by decide) (by decide)) ((read_ld harg1 x1 (Rect.unit (s := S252x8x512) ![0, 0, 0] S252x8x512.size (by decide))).trans (ld_whole _ _ (by decide))) ((read_ld harg2 x2 (Rect.unit (s := S512) ![0] S512.size (by decide))).trans (ld_whole _ _ (by decide))) ((read_ld harg3 x3 (Rect.unit (s := S512) ![0] S512.size (by decide))).trans (ld_whole _ _ (by decide))) ((read_ld harg4 x4 (Rect.unit (s := S256x1024) ![0, 0] S256x1024.size (by decide))).trans (ld_whole _ _ (by decide))) ((read_ld harg5 x5 (Rect.unit (s := S1024) ![0] S1024.size (by decide))).trans (ld_whole _ _ (by decide))) ((read_ld harg6 x6 (Rect.unit (s := S1024) ![0] S1024.size (by decide))).trans (ld_whole _ _ (by decide))) (by decide)
  exact h

theorem out_8 : out0_A_8 (F := Ideal) c arg0 harg0 arg1 harg1 arg2 harg2 arg3 harg3 arg4 harg4 arg5 harg5 arg6 harg6 arg7 harg7 arg8 harg8 x0 x1 x2 x3 x4 x5 x6 = cv (x0 (ix1 0)) x1 x2 x3 x4 x5 x6 := by
  unfold out0_A_8
  rw [View.read_writes_eq_canon _ _ _ (cover0_A_8 c arg0 harg0 arg1 harg1 arg2 harg2 arg3 harg3 arg4 harg4 arg5 harg5 arg6 harg6 arg7 harg7 arg8 harg8 x0 x1 x2 x3 x4 x5 x6)]
  exact funext fun y => View.canon_apply_of_pieces _ _ (pieces_8 c arg0 harg0 arg1 harg1 arg2 harg2 arg3 harg3 arg4 harg4 arg5 harg5 arg6 harg6 arg7 harg7 arg8 harg8 x0 x1 x2 x3 x4 x5 x6).mem y (cover0_A_8 c arg0 harg0 arg1 harg1 arg2 harg2 arg3 harg3 arg4 harg4 arg5 harg5 arg6 harg6 arg7 harg7 arg8 harg8 x0 x1 x2 x3 x4 x5 x6 y)

end Cert.FrontRef

end
-- ==== Proof.FrontRefArrays.lean ====
/- The two arrays the first call's reference leaves, as functions of its arguments. -/
module

public import proofs.«01_k».proof.Proof.FrontRefCase
public import proofs.«01_k».proof.Proof.Gen.FrontReferenceIdeal.Value
public import Idealize.ShloMosaic.Lib.StableHlo.ReadAt

@[expose] public section

noncomputable section

namespace Cert.FrontRef

open Idealize.ShloMosaic Idealize.ShloMosaic.TcCoe Cert.Tail Cert.FrontV Cert.FrontReferenceIdeal Cert.FrontReferenceIdeal.Gen Cert.FrontReferenceIdeal.Value

variable (m : (ℓ : Loc nD τ sig) → Buf (Elt Ideal) ℓ) (c : Dev nD)

theorem host_v1 (P : Fin 252) (r : Fin 8) (d : Fin 512) : V m c main_v1 (ix3 P r d)
    = m ((c : Thread nD τ).loc main_arg0) (ix4 r ⟨P.val / 18, by omega⟩ ⟨P.val % 18, by omega⟩ d) := by
  unfold V
  after_reads_at

theorem host_v2 : V m c main_v2 (ix1 0) = m ((c : Thread nD τ).loc main_arg3) ix0 := by
  unfold V
  after_reads_at

theorem blk0 (t : Fin cfg0.N) : iblk m c 0 t (ix1 0) = m ((c : Thread nD τ).loc main_arg3) ix0 := by
  have e : iblk m c 0 t (ix1 0) = V m c main_v2 (((cfg0.win 0).blk t).view.emb (ix1 0)) := rfl
  have e' : ((cfg0.win 0).blk t).view.emb (ix1 0) = ix1 0 := by
    funext a
    match a with
    | ⟨0, _⟩ => rfl
  rw [e, e', host_v2]

theorem blk1 (t : Fin cfg0.N) : iblk m c 1 t = V m c main_v1 := by
  funext y
  have e : iblk m c 1 t y = V m c main_v1 (((cfg0.win 1).blk t).view.emb y) := rfl
  have e' : ((cfg0.win 1).blk t).view.emb y = y := by
    funext a
    apply Fin.ext
    match a with
    | ⟨0, _⟩ => show 0 * _ + 1 * (y 0).val = (y 0).val; omega
    | ⟨1, _⟩ => show 0 * _ + 1 * (y 1).val = (y 1).val; omega
    | ⟨2, _⟩ => show 0 * _ + 1 * (y 2).val = (y 2).val; omega
  rw [e, e']

theorem blk2 (t : Fin cfg0.N) : iblk m c 2 t = m ((c : Thread nD τ).loc main_arg1) := by
  funext y
  have e : iblk m c 2 t y = V m c main_arg1 (((cfg0.win 2).blk t).view.emb y) := rfl
  have e' : ((cfg0.win 2).blk t).view.emb y = y := by
    funext a
    apply Fin.ext
    match a with
    | ⟨0, _⟩ => show 0 * _ + 1 * (y 0).val = (y 0).val; omega
  rw [e, e', V_main_arg1]

theorem blk3 (t : Fin cfg0.N) : iblk m c 3 t = m ((c : Thread nD τ).loc main_arg2) := by
  funext y
  have e : iblk m c 3 t y = V m c main_arg2 (((cfg0.win 3).blk t).view.emb y) := rfl
  have e' : ((cfg0.win 3).blk t).view.emb y = y := by
    funext a
    apply Fin.ext
    match a with
    | ⟨0, _⟩ => show 0 * _ + 1 * (y 0).val = (y 0).val; omega
  rw [e, e', V_main_arg2]

theorem blk4 (t : Fin cfg0.N) : iblk m c 4 t = m ((c : Thread nD τ).loc main_arg4) := by
  funext y
  have e : iblk m c 4 t y = V m c main_arg4 (((cfg0.win 4).blk t).view.emb y) := rfl
  have e' : ((cfg0.win 4).blk t).view.emb y = y := by
    funext a
    apply Fin.ext
    match a with
    | ⟨0, _⟩ => show 0 * _ + 1 * (y 0).val = (y 0).val; omega
    | ⟨1, _⟩ => show 0 * _ + 1 * (y 1).val = (y 1).val; omega
  rw [e, e', V_main_arg4]

theorem blk5 (t : Fin cfg0.N) : iblk m c 5 t = m ((c : Thread nD τ).loc main_arg5) := by
  funext y
  have e : iblk m c 5 t y = V m c main_arg5 (((cfg0.win 5).blk t).view.emb y) := rfl
  have e' : ((cfg0.win 5).blk t).view.emb y = y := by
    funext a
    apply Fin.ext
    match a with
    | ⟨0, _⟩ => show 0 * _ + 1 * (y 0).val = (y 0).val; omega
  rw [e, e', V_main_arg5]

theorem blk6 (t : Fin cfg0.N) : iblk m c 6 t = m ((c : Thread nD τ).loc main_arg6) := by
  funext y
  have e : iblk m c 6 t y = V m c main_arg6 (((cfg0.win 6).blk t).view.emb y) := rfl
  have e' : ((cfg0.win 6).blk t).view.emb y = y := by
    funext a
    apply Fin.ext
    match a with
    | ⟨0, _⟩ => show 0 * _ + 1 * (y 0).val = (y 0).val; omega
  rw [e, e', V_main_arg6]

theorem tok_eq : (fun (P : Fin 252) (r : Fin 8) (d : Fin 512) => V m c main_v1 (ix3 P r d))
    = (fun P r d => m ((c : Thread nD τ).loc main_arg0) (ix4 r ⟨P.val / 18, by omega⟩ ⟨P.val % 18, by omega⟩ d)) := funext fun P => funext fun r => funext fun d => host_v1 m c P r d

theorem arr7 : (dats m 0 c).arrAt 7 cfg0.N = fun i : S252x8x512.Idx => a1Out (fun P r d => m ((c : Thread nD τ).loc main_arg0) (ix4 r ⟨P.val / 18, by omega⟩ ⟨P.val % 18, by omega⟩ d)) (fun d => m ((c : Thread nD τ).loc main_arg1) (ix1 d)) (fun d => m ((c : Thread nD τ).loc main_arg2) (ix1 d)) (m ((c : Thread nD τ).loc main_arg3) ix0) (i 0) (i 1) (i 2) := by
  have t : Fin cfg0.N := ⟨0, by decide⟩
  funext i
  have e' : ((cfg0.win 7).blk t).view.emb i = i := by
    funext a
    apply Fin.ext
    match a with
    | ⟨0, _⟩ => show 0 * _ + 1 * (i 0).val = (i 0).val; omega
    | ⟨1, _⟩ => show 0 * _ + 1 * (i 1).val = (i 1).val; omega
    | ⟨2, _⟩ => show 0 * _ + 1 * (i 2).val = (i 2).val; omega
  have hb := congrFun (blocks7 m c t ((by decide : ∀ t : Fin grid0.N, (cfg0.win 7).flush t = true) t)) i
  have hr : ((cfg0.win 7).blk t).view.read (Elt Ideal) ((dats m 0 c).arrAt 7 cfg0.N) i
      = (dats m 0 c).arrAt 7 cfg0.N (((cfg0.win 7).blk t).view.emb i) := rfl
  rw [hr, e'] at hb
  rw [hb, flushed7_A m c t, out_7 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (iblk m c 6 t)]
  refine (a1_eq (iblk m c 0 t (ix1 0)) (iblk m c 1 t) (iblk m c 2 t) (iblk m c 3 t) i).trans ?_
  · rw [blk0, blk1, blk2, blk3, tok_eq]

theorem arr8 : (dats m 0 c).arrAt 8 cfg0.N = fun i : S252x8x1024.Idx => cvOut (fun P r d => m ((c : Thread nD τ).loc main_arg0) (ix4 r ⟨P.val / 18, by omega⟩ ⟨P.val % 18, by omega⟩ d)) (fun d => m ((c : Thread nD τ).loc main_arg1) (ix1 d)) (fun d => m ((c : Thread nD τ).loc main_arg2) (ix1 d)) (m ((c : Thread nD τ).loc main_arg3) ix0) (fun k j => m ((c : Thread nD τ).loc main_arg4) (ix2 k j)) (fun d => m ((c : Thread nD τ).loc main_arg5) (ix1 d)) (fun d => m ((c : Thread nD τ).loc main_arg6) (ix1 d)) (i 0) (i 1) (i 2) := by
  have t : Fin cfg0.N := ⟨0, by decide⟩
  funext i
  have e' : ((cfg0.win 8).blk t).view.emb i = i := by
    funext a
    apply Fin.ext
    match a with
    | ⟨0, _⟩ => show 0 * _ + 1 * (i 0).val = (i 0).val; omega
    | ⟨1, _⟩ => show 0 * _ + 1 * (i 1).val = (i 1).val; omega
    | ⟨2, _⟩ => show 0 * _ + 1 * (i 2).val = (i 2).val; omega
  have hb := congrFun (blocks8 m c t ((by decide : ∀ t : Fin grid0.N, (cfg0.win 8).flush t = true) t)) i
  have hr : ((cfg0.win 8).blk t).view.read (Elt Ideal) ((dats m 0 c).arrAt 8 cfg0.N) i
      = (dats m 0 c).arrAt 8 cfg0.N (((cfg0.win 8).blk t).view.emb i) := rfl
  rw [hr, e'] at hb
  rw [hb, flushed8_A m c t, out_8 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (iblk m c 6 t)]
  refine (cv_eq' (iblk m c 0 t (ix1 0)) (iblk m c 1 t) (iblk m c 2 t) (iblk m c 3 t) (iblk m c 4 t) (iblk m c 5 t) (iblk m c 6 t) i).trans ?_
  · rw [blk0, blk1, blk2, blk3, blk4, blk5, blk6, tok_eq]

end Cert.FrontRef

end
-- ==== Proof.FrontEquation.lean ====
/- The first call and its reference leave equal arrays: the same functions of the same arguments. -/
module

public import proofs.«01_k».proof.Defs
public import proofs.«01_k».proof.Proof.Gen.Pre_front_tame
public import proofs.«01_k».proof.Proof.FrontArrays
public import proofs.«01_k».proof.Proof.FrontRefArrays
public import proofs.«01_k».proof.Proof.Equation

@[expose] public section

noncomputable section

namespace Cert.FrontV

open Idealize.ShloMosaic Idealize.ShloMosaic.TcCoe Idealize.SL.Sem Cert.Tail

section Tame

variable [Cert.Pre_front_tame.Facts]
  (m : (ℓ : Loc Cert.FrontIdeal.nD Cert.FrontIdeal.τ Cert.FrontIdeal.sig) → Buf (Elt Ideal) ℓ)

/-- The precondition, said of the extended reals. -/
theorem tame (h : Cert.Pre_FrontIdeal_front_tame m) (c : Dev Cert.FrontIdeal.nD) :
    ((1 / 2 ^ 112 : ℝ) : EReal) ≤ m ((c.tc : Thread Cert.FrontIdeal.nD Cert.FrontIdeal.τ).loc Cert.FrontIdeal.main_arg3) ix0
    ∧ ∀ l : Fin 1024, ((1 / 2 ^ 112 : ℝ) : EReal) ≤ (fun x : EReal => max x (-x)) (m ((c.tc : Thread Cert.FrontIdeal.nD Cert.FrontIdeal.τ).loc Cert.FrontIdeal.main_arg6) (ix1 l)) := by
  obtain ⟨h0, h1⟩ := h c
  have g0 := congrFun h0 ix0
  pointwise [Cert.Pre_front_tame.fn] at g0
  refine ⟨?_, fun l => ?_⟩
  · rw [← bits_tiny]
    exact of_ofBool g0
  · have g1 := congrFun h1 (ix1 l)
    pointwise [Cert.Pre_front_tame.fn] at g1
    rw [← bits_tiny]
    exact of_ofBool g1

end Tame

/-- The first call ends with the two arrays as named and the arguments unchanged. -/
theorem run (m : (ℓ : Loc Cert.FrontIdeal.nD Cert.FrontIdeal.τ Cert.FrontIdeal.sig) → Buf (Elt Ideal) ℓ) (ρ : Dev Cert.FrontIdeal.nD → PrngReg) :
    θ_run (Cert.FrontIdeal.defs (F := Ideal)) (onTc (τ := Cert.FrontIdeal.τ) (Cert.FrontIdeal.main (F := Ideal))) ⟨m, fun _ => 0, ρ⟩ (fun r => ∀ c : Dev Cert.FrontIdeal.nD,
      (r.2.mem ((c.tc : Thread Cert.FrontIdeal.nD Cert.FrontIdeal.τ).loc Cert.FrontIdeal.main_v12_0) = (Cert.FrontIdeal.Gen.dats m 0 c).arrAt 21 Cert.FrontIdeal.cfg0.N
        ∧ r.2.mem ((c.tc : Thread Cert.FrontIdeal.nD Cert.FrontIdeal.τ).loc Cert.FrontIdeal.main_v12_1) = (Cert.FrontIdeal.Gen.dats m 0 c).arrAt 22 Cert.FrontIdeal.cfg0.N)) :=
  (θ_run _ _ _).mono (fun r h c => ⟨(Cert.FrontIdeal.Gen.toRForget_21 m c _).1 ((h c).1 21), (Cert.FrontIdeal.Gen.toRForget_22 m c _).1 ((h c).1 22)⟩) (Cert.FrontIdeal.Gen.run_main m ρ)

/-- **The first call and its reference end with equal results**, both started from memories that agree on the arguments. -/
theorem algebraic : @Cert.algebraic_FrontIdeal_FrontReferenceIdeal_pre_front_tame Cert.FrontIdeal.Gen.facts
    Cert.FrontReferenceIdeal.Gen.facts Cert.Pre_front_tame.Gen.facts := by
  intro m g m' g' hP hA
  refine ⟨fun c => (Cert.FrontIdeal.Gen.dats m 0 c).arrAt 21 Cert.FrontIdeal.cfg0.N, fun c => (Cert.FrontIdeal.Gen.dats m 0 c).arrAt 22 Cert.FrontIdeal.cfg0.N,
    (θ_run _ _ _).mono (fun r h c => ⟨(h.1 c).1, (h.1 c).2, h.2 c⟩) (θ_run_and (run m g) (Cert.FrontIdeal.Gen.unchanged m g)),
    (θ_run _ _ _).mono (fun r h c => ?_) (Cert.FrontReferenceIdeal.Value.run_blocks m' g')⟩
  obtain ⟨hs, hc⟩ := @tame Cert.Pre_front_tame.Gen.facts m hP c
  obtain ⟨a0, a1, a2, a3, a4, a5, a6, a7, a8, a9, a10, a11, a12, a13, a14, a15, a16, a17, a18, a19, a20⟩ := hA c
  have e7 := Cert.FrontRef.arr7 m' c
  have e8 := Cert.FrontRef.arr8 m' c
  rw [a0, a1, a2, a3] at e7
  rw [a0, a1, a2, a3, a4, a5, a6] at e8
  have t : Fin Cert.FrontIdeal.cfg0.N := ⟨0, by decide⟩
  exact ⟨(h c).1.trans (e7.trans ((arr21 m c t).trans (aft21_eq m c hs t)).symm),
    (h c).2.1.trans (e8.trans ((arr22 m c t).trans (aft22_eq m c hs hc t)).symm), (h c).2.2⟩

end Cert.FrontV

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Frame
public import proofs.«01_k».proof.Proof.Gen.ReferenceIdeal.Value
public import proofs.«01_k».proof.Proof.Gen.Pre_scales_tame
public import proofs.«01_k».proof.Proof.Gen.Front
public import proofs.«01_k».proof.Proof.FrontFrame
public import proofs.«01_k».proof.Proof.Gen.FrontIdeal
public import proofs.«01_k».proof.Proof.FrontIdealFrame
public import proofs.«01_k».proof.Proof.Gen.FrontReferenceIdeal
public import proofs.«01_k».proof.Proof.Gen.FrontReferenceIdeal.Frame
public import proofs.«01_k».proof.Proof.Gen.FrontReferenceIdeal.Value
public import proofs.«01_k».proof.Proof.Gen.Pre_front_tame
public import proofs.«01_k».proof.Proof.Equation
public import proofs.«01_k».proof.Proof.FrontEquation

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Front.Gen.facts, Cert.FrontIdeal.Gen.facts,
    Cert.FrontReferenceIdeal.Gen.facts, Cert.Pre_scales_tame.Gen.facts, Cert.Pre_front_tame.Gen.facts,
    fun m ρ _ => Cert.Kernel.Gen.frame m ρ, fun m ρ _ => Cert.KernelIdeal.Gen.frame m ρ,
    fun m ρ _ => Cert.KernelIdeal.Gen.frame m ρ, fun m ρ _ => Cert.ReferenceIdeal.Gen.frame m ρ,
    fun m ρ _ => Cert.ReferenceIdeal.Gen.frame m ρ,
    fun m ρ _ => Cert.Front.Gen.frame m ρ, fun m ρ _ => Cert.FrontIdeal.Gen.frame m ρ,
    fun m ρ _ => Cert.FrontIdeal.Gen.frame m ρ, fun m ρ _ => Cert.FrontReferenceIdeal.Gen.frame m ρ,
    fun m ρ _ => Cert.FrontReferenceIdeal.Gen.frame m ρ,
    ⟨IdealRules.named_const.statement Cert.KernelIdeal.κ "inv127" .f32 0x3C010204#32 ((1 / 127 : ℝ) : EReal) rfl,
      IdealRules.named_const.statement Cert.KernelIdeal.κ "rsqrt2" .f32 0x3F3504F3#32 (((Real.sqrt 2)⁻¹ : ℝ) : EReal) rfl⟩,
    Cert.Tail.algebraic, trivial, Cert.FrontV.algebraic⟩

end Cert.Proof

end
